-- ==== Defs.lean ====
def Pre_Kernel [hPre_fills : Cert.Pre_fills.Facts] (m : (ℓ : Loc Cert.Kernel.nD Cert.Kernel.τ Cert.Kernel.sig) → Buf (Elt Bits) ℓ) : Prop :=
  ∀ c : Dev Cert.Kernel.nD,
    (Cert.Pre_fills.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_fills : Cert.Pre_fills.Facts] (m : (ℓ : Loc Cert.KernelIdeal.nD Cert.KernelIdeal.τ Cert.KernelIdeal.sig) → Buf (Elt Ideal) ℓ) : Prop :=
  ∀ c : Dev Cert.KernelIdeal.nD,
    (Cert.Pre_fills.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_fills : Cert.Pre_fills.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_fills : Cert.Pre_fills.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "neg" .f32 0x7149F2CA#32 ⊤
  ∧ IdealRules.named_const.Statement Cert.KernelIdeal.κ "lowest" .f32 0xFF61B1E6#32 ⊥
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_fills : Cert.Pre_fills.Facts) (hPre_valid : Cert.Pre_valid.Facts),
    quiescent_Kernel (hKernel := hKernel) (hPre_fills := hPre_fills)
    ∧ quiescent_KernelIdeal (hKernelIdeal := hKernelIdeal) (hPre_fills := hPre_fills)
    ∧ quiescent_KernelIdeal_pre_valid (hKernelIdeal := hKernelIdeal) (hPre_valid := hPre_valid)
    ∧ quiescent_ReferenceIdeal (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_fills.lean ====
abbrev S12x4096x256 : Shape := ⟨3, ![12, 4096, 256]⟩
abbrev S12x4096 : Shape := ⟨2, ![12, 4096]⟩
abbrev S12x7 : Shape := ⟨2, ![12, 7]⟩
abbrev S_ : Shape := ⟨0, ![]⟩
abbrev S12 : Shape := ⟨1, ![12]⟩

class Facts : Prop where
  bcast_S_S12x7 : S_.BroadcastsInDim S12x7 (![] : Fin 0 → Fin S12x7.rank)
  reducesTo_S12x7_S_d0_1 : S12x7.ReducesTo [0, 1] S_
  h_S_ : 0 < S_.numel
  reducesTo_S12x7_S12_d1 : S12x7.ReducesTo [1] S12
  bcast_S_S12 : S_.BroadcastsInDim S12 (![] : Fin 0 → Fin S12.rank)
  reducesTo_S12_S_d0 : S12.ReducesTo [0] S_

variable [Facts]

def fn {F : FTy → Type} [FloatOps F] (main_arg0 : FVec F S12x4096x256 .f32) (main_arg1 : FVec F S12x4096 .f32) (main_arg2 : FVec F S12x4096x256 .f32) (main_arg3 : FVec F S12x4096 .f32) (main_arg4 : FVec F S12x4096 .f32) (main_arg5 : IVec S12x7 32) : IVec S_ 1 :=
  let main_c : IVec S_ 32 := constantI S_ 32 0#32
  let main_v0 : IVec S12x7 32 := broadcastInDim S12x7 ![] bcast_S_S12x7 main_c
  let main_v1 : IVec S12x7 1 := cmpi .sge main_arg5 main_v0
  let main_c_0 : IVec S_ 1 := constantI S_ 1 1#1
  let main_v2 : IVec S_ 1 := (fun x v => Host.reduce IntOp.andi x v reducesTo_S12x7_S_d0_1 h_S_) main_v1 main_c_0
  let main_c_1 : IVec S_ 32 := constantI S_ 32 4096#32
  let main_v3 : IVec S12x7 32 := broadcastInDim S12x7 ![] bcast_S_S12x7 main_c_1
  let main_v4 : IVec S12x7 1 := cmpi .sle main_arg5 main_v3
  let main_c_2 : IVec S_ 1 := constantI S_ 1 1#1
  let main_v5 : IVec S_ 1 := (fun x v => Host.reduce IntOp.andi x v reducesTo_S12x7_S_d0_1 h_S_) main_v4 main_c_2
  let main_v6 : IVec S_ 1 := andi main_v2 main_v5
  let main_c_3 : IVec S_ 32 := constantI S_ 32 0#32
  let main_v7 : IVec S12 32 := (fun x v => Host.reduce IntOp.addi x v reducesTo_S12x7_S12_d1 h_S_) main_arg5 main_c_3
  let main_c_4 : IVec S_ 32 := constantI S_ 32 4096#32
  let main_v8 : IVec S12 32 := broadcastInDim S12 ![] bcast_S_S12 main_c_4
  let main_v9 : IVec S12 1 := cmpi .eq main_v7 main_v8
  let main_c_5 : IVec S_ 1 := constantI S_ 1 1#1
  let main_v10 : IVec S_ 1 := (fun x v => Host.reduce IntOp.andi x v reducesTo_S12_S_d0 h_S_) main_v9 main_c_5
  let main_v11 : IVec S_ 1 := andi main_v6 main_v10
  main_v11
-- ==== Pre_valid.lean ====
abbrev S12x4096x256 : Shape := ⟨3, ![12, 4096, 256]⟩
abbrev S12x4096 : Shape := ⟨2, ![12, 4096]⟩
abbrev S12x7 : Shape := ⟨2, ![12, 7]⟩
abbrev S_ : Shape := ⟨0, ![]⟩
abbrev S12 : Shape := ⟨1, ![12]⟩

class Facts : Prop where
  bcast_S_S12x7 : S_.BroadcastsInDim S12x7 (![] : Fin 0 → Fin S12x7.rank)
  reducesTo_S12x7_S_d0_1 : S12x7.ReducesTo [0, 1] S_
  h_S_ : 0 < S_.numel
  reducesTo_S12x7_S12_d1 : S12x7.ReducesTo [1] S12
  bcast_S_S12 : S_.BroadcastsInDim S12 (![] : Fin 0 → Fin S12.rank)
  reducesTo_S12_S_d0 : S12.ReducesTo [0] S_
  bcast_S_S12x4096 : S_.BroadcastsInDim S12x4096 (![] : Fin 0 → Fin S12x4096.rank)
  reducesTo_S12x4096_S_d0_1 : S12x4096.ReducesTo [0, 1] S_
  bcast_S_S12x4096x256 : S_.BroadcastsInDim S12x4096x256 (![] : Fin 0 → Fin S12x4096x256.rank)
  reducesTo_S12x4096x256_S_d0_1_2 : S12x4096x256.ReducesTo [0, 1, 2] S_

variable [Facts]

def fn_part2 {F : FTy → Type} [FloatOps F] (main_v31 : IVec S_ 1) (main_v32 : FVec F S12x4096x256 .f32) : IVec S_ 1 :=
  let main_cst_13 : FVec F S_ .f32 := constant S_ .f32 0x7F800000#32
  let main_v33 : FVec F S12x4096x256 .f32 := broadcastInDim S12x4096x256 ![] bcast_S_S12x4096x256 main_cst_13
  let main_v34 : IVec S12x4096x256 1 := cmpf .olt main_v32 main_v33
  let main_c_14 : IVec S_ 1 := constantI S_ 1 1#1
  let main_v35 : IVec S_ 1 := (fun x v => Host.reduce IntOp.andi x v reducesTo_S12x4096x256_S_d0_1_2 h_S_) main_v34 main_c_14
  let main_v36 : IVec S_ 1 := andi main_v31 main_v35
  main_v36

def fn_part1 {F : FTy → Type} [FloatOps F] (main_arg0 : FVec F S12x4096x256 .f32) (main_arg2 : FVec F S12x4096x256 .f32) (main_arg3 : FVec F S12x4096 .f32) (main_arg4 : FVec F S12x4096 .f32) (main_v11 : IVec S_ 1) (main_v14 : IVec S12x4096 1) (main_c_6 : IVec S_ 1) : IVec S_ 1 :=
  let main_v15 : IVec S_ 1 := (fun x v => Host.reduce IntOp.andi x v reducesTo_S12x4096_S_d0_1 h_S_) main_v14 main_c_6
  let main_v16 : FVec F S12x4096 .f32 := Host.absf main_arg3
  let main_cst_7 : FVec F S_ .f32 := constant S_ .f32 0x7F800000#32
  let main_v17 : FVec F S12x4096 .f32 := broadcastInDim S12x4096 ![] bcast_S_S12x4096 main_cst_7
  let main_v18 : IVec S12x4096 1 := cmpf .olt main_v16 main_v17
  let main_c_8 : IVec S_ 1 := constantI S_ 1 1#1
  let main_v19 : IVec S_ 1 := (fun x v => Host.reduce IntOp.andi x v reducesTo_S12x4096_S_d0_1 h_S_) main_v18 main_c_8
  let main_v20 : IVec S_ 1 := andi main_v15 main_v19
  let main_v21 : FVec F S12x4096 .f32 := Host.absf main_arg4
  let main_cst_9 : FVec F S_ .f32 := constant S_ .f32 0x7F800000#32
  let main_v22 : FVec F S12x4096 .f32 := broadcastInDim S12x4096 ![] bcast_S_S12x4096 main_cst_9
  let main_v23 : IVec S12x4096 1 := cmpf .olt main_v21 main_v22
  let main_c_10 : IVec S_ 1 := constantI S_ 1 1#1
  let main_v24 : IVec S_ 1 := (fun x v => Host.reduce IntOp.andi x v reducesTo_S12x4096_S_d0_1 h_S_) main_v23 main_c_10
  let main_v25 : IVec S_ 1 := andi main_v20 main_v24
  let main_v26 : IVec S_ 1 := andi main_v11 main_v25
  let main_v27 : FVec F S12x4096x256 .f32 := Host.absf main_arg0
  let main_cst_11 : FVec F S_ .f32 := constant S_ .f32 0x7F800000#32
  let main_v28 : FVec F S12x4096x256 .f32 := broadcastInDim S12x4096x256 ![] bcast_S_S12x4096x256 main_cst_11
  let main_v29 : IVec S12x4096x256 1 := cmpf .olt main_v27 main_v28
  let main_c_12 : IVec S_ 1 := constantI S_ 1 1#1
  let main_v30 : IVec S_ 1 := (fun x v => Host.reduce IntOp.andi x v reducesTo_S12x4096x256_S_d0_1_2 h_S_) main_v29 main_c_12
  let main_v31 : IVec S_ 1 := andi main_v26 main_v30
  let main_v32 : FVec F S12x4096x256 .f32 := Host.absf main_arg2
  fn_part2 (F := F) main_v31 main_v32

def fn {F : FTy → Type} [FloatOps F] (main_arg0 : FVec F S12x4096x256 .f32) (main_arg1 : FVec F S12x4096 .f32) (main_arg2 : FVec F S12x4096x256 .f32) (main_arg3 : FVec F S12x4096 .f32) (main_arg4 : FVec F S12x4096 .f32) (main_arg5 : IVec S12x7 32) : IVec S_ 1 :=
  let main_c : IVec S_ 32 := constantI S_ 32 0#32
  let main_v0 : IVec S12x7 32 := broadcastInDim S12x7 ![] bcast_S_S12x7 main_c
  let main_v1 : IVec S12x7 1 := cmpi .sge main_arg5 main_v0
  let main_c_0 : IVec S_ 1 := constantI S_ 1 1#1
  let main_v2 : IVec S_ 1 := (fun x v => Host.reduce IntOp.andi x v reducesTo_S12x7_S_d0_1 h_S_) main_v1 main_c_0
  let main_c_1 : IVec S_ 32 := constantI S_ 32 4096#32
  let main_v3 : IVec S12x7 32 := broadcastInDim S12x7 ![] bcast_S_S12x7 main_c_1
  let main_v4 : IVec S12x7 1 := cmpi .sle main_arg5 main_v3
  let main_c_2 : IVec S_ 1 := constantI S_ 1 1#1
  let main_v5 : IVec S_ 1 := (fun x v => Host.reduce IntOp.andi x v reducesTo_S12x7_S_d0_1 h_S_) main_v4 main_c_2
  let main_v6 : IVec S_ 1 := andi main_v2 main_v5
  let main_c_3 : IVec S_ 32 := constantI S_ 32 0#32
  let main_v7 : IVec S12 32 := (fun x v => Host.reduce IntOp.addi x v reducesTo_S12x7_S12_d1 h_S_) main_arg5 main_c_3
  let main_c_4 : IVec S_ 32 := constantI S_ 32 4096#32
  let main_v8 : IVec S12 32 := broadcastInDim S12 ![] bcast_S_S12 main_c_4
  let main_v9 : IVec S12 1 := cmpi .eq main_v7 main_v8
  let main_c_5 : IVec S_ 1 := constantI S_ 1 1#1
  let main_v10 : IVec S_ 1 := (fun x v => Host.reduce IntOp.andi x v reducesTo_S12_S_d0 h_S_) main_v9 main_c_5
  let main_v11 : IVec S_ 1 := andi main_v6 main_v10
  let main_v12 : FVec F S12x4096 .f32 := Host.absf main_arg1
  let main_cst : FVec F S_ .f32 := constant S_ .f32 0x7F800000#32
  let main_v13 : FVec F S12x4096 .f32 := broadcastInDim S12x4096 ![] bcast_S_S12x4096 main_cst
  let main_v14 : IVec S12x4096 1 := cmpf .olt main_v12 main_v13
  let main_c_6 : IVec S_ 1 := constantI S_ 1 1#1
  fn_part1 (F := F) main_arg0 main_arg2 main_arg3 main_arg4 main_v11 main_v14 main_c_6
-- ==== Kernel.lean ====
abbrev S12x4096x256 : Shape := ⟨3, ![12, 4096, 256]⟩
abbrev S12x4096 : Shape := ⟨2, ![12, 4096]⟩
abbrev S12x7 : Shape := ⟨2, ![12, 7]⟩
abbrev S12x1x4096 : Shape := ⟨3, ![12, 1, 4096]⟩
abbrev S1x4096x256 : Shape := ⟨3, ![1, 4096, 256]⟩
abbrev S1x1x4096 : Shape := ⟨3, ![1, 1, 4096]⟩
abbrev S4096x256 : Shape := ⟨2, ![4096, 256]⟩
abbrev S4096x128 : Shape := ⟨2, ![4096, 128]⟩
abbrev S8x4224 : Shape := ⟨2, ![8, 4224]⟩
abbrev S16x32x8x256 : Shape := ⟨4, ![16, 32, 8, 256]⟩
abbrev S8x128 : Shape := ⟨2, ![8, 128]⟩
abbrev S1x1x128 : Shape := ⟨3, ![1, 1, 128]⟩
abbrev S1x128 : Shape := ⟨2, ![1, 128]⟩
abbrev S128x128 : Shape := ⟨2, ![128, 128]⟩
abbrev S128x256 : Shape := ⟨2, ![128, 256]⟩
abbrev S1x128x256 : Shape := ⟨3, ![1, 128, 256]⟩
abbrev S32x128 : Shape := ⟨2, ![32, 128]⟩
abbrev S8x256 : Shape := ⟨2, ![8, 256]⟩
abbrev S256x256 : Shape := ⟨2, ![256, 256]⟩
abbrev S1x1 : Shape := ⟨2, ![1, 1]⟩
abbrev S8x384 : Shape := ⟨2, ![8, 384]⟩
abbrev S1x256x256 : Shape := ⟨3, ![1, 256, 256]⟩
abbrev S32x8x256 : Shape := ⟨3, ![32, 8, 256]⟩
abbrev S256x128 : Shape := ⟨2, ![256, 128]⟩
abbrev S32x8x128 : Shape := ⟨3, ![32, 8, 128]⟩
abbrev S1x8x256 : Shape := ⟨3, ![1, 8, 256]⟩
abbrev S1x32x8x256 : Shape := ⟨4, ![1, 32, 8, 256]⟩
abbrev S256 : Shape := ⟨1, ![256]⟩
abbrev S1x256 : Shape := ⟨2, ![1, 256]⟩
abbrev S1x4096 : Shape := ⟨2, ![1, 4096]⟩

abbrev nBuf : Space → Nat
  | .hbm => 13
  | .vmem => 26
  | .smem => 1
  | _ => 0

abbrev bufTy : (tb : Table) → Fin (tcTables nBuf tb) → BufTy
  | .hbm, ⟨0, _⟩ => ⟨S12x4096x256, .f32⟩
  | .hbm, ⟨1, _⟩ => ⟨S12x4096, .f32⟩
  | .hbm, ⟨2, _⟩ => ⟨S12x4096x256, .f32⟩
  | .hbm, ⟨3, _⟩ => ⟨S12x4096, .f32⟩
  | .hbm, ⟨4, _⟩ => ⟨S12x4096, .f32⟩
  | .hbm, ⟨5, _⟩ => ⟨S12x4096x256, .fp8e4m3⟩
  | .hbm, ⟨6, _⟩ => ⟨S12x1x4096, .f32⟩
  | .hbm, ⟨7, _⟩ => ⟨S12x4096x256, .fp8e4m3⟩
  | .hbm, ⟨8, _⟩ => ⟨S12x1x4096, .f32⟩
  | .hbm, ⟨9, _⟩ => ⟨S12x1x4096, .f32⟩
  | .hbm, ⟨10, _⟩ => ⟨S12x1x4096, .f32⟩
  | .hbm, ⟨11, _⟩ => ⟨S12x4096x256, .bf16⟩
  | .hbm, ⟨12, _⟩ => ⟨S12x4096x256, .bf16⟩
  | .local _ .vmem, ⟨0, _⟩ => ⟨S1x4096x256, .fp8e4m3⟩
  | .local _ .vmem, ⟨1, _⟩ => ⟨S1x4096x256, .fp8e4m3⟩
  | .local _ .vmem, ⟨2, _⟩ => ⟨S1x1x4096, .f32⟩
  | .local _ .vmem, ⟨3, _⟩ => ⟨S1x1x4096, .f32⟩
  | .local _ .vmem, ⟨4, _⟩ => ⟨S1x4096x256, .fp8e4m3⟩
  | .local _ .vmem, ⟨5, _⟩ => ⟨S1x4096x256, .fp8e4m3⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x4096x256, .bf16⟩
  | .local _ .vmem, ⟨13, _⟩ => ⟨S1x4096x256, .bf16⟩
  | .local _ .vmem, ⟨14, _⟩ => ⟨S1x4096x256, .bf16⟩
  | .local _ .vmem, ⟨15, _⟩ => ⟨S1x4096x256, .bf16⟩
  | .local _ .vmem, ⟨16, _⟩ => ⟨S4096x256, .bf16⟩
  | .local _ .vmem, ⟨17, _⟩ => ⟨S4096x256, .bf16⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S8x4224, .f32⟩
  | .local _ .vmem, ⟨22, _⟩ => ⟨S8x4224, .f32⟩
  | .local _ .vmem, ⟨23, _⟩ => ⟨S16x32x8x256, .f32⟩
  | .local _ .vmem, ⟨24, _⟩ => ⟨S4096x256, .f32⟩
  | .local _ .vmem, ⟨25, _⟩ => ⟨S4096x256, .f32⟩
  | .local _ .smem, ⟨0, _⟩ => ⟨S12x7, .i32⟩
  | _, _ => ⟨S12x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![12], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c128_i32 : BitVec 32 := 128#32
  let v21 : BitVec 32 := Scalar.muli arg20 c128_i32
  v21
def k0_off1 (k0_t1 : Fin k0_t1_loop.trips) : Fin 3 → Nat :=
  let c0_17 : Index := 0#32
  let c0_18 : Index := 0#32
  let c0_i32 : BitVec 32 := 0#32
  let c1_i32 : BitVec 32 := 1#32
  let arg20 : BitVec 32 := Scf.iv c0_i32 c1_i32 k0_t1
  let c128_i32 : BitVec 32 := 128#32
  let v21 : BitVec 32 := Scalar.muli arg20 c128_i32
  let v22 : BitVec 32 := v21
  let v23 : Index := Scalar.indexCast v22
  ![0, 0, v23.toNat]
def k0_off2 (k0_t1 : Fin k0_t1_loop.trips) : Fin 2 → Nat :=
  let c0_i32 : BitVec 32 := 0#32
  let c1_i32 : BitVec 32 := 1#32
  let arg20 : BitVec 32 := Scf.iv c0_i32 c1_i32 k0_t1
  let c128_i32 : BitVec 32 := 128#32
  let v21 : BitVec 32 := Scalar.muli arg20 c128_i32
  let v22 : BitVec 32 := v21
  let v41 : Index := Scalar.indexCast v22
  let c0_23 : Index := 0#32
  ![v41.toNat, 0]
def k0_off3 (k0_t1 : Fin k0_t1_loop.trips) : Fin 2 → Nat :=
  let c0_29 : Index := 0#32
  let c0_i32 : BitVec 32 := 0#32
  let c1_i32 : BitVec 32 := 1#32
  let arg20 : BitVec 32 := Scf.iv c0_i32 c1_i32 k0_t1
  let c128_i32 : BitVec 32 := 128#32
  let v21 : BitVec 32 := Scalar.muli arg20 c128_i32
  let v22 : BitVec 32 := v21
  let v60 : Index := Scalar.indexCast v22
  ![0, v60.toNat]
def k0_off4 (k0_t1 : Fin k0_t1_loop.trips) : Fin 3 → Nat :=
  let c0_30 : Index := 0#32
  let c0_i32 : BitVec 32 := 0#32
  let c1_i32 : BitVec 32 := 1#32
  let arg20 : BitVec 32 := Scf.iv c0_i32 c1_i32 k0_t1
  let c128_i32 : BitVec 32 := 128#32
  let v21 : BitVec 32 := Scalar.muli arg20 c128_i32
  let v22 : BitVec 32 := v21
  let v68 : Index := Scalar.indexCast v22
  let c0_31 : Index := 0#32
  ![0, v68.toNat, 0]
def k0_off5 (k0_t1 : Fin k0_t1_loop.trips) : Fin 2 → Nat :=
  let c0_i32 : BitVec 32 := 0#32
  let c1_i32 : BitVec 32 := 1#32
  let arg20 : BitVec 32 := Scf.iv c0_i32 c1_i32 k0_t1
  let c128_i32 : BitVec 32 := 128#32
  let v21 : BitVec 32 := Scalar.muli arg20 c128_i32
  let v22 : BitVec 32 := v21
  let v73 : Index := Scalar.indexCast v22
  let c0_32 : Index := 0#32
  ![v73.toNat, 0]
@[reducible] def k0_t2_loop : Scf.Loop 32 :=
  let c0_i32_5 : BitVec 32 := 0#32
  let c7_i32 : BitVec 32 := 7#32
  let v14 : BitVec 32 := Scalar.addi c0_i32_5 c7_i32
  let c1_i32_6 : BitVec 32 := 1#32
  ⟨c0_i32_5, v14, c1_i32_6⟩
def k0_off6 (i : grid0.Coords) (k0_t2 : Fin k0_t2_loop.trips) : Fin 2 → Nat :=
  let arg0 : BitVec 32 := BitVec.ofNat 32 (i 0).val
  let v21 : Index := Scalar.indexCast arg0
  let c0_i32_5 : BitVec 32 := 0#32
  let c1_i32_6 : BitVec 32 := 1#32
  let arg20 : BitVec 32 := Scf.iv c0_i32_5 c1_i32_6 k0_t2
  let v22 : Index := Scalar.indexCast arg20
  ![v21.toNat, v22.toNat]
@[reducible] def k0_t3_loop (arg21 : BitVec 32) (v23 : BitVec 32) : Scf.Loop 32 :=
  let c0_i32_33 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c8_i32 : BitVec 32 := 8#32
  let v67 : BitVec 32 := Scalar.muli v63 c8_i32
  let v68 : BitVec 32 := Scalar.subi v67 c0_i32_33
  let c1_i32_35 : BitVec 32 := 1#32
  let v70 : BitVec 32 := Scalar.divsi v68 c1_i32_35
  let v71 : BitVec 32 := Scalar.muli v70 c1_i32_35
  let v72 : BitVec 32 := Scalar.addi c0_i32_33 v71
  let c1_i32_36 : BitVec 32 := 1#32
  ⟨c0_i32_33, v72, c1_i32_36⟩

def k0_mult2 (arg21 : BitVec 32) (v23 : BitVec 32) (k0_t3 : Fin (k0_t3_loop arg21 v23).trips) : BitVec 32 :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_33 : BitVec 32 := 0#32
  let c1_i32_36 : BitVec 32 := 1#32
  let arg22 : BitVec 32 := Scf.iv c0_i32_33 c1_i32_36 k0_t3
  let c32_i32_43 : BitVec 32 := 32#32
  let v82 : BitVec 32 := Scalar.muli arg22 c32_i32_43
  let v83 : BitVec 32 := Scalar.addi v66 v82
  v83
def k0_off7 (arg21 : BitVec 32) (v23 : BitVec 32) (k0_t3 : Fin (k0_t3_loop arg21 v23).trips) : Fin 2 → Nat :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_33 : BitVec 32 := 0#32
  let c1_i32_36 : BitVec 32 := 1#32
  let arg22 : BitVec 32 := Scf.iv c0_i32_33 c1_i32_36 k0_t3
  let c32_i32_43 : BitVec 32 := 32#32
  let v82 : BitVec 32 := Scalar.muli arg22 c32_i32_43
  let v83 : BitVec 32 := Scalar.addi v66 v82
  let v84 : BitVec 32 := v83
  let v92 : Index := Scalar.indexCast v84
  let c0_44 : Index := 0#32
  ![v92.toNat, 0]
@[reducible] def k0_t4_loop (arg21 : BitVec 32) (v23 : BitVec 32) : Scf.Loop 32 :=
  let c0_i32_33 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c8_i32 : BitVec 32 := 8#32
  let v67 : BitVec 32 := Scalar.muli v63 c8_i32
  let v68 : BitVec 32 := Scalar.subi v67 c0_i32_33
  let c1_i32_35 : BitVec 32 := 1#32
  let v70 : BitVec 32 := Scalar.divsi v68 c1_i32_35
  let v71 : BitVec 32 := Scalar.muli v70 c1_i32_35
  let v72 : BitVec 32 := Scalar.addi c0_i32_33 v71
  let v69 : BitVec 32 := Scalar.addi c0_i32_33 v68
  let c1_i32_37 : BitVec 32 := 1#32
  ⟨v72, v69, c1_i32_37⟩
def k0_mult3 (arg21 : BitVec 32) (v23 : BitVec 32) (k0_t4 : Fin (k0_t4_loop arg21 v23).trips) : BitVec 32 :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_33 : BitVec 32 := 0#32
  let c8_i32 : BitVec 32 := 8#32
  let v67 : BitVec 32 := Scalar.muli v63 c8_i32
  let v68 : BitVec 32 := Scalar.subi v67 c0_i32_33
  let c1_i32_35 : BitVec 32 := 1#32
  let v70 : BitVec 32 := Scalar.divsi v68 c1_i32_35
  let v71 : BitVec 32 := Scalar.muli v70 c1_i32_35
  let v72 : BitVec 32 := Scalar.addi c0_i32_33 v71
  let c1_i32_37 : BitVec 32 := 1#32
  let arg22 : BitVec 32 := Scf.iv v72 c1_i32_37 k0_t4
  let c32_i32_43 : BitVec 32 := 32#32
  let v82 : BitVec 32 := Scalar.muli arg22 c32_i32_43
  let v83 : BitVec 32 := Scalar.addi v66 v82
  v83
def k0_off8 (arg21 : BitVec 32) (v23 : BitVec 32) (k0_t4 : Fin (k0_t4_loop arg21 v23).trips) : Fin 2 → Nat :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_33 : BitVec 32 := 0#32
  let c8_i32 : BitVec 32 := 8#32
  let v67 : BitVec 32 := Scalar.muli v63 c8_i32
  let v68 : BitVec 32 := Scalar.subi v67 c0_i32_33
  let c1_i32_35 : BitVec 32 := 1#32
  let v70 : BitVec 32 := Scalar.divsi v68 c1_i32_35
  let v71 : BitVec 32 := Scalar.muli v70 c1_i32_35
  let v72 : BitVec 32 := Scalar.addi c0_i32_33 v71
  let c1_i32_37 : BitVec 32 := 1#32
  let arg22 : BitVec 32 := Scf.iv v72 c1_i32_37 k0_t4
  let c32_i32_43 : BitVec 32 := 32#32
  let v82 : BitVec 32 := Scalar.muli arg22 c32_i32_43
  let v83 : BitVec 32 := Scalar.addi v66 v82
  let v84 : BitVec 32 := v83
  let v92 : Index := Scalar.indexCast v84
  let c0_44 : Index := 0#32
  ![v92.toNat, 0]
@[reducible] def k0_t5_loop (arg21 : BitVec 32) (v23 : BitVec 32) : Scf.Loop 32 :=
  let c0_i32_38 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v75 : BitVec 32 := Scalar.subi v63 c0_i32_38
  let c1_i32_40 : BitVec 32 := 1#32
  let v77 : BitVec 32 := Scalar.divsi v75 c1_i32_40
  let v78 : BitVec 32 := Scalar.muli v77 c1_i32_40
  let v79 : BitVec 32 := Scalar.addi c0_i32_38 v78
  let c1_i32_41 : BitVec 32 := 1#32
  ⟨c0_i32_38, v79, c1_i32_41⟩
def k0_mult4 (arg21 : BitVec 32) (v23 : BitVec 32) (k0_t5 : Fin (k0_t5_loop arg21 v23).trips) : BitVec 32 :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_38 : BitVec 32 := 0#32
  let c1_i32_41 : BitVec 32 := 1#32
  let arg22 : BitVec 32 := Scf.iv c0_i32_38 c1_i32_41 k0_t5
  let c256_i32_43 : BitVec 32 := 256#32
  let v82 : BitVec 32 := Scalar.muli arg22 c256_i32_43
  let v83 : BitVec 32 := Scalar.addi v66 v82
  v83
def k0_mult5 (arg21 : BitVec 32) (v23 : BitVec 32) (k0_t5 : Fin (k0_t5_loop arg21 v23).trips) : BitVec 32 :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_38 : BitVec 32 := 0#32
  let c1_i32_41 : BitVec 32 := 1#32
  let arg22 : BitVec 32 := Scf.iv c0_i32_38 c1_i32_41 k0_t5
  let c256_i32_43 : BitVec 32 := 256#32
  let v82 : BitVec 32 := Scalar.muli arg22 c256_i32_43
  let v83 : BitVec 32 := Scalar.addi v66 v82
  let v84 : BitVec 32 := v83
  let c0_i32_44 : BitVec 32 := 0#32
  let v86 : BitVec 1 := Scalar.cmpi .sgt v84 c0_i32_44
  let v87 : BitVec 32 := Scalar.extui v86
  let c0_i32_45 : BitVec 32 := 0#32
  let v88 : BitVec 1 := Scalar.cmpi .slt v84 c0_i32_45
  let v89 : BitVec 32 := Scalar.extui v88
  let v90 : BitVec 32 := Scalar.subi v87 v89
  let c128_i32 : BitVec 32 := 128#32
  let c0_i32_46 : BitVec 32 := 0#32
  let v91 : BitVec 1 := Scalar.cmpi .sgt c128_i32 c0_i32_46
  let v92 : BitVec 32 := Scalar.extui v91
  let c0_i32_47 : BitVec 32 := 0#32
  let v93 : BitVec 1 := Scalar.cmpi .slt c128_i32 c0_i32_47
  let v94 : BitVec 32 := Scalar.extui v93
  let v95 : BitVec 32 := Scalar.subi v92 v94
  let v96 : BitVec 1 := Scalar.cmpi .ne v90 v95
  let v97 : BitVec 32 := Scalar.remsi v84 c128_i32
  let c0_i32_48 : BitVec 32 := 0#32
  let v98 : BitVec 1 := Scalar.cmpi .ne v97 c0_i32_48
  let v99 : BitVec 1 := Scalar.andi v96 v98
  let v85 : BitVec 32 := Scalar.divsi v84 c128_i32
  let c1_i32_49 : BitVec 32 := 1#32
  let v100 : BitVec 32 := Scalar.subi v85 c1_i32_49
  let v101 : BitVec 32 := Scalar.select v99 v100 v85
  let c128_i32_50 : BitVec 32 := 128#32
  let v102 : BitVec 32 := Scalar.muli v101 c128_i32_50
  v102
def k0_off9 (arg21 : BitVec 32) (v23 : BitVec 32) (k0_t5 : Fin (k0_t5_loop arg21 v23).trips) : Fin 2 → Nat :=
  let c0_51 : Index := 0#32
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_38 : BitVec 32 := 0#32
  let c1_i32_41 : BitVec 32 := 1#32
  let arg22 : BitVec 32 := Scf.iv c0_i32_38 c1_i32_41 k0_t5
  let c256_i32_43 : BitVec 32 := 256#32
  let v82 : BitVec 32 := Scalar.muli arg22 c256_i32_43
  let v83 : BitVec 32 := Scalar.addi v66 v82
  let v84 : BitVec 32 := v83
  let c0_i32_44 : BitVec 32 := 0#32
  let v86 : BitVec 1 := Scalar.cmpi .sgt v84 c0_i32_44
  let v87 : BitVec 32 := Scalar.extui v86
  let c0_i32_45 : BitVec 32 := 0#32
  let v88 : BitVec 1 := Scalar.cmpi .slt v84 c0_i32_45
  let v89 : BitVec 32 := Scalar.extui v88
  let v90 : BitVec 32 := Scalar.subi v87 v89
  let c128_i32 : BitVec 32 := 128#32
  let c0_i32_46 : BitVec 32 := 0#32
  let v91 : BitVec 1 := Scalar.cmpi .sgt c128_i32 c0_i32_46
  let v92 : BitVec 32 := Scalar.extui v91
  let c0_i32_47 : BitVec 32 := 0#32
  let v93 : BitVec 1 := Scalar.cmpi .slt c128_i32 c0_i32_47
  let v94 : BitVec 32 := Scalar.extui v93
  let v95 : BitVec 32 := Scalar.subi v92 v94
  let v96 : BitVec 1 := Scalar.cmpi .ne v90 v95
  let v97 : BitVec 32 := Scalar.remsi v84 c128_i32
  let c0_i32_48 : BitVec 32 := 0#32
  let v98 : BitVec 1 := Scalar.cmpi .ne v97 c0_i32_48
  let v99 : BitVec 1 := Scalar.andi v96 v98
  let v85 : BitVec 32 := Scalar.divsi v84 c128_i32
  let c1_i32_49 : BitVec 32 := 1#32
  let v100 : BitVec 32 := Scalar.subi v85 c1_i32_49
  let v101 : BitVec 32 := Scalar.select v99 v100 v85
  let c128_i32_50 : BitVec 32 := 128#32
  let v102 : BitVec 32 := Scalar.muli v101 c128_i32_50
  let v103 : BitVec 32 := v102
  let v105 : Index := Scalar.indexCast v103
  ![0, v105.toNat]
@[reducible] def k0_t6_loop (arg21 : BitVec 32) (v23 : BitVec 32) : Scf.Loop 32 :=
  let c0_i32_53 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v111 : BitVec 32 := Scalar.subi v63 c0_i32_53
  let c1_i32_54 : BitVec 32 := 1#32
  let v113 : BitVec 32 := Scalar.divsi v111 c1_i32_54
  let v114 : BitVec 32 := Scalar.muli v113 c1_i32_54
  let v115 : BitVec 32 := Scalar.addi c0_i32_53 v114
  let c1_i32_55 : BitVec 32 := 1#32
  ⟨c0_i32_53, v115, c1_i32_55⟩
def k0_mult6 (arg21 : BitVec 32) (v23 : BitVec 32) (k0_t6 : Fin (k0_t6_loop arg21 v23).trips) : BitVec 32 :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_53 : BitVec 32 := 0#32
  let c1_i32_55 : BitVec 32 := 1#32
  let arg24 : BitVec 32 := Scf.iv c0_i32_53 c1_i32_55 k0_t6
  let c256_i32_94 : BitVec 32 := 256#32
  let v200 : BitVec 32 := Scalar.muli arg24 c256_i32_94
  let v201 : BitVec 32 := Scalar.addi v66 v200
  v201
def k0_off10 (arg21 : BitVec 32) (v23 : BitVec 32) (k0_t6 : Fin (k0_t6_loop arg21 v23).trips) : Fin 3 → Nat :=
  let c0_95 : Index := 0#32
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_53 : BitVec 32 := 0#32
  let c1_i32_55 : BitVec 32 := 1#32
  let arg24 : BitVec 32 := Scf.iv c0_i32_53 c1_i32_55 k0_t6
  let c256_i32_94 : BitVec 32 := 256#32
  let v200 : BitVec 32 := Scalar.muli arg24 c256_i32_94
  let v201 : BitVec 32 := Scalar.addi v66 v200
  let v202 : BitVec 32 := v201
  let v203 : Index := Scalar.indexCast v202
  let c0_96 : Index := 0#32
  ![0, v203.toNat, 0]
def k0_off11 (arg21 : BitVec 32) (v23 : BitVec 32) (k0_t5 : Fin (k0_t5_loop arg21 v23).trips) : Fin 3 → Nat :=
  let c0_97 : Index := 0#32
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_38 : BitVec 32 := 0#32
  let c1_i32_41 : BitVec 32 := 1#32
  let arg22 : BitVec 32 := Scf.iv c0_i32_38 c1_i32_41 k0_t5
  let c256_i32_43 : BitVec 32 := 256#32
  let v82 : BitVec 32 := Scalar.muli arg22 c256_i32_43
  let v83 : BitVec 32 := Scalar.addi v66 v82
  let v84 : BitVec 32 := v83
  let v206 : Index := Scalar.indexCast v84
  let c0_98 : Index := 0#32
  ![0, v206.toNat, 0]
def k0_off12 (arg21 : BitVec 32) (v23 : BitVec 32) (k0_t6 : Fin (k0_t6_loop arg21 v23).trips) : Fin 2 → Nat :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_53 : BitVec 32 := 0#32
  let c1_i32_55 : BitVec 32 := 1#32
  let arg24 : BitVec 32 := Scf.iv c0_i32_53 c1_i32_55 k0_t6
  let c256_i32_94 : BitVec 32 := 256#32
  let v200 : BitVec 32 := Scalar.muli arg24 c256_i32_94
  let v201 : BitVec 32 := Scalar.addi v66 v200
  let v202 : BitVec 32 := v201
  let v211 : Index := Scalar.indexCast v202
  let c0_100 : Index := 0#32
  ![v211.toNat, 0]
def k0_off13 (arg21 : BitVec 32) (v23 : BitVec 32) (k0_t6 : Fin (k0_t6_loop arg21 v23).trips) : Fin 4 → Nat :=
  let c0_i32_53 : BitVec 32 := 0#32
  let c1_i32_55 : BitVec 32 := 1#32
  let arg24 : BitVec 32 := Scf.iv c0_i32_53 c1_i32_55 k0_t6
  let v224 : Index := Scalar.indexCast arg24
  let c0_102 : Index := 0#32
  let c0_103 : Index := 0#32
  let c0_104 : Index := 0#32
  ![v224.toNat, 0, 0, 0]
@[reducible] def k0_t7_loop (arg21 : BitVec 32) (v23 : BitVec 32) : Scf.Loop 32 :=
  let c0_i32_53 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v111 : BitVec 32 := Scalar.subi v63 c0_i32_53
  let c1_i32_54 : BitVec 32 := 1#32
  let v113 : BitVec 32 := Scalar.divsi v111 c1_i32_54
  let v114 : BitVec 32 := Scalar.muli v113 c1_i32_54
  let v115 : BitVec 32 := Scalar.addi c0_i32_53 v114
  let v112 : BitVec 32 := Scalar.addi c0_i32_53 v111
  let c1_i32_56 : BitVec 32 := 1#32
  ⟨v115, v112, c1_i32_56⟩
def k0_mult7 (arg21 : BitVec 32) (v23 : BitVec 32) (k0_t7 : Fin (k0_t7_loop arg21 v23).trips) : BitVec 32 :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_53 : BitVec 32 := 0#32
  let v111 : BitVec 32 := Scalar.subi v63 c0_i32_53
  let c1_i32_54 : BitVec 32 := 1#32
  let v113 : BitVec 32 := Scalar.divsi v111 c1_i32_54
  let v114 : BitVec 32 := Scalar.muli v113 c1_i32_54
  let v115 : BitVec 32 := Scalar.addi c0_i32_53 v114
  let c1_i32_56 : BitVec 32 := 1#32
  let arg24 : BitVec 32 := Scf.iv v115 c1_i32_56 k0_t7
  let c256_i32_94 : BitVec 32 := 256#32
  let v200 : BitVec 32 := Scalar.muli arg24 c256_i32_94
  let v201 : BitVec 32 := Scalar.addi v66 v200
  v201
def k0_off14 (arg21 : BitVec 32) (v23 : BitVec 32) (k0_t7 : Fin (k0_t7_loop arg21 v23).trips) : Fin 3 → Nat :=
  let c0_95 : Index := 0#32
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_53 : BitVec 32 := 0#32
  let v111 : BitVec 32 := Scalar.subi v63 c0_i32_53
  let c1_i32_54 : BitVec 32 := 1#32
  let v113 : BitVec 32 := Scalar.divsi v111 c1_i32_54
  let v114 : BitVec 32 := Scalar.muli v113 c1_i32_54
  let v115 : BitVec 32 := Scalar.addi c0_i32_53 v114
  let c1_i32_56 : BitVec 32 := 1#32
  let arg24 : BitVec 32 := Scf.iv v115 c1_i32_56 k0_t7
  let c256_i32_94 : BitVec 32 := 256#32
  let v200 : BitVec 32 := Scalar.muli arg24 c256_i32_94
  let v201 : BitVec 32 := Scalar.addi v66 v200
  let v202 : BitVec 32 := v201
  let v203 : Index := Scalar.indexCast v202
  let c0_96 : Index := 0#32
  ![0, v203.toNat, 0]
def k0_off15 (arg21 : BitVec 32) (v23 : BitVec 32) (k0_t5 : Fin (k0_t5_loop arg21 v23).trips) : Fin 3 → Nat :=
  let c0_97 : Index := 0#32
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_38 : BitVec 32 := 0#32
  let c1_i32_41 : BitVec 32 := 1#32
  let arg22 : BitVec 32 := Scf.iv c0_i32_38 c1_i32_41 k0_t5
  let c256_i32_43 : BitVec 32 := 256#32
  let v82 : BitVec 32 := Scalar.muli arg22 c256_i32_43
  let v83 : BitVec 32 := Scalar.addi v66 v82
  let v84 : BitVec 32 := v83
  let v206 : Index := Scalar.indexCast v84
  let c0_98 : Index := 0#32
  ![0, v206.toNat, 0]
def k0_off16 (arg21 : BitVec 32) (v23 : BitVec 32) (k0_t7 : Fin (k0_t7_loop arg21 v23).trips) : Fin 2 → Nat :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_53 : BitVec 32 := 0#32
  let v111 : BitVec 32 := Scalar.subi v63 c0_i32_53
  let c1_i32_54 : BitVec 32 := 1#32
  let v113 : BitVec 32 := Scalar.divsi v111 c1_i32_54
  let v114 : BitVec 32 := Scalar.muli v113 c1_i32_54
  let v115 : BitVec 32 := Scalar.addi c0_i32_53 v114
  let c1_i32_56 : BitVec 32 := 1#32
  let arg24 : BitVec 32 := Scf.iv v115 c1_i32_56 k0_t7
  let c256_i32_94 : BitVec 32 := 256#32
  let v200 : BitVec 32 := Scalar.muli arg24 c256_i32_94
  let v201 : BitVec 32 := Scalar.addi v66 v200
  let v202 : BitVec 32 := v201
  let v211 : Index := Scalar.indexCast v202
  let c0_100 : Index := 0#32
  ![v211.toNat, 0]
def k0_off17 (arg21 : BitVec 32) (v23 : BitVec 32) (k0_t7 : Fin (k0_t7_loop arg21 v23).trips) : Fin 4 → Nat :=
  let c0_i32_53 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v111 : BitVec 32 := Scalar.subi v63 c0_i32_53
  let c1_i32_54 : BitVec 32 := 1#32
  let v113 : BitVec 32 := Scalar.divsi v111 c1_i32_54
  let v114 : BitVec 32 := Scalar.muli v113 c1_i32_54
  let v115 : BitVec 32 := Scalar.addi c0_i32_53 v114
  let c1_i32_56 : BitVec 32 := 1#32
  let arg24 : BitVec 32 := Scf.iv v115 c1_i32_56 k0_t7
  let v224 : Index := Scalar.indexCast arg24
  let c0_102 : Index := 0#32
  let c0_103 : Index := 0#32
  let c0_104 : Index := 0#32
  ![v224.toNat, 0, 0, 0]
def k0_off18 (arg21 : BitVec 32) (v23 : BitVec 32) (k0_t5 : Fin (k0_t5_loop arg21 v23).trips) : Fin 4 → Nat :=
  let c0_i32_38 : BitVec 32 := 0#32
  let c1_i32_41 : BitVec 32 := 1#32
  let arg22 : BitVec 32 := Scf.iv c0_i32_38 c1_i32_41 k0_t5
  let v123 : Index := Scalar.indexCast arg22
  let c0_58 : Index := 0#32
  let c0_59 : Index := 0#32
  let c0_60 : Index := 0#32
  ![v123.toNat, 0, 0, 0]
@[reducible] def k0_t8_loop (arg21 : BitVec 32) (v23 : BitVec 32) : Scf.Loop 32 :=
  let c0_i32_65 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v132 : BitVec 32 := Scalar.subi v63 c0_i32_65
  let c1_i32_66 : BitVec 32 := 1#32
  let v134 : BitVec 32 := Scalar.divsi v132 c1_i32_66
  let v135 : BitVec 32 := Scalar.muli v134 c1_i32_66
  let v136 : BitVec 32 := Scalar.addi c0_i32_65 v135
  let c1_i32_67 : BitVec 32 := 1#32
  ⟨c0_i32_65, v136, c1_i32_67⟩
def k0_off19 (arg21 : BitVec 32) (v23 : BitVec 32) (k0_t8 : Fin (k0_t8_loop arg21 v23).trips) : Fin 4 → Nat :=
  let c0_i32_65 : BitVec 32 := 0#32
  let c1_i32_67 : BitVec 32 := 1#32
  let arg24 : BitVec 32 := Scf.iv c0_i32_65 c1_i32_67 k0_t8
  let v200 : Index := Scalar.indexCast arg24
  let c0_94 : Index := 0#32
  let c0_95 : Index := 0#32
  let c0_96 : Index := 0#32
  ![v200.toNat, 0, 0, 0]
@[reducible] def k0_t9_loop (arg21 : BitVec 32) (v23 : BitVec 32) : Scf.Loop 32 :=
  let c0_i32_65 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v132 : BitVec 32 := Scalar.subi v63 c0_i32_65
  let c1_i32_66 : BitVec 32 := 1#32
  let v134 : BitVec 32 := Scalar.divsi v132 c1_i32_66
  let v135 : BitVec 32 := Scalar.muli v134 c1_i32_66
  let v136 : BitVec 32 := Scalar.addi c0_i32_65 v135
  let v133 : BitVec 32 := Scalar.addi c0_i32_65 v132
  let c1_i32_68 : BitVec 32 := 1#32
  ⟨v136, v133, c1_i32_68⟩
def k0_off20 (arg21 : BitVec 32) (v23 : BitVec 32) (k0_t9 : Fin (k0_t9_loop arg21 v23).trips) : Fin 4 → Nat :=
  let c0_i32_65 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v132 : BitVec 32 := Scalar.subi v63 c0_i32_65
  let c1_i32_66 : BitVec 32 := 1#32
  let v134 : BitVec 32 := Scalar.divsi v132 c1_i32_66
  let v135 : BitVec 32 := Scalar.muli v134 c1_i32_66
  let v136 : BitVec 32 := Scalar.addi c0_i32_65 v135
  let c1_i32_68 : BitVec 32 := 1#32
  let arg24 : BitVec 32 := Scf.iv v136 c1_i32_68 k0_t9
  let v200 : Index := Scalar.indexCast arg24
  let c0_94 : Index := 0#32
  let c0_95 : Index := 0#32
  let c0_96 : Index := 0#32
  ![v200.toNat, 0, 0, 0]
@[reducible] def k0_t10_loop (arg21 : BitVec 32) (v23 : BitVec 32) : Scf.Loop 32 :=
  let c0_i32_88 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v193 : BitVec 32 := Scalar.subi v63 c0_i32_88
  let c1_i32_90 : BitVec 32 := 1#32
  let v195 : BitVec 32 := Scalar.divsi v193 c1_i32_90
  let v196 : BitVec 32 := Scalar.muli v195 c1_i32_90
  let v197 : BitVec 32 := Scalar.addi c0_i32_88 v196
  let c1_i32_91 : BitVec 32 := 1#32
  ⟨c0_i32_88, v197, c1_i32_91⟩
def k0_mult8 (arg21 : BitVec 32) (v23 : BitVec 32) (k0_t10 : Fin (k0_t10_loop arg21 v23).trips) : BitVec 32 :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_88 : BitVec 32 := 0#32
  let c1_i32_91 : BitVec 32 := 1#32
  let arg24 : BitVec 32 := Scf.iv c0_i32_88 c1_i32_91 k0_t10
  let c256_i32_94 : BitVec 32 := 256#32
  let v200 : BitVec 32 := Scalar.muli arg24 c256_i32_94
  let v201 : BitVec 32 := Scalar.addi v66 v200
  v201
def k0_off21 (arg21 : BitVec 32) (v23 : BitVec 32) (k0_t10 : Fin (k0_t10_loop arg21 v23).trips) : Fin 4 → Nat :=
  let c0_i32_88 : BitVec 32 := 0#32
  let c1_i32_91 : BitVec 32 := 1#32
  let arg24 : BitVec 32 := Scf.iv c0_i32_88 c1_i32_91 k0_t10
  let v203 : Index := Scalar.indexCast arg24
  let c0_95 : Index := 0#32
  let c0_96 : Index := 0#32
  let c0_97 : Index := 0#32
  ![v203.toNat, 0, 0, 0]
def k0_off22 (arg21 : BitVec 32) (v23 : BitVec 32) (k0_t10 : Fin (k0_t10_loop arg21 v23).trips) : Fin 2 → Nat :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_88 : BitVec 32 := 0#32
  let c1_i32_91 : BitVec 32 := 1#32
  let arg24 : BitVec 32 := Scf.iv c0_i32_88 c1_i32_91 k0_t10
  let c256_i32_94 : BitVec 32 := 256#32
  let v200 : BitVec 32 := Scalar.muli arg24 c256_i32_94
  let v201 : BitVec 32 := Scalar.addi v66 v200
  let v202 : BitVec 32 := v201
  let v211 : Index := Scalar.indexCast v202
  let c0_98 : Index := 0#32
  ![v211.toNat, 0]
def k0_off23 (arg21 : BitVec 32) (v23 : BitVec 32) (k0_t5 : Fin (k0_t5_loop arg21 v23).trips) : Fin 2 → Nat :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_38 : BitVec 32 := 0#32
  let c1_i32_41 : BitVec 32 := 1#32
  let arg22 : BitVec 32 := Scf.iv c0_i32_38 c1_i32_41 k0_t5
  let c256_i32_43 : BitVec 32 := 256#32
  let v82 : BitVec 32 := Scalar.muli arg22 c256_i32_43
  let v83 : BitVec 32 := Scalar.addi v66 v82
  let v84 : BitVec 32 := v83
  let v213 : Index := Scalar.indexCast v84
  let c0_99 : Index := 0#32
  ![v213.toNat, 0]
@[reducible] def k0_t11_loop (arg21 : BitVec 32) (v23 : BitVec 32) : Scf.Loop 32 :=
  let c0_i32_88 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v193 : BitVec 32 := Scalar.subi v63 c0_i32_88
  let c1_i32_90 : BitVec 32 := 1#32
  let v195 : BitVec 32 := Scalar.divsi v193 c1_i32_90
  let v196 : BitVec 32 := Scalar.muli v195 c1_i32_90
  let v197 : BitVec 32 := Scalar.addi c0_i32_88 v196
  let v194 : BitVec 32 := Scalar.addi c0_i32_88 v193
  let c1_i32_92 : BitVec 32 := 1#32
  ⟨v197, v194, c1_i32_92⟩
def k0_mult9 (arg21 : BitVec 32) (v23 : BitVec 32) (k0_t11 : Fin (k0_t11_loop arg21 v23).trips) : BitVec 32 :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_88 : BitVec 32 := 0#32
  let v193 : BitVec 32 := Scalar.subi v63 c0_i32_88
  let c1_i32_90 : BitVec 32 := 1#32
  let v195 : BitVec 32 := Scalar.divsi v193 c1_i32_90
  let v196 : BitVec 32 := Scalar.muli v195 c1_i32_90
  let v197 : BitVec 32 := Scalar.addi c0_i32_88 v196
  let c1_i32_92 : BitVec 32 := 1#32
  let arg24 : BitVec 32 := Scf.iv v197 c1_i32_92 k0_t11
  let c256_i32_94 : BitVec 32 := 256#32
  let v200 : BitVec 32 := Scalar.muli arg24 c256_i32_94
  let v201 : BitVec 32 := Scalar.addi v66 v200
  v201
def k0_off24 (arg21 : BitVec 32) (v23 : BitVec 32) (k0_t11 : Fin (k0_t11_loop arg21 v23).trips) : Fin 4 → Nat :=
  let c0_i32_88 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v193 : BitVec 32 := Scalar.subi v63 c0_i32_88
  let c1_i32_90 : BitVec 32 := 1#32
  let v195 : BitVec 32 := Scalar.divsi v193 c1_i32_90
  let v196 : BitVec 32 := Scalar.muli v195 c1_i32_90
  let v197 : BitVec 32 := Scalar.addi c0_i32_88 v196
  let c1_i32_92 : BitVec 32 := 1#32
  let arg24 : BitVec 32 := Scf.iv v197 c1_i32_92 k0_t11
  let v203 : Index := Scalar.indexCast arg24
  let c0_95 : Index := 0#32
  let c0_96 : Index := 0#32
  let c0_97 : Index := 0#32
  ![v203.toNat, 0, 0, 0]
def k0_off25 (arg21 : BitVec 32) (v23 : BitVec 32) (k0_t11 : Fin (k0_t11_loop arg21 v23).trips) : Fin 2 → Nat :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_88 : BitVec 32 := 0#32
  let v193 : BitVec 32 := Scalar.subi v63 c0_i32_88
  let c1_i32_90 : BitVec 32 := 1#32
  let v195 : BitVec 32 := Scalar.divsi v193 c1_i32_90
  let v196 : BitVec 32 := Scalar.muli v195 c1_i32_90
  let v197 : BitVec 32 := Scalar.addi c0_i32_88 v196
  let c1_i32_92 : BitVec 32 := 1#32
  let arg24 : BitVec 32 := Scf.iv v197 c1_i32_92 k0_t11
  let c256_i32_94 : BitVec 32 := 256#32
  let v200 : BitVec 32 := Scalar.muli arg24 c256_i32_94
  let v201 : BitVec 32 := Scalar.addi v66 v200
  let v202 : BitVec 32 := v201
  let v211 : Index := Scalar.indexCast v202
  let c0_98 : Index := 0#32
  ![v211.toNat, 0]
def k0_off26 (arg21 : BitVec 32) (v23 : BitVec 32) (k0_t5 : Fin (k0_t5_loop arg21 v23).trips) : Fin 2 → Nat :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_38 : BitVec 32 := 0#32
  let c1_i32_41 : BitVec 32 := 1#32
  let arg22 : BitVec 32 := Scf.iv c0_i32_38 c1_i32_41 k0_t5
  let c256_i32_43 : BitVec 32 := 256#32
  let v82 : BitVec 32 := Scalar.muli arg22 c256_i32_43
  let v83 : BitVec 32 := Scalar.addi v66 v82
  let v84 : BitVec 32 := v83
  let v213 : Index := Scalar.indexCast v84
  let c0_99 : Index := 0#32
  ![v213.toNat, 0]
@[reducible] def k0_t12_loop (arg21 : BitVec 32) (v23 : BitVec 32) : Scf.Loop 32 :=
  let c0_i32_38 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v75 : BitVec 32 := Scalar.subi v63 c0_i32_38
  let c1_i32_40 : BitVec 32 := 1#32
  let v77 : BitVec 32 := Scalar.divsi v75 c1_i32_40
  let v78 : BitVec 32 := Scalar.muli v77 c1_i32_40
  let v79 : BitVec 32 := Scalar.addi c0_i32_38 v78
  let v76 : BitVec 32 := Scalar.addi c0_i32_38 v75
  let c1_i32_42 : BitVec 32 := 1#32
  ⟨v79, v76, c1_i32_42⟩
def k0_mult10 (arg21 : BitVec 32) (v23 : BitVec 32) (k0_t12 : Fin (k0_t12_loop arg21 v23).trips) : BitVec 32 :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_38 : BitVec 32 := 0#32
  let v75 : BitVec 32 := Scalar.subi v63 c0_i32_38
  let c1_i32_40 : BitVec 32 := 1#32
  let v77 : BitVec 32 := Scalar.divsi v75 c1_i32_40
  let v78 : BitVec 32 := Scalar.muli v77 c1_i32_40
  let v79 : BitVec 32 := Scalar.addi c0_i32_38 v78
  let c1_i32_42 : BitVec 32 := 1#32
  let arg22 : BitVec 32 := Scf.iv v79 c1_i32_42 k0_t12
  let c256_i32_43 : BitVec 32 := 256#32
  let v82 : BitVec 32 := Scalar.muli arg22 c256_i32_43
  let v83 : BitVec 32 := Scalar.addi v66 v82
  v83
def k0_mult11 (arg21 : BitVec 32) (v23 : BitVec 32) (k0_t12 : Fin (k0_t12_loop arg21 v23).trips) : BitVec 32 :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_38 : BitVec 32 := 0#32
  let v75 : BitVec 32 := Scalar.subi v63 c0_i32_38
  let c1_i32_40 : BitVec 32 := 1#32
  let v77 : BitVec 32 := Scalar.divsi v75 c1_i32_40
  let v78 : BitVec 32 := Scalar.muli v77 c1_i32_40
  let v79 : BitVec 32 := Scalar.addi c0_i32_38 v78
  let c1_i32_42 : BitVec 32 := 1#32
  let arg22 : BitVec 32 := Scf.iv v79 c1_i32_42 k0_t12
  let c256_i32_43 : BitVec 32 := 256#32
  let v82 : BitVec 32 := Scalar.muli arg22 c256_i32_43
  let v83 : BitVec 32 := Scalar.addi v66 v82
  let v84 : BitVec 32 := v83
  let c0_i32_44 : BitVec 32 := 0#32
  let v86 : BitVec 1 := Scalar.cmpi .sgt v84 c0_i32_44
  let v87 : BitVec 32 := Scalar.extui v86
  let c0_i32_45 : BitVec 32 := 0#32
  let v88 : BitVec 1 := Scalar.cmpi .slt v84 c0_i32_45
  let v89 : BitVec 32 := Scalar.extui v88
  let v90 : BitVec 32 := Scalar.subi v87 v89
  let c128_i32 : BitVec 32 := 128#32
  let c0_i32_46 : BitVec 32 := 0#32
  let v91 : BitVec 1 := Scalar.cmpi .sgt c128_i32 c0_i32_46
  let v92 : BitVec 32 := Scalar.extui v91
  let c0_i32_47 : BitVec 32 := 0#32
  let v93 : BitVec 1 := Scalar.cmpi .slt c128_i32 c0_i32_47
  let v94 : BitVec 32 := Scalar.extui v93
  let v95 : BitVec 32 := Scalar.subi v92 v94
  let v96 : BitVec 1 := Scalar.cmpi .ne v90 v95
  let v97 : BitVec 32 := Scalar.remsi v84 c128_i32
  let c0_i32_48 : BitVec 32 := 0#32
  let v98 : BitVec 1 := Scalar.cmpi .ne v97 c0_i32_48
  let v99 : BitVec 1 := Scalar.andi v96 v98
  let v85 : BitVec 32 := Scalar.divsi v84 c128_i32
  let c1_i32_49 : BitVec 32 := 1#32
  let v100 : BitVec 32 := Scalar.subi v85 c1_i32_49
  let v101 : BitVec 32 := Scalar.select v99 v100 v85
  let c128_i32_50 : BitVec 32 := 128#32
  let v102 : BitVec 32 := Scalar.muli v101 c128_i32_50
  v102
def k0_off27 (arg21 : BitVec 32) (v23 : BitVec 32) (k0_t12 : Fin (k0_t12_loop arg21 v23).trips) : Fin 2 → Nat :=
  let c0_51 : Index := 0#32
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_38 : BitVec 32 := 0#32
  let v75 : BitVec 32 := Scalar.subi v63 c0_i32_38
  let c1_i32_40 : BitVec 32 := 1#32
  let v77 : BitVec 32 := Scalar.divsi v75 c1_i32_40
  let v78 : BitVec 32 := Scalar.muli v77 c1_i32_40
  let v79 : BitVec 32 := Scalar.addi c0_i32_38 v78
  let c1_i32_42 : BitVec 32 := 1#32
  let arg22 : BitVec 32 := Scf.iv v79 c1_i32_42 k0_t12
  let c256_i32_43 : BitVec 32 := 256#32
  let v82 : BitVec 32 := Scalar.muli arg22 c256_i32_43
  let v83 : BitVec 32 := Scalar.addi v66 v82
  let v84 : BitVec 32 := v83
  let c0_i32_44 : BitVec 32 := 0#32
  let v86 : BitVec 1 := Scalar.cmpi .sgt v84 c0_i32_44
  let v87 : BitVec 32 := Scalar.extui v86
  let c0_i32_45 : BitVec 32 := 0#32
  let v88 : BitVec 1 := Scalar.cmpi .slt v84 c0_i32_45
  let v89 : BitVec 32 := Scalar.extui v88
  let v90 : BitVec 32 := Scalar.subi v87 v89
  let c128_i32 : BitVec 32 := 128#32
  let c0_i32_46 : BitVec 32 := 0#32
  let v91 : BitVec 1 := Scalar.cmpi .sgt c128_i32 c0_i32_46
  let v92 : BitVec 32 := Scalar.extui v91
  let c0_i32_47 : BitVec 32 := 0#32
  let v93 : BitVec 1 := Scalar.cmpi .slt c128_i32 c0_i32_47
  let v94 : BitVec 32 := Scalar.extui v93
  let v95 : BitVec 32 := Scalar.subi v92 v94
  let v96 : BitVec 1 := Scalar.cmpi .ne v90 v95
  let v97 : BitVec 32 := Scalar.remsi v84 c128_i32
  let c0_i32_48 : BitVec 32 := 0#32
  let v98 : BitVec 1 := Scalar.cmpi .ne v97 c0_i32_48
  let v99 : BitVec 1 := Scalar.andi v96 v98
  let v85 : BitVec 32 := Scalar.divsi v84 c128_i32
  let c1_i32_49 : BitVec 32 := 1#32
  let v100 : BitVec 32 := Scalar.subi v85 c1_i32_49
  let v101 : BitVec 32 := Scalar.select v99 v100 v85
  let c128_i32_50 : BitVec 32 := 128#32
  let v102 : BitVec 32 := Scalar.muli v101 c128_i32_50
  let v103 : BitVec 32 := v102
  let v105 : Index := Scalar.indexCast v103
  ![0, v105.toNat]
@[reducible] def k0_t13_loop (arg21 : BitVec 32) (v23 : BitVec 32) : Scf.Loop 32 :=
  let c0_i32_53 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v111 : BitVec 32 := Scalar.subi v63 c0_i32_53
  let c1_i32_54 : BitVec 32 := 1#32
  let v113 : BitVec 32 := Scalar.divsi v111 c1_i32_54
  let v114 : BitVec 32 := Scalar.muli v113 c1_i32_54
  let v115 : BitVec 32 := Scalar.addi c0_i32_53 v114
  let c1_i32_55 : BitVec 32 := 1#32
  ⟨c0_i32_53, v115, c1_i32_55⟩
def k0_mult12 (arg21 : BitVec 32) (v23 : BitVec 32) (k0_t13 : Fin (k0_t13_loop arg21 v23).trips) : BitVec 32 :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_53 : BitVec 32 := 0#32
  let c1_i32_55 : BitVec 32 := 1#32
  let arg24 : BitVec 32 := Scf.iv c0_i32_53 c1_i32_55 k0_t13
  let c256_i32_94 : BitVec 32 := 256#32
  let v200 : BitVec 32 := Scalar.muli arg24 c256_i32_94
  let v201 : BitVec 32 := Scalar.addi v66 v200
  v201
def k0_off28 (arg21 : BitVec 32) (v23 : BitVec 32) (k0_t13 : Fin (k0_t13_loop arg21 v23).trips) : Fin 3 → Nat :=
  let c0_95 : Index := 0#32
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_53 : BitVec 32 := 0#32
  let c1_i32_55 : BitVec 32 := 1#32
  let arg24 : BitVec 32 := Scf.iv c0_i32_53 c1_i32_55 k0_t13
  let c256_i32_94 : BitVec 32 := 256#32
  let v200 : BitVec 32 := Scalar.muli arg24 c256_i32_94
  let v201 : BitVec 32 := Scalar.addi v66 v200
  let v202 : BitVec 32 := v201
  let v203 : Index := Scalar.indexCast v202
  let c0_96 : Index := 0#32
  ![0, v203.toNat, 0]
def k0_off29 (arg21 : BitVec 32) (v23 : BitVec 32) (k0_t12 : Fin (k0_t12_loop arg21 v23).trips) : Fin 3 → Nat :=
  let c0_97 : Index := 0#32
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_38 : BitVec 32 := 0#32
  let v75 : BitVec 32 := Scalar.subi v63 c0_i32_38
  let c1_i32_40 : BitVec 32 := 1#32
  let v77 : BitVec 32 := Scalar.divsi v75 c1_i32_40
  let v78 : BitVec 32 := Scalar.muli v77 c1_i32_40
  let v79 : BitVec 32 := Scalar.addi c0_i32_38 v78
  let c1_i32_42 : BitVec 32 := 1#32
  let arg22 : BitVec 32 := Scf.iv v79 c1_i32_42 k0_t12
  let c256_i32_43 : BitVec 32 := 256#32
  let v82 : BitVec 32 := Scalar.muli arg22 c256_i32_43
  let v83 : BitVec 32 := Scalar.addi v66 v82
  let v84 : BitVec 32 := v83
  let v206 : Index := Scalar.indexCast v84
  let c0_98 : Index := 0#32
  ![0, v206.toNat, 0]
def k0_off30 (arg21 : BitVec 32) (v23 : BitVec 32) (k0_t13 : Fin (k0_t13_loop arg21 v23).trips) : Fin 2 → Nat :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_53 : BitVec 32 := 0#32
  let c1_i32_55 : BitVec 32 := 1#32
  let arg24 : BitVec 32 := Scf.iv c0_i32_53 c1_i32_55 k0_t13
  let c256_i32_94 : BitVec 32 := 256#32
  let v200 : BitVec 32 := Scalar.muli arg24 c256_i32_94
  let v201 : BitVec 32 := Scalar.addi v66 v200
  let v202 : BitVec 32 := v201
  let v211 : Index := Scalar.indexCast v202
  let c0_100 : Index := 0#32
  ![v211.toNat, 0]
def k0_off31 (arg21 : BitVec 32) (v23 : BitVec 32) (k0_t13 : Fin (k0_t13_loop arg21 v23).trips) : Fin 4 → Nat :=
  let c0_i32_53 : BitVec 32 := 0#32
  let c1_i32_55 : BitVec 32 := 1#32
  let arg24 : BitVec 32 := Scf.iv c0_i32_53 c1_i32_55 k0_t13
  let v224 : Index := Scalar.indexCast arg24
  let c0_102 : Index := 0#32
  let c0_103 : Index := 0#32
  let c0_104 : Index := 0#32
  ![v224.toNat, 0, 0, 0]
@[reducible] def k0_t14_loop (arg21 : BitVec 32) (v23 : BitVec 32) : Scf.Loop 32 :=
  let c0_i32_53 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v111 : BitVec 32 := Scalar.subi v63 c0_i32_53
  let c1_i32_54 : BitVec 32 := 1#32
  let v113 : BitVec 32 := Scalar.divsi v111 c1_i32_54
  let v114 : BitVec 32 := Scalar.muli v113 c1_i32_54
  let v115 : BitVec 32 := Scalar.addi c0_i32_53 v114
  let v112 : BitVec 32 := Scalar.addi c0_i32_53 v111
  let c1_i32_56 : BitVec 32 := 1#32
  ⟨v115, v112, c1_i32_56⟩
def k0_mult13 (arg21 : BitVec 32) (v23 : BitVec 32) (k0_t14 : Fin (k0_t14_loop arg21 v23).trips) : BitVec 32 :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_53 : BitVec 32 := 0#32
  let v111 : BitVec 32 := Scalar.subi v63 c0_i32_53
  let c1_i32_54 : BitVec 32 := 1#32
  let v113 : BitVec 32 := Scalar.divsi v111 c1_i32_54
  let v114 : BitVec 32 := Scalar.muli v113 c1_i32_54
  let v115 : BitVec 32 := Scalar.addi c0_i32_53 v114
  let c1_i32_56 : BitVec 32 := 1#32
  let arg24 : BitVec 32 := Scf.iv v115 c1_i32_56 k0_t14
  let c256_i32_94 : BitVec 32 := 256#32
  let v200 : BitVec 32 := Scalar.muli arg24 c256_i32_94
  let v201 : BitVec 32 := Scalar.addi v66 v200
  v201
def k0_off32 (arg21 : BitVec 32) (v23 : BitVec 32) (k0_t14 : Fin (k0_t14_loop arg21 v23).trips) : Fin 3 → Nat :=
  let c0_95 : Index := 0#32
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_53 : BitVec 32 := 0#32
  let v111 : BitVec 32 := Scalar.subi v63 c0_i32_53
  let c1_i32_54 : BitVec 32 := 1#32
  let v113 : BitVec 32 := Scalar.divsi v111 c1_i32_54
  let v114 : BitVec 32 := Scalar.muli v113 c1_i32_54
  let v115 : BitVec 32 := Scalar.addi c0_i32_53 v114
  let c1_i32_56 : BitVec 32 := 1#32
  let arg24 : BitVec 32 := Scf.iv v115 c1_i32_56 k0_t14
  let c256_i32_94 : BitVec 32 := 256#32
  let v200 : BitVec 32 := Scalar.muli arg24 c256_i32_94
  let v201 : BitVec 32 := Scalar.addi v66 v200
  let v202 : BitVec 32 := v201
  let v203 : Index := Scalar.indexCast v202
  let c0_96 : Index := 0#32
  ![0, v203.toNat, 0]
def k0_off33 (arg21 : BitVec 32) (v23 : BitVec 32) (k0_t12 : Fin (k0_t12_loop arg21 v23).trips) : Fin 3 → Nat :=
  let c0_97 : Index := 0#32
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_38 : BitVec 32 := 0#32
  let v75 : BitVec 32 := Scalar.subi v63 c0_i32_38
  let c1_i32_40 : BitVec 32 := 1#32
  let v77 : BitVec 32 := Scalar.divsi v75 c1_i32_40
  let v78 : BitVec 32 := Scalar.muli v77 c1_i32_40
  let v79 : BitVec 32 := Scalar.addi c0_i32_38 v78
  let c1_i32_42 : BitVec 32 := 1#32
  let arg22 : BitVec 32 := Scf.iv v79 c1_i32_42 k0_t12
  let c256_i32_43 : BitVec 32 := 256#32
  let v82 : BitVec 32 := Scalar.muli arg22 c256_i32_43
  let v83 : BitVec 32 := Scalar.addi v66 v82
  let v84 : BitVec 32 := v83
  let v206 : Index := Scalar.indexCast v84
  let c0_98 : Index := 0#32
  ![0, v206.toNat, 0]
def k0_off34 (arg21 : BitVec 32) (v23 : BitVec 32) (k0_t14 : Fin (k0_t14_loop arg21 v23).trips) : Fin 2 → Nat :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_53 : BitVec 32 := 0#32
  let v111 : BitVec 32 := Scalar.subi v63 c0_i32_53
  let c1_i32_54 : BitVec 32 := 1#32
  let v113 : BitVec 32 := Scalar.divsi v111 c1_i32_54
  let v114 : BitVec 32 := Scalar.muli v113 c1_i32_54
  let v115 : BitVec 32 := Scalar.addi c0_i32_53 v114
  let c1_i32_56 : BitVec 32 := 1#32
  let arg24 : BitVec 32 := Scf.iv v115 c1_i32_56 k0_t14
  let c256_i32_94 : BitVec 32 := 256#32
  let v200 : BitVec 32 := Scalar.muli arg24 c256_i32_94
  let v201 : BitVec 32 := Scalar.addi v66 v200
  let v202 : BitVec 32 := v201
  let v211 : Index := Scalar.indexCast v202
  let c0_100 : Index := 0#32
  ![v211.toNat, 0]
def k0_off35 (arg21 : BitVec 32) (v23 : BitVec 32) (k0_t14 : Fin (k0_t14_loop arg21 v23).trips) : Fin 4 → Nat :=
  let c0_i32_53 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v111 : BitVec 32 := Scalar.subi v63 c0_i32_53
  let c1_i32_54 : BitVec 32 := 1#32
  let v113 : BitVec 32 := Scalar.divsi v111 c1_i32_54
  let v114 : BitVec 32 := Scalar.muli v113 c1_i32_54
  let v115 : BitVec 32 := Scalar.addi c0_i32_53 v114
  let c1_i32_56 : BitVec 32 := 1#32
  let arg24 : BitVec 32 := Scf.iv v115 c1_i32_56 k0_t14
  let v224 : Index := Scalar.indexCast arg24
  let c0_102 : Index := 0#32
  let c0_103 : Index := 0#32
  let c0_104 : Index := 0#32
  ![v224.toNat, 0, 0, 0]
def k0_off36 (arg21 : BitVec 32) (v23 : BitVec 32) (k0_t12 : Fin (k0_t12_loop arg21 v23).trips) : Fin 4 → Nat :=
  let c0_i32_38 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v75 : BitVec 32 := Scalar.subi v63 c0_i32_38
  let c1_i32_40 : BitVec 32 := 1#32
  let v77 : BitVec 32 := Scalar.divsi v75 c1_i32_40
  let v78 : BitVec 32 := Scalar.muli v77 c1_i32_40
  let v79 : BitVec 32 := Scalar.addi c0_i32_38 v78
  let c1_i32_42 : BitVec 32 := 1#32
  let arg22 : BitVec 32 := Scf.iv v79 c1_i32_42 k0_t12
  let v123 : Index := Scalar.indexCast arg22
  let c0_58 : Index := 0#32
  let c0_59 : Index := 0#32
  let c0_60 : Index := 0#32
  ![v123.toNat, 0, 0, 0]
@[reducible] def k0_t15_loop (arg21 : BitVec 32) (v23 : BitVec 32) : Scf.Loop 32 :=
  let c0_i32_65 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v132 : BitVec 32 := Scalar.subi v63 c0_i32_65
  let c1_i32_66 : BitVec 32 := 1#32
  let v134 : BitVec 32 := Scalar.divsi v132 c1_i32_66
  let v135 : BitVec 32 := Scalar.muli v134 c1_i32_66
  let v136 : BitVec 32 := Scalar.addi c0_i32_65 v135
  let c1_i32_67 : BitVec 32 := 1#32
  ⟨c0_i32_65, v136, c1_i32_67⟩
def k0_off37 (arg21 : BitVec 32) (v23 : BitVec 32) (k0_t15 : Fin (k0_t15_loop arg21 v23).trips) : Fin 4 → Nat :=
  let c0_i32_65 : BitVec 32 := 0#32
  let c1_i32_67 : BitVec 32 := 1#32
  let arg24 : BitVec 32 := Scf.iv c0_i32_65 c1_i32_67 k0_t15
  let v200 : Index := Scalar.indexCast arg24
  let c0_94 : Index := 0#32
  let c0_95 : Index := 0#32
  let c0_96 : Index := 0#32
  ![v200.toNat, 0, 0, 0]
@[reducible] def k0_t16_loop (arg21 : BitVec 32) (v23 : BitVec 32) : Scf.Loop 32 :=
  let c0_i32_65 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v132 : BitVec 32 := Scalar.subi v63 c0_i32_65
  let c1_i32_66 : BitVec 32 := 1#32
  let v134 : BitVec 32 := Scalar.divsi v132 c1_i32_66
  let v135 : BitVec 32 := Scalar.muli v134 c1_i32_66
  let v136 : BitVec 32 := Scalar.addi c0_i32_65 v135
  let v133 : BitVec 32 := Scalar.addi c0_i32_65 v132
  let c1_i32_68 : BitVec 32 := 1#32
  ⟨v136, v133, c1_i32_68⟩
def k0_off38 (arg21 : BitVec 32) (v23 : BitVec 32) (k0_t16 : Fin (k0_t16_loop arg21 v23).trips) : Fin 4 → Nat :=
  let c0_i32_65 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v132 : BitVec 32 := Scalar.subi v63 c0_i32_65
  let c1_i32_66 : BitVec 32 := 1#32
  let v134 : BitVec 32 := Scalar.divsi v132 c1_i32_66
  let v135 : BitVec 32 := Scalar.muli v134 c1_i32_66
  let v136 : BitVec 32 := Scalar.addi c0_i32_65 v135
  let c1_i32_68 : BitVec 32 := 1#32
  let arg24 : BitVec 32 := Scf.iv v136 c1_i32_68 k0_t16
  let v200 : Index := Scalar.indexCast arg24
  let c0_94 : Index := 0#32
  let c0_95 : Index := 0#32
  let c0_96 : Index := 0#32
  ![v200.toNat, 0, 0, 0]
@[reducible] def k0_t17_loop (arg21 : BitVec 32) (v23 : BitVec 32) : Scf.Loop 32 :=
  let c0_i32_88 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v193 : BitVec 32 := Scalar.subi v63 c0_i32_88
  let c1_i32_90 : BitVec 32 := 1#32
  let v195 : BitVec 32 := Scalar.divsi v193 c1_i32_90
  let v196 : BitVec 32 := Scalar.muli v195 c1_i32_90
  let v197 : BitVec 32 := Scalar.addi c0_i32_88 v196
  let c1_i32_91 : BitVec 32 := 1#32
  ⟨c0_i32_88, v197, c1_i32_91⟩
def k0_mult14 (arg21 : BitVec 32) (v23 : BitVec 32) (k0_t17 : Fin (k0_t17_loop arg21 v23).trips) : BitVec 32 :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_88 : BitVec 32 := 0#32
  let c1_i32_91 : BitVec 32 := 1#32
  let arg24 : BitVec 32 := Scf.iv c0_i32_88 c1_i32_91 k0_t17
  let c256_i32_94 : BitVec 32 := 256#32
  let v200 : BitVec 32 := Scalar.muli arg24 c256_i32_94
  let v201 : BitVec 32 := Scalar.addi v66 v200
  v201
def k0_off39 (arg21 : BitVec 32) (v23 : BitVec 32) (k0_t17 : Fin (k0_t17_loop arg21 v23).trips) : Fin 4 → Nat :=
  let c0_i32_88 : BitVec 32 := 0#32
  let c1_i32_91 : BitVec 32 := 1#32
  let arg24 : BitVec 32 := Scf.iv c0_i32_88 c1_i32_91 k0_t17
  let v203 : Index := Scalar.indexCast arg24
  let c0_95 : Index := 0#32
  let c0_96 : Index := 0#32
  let c0_97 : Index := 0#32
  ![v203.toNat, 0, 0, 0]
def k0_off40 (arg21 : BitVec 32) (v23 : BitVec 32) (k0_t17 : Fin (k0_t17_loop arg21 v23).trips) : Fin 2 → Nat :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_88 : BitVec 32 := 0#32
  let c1_i32_91 : BitVec 32 := 1#32
  let arg24 : BitVec 32 := Scf.iv c0_i32_88 c1_i32_91 k0_t17
  let c256_i32_94 : BitVec 32 := 256#32
  let v200 : BitVec 32 := Scalar.muli arg24 c256_i32_94
  let v201 : BitVec 32 := Scalar.addi v66 v200
  let v202 : BitVec 32 := v201
  let v211 : Index := Scalar.indexCast v202
  let c0_98 : Index := 0#32
  ![v211.toNat, 0]
def k0_off41 (arg21 : BitVec 32) (v23 : BitVec 32) (k0_t12 : Fin (k0_t12_loop arg21 v23).trips) : Fin 2 → Nat :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_38 : BitVec 32 := 0#32
  let v75 : BitVec 32 := Scalar.subi v63 c0_i32_38
  let c1_i32_40 : BitVec 32 := 1#32
  let v77 : BitVec 32 := Scalar.divsi v75 c1_i32_40
  let v78 : BitVec 32 := Scalar.muli v77 c1_i32_40
  let v79 : BitVec 32 := Scalar.addi c0_i32_38 v78
  let c1_i32_42 : BitVec 32 := 1#32
  let arg22 : BitVec 32 := Scf.iv v79 c1_i32_42 k0_t12
  let c256_i32_43 : BitVec 32 := 256#32
  let v82 : BitVec 32 := Scalar.muli arg22 c256_i32_43
  let v83 : BitVec 32 := Scalar.addi v66 v82
  let v84 : BitVec 32 := v83
  let v213 : Index := Scalar.indexCast v84
  let c0_99 : Index := 0#32
  ![v213.toNat, 0]
@[reducible] def k0_t18_loop (arg21 : BitVec 32) (v23 : BitVec 32) : Scf.Loop 32 :=
  let c0_i32_88 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v193 : BitVec 32 := Scalar.subi v63 c0_i32_88
  let c1_i32_90 : BitVec 32 := 1#32
  let v195 : BitVec 32 := Scalar.divsi v193 c1_i32_90
  let v196 : BitVec 32 := Scalar.muli v195 c1_i32_90
  let v197 : BitVec 32 := Scalar.addi c0_i32_88 v196
  let v194 : BitVec 32 := Scalar.addi c0_i32_88 v193
  let c1_i32_92 : BitVec 32 := 1#32
  ⟨v197, v194, c1_i32_92⟩
def k0_mult15 (arg21 : BitVec 32) (v23 : BitVec 32) (k0_t18 : Fin (k0_t18_loop arg21 v23).trips) : BitVec 32 :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_88 : BitVec 32 := 0#32
  let v193 : BitVec 32 := Scalar.subi v63 c0_i32_88
  let c1_i32_90 : BitVec 32 := 1#32
  let v195 : BitVec 32 := Scalar.divsi v193 c1_i32_90
  let v196 : BitVec 32 := Scalar.muli v195 c1_i32_90
  let v197 : BitVec 32 := Scalar.addi c0_i32_88 v196
  let c1_i32_92 : BitVec 32 := 1#32
  let arg24 : BitVec 32 := Scf.iv v197 c1_i32_92 k0_t18
  let c256_i32_94 : BitVec 32 := 256#32
  let v200 : BitVec 32 := Scalar.muli arg24 c256_i32_94
  let v201 : BitVec 32 := Scalar.addi v66 v200
  v201
def k0_off42 (arg21 : BitVec 32) (v23 : BitVec 32) (k0_t18 : Fin (k0_t18_loop arg21 v23).trips) : Fin 4 → Nat :=
  let c0_i32_88 : BitVec 32 := 0#32
  let v24 : BitVec 32 := Scalar.addi arg21 v23
  let v62 : BitVec 1 := Scalar.cmpi .sgt v24 arg21
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let v193 : BitVec 32 := Scalar.subi v63 c0_i32_88
  let c1_i32_90 : BitVec 32 := 1#32
  let v195 : BitVec 32 := Scalar.divsi v193 c1_i32_90
  let v196 : BitVec 32 := Scalar.muli v195 c1_i32_90
  let v197 : BitVec 32 := Scalar.addi c0_i32_88 v196
  let c1_i32_92 : BitVec 32 := 1#32
  let arg24 : BitVec 32 := Scf.iv v197 c1_i32_92 k0_t18
  let v203 : Index := Scalar.indexCast arg24
  let c0_95 : Index := 0#32
  let c0_96 : Index := 0#32
  let c0_97 : Index := 0#32
  ![v203.toNat, 0, 0, 0]
def k0_off43 (arg21 : BitVec 32) (v23 : BitVec 32) (k0_t18 : Fin (k0_t18_loop arg21 v23).trips) : Fin 2 → Nat :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_88 : BitVec 32 := 0#32
  let v193 : BitVec 32 := Scalar.subi v63 c0_i32_88
  let c1_i32_90 : BitVec 32 := 1#32
  let v195 : BitVec 32 := Scalar.divsi v193 c1_i32_90
  let v196 : BitVec 32 := Scalar.muli v195 c1_i32_90
  let v197 : BitVec 32 := Scalar.addi c0_i32_88 v196
  let c1_i32_92 : BitVec 32 := 1#32
  let arg24 : BitVec 32 := Scf.iv v197 c1_i32_92 k0_t18
  let c256_i32_94 : BitVec 32 := 256#32
  let v200 : BitVec 32 := Scalar.muli arg24 c256_i32_94
  let v201 : BitVec 32 := Scalar.addi v66 v200
  let v202 : BitVec 32 := v201
  let v211 : Index := Scalar.indexCast v202
  let c0_98 : Index := 0#32
  ![v211.toNat, 0]
def k0_off44 (arg21 : BitVec 32) (v23 : BitVec 32) (k0_t12 : Fin (k0_t12_loop arg21 v23).trips) : Fin 2 → Nat :=
  let c0_i32_18 : BitVec 32 := 0#32
  let v26 : BitVec 1 := Scalar.cmpi .sgt arg21 c0_i32_18
  let v27 : BitVec 32 := Scalar.extui v26
  let c0_i32_19 : BitVec 32 := 0#32
  let v28 : BitVec 1 := Scalar.cmpi .slt arg21 c0_i32_19
  let v29 : BitVec 32 := Scalar.extui v28
  let v30 : BitVec 32 := Scalar.subi v27 v29
  let c32_i32_17 : BitVec 32 := 32#32
  let c0_i32_20 : BitVec 32 := 0#32
  let v31 : BitVec 1 := Scalar.cmpi .sgt c32_i32_17 c0_i32_20
  let v32 : BitVec 32 := Scalar.extui v31
  let c0_i32_21 : BitVec 32 := 0#32
  let v33 : BitVec 1 := Scalar.cmpi .slt c32_i32_17 c0_i32_21
  let v34 : BitVec 32 := Scalar.extui v33
  let v35 : BitVec 32 := Scalar.subi v32 v34
  let v36 : BitVec 1 := Scalar.cmpi .ne v30 v35
  let v37 : BitVec 32 := Scalar.remsi arg21 c32_i32_17
  let c0_i32_22 : BitVec 32 := 0#32
  let v38 : BitVec 1 := Scalar.cmpi .ne v37 c0_i32_22
  let v39 : BitVec 1 := Scalar.andi v36 v38
  let v25 : BitVec 32 := Scalar.divsi arg21 c32_i32_17
  let c1_i32_23 : BitVec 32 := 1#32
  let v40 : BitVec 32 := Scalar.subi v25 c1_i32_23
  let v41 : BitVec 32 := Scalar.select v39 v40 v25
  let c32_i32_24 : BitVec 32 := 32#32
  let v42 : BitVec 32 := Scalar.muli v41 c32_i32_24
  let c4096_i32 : BitVec 32 := 4096#32
  let v24 : BitVec 32 := Scalar.addi arg21 v23
  let v62 : BitVec 1 := Scalar.cmpi .sgt v24 arg21
  let v43 : BitVec 32 := Scalar.subi v24 v42
  let c255_i32 : BitVec 32 := 255#32
  let v44 : BitVec 32 := Scalar.addi v43 c255_i32
  let c0_i32_25 : BitVec 32 := 0#32
  let v46 : BitVec 1 := Scalar.cmpi .sgt v44 c0_i32_25
  let v47 : BitVec 32 := Scalar.extui v46
  let c0_i32_26 : BitVec 32 := 0#32
  let v48 : BitVec 1 := Scalar.cmpi .slt v44 c0_i32_26
  let v49 : BitVec 32 := Scalar.extui v48
  let v50 : BitVec 32 := Scalar.subi v47 v49
  let c256_i32 : BitVec 32 := 256#32
  let c0_i32_27 : BitVec 32 := 0#32
  let v51 : BitVec 1 := Scalar.cmpi .sgt c256_i32 c0_i32_27
  let v52 : BitVec 32 := Scalar.extui v51
  let c0_i32_28 : BitVec 32 := 0#32
  let v53 : BitVec 1 := Scalar.cmpi .slt c256_i32 c0_i32_28
  let v54 : BitVec 32 := Scalar.extui v53
  let v55 : BitVec 32 := Scalar.subi v52 v54
  let v56 : BitVec 1 := Scalar.cmpi .ne v50 v55
  let v57 : BitVec 32 := Scalar.remsi v44 c256_i32
  let c0_i32_29 : BitVec 32 := 0#32
  let v58 : BitVec 1 := Scalar.cmpi .ne v57 c0_i32_29
  let v59 : BitVec 1 := Scalar.andi v56 v58
  let v45 : BitVec 32 := Scalar.divsi v44 c256_i32
  let c1_i32_30 : BitVec 32 := 1#32
  let v60 : BitVec 32 := Scalar.subi v45 c1_i32_30
  let v61 : BitVec 32 := Scalar.select v59 v60 v45
  let c0_i32_31 : BitVec 32 := 0#32
  let v63 : BitVec 32 := Scalar.select v62 v61 c0_i32_31
  let c256_i32_32 : BitVec 32 := 256#32
  let v64 : BitVec 32 := Scalar.muli v63 c256_i32_32
  let v65 : BitVec 32 := Scalar.subi c4096_i32 v64
  let v66 : BitVec 32 := Scalar.minsi v42 v65
  let c0_i32_38 : BitVec 32 := 0#32
  let v75 : BitVec 32 := Scalar.subi v63 c0_i32_38
  let c1_i32_40 : BitVec 32 := 1#32
  let v77 : BitVec 32 := Scalar.divsi v75 c1_i32_40
  let v78 : BitVec 32 := Scalar.muli v77 c1_i32_40
  let v79 : BitVec 32 := Scalar.addi c0_i32_38 v78
  let c1_i32_42 : BitVec 32 := 1#32
  let arg22 : BitVec 32 := Scf.iv v79 c1_i32_42 k0_t12
  let c256_i32_43 : BitVec 32 := 256#32
  let v82 : BitVec 32 := Scalar.muli arg22 c256_i32_43
  let v83 : BitVec 32 := Scalar.addi v66 v82
  let v84 : BitVec 32 := v83
  let v213 : Index := Scalar.indexCast v84
  let c0_99 : Index := 0#32
  ![v213.toNat, 0]

def k0_chk1_0 (arg21 : BitVec 32) (v23 : BitVec 32) : Prop :=
  ((k0_t3_loop arg21 v23).OK) ∧
  (∀ k0_t3 : Fin (k0_t3_loop arg21 v23).trips, 32 ∣ (k0_mult2 arg21 v23 k0_t3).toNat) ∧
  (∀ k0_t3 : Fin (k0_t3_loop arg21 v23).trips, ∀ a, (k0_off7 arg21 v23 k0_t3) a + S32x128.size a ≤ S4096x128.size a) ∧
  ((k0_t4_loop arg21 v23).OK) ∧
  (∀ k0_t4 : Fin (k0_t4_loop arg21 v23).trips, 32 ∣ (k0_mult3 arg21 v23 k0_t4).toNat) ∧
  (∀ k0_t4 : Fin (k0_t4_loop arg21 v23).trips, ∀ a, (k0_off8 arg21 v23 k0_t4) a + S32x128.size a ≤ S4096x128.size a) ∧
  ((k0_t5_loop arg21 v23).OK) ∧
  (∀ k0_t5 : Fin (k0_t5_loop arg21 v23).trips, 32 ∣ (k0_mult4 arg21 v23 k0_t5).toNat) ∧
  (∀ k0_t5 : Fin (k0_t5_loop arg21 v23).trips, 128 ∣ (k0_mult5 arg21 v23 k0_t5).toNat) ∧
  (∀ k0_t5 : Fin (k0_t5_loop arg21 v23).trips, ∀ a, (k0_off9 arg21 v23 k0_t5) a + S8x384.size a ≤ S8x4224.size a) ∧
  (∀ k0_t5 : Fin (k0_t5_loop arg21 v23).trips, (k0_t6_loop arg21 v23).OK) ∧
  (∀ (k0_t5 : Fin (k0_t5_loop arg21 v23).trips) (k0_t6 : Fin (k0_t6_loop arg21 v23).trips), 32 ∣ (k0_mult6 arg21 v23 k0_t6).toNat) ∧
  (∀ (k0_t5 : Fin (k0_t5_loop arg21 v23).trips) (k0_t6 : Fin (k0_t6_loop arg21 v23).trips), ∀ a, (k0_off10 arg21 v23 k0_t6) a + S1x256x256.size a ≤ S1x4096x256.size a) ∧
  (∀ (k0_t5 : Fin (k0_t5_loop arg21 v23).trips) (k0_t6 : Fin (k0_t6_loop arg21 v23).trips), ∀ a, (k0_off11 arg21 v23 k0_t5) a + S1x256x256.size a ≤ S1x4096x256.size a) ∧
  (∀ (k0_t5 : Fin (k0_t5_loop arg21 v23).trips) (k0_t6 : Fin (k0_t6_loop arg21 v23).trips), ∀ a, (k0_off12 arg21 v23 k0_t6) a + S256x128.size a ≤ S4096x128.size a) ∧
  (∀ (k0_t5 : Fin (k0_t5_loop arg21 v23).trips) (k0_t6 : Fin (k0_t6_loop arg21 v23).trips), ∀ a, (k0_off13 arg21 v23 k0_t6) a + S1x32x8x256.size a ≤ S16x32x8x256.size a) ∧
  (∀ k0_t5 : Fin (k0_t5_loop arg21 v23).trips, (k0_t7_loop arg21 v23).OK) ∧
  (∀ (k0_t5 : Fin (k0_t5_loop arg21 v23).trips) (k0_t7 : Fin (k0_t7_loop arg21 v23).trips), 32 ∣ (k0_mult7 arg21 v23 k0_t7).toNat) ∧
  (∀ (k0_t5 : Fin (k0_t5_loop arg21 v23).trips) (k0_t7 : Fin (k0_t7_loop arg21 v23).trips), ∀ a, (k0_off14 arg21 v23 k0_t7) a + S1x256x256.size a ≤ S1x4096x256.size a) ∧
  (∀ (k0_t5 : Fin (k0_t5_loop arg21 v23).trips) (k0_t7 : Fin (k0_t7_loop arg21 v23).trips), ∀ a, (k0_off15 arg21 v23 k0_t5) a + S1x256x256.size a ≤ S1x4096x256.size a) ∧
  (∀ (k0_t5 : Fin (k0_t5_loop arg21 v23).trips) (k0_t7 : Fin (k0_t7_loop arg21 v23).trips), ∀ a, (k0_off16 arg21 v23 k0_t7) a + S256x128.size a ≤ S4096x128.size a) ∧
  (∀ (k0_t5 : Fin (k0_t5_loop arg21 v23).trips) (k0_t7 : Fin (k0_t7_loop arg21 v23).trips), ∀ a, (k0_off17 arg21 v23 k0_t7) a + S1x32x8x256.size a ≤ S16x32x8x256.size a) ∧
  (∀ k0_t5 : Fin (k0_t5_loop arg21 v23).trips, ∀ a, (k0_off18 arg21 v23 k0_t5) a + S1x32x8x256.size a ≤ S16x32x8x256.size a) ∧
  (∀ k0_t5 : Fin (k0_t5_loop arg21 v23).trips, (k0_t8_loop arg21 v23).OK) ∧
  (∀ (k0_t5 : Fin (k0_t5_loop arg21 v23).trips) (k0_t8 : Fin (k0_t8_loop arg21 v23).trips), ∀ a, (k0_off19 arg21 v23 k0_t8) a + S1x32x8x256.size a ≤ S16x32x8x256.size a) ∧
  (∀ k0_t5 : Fin (k0_t5_loop arg21 v23).trips, (k0_t9_loop arg21 v23).OK) ∧
  (∀ (k0_t5 : Fin (k0_t5_loop arg21 v23).trips) (k0_t9 : Fin (k0_t9_loop arg21 v23).trips), ∀ a, (k0_off20 arg21 v23 k0_t9) a + S1x32x8x256.size a ≤ S16x32x8x256.size a) ∧
  (∀ k0_t5 : Fin (k0_t5_loop arg21 v23).trips, (k0_t10_loop arg21 v23).OK) ∧
  (∀ (k0_t5 : Fin (k0_t5_loop arg21 v23).trips) (k0_t10 : Fin (k0_t10_loop arg21 v23).trips), 32 ∣ (k0_mult8 arg21 v23 k0_t10).toNat) ∧
  (∀ (k0_t5 : Fin (k0_t5_loop arg21 v23).trips) (k0_t10 : Fin (k0_t10_loop arg21 v23).trips), ∀ a, (k0_off21 arg21 v23 k0_t10) a + S1x32x8x256.size a ≤ S16x32x8x256.size a) ∧
  (∀ (k0_t5 : Fin (k0_t5_loop arg21 v23).trips) (k0_t10 : Fin (k0_t10_loop arg21 v23).trips), ∀ a, (k0_off22 arg21 v23 k0_t10) a + S256x256.size a ≤ S4096x256.size a) ∧
  (∀ (k0_t5 : Fin (k0_t5_loop arg21 v23).trips) (k0_t10 : Fin (k0_t10_loop arg21 v23).trips), ∀ a, (k0_off23 arg21 v23 k0_t5) a + S256x256.size a ≤ S4096x256.size a)
def k0_chk1_1 (arg21 : BitVec 32) (v23 : BitVec 32) : Prop :=
  (∀ k0_t5 : Fin (k0_t5_loop arg21 v23).trips, (k0_t11_loop arg21 v23).OK) ∧
  (∀ (k0_t5 : Fin (k0_t5_loop arg21 v23).trips) (k0_t11 : Fin (k0_t11_loop arg21 v23).trips), 32 ∣ (k0_mult9 arg21 v23 k0_t11).toNat) ∧
  (∀ (k0_t5 : Fin (k0_t5_loop arg21 v23).trips) (k0_t11 : Fin (k0_t11_loop arg21 v23).trips), ∀ a, (k0_off24 arg21 v23 k0_t11) a + S1x32x8x256.size a ≤ S16x32x8x256.size a) ∧
  (∀ (k0_t5 : Fin (k0_t5_loop arg21 v23).trips) (k0_t11 : Fin (k0_t11_loop arg21 v23).trips), ∀ a, (k0_off25 arg21 v23 k0_t11) a + S256x256.size a ≤ S4096x256.size a) ∧
  (∀ (k0_t5 : Fin (k0_t5_loop arg21 v23).trips) (k0_t11 : Fin (k0_t11_loop arg21 v23).trips), ∀ a, (k0_off26 arg21 v23 k0_t5) a + S256x256.size a ≤ S4096x256.size a) ∧
  ((k0_t12_loop arg21 v23).OK) ∧
  (∀ k0_t12 : Fin (k0_t12_loop arg21 v23).trips, 32 ∣ (k0_mult10 arg21 v23 k0_t12).toNat) ∧
  (∀ k0_t12 : Fin (k0_t12_loop arg21 v23).trips, 128 ∣ (k0_mult11 arg21 v23 k0_t12).toNat) ∧
  (∀ k0_t12 : Fin (k0_t12_loop arg21 v23).trips, ∀ a, (k0_off27 arg21 v23 k0_t12) a + S8x384.size a ≤ S8x4224.size a) ∧
  (∀ k0_t12 : Fin (k0_t12_loop arg21 v23).trips, (k0_t13_loop arg21 v23).OK) ∧
  (∀ (k0_t12 : Fin (k0_t12_loop arg21 v23).trips) (k0_t13 : Fin (k0_t13_loop arg21 v23).trips), 32 ∣ (k0_mult12 arg21 v23 k0_t13).toNat) ∧
  (∀ (k0_t12 : Fin (k0_t12_loop arg21 v23).trips) (k0_t13 : Fin (k0_t13_loop arg21 v23).trips), ∀ a, (k0_off28 arg21 v23 k0_t13) a + S1x256x256.size a ≤ S1x4096x256.size a) ∧
  (∀ (k0_t12 : Fin (k0_t12_loop arg21 v23).trips) (k0_t13 : Fin (k0_t13_loop arg21 v23).trips), ∀ a, (k0_off29 arg21 v23 k0_t12) a + S1x256x256.size a ≤ S1x4096x256.size a) ∧
  (∀ (k0_t12 : Fin (k0_t12_loop arg21 v23).trips) (k0_t13 : Fin (k0_t13_loop arg21 v23).trips), ∀ a, (k0_off30 arg21 v23 k0_t13) a + S256x128.size a ≤ S4096x128.size a) ∧
  (∀ (k0_t12 : Fin (k0_t12_loop arg21 v23).trips) (k0_t13 : Fin (k0_t13_loop arg21 v23).trips), ∀ a, (k0_off31 arg21 v23 k0_t13) a + S1x32x8x256.size a ≤ S16x32x8x256.size a) ∧
  (∀ k0_t12 : Fin (k0_t12_loop arg21 v23).trips, (k0_t14_loop arg21 v23).OK) ∧
  (∀ (k0_t12 : Fin (k0_t12_loop arg21 v23).trips) (k0_t14 : Fin (k0_t14_loop arg21 v23).trips), 32 ∣ (k0_mult13 arg21 v23 k0_t14).toNat) ∧
  (∀ (k0_t12 : Fin (k0_t12_loop arg21 v23).trips) (k0_t14 : Fin (k0_t14_loop arg21 v23).trips), ∀ a, (k0_off32 arg21 v23 k0_t14) a + S1x256x256.size a ≤ S1x4096x256.size a) ∧
  (∀ (k0_t12 : Fin (k0_t12_loop arg21 v23).trips) (k0_t14 : Fin (k0_t14_loop arg21 v23).trips), ∀ a, (k0_off33 arg21 v23 k0_t12) a + S1x256x256.size a ≤ S1x4096x256.size a) ∧
  (∀ (k0_t12 : Fin (k0_t12_loop arg21 v23).trips) (k0_t14 : Fin (k0_t14_loop arg21 v23).trips), ∀ a, (k0_off34 arg21 v23 k0_t14) a + S256x128.size a ≤ S4096x128.size a) ∧
  (∀ (k0_t12 : Fin (k0_t12_loop arg21 v23).trips) (k0_t14 : Fin (k0_t14_loop arg21 v23).trips), ∀ a, (k0_off35 arg21 v23 k0_t14) a + S1x32x8x256.size a ≤ S16x32x8x256.size a) ∧
  (∀ k0_t12 : Fin (k0_t12_loop arg21 v23).trips, ∀ a, (k0_off36 arg21 v23 k0_t12) a + S1x32x8x256.size a ≤ S16x32x8x256.size a) ∧
  (∀ k0_t12 : Fin (k0_t12_loop arg21 v23).trips, (k0_t15_loop arg21 v23).OK) ∧
  (∀ (k0_t12 : Fin (k0_t12_loop arg21 v23).trips) (k0_t15 : Fin (k0_t15_loop arg21 v23).trips), ∀ a, (k0_off37 arg21 v23 k0_t15) a + S1x32x8x256.size a ≤ S16x32x8x256.size a) ∧
  (∀ k0_t12 : Fin (k0_t12_loop arg21 v23).trips, (k0_t16_loop arg21 v23).OK) ∧
  (∀ (k0_t12 : Fin (k0_t12_loop arg21 v23).trips) (k0_t16 : Fin (k0_t16_loop arg21 v23).trips), ∀ a, (k0_off38 arg21 v23 k0_t16) a + S1x32x8x256.size a ≤ S16x32x8x256.size a) ∧
  (∀ k0_t12 : Fin (k0_t12_loop arg21 v23).trips, (k0_t17_loop arg21 v23).OK) ∧
  (∀ (k0_t12 : Fin (k0_t12_loop arg21 v23).trips) (k0_t17 : Fin (k0_t17_loop arg21 v23).trips), 32 ∣ (k0_mult14 arg21 v23 k0_t17).toNat) ∧
  (∀ (k0_t12 : Fin (k0_t12_loop arg21 v23).trips) (k0_t17 : Fin (k0_t17_loop arg21 v23).trips), ∀ a, (k0_off39 arg21 v23 k0_t17) a + S1x32x8x256.size a ≤ S16x32x8x256.size a) ∧
  (∀ (k0_t12 : Fin (k0_t12_loop arg21 v23).trips) (k0_t17 : Fin (k0_t17_loop arg21 v23).trips), ∀ a, (k0_off40 arg21 v23 k0_t17) a + S256x256.size a ≤ S4096x256.size a) ∧
  (∀ (k0_t12 : Fin (k0_t12_loop arg21 v23).trips) (k0_t17 : Fin (k0_t17_loop arg21 v23).trips), ∀ a, (k0_off41 arg21 v23 k0_t12) a + S256x256.size a ≤ S4096x256.size a) ∧
  (∀ k0_t12 : Fin (k0_t12_loop arg21 v23).trips, (k0_t18_loop arg21 v23).OK)
def k0_chk1_2 (arg21 : BitVec 32) (v23 : BitVec 32) : Prop :=
  (∀ (k0_t12 : Fin (k0_t12_loop arg21 v23).trips) (k0_t18 : Fin (k0_t18_loop arg21 v23).trips), 32 ∣ (k0_mult15 arg21 v23 k0_t18).toNat) ∧
  (∀ (k0_t12 : Fin (k0_t12_loop arg21 v23).trips) (k0_t18 : Fin (k0_t18_loop arg21 v23).trips), ∀ a, (k0_off42 arg21 v23 k0_t18) a + S1x32x8x256.size a ≤ S16x32x8x256.size a) ∧
  (∀ (k0_t12 : Fin (k0_t12_loop arg21 v23).trips) (k0_t18 : Fin (k0_t18_loop arg21 v23).trips), ∀ a, (k0_off43 arg21 v23 k0_t18) a + S256x256.size a ≤ S4096x256.size a) ∧
  (∀ (k0_t12 : Fin (k0_t12_loop arg21 v23).trips) (k0_t18 : Fin (k0_t18_loop arg21 v23).trips), ∀ a, (k0_off44 arg21 v23 k0_t12) a + S256x256.size a ≤ S4096x256.size a)
def k0_chk1 (arg21 : BitVec 32) (v23 : BitVec 32) : Prop :=
  k0_chk1_0 arg21 v23 ∧
  k0_chk1_1 arg21 v23 ∧
  k0_chk1_2 arg21 v23
theorem k0_t3_ok : ∀ (arg21 : BitVec 32) (v23 : BitVec 32) (k0_hw1 : k0_chk1 arg21 v23), (k0_t3_loop arg21 v23).OK := fun arg21 v23 k0_hw1 => k0_hw1.1.1
theorem k0_mult2_dvd : ∀ (arg21 : BitVec 32) (v23 : BitVec 32) (k0_hw1 : k0_chk1 arg21 v23) (k0_t3 : Fin (k0_t3_loop arg21 v23).trips), 32 ∣ (k0_mult2 arg21 v23 k0_t3).toNat := fun arg21 v23 k0_hw1 k0_t3 => k0_hw1.1.2.1 k0_t3
theorem k0_off7_inb : ∀ (arg21 : BitVec 32) (v23 : BitVec 32) (k0_hw1 : k0_chk1 arg21 v23) (k0_t3 : Fin (k0_t3_loop arg21 v23).trips), ∀ a, (k0_off7 arg21 v23 k0_t3) a + S32x128.size a ≤ S4096x128.size a := fun arg21 v23 k0_hw1 k0_t3 => k0_hw1.1.2.2.1 k0_t3
theorem k0_t4_ok : ∀ (arg21 : BitVec 32) (v23 : BitVec 32) (k0_hw1 : k0_chk1 arg21 v23), (k0_t4_loop arg21 v23).OK := fun arg21 v23 k0_hw1 => k0_hw1.1.2.2.2.1
theorem k0_mult3_dvd : ∀ (arg21 : BitVec 32) (v23 : BitVec 32) (k0_hw1 : k0_chk1 arg21 v23) (k0_t4 : Fin (k0_t4_loop arg21 v23).trips), 32 ∣ (k0_mult3 arg21 v23 k0_t4).toNat := fun arg21 v23 k0_hw1 k0_t4 => k0_hw1.1.2.2.2.2.1 k0_t4
theorem k0_off8_inb : ∀ (arg21 : BitVec 32) (v23 : BitVec 32) (k0_hw1 : k0_chk1 arg21 v23) (k0_t4 : Fin (k0_t4_loop arg21 v23).trips), ∀ a, (k0_off8 arg21 v23 k0_t4) a + S32x128.size a ≤ S4096x128.size a := fun arg21 v23 k0_hw1 k0_t4 => k0_hw1.1.2.2.2.2.2.1 k0_t4
theorem k0_t5_ok : ∀ (arg21 : BitVec 32) (v23 : BitVec 32) (k0_hw1 : k0_chk1 arg21 v23), (k0_t5_loop arg21 v23).OK := fun arg21 v23 k0_hw1 => k0_hw1.1.2.2.2.2.2.2.1
theorem k0_mult4_dvd : ∀ (arg21 : BitVec 32) (v23 : BitVec 32) (k0_hw1 : k0_chk1 arg21 v23) (k0_t5 : Fin (k0_t5_loop arg21 v23).trips), 32 ∣ (k0_mult4 arg21 v23 k0_t5).toNat := fun arg21 v23 k0_hw1 k0_t5 => k0_hw1.1.2.2.2.2.2.2.2.1 k0_t5
theorem k0_mult5_dvd : ∀ (arg21 : BitVec 32) (v23 : BitVec 32) (k0_hw1 : k0_chk1 arg21 v23) (k0_t5 : Fin (k0_t5_loop arg21 v23).trips), 128 ∣ (k0_mult5 arg21 v23 k0_t5).toNat := fun arg21 v23 k0_hw1 k0_t5 => k0_hw1.1.2.2.2.2.2.2.2.2.1 k0_t5
theorem k0_off9_inb : ∀ (arg21 : BitVec 32) (v23 : BitVec 32) (k0_hw1 : k0_chk1 arg21 v23) (k0_t5 : Fin (k0_t5_loop arg21 v23).trips), ∀ a, (k0_off9 arg21 v23 k0_t5) a + S8x384.size a ≤ S8x4224.size a := fun arg21 v23 k0_hw1 k0_t5 => k0_hw1.1.2.2.2.2.2.2.2.2.2.1 k0_t5
theorem k0_t6_ok : ∀ (arg21 : BitVec 32) (v23 : BitVec 32) (k0_hw1 : k0_chk1 arg21 v23) (k0_t5 : Fin (k0_t5_loop arg21 v23).trips), (k0_t6_loop arg21 v23).OK := fun arg21 v23 k0_hw1 k0_t5 => k0_hw1.1.2.2.2.2.2.2.2.2.2.2.1 k0_t5
theorem k0_mult6_dvd : ∀ (arg21 : BitVec 32) (v23 : BitVec 32) (k0_hw1 : k0_chk1 arg21 v23) (k0_t5 : Fin (k0_t5_loop arg21 v23).trips) (k0_t6 : Fin (k0_t6_loop arg21 v23).trips), 32 ∣ (k0_mult6 arg21 v23 k0_t6).toNat := fun arg21 v23 k0_hw1 k0_t5 k0_t6 => k0_hw1.1.2.2.2.2.2.2.2.2.2.2.2.1 k0_t5 k0_t6
theorem k0_off10_inb : ∀ (arg21 : BitVec 32) (v23 : BitVec 32) (k0_hw1 : k0_chk1 arg21 v23) (k0_t5 : Fin (k0_t5_loop arg21 v23).trips) (k0_t6 : Fin (k0_t6_loop arg21 v23).trips), ∀ a, (k0_off10 arg21 v23 k0_t6) a + S1x256x256.size a ≤ S1x4096x256.size a := fun arg21 v23 k0_hw1 k0_t5 k0_t6 => k0_hw1.1.2.2.2.2.2.2.2.2.2.2.2.2.1 k0_t5 k0_t6
theorem k0_off11_inb : ∀ (arg21 : BitVec 32) (v23 : BitVec 32) (k0_hw1 : k0_chk1 arg21 v23) (k0_t5 : Fin (k0_t5_loop arg21 v23).trips) (k0_t6 : Fin (k0_t6_loop arg21 v23).trips), ∀ a, (k0_off11 arg21 v23 k0_t5) a + S1x256x256.size a ≤ S1x4096x256.size a := fun arg21 v23 k0_hw1 k0_t5 k0_t6 => k0_hw1.1.2.2.2.2.2.2.2.2.2.2.2.2.2.1 k0_t5 k0_t6
theorem k0_off12_inb : ∀ (arg21 : BitVec 32) (v23 : BitVec 32) (k0_hw1 : k0_chk1 arg21 v23) (k0_t5 : Fin (k0_t5_loop arg21 v23).trips) (k0_t6 : Fin (k0_t6_loop arg21 v23).trips), ∀ a, (k0_off12 arg21 v23 k0_t6) a + S256x128.size a ≤ S4096x128.size a := fun arg21 v23 k0_hw1 k0_t5 k0_t6 => k0_hw1.1.2.2.2.2.2.2.2.2.2.2.2.2.2.2.1 k0_t5 k0_t6
theorem k0_off13_inb : ∀ (arg21 : BitVec 32) (v23 : BitVec 32) (k0_hw1 : k0_chk1 arg21 v23) (k0_t5 : Fin (k0_t5_loop arg21 v23).trips) (k0_t6 : Fin (k0_t6_loop arg21 v23).trips), ∀ a, (k0_off13 arg21 v23 k0_t6) a + S1x32x8x256.size a ≤ S16x32x8x256.size a := fun arg21 v23 k0_hw1 k0_t5 k0_t6 => k0_hw1.1.2.2.2.2.2.2.2.2.2.2.2.2.2.2.2.1 k0_t5 k0_t6
theorem k0_t7_ok : ∀ (arg21 : BitVec 32) (v23 : BitVec 32) (k0_hw1 : k0_chk1 arg21 v23) (k0_t5 : Fin (k0_t5_loop arg21 v23).trips), (k0_t7_loop arg21 v23).OK := fun arg21 v23 k0_hw1 k0_t5 => k0_hw1.1.2.2.2.2.2.2.2.2.2.2.2.2.2.2.2.2.1 k0_t5
theorem k0_mult7_dvd : ∀ (arg21 : BitVec 32) (v23 : BitVec 32) (k0_hw1 : k0_chk1 arg21 v23) (k0_t5 : Fin (k0_t5_loop arg21 v23).trips) (k0_t7 : Fin (k0_t7_loop arg21 v23).trips), 32 ∣ (k0_mult7 arg21 v23 k0_t7).toNat := fun arg21 v23 k0_hw1 k0_t5 k0_t7 => k0_hw1.1.2.2.2.2.2.2.2.2.2.2.2.2.2.2.2.2.2.1 k0_t5 k0_t7
theorem k0_off14_inb : ∀ (arg21 : BitVec 32) (v23 : BitVec 32) (k0_hw1 : k0_chk1 arg21 v23) (k0_t5 : Fin (k0_t5_loop arg21 v23).trips) (k0_t7 : Fin (k0_t7_loop arg21 v23).trips), ∀ a, (k0_off14 arg21 v23 k0_t7) a + S1x256x256.size a ≤ S1x4096x256.size a := fun arg21 v23 k0_hw1 k0_t5 k0_t7 => k0_hw1.1.2.2.2.2.2.2.2.2.2.2.2.2.2.2.2.2.2.2.1 k0_t5 k0_t7
theorem k0_off15_inb : ∀ (arg21 : BitVec 32) (v23 : BitVec 32) (k0_hw1 : k0_chk1 arg21 v23) (k0_t5 : Fin (k0_t5_loop arg21 v23).trips) (k0_t7 : Fin (k0_t7_loop arg21 v23).trips), ∀ a, (k0_off15 arg21 v23 k0_t5) a + S1x256x256.size a ≤ S1x4096x256.size a := fun arg21 v23 k0_hw1 k0_t5 k0_t7 => k0_hw1.1.2.2.2.2.2.2.2.2.2.2.2.2.2.2.2.2.2.2.2.1 k0_t5 k0_t7
theorem k0_off16_inb : ∀ (arg21 : BitVec 32) (v23 : BitVec 32) (k0_hw1 : k0_chk1 arg21 v23) (k0_t5 : Fin (k0_t5_loop arg21 v23).trips) (k0_t7 : Fin (k0_t7_loop arg21 v23).trips), ∀ a, (k0_off16 arg21 v23 k0_t7) a + S256x128.size a ≤ S4096x128.size a := fun arg21 v23 k0_hw1 k0_t5 k0_t7 => k0_hw1.1.2.2.2.2.2.2.2.2.2.2.2.2.2.2.2.2.2.2.2.2.1 k0_t5 k0_t7
theorem k0_off17_inb : ∀ (arg21 : BitVec 32) (v23 : BitVec 32) (k0_hw1 : k0_chk1 arg21 v23) (k0_t5 : Fin (k0_t5_loop arg21 v23).trips) (k0_t7 : Fin (k0_t7_loop arg21 v23).trips), ∀ a, (k0_off17 arg21 v23 k0_t7) a + S1x32x8x256.size a ≤ S16x32x8x256.size a := fun arg21 v23 k0_hw1 k0_t5 k0_t7 => k0_hw1.1.2.2.2.2.2.2.2.2.2.2.2.2.2.2.2.2.2.2.2.2.2.1 k0_t5 k0_t7
theorem k0_off18_inb : ∀ (arg21 : BitVec 32) (v23 : BitVec 32) (k0_hw1 : k0_chk1 arg21 v23) (k0_t5 : Fin (k0_t5_loop arg21 v23).trips), ∀ a, (k0_off18 arg21 v23 k0_t5) a + S1x32x8x256.size a ≤ S16x32x8x256.size a := fun arg21 v23 k0_hw1 k0_t5 => k0_hw1.1.2.2.2.2.2.2.2.2.2.2.2.2.2.2.2.2.2.2.2.2.2.2.1 k0_t5
theorem k0_t8_ok : ∀ (arg21 : BitVec 32) (v23 : BitVec 32) (k0_hw1 : k0_chk1 arg21 v23) (k0_t5 : Fin (k0_t5_loop arg21 v23).trips), (k0_t8_loop arg21 v23).OK := fun arg21 v23 k0_hw1 k0_t5 => k0_hw1.1.2.2.2.2.2.2.2.2.2.2.2.2.2.2.2.2.2.2.2.2.2.2.2.1 k0_t5
theorem k0_off19_inb : ∀ (arg21 : BitVec 32) (v23 : BitVec 32) (k0_hw1 : k0_chk1 arg21 v23) (k0_t5 : Fin (k0_t5_loop arg21 v23).trips) (k0_t8 : Fin (k0_t8_loop arg21 v23).trips), ∀ a, (k0_off19 arg21 v23 k0_t8) a + S1x32x8x256.size a ≤ S16x32x8x256.size a := fun arg21 v23 k0_hw1 k0_t5 k0_t8 => k0_hw1.1.2.2.2.2.2.2.2.2.2.2.2.2.2.2.2.2.2.2.2.2.2.2.2.2.1 k0_t5 k0_t8
theorem k0_t9_ok : ∀ (arg21 : BitVec 32) (v23 : BitVec 32) (k0_hw1 : k0_chk1 arg21 v23) (k0_t5 : Fin (k0_t5_loop arg21 v23).trips), (k0_t9_loop arg21 v23).OK := fun arg21 v23 k0_hw1 k0_t5 => k0_hw1.1.2.2.2.2.2.2.2.2.2.2.2.2.2.2.2.2.2.2.2.2.2.2.2.2.2.1 k0_t5
theorem k0_off20_inb : ∀ (arg21 : BitVec 32) (v23 : BitVec 32) (k0_hw1 : k0_chk1 arg21 v23) (k0_t5 : Fin (k0_t5_loop arg21 v23).trips) (k0_t9 : Fin (k0_t9_loop arg21 v23).trips), ∀ a, (k0_off20 arg21 v23 k0_t9) a + S1x32x8x256.size a ≤ S16x32x8x256.size a := fun arg21 v23 k0_hw1 k0_t5 k0_t9 => k0_hw1.1.2.2.2.2.2.2.2.2.2.2.2.2.2.2.2.2.2.2.2.2.2.2.2.2.2.2.1 k0_t5 k0_t9
theorem k0_t10_ok : ∀ (arg21 : BitVec 32) (v23 : BitVec 32) (k0_hw1 : k0_chk1 arg21 v23) (k0_t5 : Fin (k0_t5_loop arg21 v23).trips), (k0_t10_loop arg21 v23).OK := fun arg21 v23 k0_hw1 k0_t5 => k0_hw1.1.2.2.2.2.2.2.2.2.2.2.2.2.2.2.2.2.2.2.2.2.2.2.2.2.2.2.2.1 k0_t5
theorem k0_mult8_dvd : ∀ (arg21 : BitVec 32) (v23 : BitVec 32) (k0_hw1 : k0_chk1 arg21 v23) (k0_t5 : Fin (k0_t5_loop arg21 v23).trips) (k0_t10 : Fin (k0_t10_loop arg21 v23).trips), 32 ∣ (k0_mult8 arg21 v23 k0_t10).toNat := fun arg21 v23 k0_hw1 k0_t5 k0_t10 => k0_hw1.1.2.2.2.2.2.2.2.2.2.2.2.2.2.2.2.2.2.2.2.2.2.2.2.2.2.2.2.2.1 k0_t5 k0_t10
theorem k0_off21_inb : ∀ (arg21 : BitVec 32) (v23 : BitVec 32) (k0_hw1 : k0_chk1 arg21 v23) (k0_t5 : Fin (k0_t5_loop arg21 v23).trips) (k0_t10 : Fin (k0_t10_loop arg21 v23).trips), ∀ a, (k0_off21 arg21 v23 k0_t10) a + S1x32x8x256.size a ≤ S16x32x8x256.size a := fun arg21 v23 k0_hw1 k0_t5 k0_t10 => k0_hw1.1.2.2.2.2.2.2.2.2.2.2.2.2.2.2.2.2.2.2.2.2.2.2.2.2.2.2.2.2.2.1 k0_t5 k0_t10
theorem k0_off22_inb : ∀ (arg21 : BitVec 32) (v23 : BitVec 32) (k0_hw1 : k0_chk1 arg21 v23) (k0_t5 : Fin (k0_t5_loop arg21 v23).trips) (k0_t10 : Fin (k0_t10_loop arg21 v23).trips), ∀ a, (k0_off22 arg21 v23 k0_t10) a + S256x256.size a ≤ S4096x256.size a := fun arg21 v23 k0_hw1 k0_t5 k0_t10 => k0_hw1.1.2.2.2.2.2.2.2.2.2.2.2.2.2.2.2.2.2.2.2.2.2.2.2.2.2.2.2.2.2.2.1 k0_t5 k0_t10
theorem k0_off23_inb : ∀ (arg21 : BitVec 32) (v23 : BitVec 32) (k0_hw1 : k0_chk1 arg21 v23) (k0_t5 : Fin (k0_t5_loop arg21 v23).trips) (k0_t10 : Fin (k0_t10_loop arg21 v23).trips), ∀ a, (k0_off23 arg21 v23 k0_t5) a + S256x256.size a ≤ S4096x256.size a := fun arg21 v23 k0_hw1 k0_t5 k0_t10 => k0_hw1.1.2.2.2.2.2.2.2.2.2.2.2.2.2.2.2.2.2.2.2.2.2.2.2.2.2.2.2.2.2.2.2 k0_t5 k0_t10
theorem k0_t11_ok : ∀ (arg21 : BitVec 32) (v23 : BitVec 32) (k0_hw1 : k0_chk1 arg21 v23) (k0_t5 : Fin (k0_t5_loop arg21 v23).trips), (k0_t11_loop arg21 v23).OK := fun arg21 v23 k0_hw1 k0_t5 => k0_hw1.2.1.1 k0_t5
theorem k0_mult9_dvd : ∀ (arg21 : BitVec 32) (v23 : BitVec 32) (k0_hw1 : k0_chk1 arg21 v23) (k0_t5 : Fin (k0_t5_loop arg21 v23).trips) (k0_t11 : Fin (k0_t11_loop arg21 v23).trips), 32 ∣ (k0_mult9 arg21 v23 k0_t11).toNat := fun arg21 v23 k0_hw1 k0_t5 k0_t11 => k0_hw1.2.1.2.1 k0_t5 k0_t11
theorem k0_off24_inb : ∀ (arg21 : BitVec 32) (v23 : BitVec 32) (k0_hw1 : k0_chk1 arg21 v23) (k0_t5 : Fin (k0_t5_loop arg21 v23).trips) (k0_t11 : Fin (k0_t11_loop arg21 v23).trips), ∀ a, (k0_off24 arg21 v23 k0_t11) a + S1x32x8x256.size a ≤ S16x32x8x256.size a := fun arg21 v23 k0_hw1 k0_t5 k0_t11 => k0_hw1.2.1.2.2.1 k0_t5 k0_t11
theorem k0_off25_inb : ∀ (arg21 : BitVec 32) (v23 : BitVec 32) (k0_hw1 : k0_chk1 arg21 v23) (k0_t5 : Fin (k0_t5_loop arg21 v23).trips) (k0_t11 : Fin (k0_t11_loop arg21 v23).trips), ∀ a, (k0_off25 arg21 v23 k0_t11) a + S256x256.size a ≤ S4096x256.size a := fun arg21 v23 k0_hw1 k0_t5 k0_t11 => k0_hw1.2.1.2.2.2.1 k0_t5 k0_t11
theorem k0_off26_inb : ∀ (arg21 : BitVec 32) (v23 : BitVec 32) (k0_hw1 : k0_chk1 arg21 v23) (k0_t5 : Fin (k0_t5_loop arg21 v23).trips) (k0_t11 : Fin (k0_t11_loop arg21 v23).trips), ∀ a, (k0_off26 arg21 v23 k0_t5) a + S256x256.size a ≤ S4096x256.size a := fun arg21 v23 k0_hw1 k0_t5 k0_t11 => k0_hw1.2.1.2.2.2.2.1 k0_t5 k0_t11
theorem k0_t12_ok : ∀ (arg21 : BitVec 32) (v23 : BitVec 32) (k0_hw1 : k0_chk1 arg21 v23), (k0_t12_loop arg21 v23).OK := fun arg21 v23 k0_hw1 => k0_hw1.2.1.2.2.2.2.2.1
theorem k0_mult10_dvd : ∀ (arg21 : BitVec 32) (v23 : BitVec 32) (k0_hw1 : k0_chk1 arg21 v23) (k0_t12 : Fin (k0_t12_loop arg21 v23).trips), 32 ∣ (k0_mult10 arg21 v23 k0_t12).toNat := fun arg21 v23 k0_hw1 k0_t12 => k0_hw1.2.1.2.2.2.2.2.2.1 k0_t12
theorem k0_mult11_dvd : ∀ (arg21 : BitVec 32) (v23 : BitVec 32) (k0_hw1 : k0_chk1 arg21 v23) (k0_t12 : Fin (k0_t12_loop arg21 v23).trips), 128 ∣ (k0_mult11 arg21 v23 k0_t12).toNat := fun arg21 v23 k0_hw1 k0_t12 => k0_hw1.2.1.2.2.2.2.2.2.2.1 k0_t12
theorem k0_off27_inb : ∀ (arg21 : BitVec 32) (v23 : BitVec 32) (k0_hw1 : k0_chk1 arg21 v23) (k0_t12 : Fin (k0_t12_loop arg21 v23).trips), ∀ a, (k0_off27 arg21 v23 k0_t12) a + S8x384.size a ≤ S8x4224.size a := fun arg21 v23 k0_hw1 k0_t12 => k0_hw1.2.1.2.2.2.2.2.2.2.2.1 k0_t12
theorem k0_t13_ok : ∀ (arg21 : BitVec 32) (v23 : BitVec 32) (k0_hw1 : k0_chk1 arg21 v23) (k0_t12 : Fin (k0_t12_loop arg21 v23).trips), (k0_t13_loop arg21 v23).OK := fun arg21 v23 k0_hw1 k0_t12 => k0_hw1.2.1.2.2.2.2.2.2.2.2.2.1 k0_t12
theorem k0_mult12_dvd : ∀ (arg21 : BitVec 32) (v23 : BitVec 32) (k0_hw1 : k0_chk1 arg21 v23) (k0_t12 : Fin (k0_t12_loop arg21 v23).trips) (k0_t13 : Fin (k0_t13_loop arg21 v23).trips), 32 ∣ (k0_mult12 arg21 v23 k0_t13).toNat := fun arg21 v23 k0_hw1 k0_t12 k0_t13 => k0_hw1.2.1.2.2.2.2.2.2.2.2.2.2.1 k0_t12 k0_t13
theorem k0_off28_inb : ∀ (arg21 : BitVec 32) (v23 : BitVec 32) (k0_hw1 : k0_chk1 arg21 v23) (k0_t12 : Fin (k0_t12_loop arg21 v23).trips) (k0_t13 : Fin (k0_t13_loop arg21 v23).trips), ∀ a, (k0_off28 arg21 v23 k0_t13) a + S1x256x256.size a ≤ S1x4096x256.size a := fun arg21 v23 k0_hw1 k0_t12 k0_t13 => k0_hw1.2.1.2.2.2.2.2.2.2.2.2.2.2.1 k0_t12 k0_t13
theorem k0_off29_inb : ∀ (arg21 : BitVec 32) (v23 : BitVec 32) (k0_hw1 : k0_chk1 arg21 v23) (k0_t12 : Fin (k0_t12_loop arg21 v23).trips) (k0_t13 : Fin (k0_t13_loop arg21 v23).trips), ∀ a, (k0_off29 arg21 v23 k0_t12) a + S1x256x256.size a ≤ S1x4096x256.size a := fun arg21 v23 k0_hw1 k0_t12 k0_t13 => k0_hw1.2.1.2.2.2.2.2.2.2.2.2.2.2.2.1 k0_t12 k0_t13
theorem k0_off30_inb : ∀ (arg21 : BitVec 32) (v23 : BitVec 32) (k0_hw1 : k0_chk1 arg21 v23) (k0_t12 : Fin (k0_t12_loop arg21 v23).trips) (k0_t13 : Fin (k0_t13_loop arg21 v23).trips), ∀ a, (k0_off30 arg21 v23 k0_t13) a + S256x128.size a ≤ S4096x128.size a := fun arg21 v23 k0_hw1 k0_t12 k0_t13 => k0_hw1.2.1.2.2.2.2.2.2.2.2.2.2.2.2.2.1 k0_t12 k0_t13
theorem k0_off31_inb : ∀ (arg21 : BitVec 32) (v23 : BitVec 32) (k0_hw1 : k0_chk1 arg21 v23) (k0_t12 : Fin (k0_t12_loop arg21 v23).trips) (k0_t13 : Fin (k0_t13_loop arg21 v23).trips), ∀ a, (k0_off31 arg21 v23 k0_t13) a + S1x32x8x256.size a ≤ S16x32x8x256.size a := fun arg21 v23 k0_hw1 k0_t12 k0_t13 => k0_hw1.2.1.2.2.2.2.2.2.2.2.2.2.2.2.2.2.1 k0_t12 k0_t13
theorem k0_t14_ok : ∀ (arg21 : BitVec 32) (v23 : BitVec 32) (k0_hw1 : k0_chk1 arg21 v23) (k0_t12 : Fin (k0_t12_loop arg21 v23).trips), (k0_t14_loop arg21 v23).OK := fun arg21 v23 k0_hw1 k0_t12 => k0_hw1.2.1.2.2.2.2.2.2.2.2.2.2.2.2.2.2.2.1 k0_t12
theorem k0_mult13_dvd : ∀ (arg21 : BitVec 32) (v23 : BitVec 32) (k0_hw1 : k0_chk1 arg21 v23) (k0_t12 : Fin (k0_t12_loop arg21 v23).trips) (k0_t14 : Fin (k0_t14_loop arg21 v23).trips), 32 ∣ (k0_mult13 arg21 v23 k0_t14).toNat := fun arg21 v23 k0_hw1 k0_t12 k0_t14 => k0_hw1.2.1.2.2.2.2.2.2.2.2.2.2.2.2.2.2.2.2.1 k0_t12 k0_t14
theorem k0_off32_inb : ∀ (arg21 : BitVec 32) (v23 : BitVec 32) (k0_hw1 : k0_chk1 arg21 v23) (k0_t12 : Fin (k0_t12_loop arg21 v23).trips) (k0_t14 : Fin (k0_t14_loop arg21 v23).trips), ∀ a, (k0_off32 arg21 v23 k0_t14) a + S1x256x256.size a ≤ S1x4096x256.size a := fun arg21 v23 k0_hw1 k0_t12 k0_t14 => k0_hw1.2.1.2.2.2.2.2.2.2.2.2.2.2.2.2.2.2.2.2.1 k0_t12 k0_t14
theorem k0_off33_inb : ∀ (arg21 : BitVec 32) (v23 : BitVec 32) (k0_hw1 : k0_chk1 arg21 v23) (k0_t12 : Fin (k0_t12_loop arg21 v23).trips) (k0_t14 : Fin (k0_t14_loop arg21 v23).trips), ∀ a, (k0_off33 arg21 v23 k0_t12) a + S1x256x256.size a ≤ S1x4096x256.size a := fun arg21 v23 k0_hw1 k0_t12 k0_t14 => k0_hw1.2.1.2.2.2.2.2.2.2.2.2.2.2.2.2.2.2.2.2.2.1 k0_t12 k0_t14
theorem k0_off34_inb : ∀ (arg21 : BitVec 32) (v23 : BitVec 32) (k0_hw1 : k0_chk1 arg21 v23) (k0_t12 : Fin (k0_t12_loop arg21 v23).trips) (k0_t14 : Fin (k0_t14_loop arg21 v23).trips), ∀ a, (k0_off34 arg21 v23 k0_t14) a + S256x128.size a ≤ S4096x128.size a := fun arg21 v23 k0_hw1 k0_t12 k0_t14 => k0_hw1.2.1.2.2.2.2.2.2.2.2.2.2.2.2.2.2.2.2.2.2.2.1 k0_t12 k0_t14
theorem k0_off35_inb : ∀ (arg21 : BitVec 32) (v23 : BitVec 32) (k0_hw1 : k0_chk1 arg21 v23) (k0_t12 : Fin (k0_t12_loop arg21 v23).trips) (k0_t14 : Fin (k0_t14_loop arg21 v23).trips), ∀ a, (k0_off35 arg21 v23 k0_t14) a + S1x32x8x256.size a ≤ S16x32x8x256.size a := fun arg21 v23 k0_hw1 k0_t12 k0_t14 => k0_hw1.2.1.2.2.2.2.2.2.2.2.2.2.2.2.2.2.2.2.2.2.2.2.1 k0_t12 k0_t14
theorem k0_off36_inb : ∀ (arg21 : BitVec 32) (v23 : BitVec 32) (k0_hw1 : k0_chk1 arg21 v23) (k0_t12 : Fin (k0_t12_loop arg21 v23).trips), ∀ a, (k0_off36 arg21 v23 k0_t12) a + S1x32x8x256.size a ≤ S16x32x8x256.size a := fun arg21 v23 k0_hw1 k0_t12 => k0_hw1.2.1.2.2.2.2.2.2.2.2.2.2.2.2.2.2.2.2.2.2.2.2.2.1 k0_t12
theorem k0_t15_ok : ∀ (arg21 : BitVec 32) (v23 : BitVec 32) (k0_hw1 : k0_chk1 arg21 v23) (k0_t12 : Fin (k0_t12_loop arg21 v23).trips), (k0_t15_loop arg21 v23).OK := fun arg21 v23 k0_hw1 k0_t12 => k0_hw1.2.1.2.2.2.2.2.2.2.2.2.2.2.2.2.2.2.2.2.2.2.2.2.2.1 k0_t12
theorem k0_off37_inb : ∀ (arg21 : BitVec 32) (v23 : BitVec 32) (k0_hw1 : k0_chk1 arg21 v23) (k0_t12 : Fin (k0_t12_loop arg21 v23).trips) (k0_t15 : Fin (k0_t15_loop arg21 v23).trips), ∀ a, (k0_off37 arg21 v23 k0_t15) a + S1x32x8x256.size a ≤ S16x32x8x256.size a := fun arg21 v23 k0_hw1 k0_t12 k0_t15 => k0_hw1.2.1.2.2.2.2.2.2.2.2.2.2.2.2.2.2.2.2.2.2.2.2.2.2.2.1 k0_t12 k0_t15
theorem k0_t16_ok : ∀ (arg21 : BitVec 32) (v23 : BitVec 32) (k0_hw1 : k0_chk1 arg21 v23) (k0_t12 : Fin (k0_t12_loop arg21 v23).trips), (k0_t16_loop arg21 v23).OK := fun arg21 v23 k0_hw1 k0_t12 => k0_hw1.2.1.2.2.2.2.2.2.2.2.2.2.2.2.2.2.2.2.2.2.2.2.2.2.2.2.1 k0_t12
theorem k0_off38_inb : ∀ (arg21 : BitVec 32) (v23 : BitVec 32) (k0_hw1 : k0_chk1 arg21 v23) (k0_t12 : Fin (k0_t12_loop arg21 v23).trips) (k0_t16 : Fin (k0_t16_loop arg21 v23).trips), ∀ a, (k0_off38 arg21 v23 k0_t16) a + S1x32x8x256.size a ≤ S16x32x8x256.size a := fun arg21 v23 k0_hw1 k0_t12 k0_t16 => k0_hw1.2.1.2.2.2.2.2.2.2.2.2.2.2.2.2.2.2.2.2.2.2.2.2.2.2.2.2.1 k0_t12 k0_t16
theorem k0_t17_ok : ∀ (arg21 : BitVec 32) (v23 : BitVec 32) (k0_hw1 : k0_chk1 arg21 v23) (k0_t12 : Fin (k0_t12_loop arg21 v23).trips), (k0_t17_loop arg21 v23).OK := fun arg21 v23 k0_hw1 k0_t12 => k0_hw1.2.1.2.2.2.2.2.2.2.2.2.2.2.2.2.2.2.2.2.2.2.2.2.2.2.2.2.2.1 k0_t12
theorem k0_mult14_dvd : ∀ (arg21 : BitVec 32) (v23 : BitVec 32) (k0_hw1 : k0_chk1 arg21 v23) (k0_t12 : Fin (k0_t12_loop arg21 v23).trips) (k0_t17 : Fin (k0_t17_loop arg21 v23).trips), 32 ∣ (k0_mult14 arg21 v23 k0_t17).toNat := fun arg21 v23 k0_hw1 k0_t12 k0_t17 => k0_hw1.2.1.2.2.2.2.2.2.2.2.2.2.2.2.2.2.2.2.2.2.2.2.2.2.2.2.2.2.2.1 k0_t12 k0_t17
theorem k0_off39_inb : ∀ (arg21 : BitVec 32) (v23 : BitVec 32) (k0_hw1 : k0_chk1 arg21 v23) (k0_t12 : Fin (k0_t12_loop arg21 v23).trips) (k0_t17 : Fin (k0_t17_loop arg21 v23).trips), ∀ a, (k0_off39 arg21 v23 k0_t17) a + S1x32x8x256.size a ≤ S16x32x8x256.size a := fun arg21 v23 k0_hw1 k0_t12 k0_t17 => k0_hw1.2.1.2.2.2.2.2.2.2.2.2.2.2.2.2.2.2.2.2.2.2.2.2.2.2.2.2.2.2.2.1 k0_t12 k0_t17
theorem k0_off40_inb : ∀ (arg21 : BitVec 32) (v23 : BitVec 32) (k0_hw1 : k0_chk1 arg21 v23) (k0_t12 : Fin (k0_t12_loop arg21 v23).trips) (k0_t17 : Fin (k0_t17_loop arg21 v23).trips), ∀ a, (k0_off40 arg21 v23 k0_t17) a + S256x256.size a ≤ S4096x256.size a := fun arg21 v23 k0_hw1 k0_t12 k0_t17 => k0_hw1.2.1.2.2.2.2.2.2.2.2.2.2.2.2.2.2.2.2.2.2.2.2.2.2.2.2.2.2.2.2.2.1 k0_t12 k0_t17
theorem k0_off41_inb : ∀ (arg21 : BitVec 32) (v23 : BitVec 32) (k0_hw1 : k0_chk1 arg21 v23) (k0_t12 : Fin (k0_t12_loop arg21 v23).trips) (k0_t17 : Fin (k0_t17_loop arg21 v23).trips), ∀ a, (k0_off41 arg21 v23 k0_t12) a + S256x256.size a ≤ S4096x256.size a := fun arg21 v23 k0_hw1 k0_t12 k0_t17 => k0_hw1.2.1.2.2.2.2.2.2.2.2.2.2.2.2.2.2.2.2.2.2.2.2.2.2.2.2.2.2.2.2.2.2.1 k0_t12 k0_t17
theorem k0_t18_ok : ∀ (arg21 : BitVec 32) (v23 : BitVec 32) (k0_hw1 : k0_chk1 arg21 v23) (k0_t12 : Fin (k0_t12_loop arg21 v23).trips), (k0_t18_loop arg21 v23).OK := fun arg21 v23 k0_hw1 k0_t12 => k0_hw1.2.1.2.2.2.2.2.2.2.2.2.2.2.2.2.2.2.2.2.2.2.2.2.2.2.2.2.2.2.2.2.2.2 k0_t12
theorem k0_mult15_dvd : ∀ (arg21 : BitVec 32) (v23 : BitVec 32) (k0_hw1 : k0_chk1 arg21 v23) (k0_t12 : Fin (k0_t12_loop arg21 v23).trips) (k0_t18 : Fin (k0_t18_loop arg21 v23).trips), 32 ∣ (k0_mult15 arg21 v23 k0_t18).toNat := fun arg21 v23 k0_hw1 k0_t12 k0_t18 => k0_hw1.2.2.1 k0_t12 k0_t18
theorem k0_off42_inb : ∀ (arg21 : BitVec 32) (v23 : BitVec 32) (k0_hw1 : k0_chk1 arg21 v23) (k0_t12 : Fin (k0_t12_loop arg21 v23).trips) (k0_t18 : Fin (k0_t18_loop arg21 v23).trips), ∀ a, (k0_off42 arg21 v23 k0_t18) a + S1x32x8x256.size a ≤ S16x32x8x256.size a := fun arg21 v23 k0_hw1 k0_t12 k0_t18 => k0_hw1.2.2.2.1 k0_t12 k0_t18
theorem k0_off43_inb : ∀ (arg21 : BitVec 32) (v23 : BitVec 32) (k0_hw1 : k0_chk1 arg21 v23) (k0_t12 : Fin (k0_t12_loop arg21 v23).trips) (k0_t18 : Fin (k0_t18_loop arg21 v23).trips), ∀ a, (k0_off43 arg21 v23 k0_t18) a + S256x256.size a ≤ S4096x256.size a := fun arg21 v23 k0_hw1 k0_t12 k0_t18 => k0_hw1.2.2.2.2.1 k0_t12 k0_t18
theorem k0_off44_inb : ∀ (arg21 : BitVec 32) (v23 : BitVec 32) (k0_hw1 : k0_chk1 arg21 v23) (k0_t12 : Fin (k0_t12_loop arg21 v23).trips) (k0_t18 : Fin (k0_t18_loop arg21 v23).trips), ∀ a, (k0_off44 arg21 v23 k0_t12) a + S256x256.size a ≤ S4096x256.size a := fun arg21 v23 k0_hw1 k0_t12 k0_t18 => k0_hw1.2.2.2.2.2 k0_t12 k0_t18

@[reducible] def k0_t19_loop : Scf.Loop 32 :=
  let c0_i32_8 : BitVec 32 := 0#32
  let c32_i32_9 : BitVec 32 := 32#32
  let v16 : BitVec 32 := Scalar.addi c0_i32_8 c32_i32_9
  let c1_i32_10 : BitVec 32 := 1#32
  ⟨c0_i32_8, v16, c1_i32_10⟩
def k0_mult16 (k0_t19 : Fin k0_t19_loop.trips) : BitVec 32 :=
  let c0_i32_8 : BitVec 32 := 0#32
  let c1_i32_10 : BitVec 32 := 1#32
  let arg20 : BitVec 32 := Scf.iv c0_i32_8 c1_i32_10 k0_t19
  let c128_i32 : BitVec 32 := 128#32
  let v21 : BitVec 32 := Scalar.muli arg20 c128_i32
  v21
def k0_off45 (k0_t19 : Fin k0_t19_loop.trips) : Fin 2 → Nat :=
  let c0_i32_8 : BitVec 32 := 0#32
  let c1_i32_10 : BitVec 32 := 1#32
  let arg20 : BitVec 32 := Scf.iv c0_i32_8 c1_i32_10 k0_t19
  let c128_i32 : BitVec 32 := 128#32
  let v21 : BitVec 32 := Scalar.muli arg20 c128_i32
  let v22 : BitVec 32 := v21
  let v23 : Index := Scalar.indexCast v22
  let c0_17 : Index := 0#32
  ![v23.toNat, 0]
def k0_off46 (k0_t19 : Fin k0_t19_loop.trips) : Fin 3 → Nat :=
  let c0_19 : Index := 0#32
  let c0_i32_8 : BitVec 32 := 0#32
  let c1_i32_10 : BitVec 32 := 1#32
  let arg20 : BitVec 32 := Scf.iv c0_i32_8 c1_i32_10 k0_t19
  let c128_i32 : BitVec 32 := 128#32
  let v21 : BitVec 32 := Scalar.muli arg20 c128_i32
  let v22 : BitVec 32 := v21
  let v28 : Index := Scalar.indexCast v22
  let c0_20 : Index := 0#32
  ![0, v28.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "lowest" => some ⊥
  | "neg" => some ⊤
  | _ => none
-- ==== ReferenceIdeal.lean ====
abbrev S12x4096x256 : Shape := ⟨3, ![12, 4096, 256]⟩
abbrev S12x4096 : Shape := ⟨2, ![12, 4096]⟩
abbrev S12x7 : Shape := ⟨2, ![12, 7]⟩
abbrev S4096 : Shape := ⟨1, ![4096]⟩
abbrev S_ : Shape := ⟨0, ![]⟩
abbrev S12x1x7 : Shape := ⟨3, ![12, 1, 7]⟩
abbrev S1x4096x1 : Shape := ⟨3, ![1, 4096, 1]⟩
abbrev S12x4096x7 : Shape := ⟨3, ![12, 4096, 7]⟩
abbrev S12x4096x1 : Shape := ⟨3, ![12, 4096, 1]⟩
abbrev S12x4096x4096 : Shape := ⟨3, ![12, 4096, 4096]⟩
abbrev S12x1x4096 : Shape := ⟨3, ![12, 1, 4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩

abbrev nBuf : Space → Nat
  | .hbm => 96
  | .vmem => 0
  | .smem => 0
  | _ => 0

abbrev bufTy : (tb : Table) → Fin (tcTables nBuf tb) → BufTy
  | .hbm, ⟨0, _⟩ => ⟨S12x4096x256, .f32⟩
  | .hbm, ⟨1, _⟩ => ⟨S12x4096, .f32⟩
  | .hbm, ⟨2, _⟩ => ⟨S12x4096x256, .f32⟩
  | .hbm, ⟨3, _⟩ => ⟨S12x4096, .f32⟩
  | .hbm, ⟨4, _⟩ => ⟨S12x4096, .f32⟩
  | .hbm, ⟨5, _⟩ => ⟨S12x7, .i32⟩
  | .hbm, ⟨6, _⟩ => ⟨S4096, .i32⟩
  | .hbm, ⟨7, _⟩ => ⟨S_, .i32⟩
  | .hbm, ⟨8, _⟩ => ⟨S_, .i32⟩
  | .hbm, ⟨9, _⟩ => ⟨S12x7, .i32⟩
  | .hbm, ⟨10, _⟩ => ⟨S12x1x7, .i32⟩
  | .hbm, ⟨11, _⟩ => ⟨S1x4096x1, .i32⟩
  | .hbm, ⟨12, _⟩ => ⟨S12x4096x7, .i32⟩
  | .hbm, ⟨13, _⟩ => ⟨S12x4096x7, .i32⟩
  | .hbm, ⟨14, _⟩ => ⟨S12x4096x7, .i1⟩
  | .hbm, ⟨15, _⟩ => ⟨S12x4096x7, .i32⟩
  | .hbm, ⟨16, _⟩ => ⟨S_, .i32⟩
  | .hbm, ⟨17, _⟩ => ⟨S12x4096, .i32⟩
  | .hbm, ⟨18, _⟩ => ⟨S12x4096x256, .bf16⟩
  | .hbm, ⟨19, _⟩ => ⟨S12x4096, .bf16⟩
  | .hbm, ⟨20, _⟩ => ⟨S12x4096x1, .bf16⟩
  | .hbm, ⟨21, _⟩ => ⟨S12x4096x256, .bf16⟩
  | .hbm, ⟨22, _⟩ => ⟨S12x4096x256, .bf16⟩
  | .hbm, ⟨23, _⟩ => ⟨S12x4096x256, .bf16⟩
  | .hbm, ⟨24, _⟩ => ⟨S12x4096, .bf16⟩
  | .hbm, ⟨25, _⟩ => ⟨S12x4096x1, .bf16⟩
  | .hbm, ⟨26, _⟩ => ⟨S12x4096x256, .bf16⟩
  | .hbm, ⟨27, _⟩ => ⟨S12x4096x256, .bf16⟩
  | .hbm, ⟨28, _⟩ => ⟨S12x4096x4096, .f32⟩
  | .hbm, ⟨29, _⟩ => ⟨S12x4096x1, .f32⟩
  | .hbm, ⟨30, _⟩ => ⟨S12x1x4096, .f32⟩
  | .hbm, ⟨31, _⟩ => ⟨S12x4096x4096, .f32⟩
  | .hbm, ⟨32, _⟩ => ⟨S12x4096x4096, .f32⟩
  | .hbm, ⟨33, _⟩ => ⟨S12x4096x4096, .f32⟩
  | .hbm, ⟨34, _⟩ => ⟨S12x4096x4096, .f32⟩
  | .hbm, ⟨35, _⟩ => ⟨S_, .f32⟩
  | .hbm, ⟨36, _⟩ => ⟨S12x4096x4096, .f32⟩
  | .hbm, ⟨37, _⟩ => ⟨S12x4096x4096, .f32⟩
  | .hbm, ⟨38, _⟩ => ⟨S12x1x4096, .f32⟩
  | .hbm, ⟨39, _⟩ => ⟨S12x4096x4096, .f32⟩
  | .hbm, ⟨40, _⟩ => ⟨S12x4096x4096, .f32⟩
  | .hbm, ⟨41, _⟩ => ⟨S12x4096x1, .i32⟩
  | .hbm, ⟨42, _⟩ => ⟨S12x1x4096, .i32⟩
  | .hbm, ⟨43, _⟩ => ⟨S12x4096x4096, .i32⟩
  | .hbm, ⟨44, _⟩ => ⟨S12x4096x4096, .i32⟩
  | .hbm, ⟨45, _⟩ => ⟨S12x4096x4096, .i1⟩
  | .hbm, ⟨46, _⟩ => ⟨S_, .f32⟩
  | .hbm, ⟨47, _⟩ => ⟨S_, .f32⟩
  | .hbm, ⟨48, _⟩ => ⟨S12x4096x4096, .f32⟩
  | .hbm, ⟨49, _⟩ => ⟨S12x4096x4096, .f32⟩
  | .hbm, ⟨50, _⟩ => ⟨S_, .f32⟩
  | .hbm, ⟨51, _⟩ => ⟨S12x4096, .f32⟩
  | .hbm, ⟨52, _⟩ => ⟨S12x4096x1, .f32⟩
  | .hbm, ⟨53, _⟩ => ⟨S12x4096x4096, .f32⟩
  | .hbm, ⟨54, _⟩ => ⟨S12x4096x4096, .f32⟩
  | .hbm, ⟨55, _⟩ => ⟨S12x4096x4096, .f32⟩
  | .hbm, ⟨56, _⟩ => ⟨S_, .f32⟩
  | .hbm, ⟨57, _⟩ => ⟨S12x4096, .f32⟩
  | .hbm, ⟨58, _⟩ => ⟨S12x4096, .f32⟩
  | .hbm, ⟨59, _⟩ => ⟨S12x4096, .f32⟩
  | .hbm, ⟨60, _⟩ => ⟨S4096x1, .i32⟩
  | .hbm, ⟨61, _⟩ => ⟨S1x4096, .i32⟩
  | .hbm, ⟨62, _⟩ => ⟨S4096x4096, .i32⟩
  | .hbm, ⟨63, _⟩ => ⟨S4096x4096, .i32⟩
  | .hbm, ⟨64, _⟩ => ⟨S4096x4096, .i1⟩
  | .hbm, ⟨65, _⟩ => ⟨S1x4096x4096, .i1⟩
  | .hbm, ⟨66, _⟩ => ⟨S_, .f32⟩
  | .hbm, ⟨67, _⟩ => ⟨S_, .f32⟩
  | .hbm, ⟨68, _⟩ => ⟨S12x4096x4096, .i1⟩
  | .hbm, ⟨69, _⟩ => ⟨S12x4096x4096, .f32⟩
  | .hbm, ⟨70, _⟩ => ⟨S12x4096x4096, .f32⟩
  | .hbm, ⟨71, _⟩ => ⟨S_, .f32⟩
  | .hbm, ⟨72, _⟩ => ⟨S12x4096, .f32⟩
  | .hbm, ⟨73, _⟩ => ⟨S12x4096, .f32⟩
  | .hbm, ⟨74, _⟩ => ⟨S12x4096x1, .f32⟩
  | .hbm, ⟨75, _⟩ => ⟨S12x4096x4096, .f32⟩
  | .hbm, ⟨76, _⟩ => ⟨S12x4096x4096, .f32⟩
  | .hbm, ⟨77, _⟩ => ⟨S12x4096x4096, .f32⟩
  | .hbm, ⟨78, _⟩ => ⟨S1x4096x4096, .i1⟩
  | .hbm, ⟨79, _⟩ => ⟨S_, .f32⟩
  | .hbm, ⟨80, _⟩ => ⟨S12x4096x4096, .f32⟩
  | .hbm, ⟨81, _⟩ => ⟨S12x4096x4096, .f32⟩
  | .hbm, ⟨82, _⟩ => ⟨S12x4096x4096, .i1⟩
  | .hbm, ⟨83, _⟩ => ⟨S12x4096x4096, .f32⟩
  | .hbm, ⟨84, _⟩ => ⟨S12x4096x4096, .bf16⟩
  | .hbm, ⟨85, _⟩ => ⟨S12x4096x256, .f32⟩
  | .hbm, ⟨86, _⟩ => ⟨S_, .f32⟩
  | .hbm, ⟨87, _⟩ => ⟨S12x4096x256, .f32⟩
  | .hbm, ⟨88, _⟩ => ⟨S12x4096x256, .f32⟩
  | .hbm, ⟨89, _⟩ => ⟨S12x4096x256, .f32⟩
  | .hbm, ⟨90, _⟩ => ⟨S_, .f32⟩
  | .hbm, ⟨91, _⟩ => ⟨S12x4096x256, .f32⟩
  | .hbm, ⟨92, _⟩ => ⟨S12x4096x256, .f32⟩
  | .hbm, ⟨93, _⟩ => ⟨S12x1x4096, .f32⟩
  | .hbm, ⟨94, _⟩ => ⟨S12x4096x256, .bf16⟩
  | .hbm, ⟨95, _⟩ => ⟨S12x4096x256, .bf16⟩
  | _, _ => ⟨S12x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_call0_c : Ref sig .tc := ⟨.hbm, 7, rfl⟩
abbrev main_call0_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_0 : Ref sig .tc := ⟨.hbm, 46, rfl⟩
abbrev main_call1_v0 : Ref sig .tc := ⟨.hbm, 47, rfl⟩
abbrev main_call1_v1 : Ref sig .tc := ⟨.hbm, 48, rfl⟩
abbrev main_v36 : Ref sig .tc := ⟨.hbm, 49, rfl⟩
abbrev main_cst_1 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_2 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_3 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v51 : Ref sig .tc := ⟨.hbm, 70, rfl⟩
abbrev main_cst_4 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_5 : Ref sig .tc := ⟨.hbm, 79, rfl⟩
abbrev main_v59 : Ref sig .tc := ⟨.hbm, 80, rfl⟩
abbrev main_v60 : Ref sig .tc := ⟨.hbm, 81, rfl⟩
abbrev main_call3_v0 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_6 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_7 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Proof.WordMath.lean ====
/-
  The scalar words of one segment: where its tiles start, how many there are, and the facts about
  them that the accesses of the kernel rest on. Everything here speaks of 32-bit words only.
-/
module

public import Idealize.ShloMosaic.Lib.Affine

@[expose] public section

namespace Cert.Seg

open Idealize.ShloMosaic Idealize.ShloMosaic.Affine

/-- The signed floor quotient of `x` by `d`, spelled out as the kernel computes it. -/
@[reducible] def fdivW (x d : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- The segment's start rounded down to a multiple of 32. -/
@[reducible] def baseW (a : BitVec 32) : BitVec 32 := Scalar.muli (fdivW a 32#32) 32#32

/-- How many 256-wide tiles cover the segment of length `v` starting at `a` (none when it is empty). -/
@[reducible] def ntW (a v : BitVec 32) : BitVec 32 :=
  Scalar.select (Scalar.cmpi .sgt (Scalar.addi a v) a)
    (fdivW (Scalar.addi (Scalar.subi (Scalar.addi a v) (baseW a)) 255#32) 256#32) 0#32

/-- Where the tiles start: the rounded start, moved left when the tiles would run past row 4096. -/
@[reducible] def loW (a v : BitVec 32) : BitVec 32 :=
  Scalar.minsi (baseW a) (Scalar.subi 4096#32 (Scalar.muli (ntW a v) 256#32))

/-- A loop's upper bound as the kernel splits it off: `0 + ((n - 0) / 1) * 1`. -/
@[reducible] def ubW (n : BitVec 32) : BitVec 32 :=
  Scalar.addi 0#32 (Scalar.muli (Scalar.divsi (Scalar.subi n 0#32) 1#32) 1#32)

/-- The same bound for the remainder: `0 + (n - 0)`. -/
@[reducible] def ub2W (n : BitVec 32) : BitVec 32 := Scalar.addi 0#32 (Scalar.subi n 0#32)

/-- Row `m·k` past the tiles' start. -/
@[reducible] def rowW (a v m : BitVec 32) (k : Nat) : BitVec 32 :=
  Scalar.addi (loW a v) (Scalar.muli (Scf.iv 0#32 1#32 k) m)

/-- A row word rounded down to a multiple of 128. -/
@[reducible] def w0W (x : BitVec 32) : BitVec 32 := Scalar.muli (fdivW x 128#32) 128#32

/-- The tile count as a number. -/
def ntN (a v : Nat) : Nat := if v = 0 then 0 else (a + v - a / 32 * 32 + 255) / 256
/-- The tiles' start as a number. -/
def loN (a v : Nat) : Nat := min (a / 32 * 32) (4096 - 256 * ntN a v)

/-- The tiles of a segment fit in a row. -/
theorem ntN_le {a v : Nat} (h : a + v ≤ 4096) : 256 * ntN a v ≤ 4096 := by
  unfold ntN; split <;> omega
/-- The last tile ends within the row. -/
theorem loN_add {a v : Nat} (h : a + v ≤ 4096) : loN a v + 256 * ntN a v ≤ 4096 := by
  have := ntN_le h; unfold loN; omega
/-- The first tile starts at a multiple of 32. -/
theorem loN_dvd {a v : Nat} (h : a + v ≤ 4096) : 32 ∣ loN a v := by
  have := ntN_le h; unfold loN; omega
/-- The first tile starts no later than the segment. -/
theorem loN_le {a v : Nat} : loN a v ≤ a := by unfold loN; omega
/-- The tiles reach to the end of the segment. -/
theorem cover {a v : Nat} (h : a + v ≤ 4096) (hv : v ≠ 0) : a + v ≤ loN a v + 256 * ntN a v := by
  unfold loN ntN; simp only [if_neg hv]; omega

/-- The floor quotient of a nonnegative word by a positive one. -/
theorem fdivW_isInt {x d : BitVec 32} {e f : Int} (hx : IsInt x e) (hd : IsInt d f) (h0 : 0 ≤ e) (hf : 0 < f)
    (hlt : e < 2 ^ 31) : IsInt (fdivW x d) (e / f) := by
  have z : IsInt 0#32 0 := ofNat 0 (by decide)
  have o : IsInt 1#32 1 := ofNat 1 (by decide)
  have hq := divsi hx hd ⟨rfl, h0, hf⟩
  have hr := remsi hx hd ⟨rfl, h0, hf⟩
  have hq0 : 0 ≤ e / f := Int.ediv_nonneg h0 (le_of_lt hf)
  have hq1 : e / f ≤ e := Int.ediv_le_self _ h0
  have hs := subi hq o ⟨rfl, by omega, by omega⟩
  refine select_fails ?_ hs hq rfl
  have sd : IsInt (Scalar.subi (Scalar.extui (Scalar.cmpi .sgt d 0#32)) (Scalar.extui (Scalar.cmpi .slt d 0#32))) 1 :=
    subi (extui_holds (sgt_holds hd z hf) rfl) (extui_fails (slt_fails hd z (by omega)) rfl) (by decide)
  rcases eq_or_lt_of_le h0 with h | h
  · exact andi_fails_right trivial (ne_fails hr z (by subst h; simp))
  · have sx : IsInt (Scalar.subi (Scalar.extui (Scalar.cmpi .sgt x 0#32)) (Scalar.extui (Scalar.cmpi .slt x 0#32))) 1 :=
      subi (extui_holds (sgt_holds hx z h) rfl) (extui_fails (slt_fails hx z (by omega)) rfl) (by decide)
    exact andi_fails_left (ne_fails sx sd rfl) trivial

section
variable {a v : BitVec 32} {A V : Nat} (ha : IsInt a A) (hv : IsInt v V) (h : A + V ≤ 4096)

include ha h in
/-- The start of a segment, rounded down to a multiple of 32, as a word. -/
theorem baseW_isInt : IsInt (baseW a) ((A / 32 * 32 : Nat) : Int) :=
  muli (fdivW_isInt ha (ofNat 32 (by decide) : IsInt 32#32 32) (by omega) (by omega) (by omega))
    (ofNat 32 (by decide) : IsInt 32#32 32) ⟨by push_cast; rfl, by omega, by omega⟩

include ha hv h in
/-- The number of tiles, as a word. -/
theorem ntW_isInt : IsInt (ntW a v) (ntN A V : Nat) := by
  have hs : IsInt (Scalar.addi a v) ((A + V : Nat) : Int) := addi ha hv ⟨by push_cast; rfl, by omega, by omega⟩
  have hb := baseW_isInt ha h
  have h1 : IsInt (Scalar.subi (Scalar.addi a v) (baseW a)) ((A + V - A / 32 * 32 : Nat) : Int) :=
    subi hs hb ⟨by omega, by omega, by omega⟩
  have h2 : IsInt (Scalar.addi (Scalar.subi (Scalar.addi a v) (baseW a)) 255#32) ((A + V - A / 32 * 32 + 255 : Nat) : Int) :=
    addi h1 (ofNat 255 (by decide) : IsInt 255#32 255) ⟨by push_cast; rfl, by omega, by omega⟩
  have h3 := fdivW_isInt h2 (ofNat 256 (by decide) : IsInt 256#32 256) (by omega) (by omega) (by omega)
  unfold ntN
  split
  · rename_i h0
    exact select_fails (sgt_fails hs ha (by omega)) h3 (ofNat 0 (by decide) : IsInt 0#32 0) rfl
  · rename_i h0
    exact select_holds (sgt_holds hs ha (by omega)) h3 (ofNat 0 (by decide) : IsInt 0#32 0) (by push_cast; rfl)

include ha hv h in
/-- The start of the first tile, as a word. -/
theorem loW_isInt : IsInt (loW a v) (loN A V : Nat) := by
  have hn := ntW_isInt ha hv h
  have hle := ntN_le h
  have hm : IsInt (Scalar.muli (ntW a v) 256#32) ((256 * ntN A V : Nat) : Int) :=
    muli hn (ofNat 256 (by decide) : IsInt 256#32 256) ⟨by push_cast; rw [Int.mul_comm], by omega, by omega⟩
  exact minsi (baseW_isInt ha h) (subi (ofNat 4096 (by decide) : IsInt 4096#32 4096) hm
    ⟨rfl, by omega, by omega⟩) (by unfold loN; omega)

/-- The bound of a loop is the word it is computed from. -/
theorem ubW_isInt {n : BitVec 32} {N : Nat} (hn : IsInt n N) (hN : N ≤ 4096) : IsInt (ubW n) N := by
  have z : IsInt 0#32 0 := ofNat 0 (by decide)
  have o : IsInt 1#32 1 := ofNat 1 (by decide)
  have h1 : IsInt (Scalar.subi n 0#32) N := subi hn z ⟨by omega, by omega, by omega⟩
  have h2 : IsInt (Scalar.divsi (Scalar.subi n 0#32) 1#32) N := divsi_one h1 o ⟨rfl, rfl⟩
  have h3 : IsInt (Scalar.muli (Scalar.divsi (Scalar.subi n 0#32) 1#32) 1#32) N :=
    muli h2 o ⟨by omega, by omega, by omega⟩
  exact addi z h3 ⟨by omega, by omega, by omega⟩

/-- The bound of the loop over what is left is the same word. -/
theorem ub2W_isInt {n : BitVec 32} {N : Nat} (hn : IsInt n N) (hN : N ≤ 4096) : IsInt (ub2W n) N := by
  have z : IsInt 0#32 0 := ofNat 0 (by decide)
  exact addi z (subi hn z ⟨(by omega : (N : Int) = N - 0), by omega, by omega⟩) ⟨by omega, by omega, by omega⟩

/-- A loop from 0 to a known count in steps of one makes that many trips. -/
theorem trips_of {l u : BitVec 32} {L N : Nat} (hl : IsInt l L) (hu : IsInt u N) :
    Scf.trips l u 1#32 = N - L := by
  unfold IsInt at hl hu
  have : (1#32 : BitVec 32).toInt = 1 := by decide
  unfold Scf.trips; rw [hl, hu, this]; omega

/-- Such a loop is well formed. -/
theorem ok_of {l u : BitVec 32} {L N : Nat} (hl : IsInt l L) (hu : IsInt u N) (hN : N ≤ 4096) (hL : L ≤ 4096) :
    Scf.OK l u 1#32 := by
  have ht := trips_of hl hu
  unfold IsInt at hl hu
  have : (1#32 : BitVec 32).toInt = 1 := by decide
  unfold Scf.OK; rw [ht, hl, this]; constructor <;> omega

/-- The counter of a loop, as a word. -/
theorem iv_isInt {k : Nat} (hk : k ≤ 4096) : IsInt (Scf.iv 0#32 1#32 k) k :=
  iv (ofNat 0 (by decide) : IsInt 0#32 0) (ofNat 1 (by decide) : IsInt 1#32 1) k ⟨by omega, by omega, by omega⟩

/-- The natural number of a word whose value is known. -/
theorem toNat_of {x : BitVec 32} {n : Nat} (h : IsInt x n) : x.toNat = n := by
  unfold IsInt at h
  have := BitVec.toInt_eq_toNat_cond x
  split at this <;> omega

/-- The counter of a loop, as a natural number. -/
theorem iv_toNat {k : Nat} (hk : k ≤ 4096) : (Scf.iv 0#32 1#32 k).toNat = k := toNat_of (iv_isInt hk)

include ha hv h in
/-- The first row of a step past the first tile's start, as a word. -/
theorem rowW_isInt {m : BitVec 32} {M k : Nat} (hm : IsInt m M) (hk : loN A V + M * k ≤ 4096) (hk' : k ≤ 4096) (hM : M ≤ 256):
    IsInt (rowW a v m k) ((loN A V + M * k : Nat) : Int) := by
  have hp : M * k ≤ 4096 := by omega
  have hz : IsInt (Scalar.muli (Scf.iv 0#32 1#32 k) m) ((M * k : Nat) : Int) :=
    muli (iv_isInt hk') hm ⟨by push_cast; rw [Int.mul_comm], by omega, by omega⟩
  exact addi (loW_isInt ha hv h) hz ⟨by push_cast; rfl, by omega, by omega⟩

/-- A row rounded down to a multiple of 128, as a word. -/
theorem w0W_isInt {x : BitVec 32} {X : Nat} (hx : IsInt x X) (h : X ≤ 4096) : IsInt (w0W x) ((X / 128 * 128 : Nat) : Int) :=
  muli (fdivW_isInt hx (ofNat 128 (by decide) : IsInt 128#32 128) (by omega) (by omega) (by omega))
    (ofNat 128 (by decide) : IsInt 128#32 128) ⟨by push_cast; rfl, by omega, by omega⟩

end

end Cert.Seg
-- ==== Proof.KernelWords.lean ====
/-
  The kernel's loop bounds and access offsets within one segment, in closed form, and the condition
  the kernel assumes of the two words of a segment (its start and its length).
-/
module

public import proofs.«01_k».proof.Proof.Gen.Kernel
public import proofs.«01_k».proof.Proof.WordMath

@[expose] public section

set_option maxRecDepth 16384

namespace Cert.Kernel

open Idealize.ShloMosaic Idealize.ShloMosaic.Affine Cert.Seg

/-! ## The loops' bounds -/

/-- The bounds of loop 3. -/
theorem t3_loop_eq (a v : BitVec 32) : k0_t3_loop a v = ⟨0#32, ubW (Scalar.muli (ntW a v) 8#32), 1#32⟩ := rfl
/-- The bounds of loop 4. -/
theorem t4_loop_eq (a v : BitVec 32) :
    k0_t4_loop a v = ⟨ubW (Scalar.muli (ntW a v) 8#32), ub2W (Scalar.muli (ntW a v) 8#32), 1#32⟩ := rfl
/-- The bounds of loop 5. -/
theorem t5_loop_eq (a v : BitVec 32) : k0_t5_loop a v = ⟨0#32, ubW (ntW a v), 1#32⟩ := rfl
/-- The bounds of loop 6. -/
theorem t6_loop_eq (a v : BitVec 32) : k0_t6_loop a v = ⟨0#32, ubW (ntW a v), 1#32⟩ := rfl
/-- The bounds of loop 7. -/
theorem t7_loop_eq (a v : BitVec 32) : k0_t7_loop a v = ⟨ubW (ntW a v), ub2W (ntW a v), 1#32⟩ := rfl
/-- The bounds of loop 8. -/
theorem t8_loop_eq (a v : BitVec 32) : k0_t8_loop a v = ⟨0#32, ubW (ntW a v), 1#32⟩ := rfl
/-- The bounds of loop 9. -/
theorem t9_loop_eq (a v : BitVec 32) : k0_t9_loop a v = ⟨ubW (ntW a v), ub2W (ntW a v), 1#32⟩ := rfl
/-- The bounds of loop 10. -/
theorem t10_loop_eq (a v : BitVec 32) : k0_t10_loop a v = ⟨0#32, ubW (ntW a v), 1#32⟩ := rfl
/-- The bounds of loop 11. -/
theorem t11_loop_eq (a v : BitVec 32) : k0_t11_loop a v = ⟨ubW (ntW a v), ub2W (ntW a v), 1#32⟩ := rfl
/-- The bounds of loop 12. -/
theorem t12_loop_eq (a v : BitVec 32) : k0_t12_loop a v = ⟨ubW (ntW a v), ub2W (ntW a v), 1#32⟩ := rfl

section
variable {a v : BitVec 32} {A V : Nat} (ha : IsInt a A) (hv : IsInt v V) (h : A + V ≤ 4096)

include ha hv h in
/-- Eight times the number of tiles, as a word. -/
theorem nt8_isInt : IsInt (Scalar.muli (ntW a v) 8#32) ((8 * ntN A V : Nat) : Int) := by
  have := ntN_le h
  exact muli (ntW_isInt ha hv h) (ofNat 8 (by decide) : IsInt 8#32 8) ⟨by push_cast; rw [Int.mul_comm], by omega, by omega⟩

include ha hv h in
/-- How many turns loop 3 takes. -/
theorem t3_trips : (k0_t3_loop a v).trips = 8 * ntN A V := by
  have := ntN_le h
  exact (trips_of (L := 0) (ofNat 0 (by decide)) (ubW_isInt (nt8_isInt ha hv h) (by omega))).trans (by omega)
include ha hv h in
/-- How many turns loop 4 takes. -/
theorem t4_trips : (k0_t4_loop a v).trips = 0 := by
  have := ntN_le h
  exact (trips_of (ubW_isInt (nt8_isInt ha hv h) (by omega)) (ub2W_isInt (nt8_isInt ha hv h) (by omega))).trans (by omega)
include ha hv h in
/-- A loop over the tiles takes one turn for each. -/
theorem main_trips : Scf.trips 0#32 (ubW (ntW a v)) 1#32 = ntN A V := by
  have := ntN_le h
  exact (trips_of (L := 0) (ofNat 0 (by decide)) (ubW_isInt (ntW_isInt ha hv h) (by omega))).trans (by omega)
include ha hv h in
/-- The loop over what is left of the tiles takes no turn. -/
theorem rem_trips : Scf.trips (ubW (ntW a v)) (ub2W (ntW a v)) 1#32 = 0 := by
  have := ntN_le h
  exact (trips_of (ubW_isInt (ntW_isInt ha hv h) (by omega)) (ub2W_isInt (ntW_isInt ha hv h) (by omega))).trans (by omega)
include ha hv h in
/-- How many turns loop 5 takes. -/
theorem t5_trips : (k0_t5_loop a v).trips = ntN A V := main_trips ha hv h
include ha hv h in
/-- How many turns loop 6 takes. -/
theorem t6_trips : (k0_t6_loop a v).trips = ntN A V := main_trips ha hv h
include ha hv h in
/-- How many turns loop 7 takes. -/
theorem t7_trips : (k0_t7_loop a v).trips = 0 := rem_trips ha hv h
include ha hv h in
/-- How many turns loop 8 takes. -/
theorem t8_trips : (k0_t8_loop a v).trips = ntN A V := main_trips ha hv h
include ha hv h in
/-- How many turns loop 9 takes. -/
theorem t9_trips : (k0_t9_loop a v).trips = 0 := rem_trips ha hv h
include ha hv h in
/-- How many turns loop 10 takes. -/
theorem t10_trips : (k0_t10_loop a v).trips = ntN A V := main_trips ha hv h
include ha hv h in
/-- How many turns loop 11 takes. -/
theorem t11_trips : (k0_t11_loop a v).trips = 0 := rem_trips ha hv h
include ha hv h in
/-- How many turns loop 12 takes. -/
theorem t12_trips : (k0_t12_loop a v).trips = 0 := rem_trips ha hv h

include ha hv h in
/-- The bounds of loop 3 do not overflow. -/
theorem t3_ok : (k0_t3_loop a v).OK := by
  have := ntN_le h
  exact ok_of (L := 0) (ofNat 0 (by decide)) (ubW_isInt (nt8_isInt ha hv h) (by omega)) (by omega) (by omega)
include ha hv h in
/-- The bounds of loop 4 do not overflow. -/
theorem t4_ok : (k0_t4_loop a v).OK := by
  have := ntN_le h
  exact ok_of (ubW_isInt (nt8_isInt ha hv h) (by omega)) (ub2W_isInt (nt8_isInt ha hv h) (by omega)) (by omega) (by omega)
include ha hv h in
/-- The bounds of a loop over the tiles do not overflow. -/
theorem main_ok : Scf.OK 0#32 (ubW (ntW a v)) 1#32 := by
  have := ntN_le h
  exact ok_of (L := 0) (ofNat 0 (by decide)) (ubW_isInt (ntW_isInt ha hv h) (by omega)) (by omega) (by omega)
include ha hv h in
/-- The bounds of the loop over what is left do not overflow. -/
theorem rem_ok : Scf.OK (ubW (ntW a v)) (ub2W (ntW a v)) 1#32 := by
  have := ntN_le h
  exact ok_of (ubW_isInt (ntW_isInt ha hv h) (by omega)) (ub2W_isInt (ntW_isInt ha hv h) (by omega)) (by omega) (by omega)

/-! ## The offsets -/

include ha hv h in
/-- The first row of tile `k`. -/
theorem row256 {k : Nat} (hk : k < ntN A V) : (rowW a v 256#32 k).toNat = loN A V + 256 * k := by
  have := loN_add h; have := ntN_le h
  exact toNat_of (rowW_isInt ha hv h (ofNat 256 (by decide) : IsInt 256#32 256) (by omega) (by omega) (by omega))
include ha hv h in
/-- The first row of chunk `k` of 32 rows. -/
theorem row32 {k : Nat} (hk : k < 8 * ntN A V) : (rowW a v 32#32 k).toNat = loN A V + 32 * k := by
  have := loN_add h; have := ntN_le h
  exact toNat_of (rowW_isInt ha hv h (ofNat 32 (by decide) : IsInt 32#32 32) (by omega) (by omega) (by omega))
include ha hv h in
/-- The first row of tile `k`, rounded down to a multiple of 128. -/
theorem w0_row {k : Nat} (hk : k < ntN A V) :
    (w0W (rowW a v 256#32 k)).toNat = (loN A V + 256 * k) / 128 * 128 := by
  have := loN_add h; have := ntN_le h
  exact toNat_of (w0W_isInt (rowW_isInt ha hv h (ofNat 256 (by decide) : IsInt 256#32 256) (by omega) (by omega) (by omega)) (by omega))
include h in
/-- The loop's counter on turn `k` is `k`. -/
theorem iv_nt {k : Nat} (hk : k < ntN A V) : (Scf.iv 0#32 1#32 k).toNat = k := by
  have := ntN_le h
  exact iv_toNat (by omega)

include ha hv h in
/-- The offsets of access 7. -/
theorem off7_eq (k : Fin (k0_t3_loop a v).trips) : k0_off7 a v k = ![loN A V + 32 * k, 0] := by
  have hk := lt_of_lt_of_eq k.2 (t3_trips ha hv h)
  rw [← row32 ha hv h hk]; rfl
include ha hv h in
/-- The offsets of access 9. -/
theorem off9_eq (k : Fin (k0_t5_loop a v).trips) : k0_off9 a v k = ![0, (loN A V + 256 * k) / 128 * 128] := by
  have hk := lt_of_lt_of_eq k.2 (t5_trips ha hv h)
  rw [← w0_row ha hv h hk]; rfl
include ha hv h in
/-- The offsets of access 10. -/
theorem off10_eq (k : Fin (k0_t6_loop a v).trips) : k0_off10 a v k = ![0, loN A V + 256 * k, 0] := by
  have hk := lt_of_lt_of_eq k.2 (t6_trips ha hv h)
  rw [← row256 ha hv h hk]; rfl
include ha hv h in
/-- The offsets of access 11. -/
theorem off11_eq (k : Fin (k0_t5_loop a v).trips) : k0_off11 a v k = ![0, loN A V + 256 * k, 0] := by
  have hk := lt_of_lt_of_eq k.2 (t5_trips ha hv h)
  rw [← row256 ha hv h hk]; rfl
include ha hv h in
/-- The offsets of access 12. -/
theorem off12_eq (k : Fin (k0_t6_loop a v).trips) : k0_off12 a v k = ![loN A V + 256 * k, 0] := by
  have hk := lt_of_lt_of_eq k.2 (t6_trips ha hv h)
  rw [← row256 ha hv h hk]; rfl
include ha hv h in
/-- The offsets of access 13. -/
theorem off13_eq (k : Fin (k0_t6_loop a v).trips) : k0_off13 a v k = ![k.val, 0, 0, 0] := by
  have hk := lt_of_lt_of_eq k.2 (t6_trips ha hv h)
  conv => rhs; rw [← iv_nt h hk]
  rfl
include ha hv h in
/-- The offsets of access 18. -/
theorem off18_eq (k : Fin (k0_t5_loop a v).trips) : k0_off18 a v k = ![k.val, 0, 0, 0] := by
  have hk := lt_of_lt_of_eq k.2 (t5_trips ha hv h)
  conv => rhs; rw [← iv_nt h hk]
  rfl
include ha hv h in
/-- The offsets of access 19. -/
theorem off19_eq (k : Fin (k0_t8_loop a v).trips) : k0_off19 a v k = ![k.val, 0, 0, 0] := by
  have hk := lt_of_lt_of_eq k.2 (t8_trips ha hv h)
  conv => rhs; rw [← iv_nt h hk]
  rfl
include ha hv h in
/-- The offsets of access 21. -/
theorem off21_eq (k : Fin (k0_t10_loop a v).trips) : k0_off21 a v k = ![k.val, 0, 0, 0] := by
  have hk := lt_of_lt_of_eq k.2 (t10_trips ha hv h)
  conv => rhs; rw [← iv_nt h hk]
  rfl
include ha hv h in
/-- The offsets of access 22. -/
theorem off22_eq (k : Fin (k0_t10_loop a v).trips) : k0_off22 a v k = ![loN A V + 256 * k, 0] := by
  have hk := lt_of_lt_of_eq k.2 (t10_trips ha hv h)
  rw [← row256 ha hv h hk]; rfl
include ha hv h in
/-- The offsets of access 23. -/
theorem off23_eq (k : Fin (k0_t5_loop a v).trips) : k0_off23 a v k = ![loN A V + 256 * k, 0] := by
  have hk := lt_of_lt_of_eq k.2 (t5_trips ha hv h)
  rw [← row256 ha hv h hk]; rfl

/-! ## The condition the kernel assumes -/

include ha hv h in
/-- The first row of a tile is a multiple of 32. -/
theorem row256_dvd {k : Nat} (hk : k < ntN A V) : 32 ∣ (rowW a v 256#32 k).toNat := by
  rw [row256 ha hv h hk]; have := loN_dvd h; omega
include ha hv h in
/-- The alignment that offset 2 is said to have. -/
theorem mult2_dvd (k : Fin (k0_t3_loop a v).trips) : 32 ∣ (k0_mult2 a v k).toNat := by
  have hk := lt_of_lt_of_eq k.2 (t3_trips ha hv h)
  show 32 ∣ (rowW a v 32#32 k).toNat
  rw [row32 ha hv h hk]; have := loN_dvd h; omega
include ha hv h in
/-- The alignment that offset 4 is said to have. -/
theorem mult4_dvd (k : Fin (k0_t5_loop a v).trips) : 32 ∣ (k0_mult4 a v k).toNat :=
  row256_dvd ha hv h (lt_of_lt_of_eq k.2 (t5_trips ha hv h))
include ha hv h in
/-- The alignment that offset 5 is said to have. -/
theorem mult5_dvd (k : Fin (k0_t5_loop a v).trips) : 128 ∣ (k0_mult5 a v k).toNat := by
  show 128 ∣ (w0W (rowW a v 256#32 k)).toNat
  rw [w0_row ha hv h (lt_of_lt_of_eq k.2 (t5_trips ha hv h))]; omega
include ha hv h in
/-- The alignment that offset 6 is said to have. -/
theorem mult6_dvd (k : Fin (k0_t6_loop a v).trips) : 32 ∣ (k0_mult6 a v k).toNat :=
  row256_dvd ha hv h (lt_of_lt_of_eq k.2 (t6_trips ha hv h))
include ha hv h in
/-- The alignment that offset 8 is said to have. -/
theorem mult8_dvd (k : Fin (k0_t10_loop a v).trips) : 32 ∣ (k0_mult8 a v k).toNat :=
  row256_dvd ha hv h (lt_of_lt_of_eq k.2 (t10_trips ha hv h))

include ha hv h in
/-- The kernel's assumption of a segment's two words: it holds whenever the segment lies within the 4096 rows. -/
theorem chk1_of : k0_chk1 a v := by
  have e3 := t3_trips ha hv h
  have e5 := t5_trips ha hv h
  have e6 := t6_trips ha hv h
  have e8 := t8_trips ha hv h
  have e10 := t10_trips ha hv h
  have r4 : IsEmpty (Fin (k0_t4_loop a v).trips) := by rw [t4_trips ha hv h]; infer_instance
  have r7 : IsEmpty (Fin (k0_t7_loop a v).trips) := by rw [t7_trips ha hv h]; infer_instance
  have r9 : IsEmpty (Fin (k0_t9_loop a v).trips) := by rw [t9_trips ha hv h]; infer_instance
  have r11 : IsEmpty (Fin (k0_t11_loop a v).trips) := by rw [t11_trips ha hv h]; infer_instance
  have r12 : IsEmpty (Fin (k0_t12_loop a v).trips) := by rw [t12_trips ha hv h]; infer_instance
  have hl := loN_add h
  have hn := ntN_le h
  refine ⟨⟨t3_ok ha hv h, mult2_dvd ha hv h, fun k => ?_, t4_ok ha hv h, fun k => r4.elim k, fun k => r4.elim k,
    main_ok ha hv h, mult4_dvd ha hv h, mult5_dvd ha hv h, fun k => ?_, fun _ => main_ok ha hv h, fun _ => mult6_dvd ha hv h,
    fun _ k => ?_, fun k _ => ?_, fun _ k => ?_, fun _ k => ?_, fun _ => rem_ok ha hv h, fun _ k => r7.elim k,
    fun _ k => r7.elim k, fun _ k => r7.elim k, fun _ k => r7.elim k, fun _ k => r7.elim k, fun k => ?_,
    fun _ => main_ok ha hv h, fun _ k => ?_, fun _ => rem_ok ha hv h, fun _ k => r9.elim k,
    fun _ => main_ok ha hv h, fun _ => mult8_dvd ha hv h, fun _ k => ?_, fun _ k => ?_, fun k _ => ?_⟩,
    ⟨fun _ => rem_ok ha hv h, fun _ k => r11.elim k, fun _ k => r11.elim k, fun _ k => r11.elim k, fun _ k => r11.elim k,
    rem_ok ha hv h, fun k => r12.elim k, fun k => r12.elim k, fun k => r12.elim k, fun k => r12.elim k, fun k => r12.elim k,
    fun k => r12.elim k, fun k => r12.elim k, fun k => r12.elim k, fun k => r12.elim k, fun k => r12.elim k,
    fun k => r12.elim k, fun k => r12.elim k, fun k => r12.elim k, fun k => r12.elim k, fun k => r12.elim k,
    fun k => r12.elim k, fun k => r12.elim k, fun k => r12.elim k, fun k => r12.elim k, fun k => r12.elim k,
    fun k => r12.elim k, fun k => r12.elim k, fun k => r12.elim k, fun k => r12.elim k, fun k => r12.elim k,
    fun k => r12.elim k⟩,
    ⟨fun k => r12.elim k, fun k => r12.elim k, fun k => r12.elim k, fun k => r12.elim k⟩⟩
  all_goals have hk := k.2
  · rw [off7_eq ha hv h]; replace hk := lt_of_lt_of_eq hk e3
    intro d; fin_cases d <;> simp [Shape.size] <;> omega
  · rw [off9_eq ha hv h]; replace hk := lt_of_lt_of_eq hk e5
    intro d; fin_cases d <;> simp [Shape.size] <;> omega
  · rw [off10_eq ha hv h]; replace hk := lt_of_lt_of_eq hk e6
    intro d; fin_cases d <;> simp [Shape.size] <;> omega
  · rw [off11_eq ha hv h]; replace hk := lt_of_lt_of_eq hk e5
    intro d; fin_cases d <;> simp [Shape.size] <;> omega
  · rw [off12_eq ha hv h]; replace hk := lt_of_lt_of_eq hk e6
    intro d; fin_cases d <;> simp [Shape.size] <;> omega
  · rw [off13_eq ha hv h]; replace hk := lt_of_lt_of_eq hk e6
    intro d; fin_cases d <;> simp [Shape.size] <;> omega
  · rw [off18_eq ha hv h]; replace hk := lt_of_lt_of_eq hk e5
    intro d; fin_cases d <;> simp [Shape.size] <;> omega
  · rw [off19_eq ha hv h]; replace hk := lt_of_lt_of_eq hk e8
    intro d; fin_cases d <;> simp [Shape.size] <;> omega
  · rw [off21_eq ha hv h]; replace hk := lt_of_lt_of_eq hk e10
    intro d; fin_cases d <;> simp [Shape.size] <;> omega
  · rw [off22_eq ha hv h]; replace hk := lt_of_lt_of_eq hk e10
    intro d; fin_cases d <;> simp [Shape.size] <;> omega
  · rw [off23_eq ha hv h]; replace hk := lt_of_lt_of_eq hk e5
    intro d; fin_cases d <;> simp [Shape.size] <;> omega

end

end Cert.Kernel
-- ==== Proof.WeakLoops.lean ====
/-
  What each counted loop of the kernel touches, and that one trip of it runs: every buffer a loop
  reads or writes is held before each trip and again after it, whatever it then holds.
-/
module

public import proofs.«01_k».proof.Proof.Gen.Kernel.Skeleton
public import proofs.«01_k».proof.Proof.KernelWords
public import Idealize.ShloMosaic.Lib.Exec
public import Idealize.ShloMosaic.Lib.Tactic
public import Idealize.ShloMosaic.Lib.Pipeline.Kit
public import Idealize.ShloMosaic.Lib.LoopEntry

@[expose] public section

set_option maxRecDepth 16384

noncomputable section

namespace Cert.Kernel.Weak

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

/-- The resource algebra of the run. -/
local notation "𝕄G" => MT nD τ sig Unit (Elt F) ℕ (UR sig nD τ) ℕ

section
variable (𝒱 : Variants) (c : Dev nD) (bd : Option 𝒱.V) (E : Set ℕ)
  (i : grid0.Coords)
  (arg1 : Memref sig .tc .smem S12x7 .i32) (harg1 : arg1.IsWhole)
  (arg2 : Memref sig .tc .vmem S1x4096x256 .fp8e4m3) (harg2 : arg2.IsWhole)
  (arg3 : Memref sig .tc .vmem S1x1x4096 .f32) (harg3 : arg3.IsWhole)
  (arg4 : Memref sig .tc .vmem S1x4096x256 .fp8e4m3) (harg4 : arg4.IsWhole)
  (arg5 : Memref sig .tc .vmem S1x1x4096 .f32) (harg5 : arg5.IsWhole)
  (arg6 : Memref sig .tc .vmem S1x1x4096 .f32) (harg6 : arg6.IsWhole)
  (arg7 : Memref sig .tc .vmem S1x1x4096 .f32) (harg7 : arg7.IsWhole)
  (arg8 : Memref sig .tc .vmem S1x4096x256 .bf16) (harg8 : arg8.IsWhole)
  (arg9 : Memref sig .tc .vmem S1x4096x256 .bf16) (harg9 : arg9.IsWhole)
  (arg10 : Memref sig .tc .vmem S4096x256 .bf16) (harg10 : arg10.IsWhole)
  (arg11 : Memref sig .tc .vmem S4096x256 .bf16) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S4096x128 .f32) (harg14 : arg14.IsWhole)
  (arg15 : Memref sig .tc .vmem S8x4224 .f32) (harg15 : arg15.IsWhole)
  (arg16 : Memref sig .tc .vmem S8x4224 .f32) (harg16 : arg16.IsWhole)
  (arg17 : Memref sig .tc .vmem S16x32x8x256 .f32) (harg17 : arg17.IsWhole)
  (arg18 : Memref sig .tc .vmem S4096x256 .f32) (harg18 : arg18.IsWhole)
  (arg19 : Memref sig .tc .vmem S4096x256 .f32) (harg19 : arg19.IsWhole)

/-- The preparation of one 128-row block of the operands. -/
@[sl_loop] def t1  (init : Unit) :
    Idealize.ShloMosaic.LoopInv (M := 𝕄G) Idealize.ShloMosaic.frame (wpE (defs₀ (F := F)) 𝒱 (c : Thread nD τ) bd) E
      k0_t1_loop.lb k0_t1_loop.ub k0_t1_loop.st k0_t1_ok init
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) where
  inv k acc := iprop((∃ f : BufTy.Contents (Elt F) arg2.view.ty, (arg2.view.loc (c : Thread nD τ) ↦[arg2.view.set]{fullShare} f)) ∗ (∃ f : BufTy.Contents (Elt F) arg3.view.ty, (arg3.view.loc (c : Thread nD τ) ↦[arg3.view.set]{fullShare} f)) ∗ (∃ f : BufTy.Contents (Elt F) arg4.view.ty, (arg4.view.loc (c : Thread nD τ) ↦[arg4.view.set]{fullShare} f)) ∗ (∃ f : BufTy.Contents (Elt F) arg5.view.ty, (arg5.view.loc (c : Thread nD τ) ↦[arg5.view.set]{fullShare} f)) ∗ (∃ f : BufTy.Contents (Elt F) arg6.view.ty, (arg6.view.loc (c : Thread nD τ) ↦[arg6.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)))
  step k acc := by
    iintro ⟨⟨%f2, H2⟩, ⟨%f3, H3⟩, ⟨%f4, H4⟩, ⟨%f5, H5⟩, ⟨%f6, H6⟩, ⟨%f10, H10⟩, ⟨%f11, H11⟩, ⟨%f12, H12⟩, ⟨%f13, H13⟩, ⟨%f14, H14⟩, ⟨%f15, H15⟩, ⟨%f18, H18⟩, ⟨%f19, H19⟩⟩
    unfold k0_t1_body
    sl_exec
    sl_step
    sl_close

/-- The masking of one 32-row block of the segment's tiles. -/
@[sl_loop] def t3 (arg21 : BitVec 32) (v23 : Elt F .i32) (k0_hw1 : k0_chk1 arg21 v23) (v24 v42 v61 : BitVec 32) (v62 : BitVec 1) (init : BitVec 32) :
    Idealize.ShloMosaic.LoopInv (M := 𝕄G) Idealize.ShloMosaic.frame (wpE (defs₀ (F := F)) 𝒱 (c : Thread nD τ) bd) E
      (k0_t3_loop arg21 v23).lb (k0_t3_loop arg21 v23).ub (k0_t3_loop arg21 v23).st (k0_t3_ok arg21 v23 k0_hw1) init
      (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 v23 k0_hw1 v24 v42 v61 v62) where
  inv k acc := iprop((∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)))
  step k acc := by
    iintro ⟨⟨%f13, H13⟩, ⟨%f14, H14⟩⟩
    unfold k0_t3_body
    sl_exec
    sl_step
    sl_close

/-- One tile of scores for a row block. -/
@[sl_loop] def t6 (v13 : IVec S256x256 1) (arg21 : BitVec 32) (v23 : Elt F .i32) (k0_hw1 : k0_chk1 arg21 v23) (v63 v66 c0_i32_38 c1_i32_41 : BitVec 32) (k0_t5 : Fin (k0_t5_loop arg21 v23).trips) (v106 : Vec F S8x384 .f32) (init : FVec F S8x256 .f32) :
    Idealize.ShloMosaic.LoopInv (M := 𝕄G) Idealize.ShloMosaic.frame (wpE (defs₀ (F := F)) 𝒱 (c : Thread nD τ) bd) E
      (k0_t6_loop arg21 v23).lb (k0_t6_loop arg21 v23).ub (k0_t6_loop arg21 v23).st (k0_t6_ok arg21 v23 k0_hw1 k0_t5) init
      (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v13 arg21 v23 k0_hw1 v63 v66 c0_i32_38 c1_i32_41 k0_t5 v106) where
  inv k acc := iprop((∃ f : BufTy.Contents (Elt F) arg2.view.ty, (arg2.view.loc (c : Thread nD τ) ↦[arg2.view.set]{fullShare} f)) ∗ (∃ f : BufTy.Contents (Elt F) arg4.view.ty, (arg4.view.loc (c : Thread nD τ) ↦[arg4.view.set]{fullShare} f)) ∗ (∃ f : BufTy.Contents (Elt F) arg12.view.ty, (arg12.view.loc (c : Thread nD τ) ↦[arg12.view.set]{fullShare} f)) ∗ (∃ f : BufTy.Contents (Elt F) arg14.view.ty, (arg14.view.loc (c : Thread nD τ) ↦[arg14.view.set]{fullShare} f)) ∗ (∃ f : BufTy.Contents (Elt F) arg17.view.ty, (arg17.view.loc (c : Thread nD τ) ↦[arg17.view.set]{fullShare} f)))
  step k acc := by
    iintro ⟨⟨%f2, H2⟩, ⟨%f4, H4⟩, ⟨%f12, H12⟩, ⟨%f14, H14⟩, ⟨%f17, H17⟩⟩
    unfold k0_t6_body
    sl_exec
    sl_step
    sl_close

/-- One tile of exponentials for a row block. -/
@[sl_loop] def t8 (arg21 : BitVec 32) (v23 : Elt F .i32) (k0_hw1 : k0_chk1 arg21 v23) (v63 : BitVec 32) (k0_t5 : Fin (k0_t5_loop arg21 v23).trips) (arg22 : BitVec 32) (v121 : FVec F S8x256 .f32) (v122 : IVec S32x8x256 1) (init : FVec F S8x256 .f32) :
    Idealize.ShloMosaic.LoopInv (M := 𝕄G) Idealize.ShloMosaic.frame (wpE (defs₀ (F := F)) 𝒱 (c : Thread nD τ) bd) E
      (k0_t8_loop arg21 v23).lb (k0_t8_loop arg21 v23).ub (k0_t8_loop arg21 v23).st (k0_t8_ok arg21 v23 k0_hw1 k0_t5) init
      (k0_t8_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 v23 k0_hw1 v63 k0_t5 arg22 v121 v122) where
  inv k acc := iprop((∃ f : BufTy.Contents (Elt F) arg17.view.ty, (arg17.view.loc (c : Thread nD τ) ↦[arg17.view.set]{fullShare} f)))
  step k acc := by
    iintro ⟨%f17, H17⟩
    unfold k0_t8_body
    sl_exec
    sl_step
    sl_close

/-- One tile of the gradients for a row block. -/
@[sl_loop] def t10 (arg21 : BitVec 32) (v23 : Elt F .i32) (k0_hw1 : k0_chk1 arg21 v23) (v24 : BitVec 32) (k0_t5 : Fin (k0_t5_loop arg21 v23).trips) (v84 : BitVec 32) (v151 : FVec F S8x256 .f32) (init : BitVec 32) :
    Idealize.ShloMosaic.LoopInv (M := 𝕄G) Idealize.ShloMosaic.frame (wpE (defs₀ (F := F)) 𝒱 (c : Thread nD τ) bd) E
      (k0_t10_loop arg21 v23).lb (k0_t10_loop arg21 v23).ub (k0_t10_loop arg21 v23).st (k0_t10_ok arg21 v23 k0_hw1 k0_t5) init
      (k0_t10_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 v23 k0_hw1 v24 k0_t5 v84 v151) where
  inv k acc := iprop((∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)))
  step k acc := by
    iintro ⟨⟨%f10, H10⟩, ⟨%f11, H11⟩, ⟨%f17, H17⟩, ⟨%f18, H18⟩, ⟨%f19, H19⟩⟩
    unfold k0_t10_body
    sl_exec
    sl_step
    sl_close

/-- One row block of a segment. -/
@[sl_loop] def t5 (arg21 : BitVec 32) (v23 : Elt F .i32) (k0_hw1 : k0_chk1 arg21 v23) (h7 : (k0_t7_loop arg21 v23).trips = 0) (h9 : (k0_t9_loop arg21 v23).trips = 0) (h11 : (k0_t11_loop arg21 v23).trips = 0) (v24 v63 v66 : BitVec 32) (init : BitVec 32) :
    Idealize.ShloMosaic.LoopInv (M := 𝕄G) Idealize.ShloMosaic.frame (wpE (defs₀ (F := F)) 𝒱 (c : Thread nD τ) bd) E
      (k0_t5_loop arg21 v23).lb (k0_t5_loop arg21 v23).ub (k0_t5_loop arg21 v23).st (k0_t5_ok arg21 v23 k0_hw1) init
      (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 v23 k0_hw1 v24 v63 v66) where
  inv k acc := iprop((∃ f : BufTy.Contents (Elt F) arg2.view.ty, (arg2.view.loc (c : Thread nD τ) ↦[arg2.view.set]{fullShare} f)) ∗ (∃ f : BufTy.Contents (Elt F) arg4.view.ty, (arg4.view.loc (c : Thread nD τ) ↦[arg4.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)))
  step k acc := by
    iintro ⟨⟨%f2, H2⟩, ⟨%f4, H4⟩, ⟨%f10, H10⟩, ⟨%f11, H11⟩, ⟨%f12, H12⟩, ⟨%f14, H14⟩, ⟨%f15, H15⟩, ⟨%f16, H16⟩, ⟨%f17, H17⟩, ⟨%f18, H18⟩, ⟨%f19, H19⟩⟩
    unfold k0_t5_body
    sl_exec
    sl_step
    sl_close

/-- The scaling of one 128-row block of the gradients. -/
@[sl_loop] def t19  (init : Unit) :
    Idealize.ShloMosaic.LoopInv (M := 𝕄G) Idealize.ShloMosaic.frame (wpE (defs₀ (F := F)) 𝒱 (c : Thread nD τ) bd) E
      k0_t19_loop.lb k0_t19_loop.ub k0_t19_loop.st k0_t19_ok init
      (k0_t19_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) where
  inv k acc := iprop((∃ f : BufTy.Contents (Elt F) arg8.view.ty, (arg8.view.loc (c : Thread nD τ) ↦[arg8.view.set]{fullShare} f)) ∗ (∃ f : BufTy.Contents (Elt F) arg9.view.ty, (arg9.view.loc (c : Thread nD τ) ↦[arg9.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)))
  step k acc := by
    iintro ⟨⟨%f8, H8⟩, ⟨%f9, H9⟩, ⟨%f18, H18⟩, ⟨%f19, H19⟩⟩
    unfold k0_t19_body
    sl_exec
    sl_step
    sl_close

end

end Cert.Kernel.Weak
-- ==== Proof.Table.lean ====
/-
  The table of segment lengths, read as numbers. Both preconditions say of it: every length lies between 0 and 4096, and
  the lengths of a row add up to 4096.
-/
module

public import proofs.«01_k».proof.Proof.Gen.Pre_fills
public import proofs.«01_k».proof.Proof.Gen.Pre_valid
public import Idealize.ShloMosaic.Lib.Affine
public import Idealize.ShloMosaic.Lib.ReduceAll

@[expose] public section

noncomputable section

namespace Cert.Seg

open Idealize.ShloMosaic Idealize.ShloMosaic.Affine

/-- Where segment `k` starts: the lengths before it, added up. -/
def startN (len : ℕ → ℕ) (k : ℕ) : ℕ := ∑ j ∈ Finset.range k, len j

abbrev STab : Shape := ⟨2, ![12, 7]⟩
abbrev SRows : Shape := ⟨1, ![12]⟩

/-- The position of row `b`, column `k` of the table. -/
def tabIdx (b : Fin 12) (k : Fin 7) : STab.Idx := Fin.cons b (Fin.cons k (fun x => x.elim0))

/-- Row `b` as a position of the array of row sums. -/
def rowIdx (b : Fin 12) : SRows.Idx := Fin.cons b (fun x => x.elim0)

/-- The length of segment `k` of row `b`, as a number. -/
def lenN (T : IVec STab 32) (b : Fin 12) (k : ℕ) : ℕ := if h : k < 7 then (T (tabIdx b ⟨k, h⟩)).toNat else 0

/-- What the preconditions say of the table. -/
structure Fills (T : IVec STab 32) : Prop where
  isInt : ∀ b k, IsInt (T (tabIdx b k)) (lenN T b k : ℕ)
  total : ∀ b, startN (lenN T b) 7 = 4096

/-- A sum of words, as a number, up to a multiple of 2^32. -/
theorem fold_addi_toNat {ι : Type} [DecidableEq ι] (f : ι → BitVec 32) (S : Finset ι) :
    (S.fold IntOp.addi 0#32 f).toNat = (∑ i ∈ S, (f i).toNat) % 2 ^ 32 := by
  induction S using Finset.induction_on with
  | empty => simp
  | insert a S ha ih =>
    rw [Finset.fold_insert ha, Finset.sum_insert ha, IntOp.addi, BitVec.toNat_add, ih, Nat.add_mod_mod]

/-- A table whose entries pass the comparisons, and whose rows add up to 4096, fills its rows. -/
theorem fills_of (T : IVec STab 32) (h0 : ∀ i, IntOp.cmpi .sge (T i) 0#32 = 1#1) (h1 : ∀ i, IntOp.cmpi .sle (T i) 4096#32 = 1#1)
    (hr : STab.ReducesTo [1] SRows) (hu : 0 < (⟨0, ![]⟩ : Shape).numel)
    (h2 : ∀ b : SRows.Idx, Host.reduce IntOp.addi T (fun _ : (⟨0, ![]⟩ : Shape).Idx => 0#32) hr hu b = 4096#32) : Fills T := by
  have hb : ∀ i, (T i).toNat ≤ 4096 ∧ (T i).toInt = (T i).toNat := by
    intro i
    have a := IntOp.cmpi_sge.mp (h0 i); have b := IntOp.cmpi_sle.mp (h1 i)
    have e0 : (0#32 : BitVec 32).toInt = 0 := by decide
    have e1 : (4096#32 : BitVec 32).toInt = 4096 := by decide
    rw [e0] at a; rw [e1] at b
    have := BitVec.toInt_eq_toNat_cond (T i)
    have hlt := (T i).isLt
    split at this <;> omega
  constructor
  · intro b k
    unfold IsInt
    rw [(hb _).2]; simp [lenN]
  · intro b
    have hR : STab.Reduces [1] SRows := by decide
    have e := h2 (rowIdx b)
    rw [Host.reduce_eq_fold_single _ _ _ hr hR] at e
    have e' := congrArg BitVec.toNat e
    rw [fold_addi_toNat] at e'
    have es : (∑ i : Fin 7, ((T ∘ hR.lift (rowIdx b)) i).toNat) = startN (lenN T b) 7 := by
      rw [startN, Finset.sum_range]
      refine Finset.sum_congr rfl fun k _ => ?_
      simp only [lenN, Function.comp, k.2, dif_pos]
      congr 2
      funext a
      refine Fin.ext ?_
      fin_cases a <;> simp [Shape.Reduces.lift_val, Shape.Reduces.liftVal, tabIdx, rowIdx] <;> rfl
    have hle : startN (lenN T b) 7 ≤ 7 * 4096 := by
      rw [← es]
      refine (Finset.sum_le_card_nsmul _ _ 4096 fun i _ => (hb _).1).trans ?_
      simp
    have : (4096#32 : BitVec 32).toNat = 4096 := by decide
    rw [this] at e'
    have e2 : startN (lenN T b) 7 % 2 ^ 32 = 4096 := by rw [← es]; exact e'
    omega

/-- The predicate `fills`, decoded. -/
theorem fills_of_pre {F : FTy → Type} [FloatOps F] {a0 a1 a2 a3 a4} {T : IVec STab 32}
    (h : Cert.Pre_fills.fn (F := F) a0 a1 a2 a3 a4 T = fun _ => 1#1) : Fills T := by
  have e := congrFun h (fun x => x.elim0)
  simp only [Pre_fills.fn, andi, IntOp.andi_eq_one] at e
  obtain ⟨⟨e0, e1⟩, e2⟩ := e
  haveI : Subsingleton (⟨0, ![]⟩ : Shape).Idx := ⟨fun a b => funext fun x => x.elim0⟩
  have q0 := Host.reduce_andi_all _ _ _ _ _ e0
  have q1 := Host.reduce_andi_all _ _ _ _ _ e1
  have q2 := Host.reduce_andi_all _ _ _ _ _ e2
  exact fills_of T (fun i => q0 i) (fun i => q1 i)
    Pre_fills.Facts.reducesTo_S12x7_S12_d1 Pre_fills.Facts.h_S_ (fun b => IntOp.cmpi_eq.mp (q2 b))

/-- `valid` says of the table what `fills` says. -/
theorem fills_of_valid {F : FTy → Type} [FloatOps F] {a0 a1 a2 a3 a4} {T : IVec STab 32}
    (h : Cert.Pre_valid.fn (F := F) a0 a1 a2 a3 a4 T = fun _ => 1#1) : Fills T := by
  have e := congrFun h (fun x => x.elim0)
  simp only [Pre_valid.fn, Pre_valid.fn_part1, Pre_valid.fn_part2, andi, IntOp.andi_eq_one] at e
  obtain ⟨⟨⟨⟨⟨e0, e1⟩, e2⟩, -⟩, -⟩, -⟩ := e
  haveI : Subsingleton (⟨0, ![]⟩ : Shape).Idx := ⟨fun a b => funext fun x => x.elim0⟩
  have q0 := Host.reduce_andi_all _ _ _ _ _ e0
  have q1 := Host.reduce_andi_all _ _ _ _ _ e1
  have q2 := Host.reduce_andi_all _ _ _ _ _ e2
  exact fills_of T (fun i => q0 i) (fun i => q1 i)
    Pre_fills.Facts.reducesTo_S12x7_S12_d1 Pre_fills.Facts.h_S_ (fun b => IntOp.cmpi_eq.mp (q2 b))

end Cert.Seg
-- ==== Proof.Segments.lean ====
/-
  The table of segment lengths as the kernel reads it, row by row.
-/
module

public import proofs.«01_k».proof.Proof.Gen.Kernel
public import proofs.«01_k».proof.Proof.KernelWords
public import proofs.«01_k».proof.Proof.Table

@[expose] public section

noncomputable section

namespace Cert.Kernel

open Idealize.ShloMosaic Idealize.ShloMosaic.Affine Cert.Seg Cert.Kernel.Gen

variable {F : FTy → Type}

/-- The word of the table that trip `k` of the segment loop reads. -/
abbrev wordAt (i : grid0.Coords) (arg1 : Memref sig .tc .smem S12x7 .i32) (T : BufTy.Contents (Elt F) arg1.view.ty)
    (k : Fin k0_t2_loop.trips) : BitVec 32 :=
  View.readAt (Elt F) arg1.view (Rect.unit (s := S12x7) (k0_off6 i k) S1x1.size (k0_off6_inb i k)).toLoadRect T
    (Shape.Idx.first (numel1_S1x1.symm ▸ Nat.one_pos))

/-- The table's row holds the lengths `len`, and they fit within the 4096 rows. -/
def SegsOk (i : grid0.Coords) (arg1 : Memref sig .tc .smem S12x7 .i32) (T : BufTy.Contents (Elt F) arg1.view.ty)
    (len : ℕ → ℕ) : Prop :=
  (∀ k : Fin k0_t2_loop.trips, IsInt (wordAt i arg1 T k) (len k : ℕ)) ∧ startN len 7 ≤ 4096

/-- A segment ends within the row. -/
theorem SegsOk.le {i : grid0.Coords} {arg1 : Memref sig .tc .smem S12x7 .i32} {T : BufTy.Contents (Elt F) arg1.view.ty}
    {len : ℕ → ℕ} (h : SegsOk i arg1 T len) (k : Fin k0_t2_loop.trips) : startN len k + len k ≤ 4096 := by
  have hk : (k : ℕ) + 1 ≤ 7 := k.2
  have := Finset.sum_le_sum_of_subset (f := len) (Finset.range_mono hk)
  rw [Finset.sum_range_succ] at this
  exact le_trans this h.2

/-- The start of a segment plus its length is the start of the next one. -/
theorem startN_succ {len : ℕ → ℕ} {k : ℕ} {a v : BitVec 32} (ha : IsInt a (startN len k : ℕ)) (hv : IsInt v (len k : ℕ))
    (h : startN len k + len k ≤ 4096) : IsInt (Scalar.addi a v) (startN len (k + 1) : ℕ) := by
  refine addi ha hv ⟨?_, ?_, ?_⟩ <;> simp only [startN, Finset.sum_range_succ] at h ⊢ <;> omega

end Cert.Kernel
-- ==== Proof.WeakBody.lean ====
/-
  The loop over the segments, and the kernel's body as a whole.
-/
module

public import proofs.«01_k».proof.Proof.Gen.Kernel.Skeleton
public import proofs.«01_k».proof.Proof.WeakLoops
public import proofs.«01_k».proof.Proof.Segments
public import Idealize.ShloMosaic.Lib.Exec
public import Idealize.ShloMosaic.Lib.Tactic
public import Idealize.ShloMosaic.Lib.Pipeline.Kit
public import Idealize.ShloMosaic.Lib.LoopEntry

@[expose] public section

set_option maxRecDepth 16384

noncomputable section

namespace Cert.Kernel.Weak

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Seg Idealize.ShloMosaic.Affine

variable {F : FTy → Type} [FloatOps F]

/-- The resource algebra of the run. -/
local notation "𝕄G" => MT nD τ sig Unit (Elt F) ℕ (UR sig nD τ) ℕ

section
variable (𝒱 : Variants) (c : Dev nD) (bd : Option 𝒱.V) (E : Set ℕ)
  (i : grid0.Coords)
  (arg1 : Memref sig .tc .smem S12x7 .i32) (harg1 : arg1.IsWhole)
  (arg2 : Memref sig .tc .vmem S1x4096x256 .fp8e4m3) (harg2 : arg2.IsWhole)
  (arg3 : Memref sig .tc .vmem S1x1x4096 .f32) (harg3 : arg3.IsWhole)
  (arg4 : Memref sig .tc .vmem S1x4096x256 .fp8e4m3) (harg4 : arg4.IsWhole)
  (arg5 : Memref sig .tc .vmem S1x1x4096 .f32) (harg5 : arg5.IsWhole)
  (arg6 : Memref sig .tc .vmem S1x1x4096 .f32) (harg6 : arg6.IsWhole)
  (arg7 : Memref sig .tc .vmem S1x1x4096 .f32) (harg7 : arg7.IsWhole)
  (arg8 : Memref sig .tc .vmem S1x4096x256 .bf16) (harg8 : arg8.IsWhole)
  (arg9 : Memref sig .tc .vmem S1x4096x256 .bf16) (harg9 : arg9.IsWhole)
  (arg10 : Memref sig .tc .vmem S4096x256 .bf16) (harg10 : arg10.IsWhole)
  (arg11 : Memref sig .tc .vmem S4096x256 .bf16) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S4096x128 .f32) (harg14 : arg14.IsWhole)
  (arg15 : Memref sig .tc .vmem S8x4224 .f32) (harg15 : arg15.IsWhole)
  (arg16 : Memref sig .tc .vmem S8x4224 .f32) (harg16 : arg16.IsWhole)
  (arg17 : Memref sig .tc .vmem S16x32x8x256 .f32) (harg17 : arg17.IsWhole)
  (arg18 : Memref sig .tc .vmem S4096x256 .f32) (harg18 : arg18.IsWhole)
  (arg19 : Memref sig .tc .vmem S4096x256 .f32) (harg19 : arg19.IsWhole)

/-- One segment: its length is read from the table, its start is carried. -/
@[sl_loop] def t2 (arg0 : BitVec 32) (T : BufTy.Contents (Elt F) arg1.view.ty) (len : ℕ → ℕ) (hseg : SegsOk i arg1 T len) :
    Idealize.ShloMosaic.LoopInv (M := 𝕄G) Idealize.ShloMosaic.frame (wpE (defs₀ (F := F)) 𝒱 (c : Thread nD τ) bd) E
      k0_t2_loop.lb k0_t2_loop.ub k0_t2_loop.st k0_t2_ok 0#32
      (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0) where
  inv k acc := iprop(⌜IsInt acc ((startN len k : ℕ) : ℤ)⌝ ∗ (arg1.view.loc (c : Thread nD τ) ↦[arg1.view.set]{fullShare.right} T) ∗ (∃ f : BufTy.Contents (Elt F) arg2.view.ty, (arg2.view.loc (c : Thread nD τ) ↦[arg2.view.set]{fullShare} f)) ∗ (∃ f : BufTy.Contents (Elt F) arg4.view.ty, (arg4.view.loc (c : Thread nD τ) ↦[arg4.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)))
  step k acc := by
    iintro ⟨%hacc, H1, ⟨%f2, H2⟩, ⟨%f4, H4⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
    unfold k0_t2_body
    sl_exec
    have hv : IsInt (t2.sl.r i arg1 T k) (len k : ℕ) := hseg.1 k
    have hle := hseg.le k
    have hw : k0_chk1 acc (t2.sl.r i arg1 T k) := chk1_of hacc hv hle
    have h4 := t4_trips hacc hv hle
    have h7 := t7_trips hacc hv hle
    have h9 := t9_trips hacc hv hle
    have h11 := t11_trips hacc hv hle
    have h12 := t12_trips hacc hv hle
    sl_exec
    have hn : IsInt (t2.sl.v24 i arg1 T k acc) ((startN len (k + 1) : ℕ) : ℤ) := startN_succ hacc hv hle
    sl_step
    sl_close

/-- The body of the kernel runs from any contents of its blocks and scratch, given a table whose
    segments lie within the rows. -/
theorem body_run (T : BufTy.Contents (Elt F) arg1.view.ty) (len : ℕ → ℕ) (hseg : SegsOk i arg1 T len) :
    (iprop((arg1.view.loc (c : Thread nD τ) ↦[arg1.view.set]{fullShare.right} T) ∗ (∃ f : BufTy.Contents (Elt F) arg2.view.ty, (arg2.view.loc (c : Thread nD τ) ↦[arg2.view.set]{fullShare} f)) ∗ (∃ f : BufTy.Contents (Elt F) arg3.view.ty, (arg3.view.loc (c : Thread nD τ) ↦[arg3.view.set]{fullShare} f)) ∗ (∃ f : BufTy.Contents (Elt F) arg4.view.ty, (arg4.view.loc (c : Thread nD τ) ↦[arg4.view.set]{fullShare} f)) ∗ (∃ f : BufTy.Contents (Elt F) arg5.view.ty, (arg5.view.loc (c : Thread nD τ) ↦[arg5.view.set]{fullShare} f)) ∗ (∃ f : BufTy.Contents (Elt F) arg6.view.ty, (arg6.view.loc (c : Thread nD τ) ↦[arg6.view.set]{fullShare} f)) ∗ (∃ f : BufTy.Contents (Elt F) arg7.view.ty, (arg7.view.loc (c : Thread nD τ) ↦[arg7.view.set]{fullShare} f)) ∗ (∃ f : BufTy.Contents (Elt F) arg8.view.ty, (arg8.view.loc (c : Thread nD τ) ↦[arg8.view.set]{fullShare} f)) ∗ (∃ f : BufTy.Contents (Elt F) arg9.view.ty, (arg9.view.loc (c : Thread nD τ) ↦[arg9.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f))) : sProp 𝕄G)
    ⊢ wp Idealize.ShloMosaic.frame (wpE (defs₀ (F := F)) 𝒱 (c : Thread nD τ) bd) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) fun _ =>
      iprop((arg1.view.loc (c : Thread nD τ) ↦[arg1.view.set]{fullShare.right} T) ∗ (∃ f : BufTy.Contents (Elt F) arg2.view.ty, (arg2.view.loc (c : Thread nD τ) ↦[arg2.view.set]{fullShare} f)) ∗ (∃ f : BufTy.Contents (Elt F) arg3.view.ty, (arg3.view.loc (c : Thread nD τ) ↦[arg3.view.set]{fullShare} f)) ∗ (∃ f : BufTy.Contents (Elt F) arg4.view.ty, (arg4.view.loc (c : Thread nD τ) ↦[arg4.view.set]{fullShare} f)) ∗ (∃ f : BufTy.Contents (Elt F) arg5.view.ty, (arg5.view.loc (c : Thread nD τ) ↦[arg5.view.set]{fullShare} f)) ∗ (∃ f : BufTy.Contents (Elt F) arg6.view.ty, (arg6.view.loc (c : Thread nD τ) ↦[arg6.view.set]{fullShare} f)) ∗ (∃ f : BufTy.Contents (Elt F) arg7.view.ty, (arg7.view.loc (c : Thread nD τ) ↦[arg7.view.set]{fullShare} f)) ∗ (∃ f : BufTy.Contents (Elt F) arg8.view.ty, (arg8.view.loc (c : Thread nD τ) ↦[arg8.view.set]{fullShare} f)) ∗ (∃ f : BufTy.Contents (Elt F) arg9.view.ty, (arg9.view.loc (c : Thread nD τ) ↦[arg9.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f))) := by
  iintro ⟨H1, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
  rw [cc0__body_eq_skeleton]
  unfold cc0__body_skel
  have h0 : IsInt 0#32 ((startN len 0 : ℕ) : ℤ) := ofNat 0 ⟨by simp [startN], by decide⟩
  sl_exec
  sl_step
  sl_close

end
end Cert.Kernel.Weak
-- ==== Proof.KernelFrame.lean ====
/-
  The launch: from the walk of the body to a run of the whole program, the arguments left as they were.
-/
module

public import proofs.«01_k».proof.Proof.Gen.Kernel.Launch
public import proofs.«01_k».proof.Proof.WeakBody
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Seg

variable {F : FTy → Type} [FloatOps F]

/-- The resource algebra of the run. -/
local notation "𝕄" => MT nD τ sig Unit (Elt F) ℕ (UR sig nD τ) ℕ

/-- The word the body reads is the table's, at the row of the grid point and the column of the trip. -/
theorem wordAt_whole (i : grid0.Coords) (T : IVec STab 32) (k : Fin k0_t2_loop.trips) :
    wordAt (F := F) i (Memref.whole main_arg5) T k = T (tabIdx (i 0) k) := by
  show T _ = T _
  congr 1
  funext a
  refine Fin.ext ?_
  have h := k0_off6_eq i k
  have hz : ∀ j : S1x1.Idx, ∀ a, (j a : ℕ) = 0 := fun j a => by
    have := (j a).isLt
    have h1 : S1x1.size a = 1 := by fin_cases a <;> rfl
    omega
  fin_cases a
  · show (k0_off6 i k) 0 + 1 * ((Shape.Idx.first (numel1_S1x1.symm ▸ Nat.one_pos) : S1x1.Idx) 0 : ℕ) = (i 0).val
    rw [hz, h]; rfl
  · show (k0_off6 i k) 1 + 1 * ((Shape.Idx.first (numel1_S1x1.symm ▸ Nat.one_pos) : S1x1.Idx) 1 : ℕ) = k.val
    rw [hz, h]; rfl

/-- A table that fills its rows gives each grid point its segment lengths. -/
theorem segsOk_of_fills {T : IVec STab 32} (h : Fills T) (i : grid0.Coords) :
    SegsOk (F := F) i (Memref.whole main_arg5) T (lenN T (i 0)) :=
  ⟨fun k => by rw [wordAt_whole]; exact h.isInt _ _, le_of_eq (h.total _)⟩

variable (m : (ℓ : Loc nD τ sig) → Buf (Elt F) ℓ) (ρ : Dev nD → PrngReg)

/-- The contents of a buffer when the pipeline is entered: after the operations that precede it. -/
abbrev V (c : Dev nD) (b : Ref sig .tc) : Buf (Elt F) ((c : Thread nD τ).loc b) := StableHlo.after hostOps0 (fun b => m (c, b)) b

/-- The operations in front of the launch take no fresh buffer. -/
theorem hostOps0_fresh : (hostOps0 : List (HloOp τ sig (Elt F))).Forall fun op => op.fresh = ∅ := by
  simp only [List.Forall]; repeat' constructor

set_option maxHeartbeats 800000 in
/-- The program is the operations in front of the launch, and then the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No operation before the pipeline writes a buffer other than the five it fills. -/
theorem V_of (c : Dev nD) (b : Ref sig .tc) (h0 : b ≠ main_v0) (h1 : b ≠ main_v1) (h2 : b ≠ main_v2) (h3 : b ≠ main_v3) (h4 : b ≠ main_v4) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3, StableHlo.devRef_ne_of_ne h4⟩))

/-- The table as the pipeline holds it. -/
def tbl : (pcfg0 (F := F)).Adm := ⟨fun | ⟨0, _⟩ => m ((0 : Dev nD).tc.loc main_arg5) | ⟨_ + 1, h⟩ => absurd h (by simp), trivial⟩

/-- The pipeline at that table. -/
abbrev cfgT : Cfg sig Λ₀ := Pipeline.pin (pcfgs (F := F)) (fun _ => tbl m) 0

/-- No kernel here waits on another core. -/
abbrev 𝒱₀ : Variants := Variants.none

/-- The proof data: the arrays at their contents on entry; nothing is said of what a point leaves. -/
def dats (p : Fin 1) (c : Dev nD) : Dat τ (Elt F) Unit ℕ (UR sig nD τ) ℕ (Pipeline.pin (pcfgs (F := F)) (fun _ => tbl m) p) c :=
  { A := fun w => V m c (Pipeline.arrRef (Pipeline.pin (pcfgs (F := F)) (fun _ => tbl m) p).spec w)
    after := fun w t => Dat.unnamed w t
    Φ := fun _ => iprop(Pipeline.ΦA (Pipeline.pin (pcfgs (F := F)) (fun _ => tbl m) p).spec c ∗ Pipeline.ΦT (pcfgs (F := F) p).pre (tbl m).1 c)
    q := fun _ => fullShare
    owed := fun _ => 0 }

/-- Every window is described only as owned at some contents. -/
abbrev fgt : Fin 8 → Bool := fun _ => true

/-- A whole memref owned at some contents, written as the walk of the body writes it. -/
theorem owns_eq {sp : Space} {s : Shape} {e : EltTy} (c : Dev nD) (M : Memref sig .tc sp s e) (hM : M.IsWhole) :
    (iprop(∃ X, owns (c : Thread nD τ) M fullShare X) : sProp 𝕄)
      = iprop(∃ f : BufTy.Contents (Elt F) M.view.ty, (M.view.loc (c : Thread nD τ) ↦[M.view.set]{fullShare} f)) := by
  rw [hM.exists_owns_eq]
  obtain ⟨b, hsp, hsh, he, h⟩ := hM
  subst hsp hsh he
  cases h
  simp only [Memref.view_whole, View.set_whole]

/-- The table as the pipeline holds it during the body. -/
theorem table_eq (c : Dev nD) (v : pre0.Contents (Elt F)) :
    (Pipeline.ΦT pre0 v c : sProp 𝕄) = iprop(((c : Thread nD τ).loc main_arg5) ↦{fullShare.right} v 0) :=
  (bigSep_univ_eq_bigSepL [(0 : Fin 1)] (by decide) (by decide) _)

/-- What a run of the body holds: the table, the staging buffers of the windows and the scratch buffers, all but the
    table at some contents. -/
abbrev held (c : Dev nD) (T : IVec STab 32)
    (arg2 : Memref sig .tc .vmem S1x4096x256 .fp8e4m3) (harg2 : arg2.IsWhole)
    (arg3 : Memref sig .tc .vmem S1x1x4096 .f32) (harg3 : arg3.IsWhole)
    (arg4 : Memref sig .tc .vmem S1x4096x256 .fp8e4m3) (harg4 : arg4.IsWhole)
    (arg5 : Memref sig .tc .vmem S1x1x4096 .f32) (harg5 : arg5.IsWhole)
    (arg6 : Memref sig .tc .vmem S1x1x4096 .f32) (harg6 : arg6.IsWhole)
    (arg7 : Memref sig .tc .vmem S1x1x4096 .f32) (harg7 : arg7.IsWhole)
    (arg8 : Memref sig .tc .vmem S1x4096x256 .bf16) (harg8 : arg8.IsWhole)
    (arg9 : Memref sig .tc .vmem S1x4096x256 .bf16) (harg9 : arg9.IsWhole) : sProp 𝕄 :=
  iprop((((c : Thread nD τ).loc main_arg5) ↦{fullShare.right} T) ∗ (∃ X, owns (c : Thread nD τ) arg2 fullShare X) ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f))

/-- A run of the body gives back what it held. -/
theorem body_held (c : Dev nD) (i : grid0.Coords) (T : IVec STab 32) (hf : Fills T)
    (arg2 : Memref sig .tc .vmem S1x4096x256 .fp8e4m3) (harg2 : arg2.IsWhole)
    (arg3 : Memref sig .tc .vmem S1x1x4096 .f32) (harg3 : arg3.IsWhole)
    (arg4 : Memref sig .tc .vmem S1x4096x256 .fp8e4m3) (harg4 : arg4.IsWhole)
    (arg5 : Memref sig .tc .vmem S1x1x4096 .f32) (harg5 : arg5.IsWhole)
    (arg6 : Memref sig .tc .vmem S1x1x4096 .f32) (harg6 : arg6.IsWhole)
    (arg7 : Memref sig .tc .vmem S1x1x4096 .f32) (harg7 : arg7.IsWhole)
    (arg8 : Memref sig .tc .vmem S1x4096x256 .bf16) (harg8 : arg8.IsWhole)
    (arg9 : Memref sig .tc .vmem S1x4096x256 .bf16) (harg9 : arg9.IsWhole) :
    held c T arg2 harg2 arg3 harg3 arg4 harg4 arg5 harg5 arg6 harg6 arg7 harg7 arg8 harg8 arg9 harg9
    ⊢ wp frame (wpE (defs₀ (F := F)) 𝒱₀ (c : Thread nD τ) none) Set.univ (cc0__body i (Memref.whole main_arg5) (Memref.isWhole_whole _) arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)) fun _ =>
      held c T arg2 harg2 arg3 harg3 arg4 harg4 arg5 harg5 arg6 harg6 arg7 harg7 arg8 harg8 arg9 harg9 := by
  have h := Weak.body_run (F := F) 𝒱₀ c none Set.univ i (Memref.whole main_arg5) (Memref.isWhole_whole _) arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) T _ (segsOk_of_fills hf i)
  simp only [Memref.view_whole, View.set_whole] at h
  unfold held
  rw [owns_eq c arg2 harg2, owns_eq c arg3 harg3, owns_eq c arg4 harg4, owns_eq c arg5 harg5, owns_eq c arg6 harg6, owns_eq c arg7 harg7, owns_eq c arg8 harg8, owns_eq c arg9 harg9]
  exact h

/-- What the pipeline hands the body, beside what it needs nothing of. -/
theorem held_in (c : Dev nD) (T : IVec STab 32) (P O : sProp 𝕄)
    (arg2 : Memref sig .tc .vmem S1x4096x256 .fp8e4m3) (harg2 : arg2.IsWhole)
    (arg3 : Memref sig .tc .vmem S1x1x4096 .f32) (harg3 : arg3.IsWhole)
    (arg4 : Memref sig .tc .vmem S1x4096x256 .fp8e4m3) (harg4 : arg4.IsWhole)
    (arg5 : Memref sig .tc .vmem S1x1x4096 .f32) (harg5 : arg5.IsWhole)
    (arg6 : Memref sig .tc .vmem S1x1x4096 .f32) (harg6 : arg6.IsWhole)
    (arg7 : Memref sig .tc .vmem S1x1x4096 .f32) (harg7 : arg7.IsWhole)
    (arg8 : Memref sig .tc .vmem S1x4096x256 .bf16) (harg8 : arg8.IsWhole)
    (arg9 : Memref sig .tc .vmem S1x4096x256 .bf16) (harg9 : arg9.IsWhole) :
    iprop(((((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f)) ∗ P) ∗ (((c : Thread nD τ).loc main_arg5) ↦{fullShare.right} T)) ∗ O ∗ (∃ X, owns (c : Thread nD τ) arg2 fullShare X) ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X))
      ⊢ iprop(held c T arg2 harg2 arg3 harg3 arg4 harg4 arg5 harg5 arg6 harg6 arg7 harg7 arg8 harg8 arg9 harg9 ∗ P ∗ O) := by
  unfold held
  iintro ⟨⟨⟨⟨A0, A1, A2, A3, A4, A5, A6, A7, A8, A9⟩, HP⟩, HT⟩, HO, W0, W1, W2, W3, W4, W5, W6, W7⟩
  isplitr [HP HO]
  · isplitl [HT]
    · iexact HT
    isplitl [W0]
    · iexact W0
    isplitl [W1]
    · iexact W1
    isplitl [W2]
    · iexact W2
    isplitl [W3]
    · iexact W3
    isplitl [W4]
    · iexact W4
    isplitl [W5]
    · iexact W5
    isplitl [W6]
    · iexact W6
    isplitl [W7]
    · iexact W7
    isplitl [A0]
    · iexact A0
    isplitl [A1]
    · iexact A1
    isplitl [A2]
    · iexact A2
    isplitl [A3]
    · iexact A3
    isplitl [A4]
    · iexact A4
    isplitl [A5]
    · iexact A5
    isplitl [A6]
    · iexact A6
    isplitl [A7]
    · iexact A7
    isplitl [A8]
    · iexact A8
    iexact A9
  · isplitl [HP]
    · iexact HP
    · iexact HO

/-- And what it takes back. -/
theorem held_out (c : Dev nD) (T : IVec STab 32) (P O O' : sProp 𝕄) (hO : O ⊢ O')
    (arg2 : Memref sig .tc .vmem S1x4096x256 .fp8e4m3) (harg2 : arg2.IsWhole)
    (arg3 : Memref sig .tc .vmem S1x1x4096 .f32) (harg3 : arg3.IsWhole)
    (arg4 : Memref sig .tc .vmem S1x4096x256 .fp8e4m3) (harg4 : arg4.IsWhole)
    (arg5 : Memref sig .tc .vmem S1x1x4096 .f32) (harg5 : arg5.IsWhole)
    (arg6 : Memref sig .tc .vmem S1x1x4096 .f32) (harg6 : arg6.IsWhole)
    (arg7 : Memref sig .tc .vmem S1x1x4096 .f32) (harg7 : arg7.IsWhole)
    (arg8 : Memref sig .tc .vmem S1x4096x256 .bf16) (harg8 : arg8.IsWhole)
    (arg9 : Memref sig .tc .vmem S1x4096x256 .bf16) (harg9 : arg9.IsWhole) :
    iprop(held c T arg2 harg2 arg3 harg3 arg4 harg4 arg5 harg5 arg6 harg6 arg7 harg7 arg8 harg8 arg9 harg9 ∗ P ∗ O)
      ⊢ iprop(((((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f)) ∗ P) ∗ (((c : Thread nD τ).loc main_arg5) ↦{fullShare.right} T)) ∗ O' ∗ (∃ X, owns (c : Thread nD τ) arg2 fullShare X) ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X)) := by
  refine (Laws.sep_mono_right (Laws.sep_mono_right hO)).trans ?_
  unfold held
  iintro ⟨⟨HT, W0, W1, W2, W3, W4, W5, W6, W7, A0, A1, A2, A3, A4, A5, A6, A7, A8, A9⟩, HP, HO⟩
  isplitl [A0 A1 A2 A3 A4 A5 A6 A7 A8 A9 HP HT]
  · isplitr [HT]
    · isplitr [HP]
      · isplitl [A0]
        · iexact A0
        isplitl [A1]
        · iexact A1
        isplitl [A2]
        · iexact A2
        isplitl [A3]
        · iexact A3
        isplitl [A4]
        · iexact A4
        isplitl [A5]
        · iexact A5
        isplitl [A6]
        · iexact A6
        isplitl [A7]
        · iexact A7
        isplitl [A8]
        · iexact A8
        iexact A9
      · iexact HP
    · iexact HT
  · isplitl [HO]
    · iexact HO
    isplitl [W0]
    · iexact W0
    isplitl [W1]
    · iexact W1
    isplitl [W2]
    · iexact W2
    isplitl [W3]
    · iexact W3
    isplitl [W4]
    · iexact W4
    isplitl [W5]
    · iexact W5
    isplitl [W6]
    · iexact W6
    iexact W7

set_option maxHeartbeats 400000 in
/-- The body at every grid point. -/
theorem hbody (hf : Fills (m ((0 : Dev nD).tc.loc main_arg5))) (c : Dev nD) :
    Pipeline.BodyObligationLoose (dats m 0 c) (defs₀ (F := F)) 𝒱₀ () Set.univ fgt := by
  intro t
  have hc : c = 0 := Subsingleton.elim _ _
  subst hc
  show iprop((dats m 0 0).Φ t.castSucc ∗ (dats m 0 0).owesAt () t.castSucc ∗ bigSep Finset.univ fun w : Fin 8 => iprop(∃ X, owns ((0 : Dev nD) : Thread nD τ) (((cfgT m).win w).stage ((cfgT m).slots t w)) fullShare X))
    ⊢ wp frame (wpE (defs₀ (F := F)) 𝒱₀ ((0 : Dev nD) : Thread nD τ) none) Set.univ (cc0__body (grid0.coords t) (Memref.whole main_arg5) (Memref.isWhole_whole _) (spec0_0.stage ((cfgT m).slots t 0)) (hstage0_0 (((cfgT m).slots t 0).cast nbuf0_0)) (spec0_1.stage ((cfgT m).slots t 1)) (hstage0_1 (((cfgT m).slots t 1).cast nbuf0_1)) (spec0_2.stage ((cfgT m).slots t 2)) (hstage0_2 (((cfgT m).slots t 2).cast nbuf0_2)) (spec0_3.stage ((cfgT m).slots t 3)) (hstage0_3 (((cfgT m).slots t 3).cast nbuf0_3)) (spec0_4.stage ((cfgT m).slots t 4)) (hstage0_4 (((cfgT m).slots t 4).cast nbuf0_4)) (spec0_5.stage ((cfgT m).slots t 5)) (hstage0_5 (((cfgT m).slots t 5).cast nbuf0_5)) (spec0_6.stage ((cfgT m).slots t 6)) (hstage0_6 (((cfgT m).slots t 6).cast nbuf0_6)) (spec0_7.stage ((cfgT m).slots t 7)) (hstage0_7 (((cfgT m).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)) fun _ =>
      iprop((dats m 0 0).Φ t.succ ∗ (dats m 0 0).owesAt () t.succ ∗ bigSep Finset.univ fun w : Fin 8 => iprop(∃ X, owns ((0 : Dev nD) : Thread nD τ) (((cfgT m).win w).stage ((cfgT m).slots t w)) fullShare X))
  have hΦ : ∀ u, (dats m 0 0).Φ u = iprop((Pipeline.scopedRest spec0 0 ∗ ∃ r, prngReg (0 : Dev nD) r) ∗ Pipeline.ΦT pre0 (tbl m).1 0) := fun _ => rfl
  have hO : (dats m 0 0).owesAt () t.castSucc ⊢ ((dats m 0 0).owesAt () t.succ : sProp 𝕄) := Pipeline.owesWithin_mono _ _ (fun _ _ => Or.inl trivial)
  rw [bigSep_W0, hΦ, hΦ, scopedRest0_eq, table_eq]
  refine BIBase.Entails.trans (held_in 0 (m ((0 : Dev nD).tc.loc main_arg5)) (iprop(∃ r, prngReg (0 : Dev nD) r)) ((dats m 0 0).owesAt () t.castSucc) (spec0_0.stage ((cfgT m).slots t 0)) (hstage0_0 (((cfgT m).slots t 0).cast nbuf0_0)) (spec0_1.stage ((cfgT m).slots t 1)) (hstage0_1 (((cfgT m).slots t 1).cast nbuf0_1)) (spec0_2.stage ((cfgT m).slots t 2)) (hstage0_2 (((cfgT m).slots t 2).cast nbuf0_2)) (spec0_3.stage ((cfgT m).slots t 3)) (hstage0_3 (((cfgT m).slots t 3).cast nbuf0_3)) (spec0_4.stage ((cfgT m).slots t 4)) (hstage0_4 (((cfgT m).slots t 4).cast nbuf0_4)) (spec0_5.stage ((cfgT m).slots t 5)) (hstage0_5 (((cfgT m).slots t 5).cast nbuf0_5)) (spec0_6.stage ((cfgT m).slots t 6)) (hstage0_6 (((cfgT m).slots t 6).cast nbuf0_6)) (spec0_7.stage ((cfgT m).slots t 7)) (hstage0_7 (((cfgT m).slots t 7).cast nbuf0_7))) ?_
  refine BIBase.Entails.trans ?_ ((wp_frame_r _ _ _).trans (wp_mono _ _ _ fun _ => held_out 0 _ _ _ _ hO (spec0_0.stage ((cfgT m).slots t 0)) (hstage0_0 (((cfgT m).slots t 0).cast nbuf0_0)) (spec0_1.stage ((cfgT m).slots t 1)) (hstage0_1 (((cfgT m).slots t 1).cast nbuf0_1)) (spec0_2.stage ((cfgT m).slots t 2)) (hstage0_2 (((cfgT m).slots t 2).cast nbuf0_2)) (spec0_3.stage ((cfgT m).slots t 3)) (hstage0_3 (((cfgT m).slots t 3).cast nbuf0_3)) (spec0_4.stage ((cfgT m).slots t 4)) (hstage0_4 (((cfgT m).slots t 4).cast nbuf0_4)) (spec0_5.stage ((cfgT m).slots t 5)) (hstage0_5 (((cfgT m).slots t 5).cast nbuf0_5)) (spec0_6.stage ((cfgT m).slots t 6)) (hstage0_6 (((cfgT m).slots t 6).cast nbuf0_6)) (spec0_7.stage ((cfgT m).slots t 7)) (hstage0_7 (((cfgT m).slots t 7).cast nbuf0_7))))
  exact Laws.sep_mono_left (body_held 0 (grid0.coords t) _ hf (spec0_0.stage ((cfgT m).slots t 0)) (hstage0_0 (((cfgT m).slots t 0).cast nbuf0_0)) (spec0_1.stage ((cfgT m).slots t 1)) (hstage0_1 (((cfgT m).slots t 1).cast nbuf0_1)) (spec0_2.stage ((cfgT m).slots t 2)) (hstage0_2 (((cfgT m).slots t 2).cast nbuf0_2)) (spec0_3.stage ((cfgT m).slots t 3)) (hstage0_3 (((cfgT m).slots t 3).cast nbuf0_3)) (spec0_4.stage ((cfgT m).slots t 4)) (hstage0_4 (((cfgT m).slots t 4).cast nbuf0_4)) (spec0_5.stage ((cfgT m).slots t 5)) (hstage0_5 (((cfgT m).slots t 5).cast nbuf0_5)) (spec0_6.stage ((cfgT m).slots t 6)) (hstage0_6 (((cfgT m).slots t 6).cast nbuf0_6)) (spec0_7.stage ((cfgT m).slots t 7)) (hstage0_7 (((cfgT m).slots t 7).cast nbuf0_7)))

/-- Every run of the program ends, with the arguments as they were and every counter at zero. -/
theorem run_frame (hf : Fills (m ((0 : Dev nD).tc.loc main_arg5))) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine Pipeline.θ_run_frameP_forget pcfgs (fun _ => tbl m) (dats m) 0 launch0 defs₀ 𝒱₀ fgt m g main (hbody m hf)
    (fun c w => ?_) (fun _ _ => rfl) (V m) (hmain m 𝒱₀) (fun _ _ => rfl) ?_ (fun _ _ => rfl) _ ?_
  · fin_cases w <;> rfl
  · intro c k
    obtain rfl : c = 0 := Subsingleton.elim _ _
    fin_cases k
    exact V_of m 0 main_arg5 (by decide) (by decide) (by decide) (by decide) (by decide)
  · rintro r ⟨h, hs⟩
    refine ⟨fun c => ?_, hs⟩
    have rest : ∀ b : Ref sig .tc, b ∈ Pipeline.restRefs sig spec0 → b ≠ main_v0 → b ≠ main_v1 → b ≠ main_v2 → b ≠ main_v3 → b ≠ main_v4 →
        r.2.mem ((c.tc : Thread nD τ).loc b) = m ((c.tc : Thread nD τ).loc b) := fun b hb h0 h1 h2 h3 h4 =>
      ((h c).2 b hb).trans (V_of m c b h0 h1 h2 h3 h4)
    refine ⟨?_, ?_, ?_, ?_, ?_, ?_⟩ <;>
      exact rest _ (Pipeline.mem_restRefs_of _ (by decide) (by decide)) (by decide) (by decide) (by decide) (by decide) (by decide)

end Cert.Kernel
-- ==== Proof.Ideal.KernelWords.lean ====
/-
  The kernel's loop bounds and access offsets within one segment, in closed form, and the condition
  the kernel assumes of the two words of a segment (its start and its length).
-/
module

public import proofs.«01_k».proof.Proof.Gen.KernelIdeal
public import proofs.«01_k».proof.Proof.WordMath

@[expose] public section

set_option maxRecDepth 16384

namespace Cert.KernelIdeal

open Idealize.ShloMosaic Idealize.ShloMosaic.Affine Cert.Seg

/-! ## The loops' bounds -/

/-- The bounds of loop 3. -/
theorem t3_loop_eq (a v : BitVec 32) : k0_t3_loop a v = ⟨0#32, ubW (Scalar.muli (ntW a v) 8#32), 1#32⟩ := rfl
/-- The bounds of loop 4. -/
theorem t4_loop_eq (a v : BitVec 32) :
    k0_t4_loop a v = ⟨ubW (Scalar.muli (ntW a v) 8#32), ub2W (Scalar.muli (ntW a v) 8#32), 1#32⟩ := rfl
/-- The bounds of loop 5. -/
theorem t5_loop_eq (a v : BitVec 32) : k0_t5_loop a v = ⟨0#32, ubW (ntW a v), 1#32⟩ := rfl
/-- The bounds of loop 6. -/
theorem t6_loop_eq (a v : BitVec 32) : k0_t6_loop a v = ⟨0#32, ubW (ntW a v), 1#32⟩ := rfl
/-- The bounds of loop 7. -/
theorem t7_loop_eq (a v : BitVec 32) : k0_t7_loop a v = ⟨ubW (ntW a v), ub2W (ntW a v), 1#32⟩ := rfl
/-- The bounds of loop 8. -/
theorem t8_loop_eq (a v : BitVec 32) : k0_t8_loop a v = ⟨0#32, ubW (ntW a v), 1#32⟩ := rfl
/-- The bounds of loop 9. -/
theorem t9_loop_eq (a v : BitVec 32) : k0_t9_loop a v = ⟨ubW (ntW a v), ub2W (ntW a v), 1#32⟩ := rfl
/-- The bounds of loop 10. -/
theorem t10_loop_eq (a v : BitVec 32) : k0_t10_loop a v = ⟨0#32, ubW (ntW a v), 1#32⟩ := rfl
/-- The bounds of loop 11. -/
theorem t11_loop_eq (a v : BitVec 32) : k0_t11_loop a v = ⟨ubW (ntW a v), ub2W (ntW a v), 1#32⟩ := rfl
/-- The bounds of loop 12. -/
theorem t12_loop_eq (a v : BitVec 32) : k0_t12_loop a v = ⟨ubW (ntW a v), ub2W (ntW a v), 1#32⟩ := rfl

section
variable {a v : BitVec 32} {A V : Nat} (ha : IsInt a A) (hv : IsInt v V) (h : A + V ≤ 4096)

include ha hv h in
/-- Eight times the number of tiles, as a word. -/
theorem nt8_isInt : IsInt (Scalar.muli (ntW a v) 8#32) ((8 * ntN A V : Nat) : Int) := by
  have := ntN_le h
  exact muli (ntW_isInt ha hv h) (ofNat 8 (by decide) : IsInt 8#32 8) ⟨by push_cast; rw [Int.mul_comm], by omega, by omega⟩

include ha hv h in
/-- How many turns loop 3 takes. -/
theorem t3_trips : (k0_t3_loop a v).trips = 8 * ntN A V := by
  have := ntN_le h
  exact (trips_of (L := 0) (ofNat 0 (by decide)) (ubW_isInt (nt8_isInt ha hv h) (by omega))).trans (by omega)
include ha hv h in
/-- How many turns loop 4 takes. -/
theorem t4_trips : (k0_t4_loop a v).trips = 0 := by
  have := ntN_le h
  exact (trips_of (ubW_isInt (nt8_isInt ha hv h) (by omega)) (ub2W_isInt (nt8_isInt ha hv h) (by omega))).trans (by omega)
include ha hv h in
/-- A loop over the tiles takes one turn for each. -/
theorem main_trips : Scf.trips 0#32 (ubW (ntW a v)) 1#32 = ntN A V := by
  have := ntN_le h
  exact (trips_of (L := 0) (ofNat 0 (by decide)) (ubW_isInt (ntW_isInt ha hv h) (by omega))).trans (by omega)
include ha hv h in
/-- The loop over what is left of the tiles takes no turn. -/
theorem rem_trips : Scf.trips (ubW (ntW a v)) (ub2W (ntW a v)) 1#32 = 0 := by
  have := ntN_le h
  exact (trips_of (ubW_isInt (ntW_isInt ha hv h) (by omega)) (ub2W_isInt (ntW_isInt ha hv h) (by omega))).trans (by omega)
include ha hv h in
/-- How many turns loop 5 takes. -/
theorem t5_trips : (k0_t5_loop a v).trips = ntN A V := main_trips ha hv h
include ha hv h in
/-- How many turns loop 6 takes. -/
theorem t6_trips : (k0_t6_loop a v).trips = ntN A V := main_trips ha hv h
include ha hv h in
/-- How many turns loop 7 takes. -/
theorem t7_trips : (k0_t7_loop a v).trips = 0 := rem_trips ha hv h
include ha hv h in
/-- How many turns loop 8 takes. -/
theorem t8_trips : (k0_t8_loop a v).trips = ntN A V := main_trips ha hv h
include ha hv h in
/-- How many turns loop 9 takes. -/
theorem t9_trips : (k0_t9_loop a v).trips = 0 := rem_trips ha hv h
include ha hv h in
/-- How many turns loop 10 takes. -/
theorem t10_trips : (k0_t10_loop a v).trips = ntN A V := main_trips ha hv h
include ha hv h in
/-- How many turns loop 11 takes. -/
theorem t11_trips : (k0_t11_loop a v).trips = 0 := rem_trips ha hv h
include ha hv h in
/-- How many turns loop 12 takes. -/
theorem t12_trips : (k0_t12_loop a v).trips = 0 := rem_trips ha hv h

include ha hv h in
/-- The bounds of loop 3 do not overflow. -/
theorem t3_ok : (k0_t3_loop a v).OK := by
  have := ntN_le h
  exact ok_of (L := 0) (ofNat 0 (by decide)) (ubW_isInt (nt8_isInt ha hv h) (by omega)) (by omega) (by omega)
include ha hv h in
/-- The bounds of loop 4 do not overflow. -/
theorem t4_ok : (k0_t4_loop a v).OK := by
  have := ntN_le h
  exact ok_of (ubW_isInt (nt8_isInt ha hv h) (by omega)) (ub2W_isInt (nt8_isInt ha hv h) (by omega)) (by omega) (by omega)
include ha hv h in
/-- The bounds of a loop over the tiles do not overflow. -/
theorem main_ok : Scf.OK 0#32 (ubW (ntW a v)) 1#32 := by
  have := ntN_le h
  exact ok_of (L := 0) (ofNat 0 (by decide)) (ubW_isInt (ntW_isInt ha hv h) (by omega)) (by omega) (by omega)
include ha hv h in
/-- The bounds of the loop over what is left do not overflow. -/
theorem rem_ok : Scf.OK (ubW (ntW a v)) (ub2W (ntW a v)) 1#32 := by
  have := ntN_le h
  exact ok_of (ubW_isInt (ntW_isInt ha hv h) (by omega)) (ub2W_isInt (ntW_isInt ha hv h) (by omega)) (by omega) (by omega)

/-! ## The offsets -/

include ha hv h in
/-- The first row of tile `k`. -/
theorem row256 {k : Nat} (hk : k < ntN A V) : (rowW a v 256#32 k).toNat = loN A V + 256 * k := by
  have := loN_add h; have := ntN_le h
  exact toNat_of (rowW_isInt ha hv h (ofNat 256 (by decide) : IsInt 256#32 256) (by omega) (by omega) (by omega))
include ha hv h in
/-- The first row of chunk `k` of 32 rows. -/
theorem row32 {k : Nat} (hk : k < 8 * ntN A V) : (rowW a v 32#32 k).toNat = loN A V + 32 * k := by
  have := loN_add h; have := ntN_le h
  exact toNat_of (rowW_isInt ha hv h (ofNat 32 (by decide) : IsInt 32#32 32) (by omega) (by omega) (by omega))
include ha hv h in
/-- The first row of tile `k`, rounded down to a multiple of 128. -/
theorem w0_row {k : Nat} (hk : k < ntN A V) :
    (w0W (rowW a v 256#32 k)).toNat = (loN A V + 256 * k) / 128 * 128 := by
  have := loN_add h; have := ntN_le h
  exact toNat_of (w0W_isInt (rowW_isInt ha hv h (ofNat 256 (by decide) : IsInt 256#32 256) (by omega) (by omega) (by omega)) (by omega))
include h in
/-- The loop's counter on turn `k` is `k`. -/
theorem iv_nt {k : Nat} (hk : k < ntN A V) : (Scf.iv 0#32 1#32 k).toNat = k := by
  have := ntN_le h
  exact iv_toNat (by omega)

include ha hv h in
/-- The offsets of access 7. -/
theorem off7_eq (k : Fin (k0_t3_loop a v).trips) : k0_off7 a v k = ![loN A V + 32 * k, 0] := by
  have hk := lt_of_lt_of_eq k.2 (t3_trips ha hv h)
  rw [← row32 ha hv h hk]; rfl
include ha hv h in
/-- The offsets of access 9. -/
theorem off9_eq (k : Fin (k0_t5_loop a v).trips) : k0_off9 a v k = ![0, (loN A V + 256 * k) / 128 * 128] := by
  have hk := lt_of_lt_of_eq k.2 (t5_trips ha hv h)
  rw [← w0_row ha hv h hk]; rfl
include ha hv h in
/-- The offsets of access 10. -/
theorem off10_eq (k : Fin (k0_t6_loop a v).trips) : k0_off10 a v k = ![0, loN A V + 256 * k, 0] := by
  have hk := lt_of_lt_of_eq k.2 (t6_trips ha hv h)
  rw [← row256 ha hv h hk]; rfl
include ha hv h in
/-- The offsets of access 11. -/
theorem off11_eq (k : Fin (k0_t5_loop a v).trips) : k0_off11 a v k = ![0, loN A V + 256 * k, 0] := by
  have hk := lt_of_lt_of_eq k.2 (t5_trips ha hv h)
  rw [← row256 ha hv h hk]; rfl
include ha hv h in
/-- The offsets of access 12. -/
theorem off12_eq (k : Fin (k0_t6_loop a v).trips) : k0_off12 a v k = ![loN A V + 256 * k, 0] := by
  have hk := lt_of_lt_of_eq k.2 (t6_trips ha hv h)
  rw [← row256 ha hv h hk]; rfl
include ha hv h in
/-- The offsets of access 13. -/
theorem off13_eq (k : Fin (k0_t6_loop a v).trips) : k0_off13 a v k = ![k.val, 0, 0, 0] := by
  have hk := lt_of_lt_of_eq k.2 (t6_trips ha hv h)
  conv => rhs; rw [← iv_nt h hk]
  rfl
include ha hv h in
/-- The offsets of access 18. -/
theorem off18_eq (k : Fin (k0_t5_loop a v).trips) : k0_off18 a v k = ![k.val, 0, 0, 0] := by
  have hk := lt_of_lt_of_eq k.2 (t5_trips ha hv h)
  conv => rhs; rw [← iv_nt h hk]
  rfl
include ha hv h in
/-- The offsets of access 19. -/
theorem off19_eq (k : Fin (k0_t8_loop a v).trips) : k0_off19 a v k = ![k.val, 0, 0, 0] := by
  have hk := lt_of_lt_of_eq k.2 (t8_trips ha hv h)
  conv => rhs; rw [← iv_nt h hk]
  rfl
include ha hv h in
/-- The offsets of access 21. -/
theorem off21_eq (k : Fin (k0_t10_loop a v).trips) : k0_off21 a v k = ![k.val, 0, 0, 0] := by
  have hk := lt_of_lt_of_eq k.2 (t10_trips ha hv h)
  conv => rhs; rw [← iv_nt h hk]
  rfl
include ha hv h in
/-- The offsets of access 22. -/
theorem off22_eq (k : Fin (k0_t10_loop a v).trips) : k0_off22 a v k = ![loN A V + 256 * k, 0] := by
  have hk := lt_of_lt_of_eq k.2 (t10_trips ha hv h)
  rw [← row256 ha hv h hk]; rfl
include ha hv h in
/-- The offsets of access 23. -/
theorem off23_eq (k : Fin (k0_t5_loop a v).trips) : k0_off23 a v k = ![loN A V + 256 * k, 0] := by
  have hk := lt_of_lt_of_eq k.2 (t5_trips ha hv h)
  rw [← row256 ha hv h hk]; rfl

/-! ## The condition the kernel assumes -/

include ha hv h in
/-- The first row of a tile is a multiple of 32. -/
theorem row256_dvd {k : Nat} (hk : k < ntN A V) : 32 ∣ (rowW a v 256#32 k).toNat := by
  rw [row256 ha hv h hk]; have := loN_dvd h; omega
include ha hv h in
/-- The alignment that offset 2 is said to have. -/
theorem mult2_dvd (k : Fin (k0_t3_loop a v).trips) : 32 ∣ (k0_mult2 a v k).toNat := by
  have hk := lt_of_lt_of_eq k.2 (t3_trips ha hv h)
  show 32 ∣ (rowW a v 32#32 k).toNat
  rw [row32 ha hv h hk]; have := loN_dvd h; omega
include ha hv h in
/-- The alignment that offset 4 is said to have. -/
theorem mult4_dvd (k : Fin (k0_t5_loop a v).trips) : 32 ∣ (k0_mult4 a v k).toNat :=
  row256_dvd ha hv h (lt_of_lt_of_eq k.2 (t5_trips ha hv h))
include ha hv h in
/-- The alignment that offset 5 is said to have. -/
theorem mult5_dvd (k : Fin (k0_t5_loop a v).trips) : 128 ∣ (k0_mult5 a v k).toNat := by
  show 128 ∣ (w0W (rowW a v 256#32 k)).toNat
  rw [w0_row ha hv h (lt_of_lt_of_eq k.2 (t5_trips ha hv h))]; omega
include ha hv h in
/-- The alignment that offset 6 is said to have. -/
theorem mult6_dvd (k : Fin (k0_t6_loop a v).trips) : 32 ∣ (k0_mult6 a v k).toNat :=
  row256_dvd ha hv h (lt_of_lt_of_eq k.2 (t6_trips ha hv h))
include ha hv h in
/-- The alignment that offset 8 is said to have. -/
theorem mult8_dvd (k : Fin (k0_t10_loop a v).trips) : 32 ∣ (k0_mult8 a v k).toNat :=
  row256_dvd ha hv h (lt_of_lt_of_eq k.2 (t10_trips ha hv h))

include ha hv h in
/-- The kernel's assumption of a segment's two words: it holds whenever the segment lies within the 4096 rows. -/
theorem chk1_of : k0_chk1 a v := by
  have e3 := t3_trips ha hv h
  have e5 := t5_trips ha hv h
  have e6 := t6_trips ha hv h
  have e8 := t8_trips ha hv h
  have e10 := t10_trips ha hv h
  have r4 : IsEmpty (Fin (k0_t4_loop a v).trips) := by rw [t4_trips ha hv h]; infer_instance
  have r7 : IsEmpty (Fin (k0_t7_loop a v).trips) := by rw [t7_trips ha hv h]; infer_instance
  have r9 : IsEmpty (Fin (k0_t9_loop a v).trips) := by rw [t9_trips ha hv h]; infer_instance
  have r11 : IsEmpty (Fin (k0_t11_loop a v).trips) := by rw [t11_trips ha hv h]; infer_instance
  have r12 : IsEmpty (Fin (k0_t12_loop a v).trips) := by rw [t12_trips ha hv h]; infer_instance
  have hl := loN_add h
  have hn := ntN_le h
  refine ⟨⟨t3_ok ha hv h, mult2_dvd ha hv h, fun k => ?_, t4_ok ha hv h, fun k => r4.elim k, fun k => r4.elim k,
    main_ok ha hv h, mult4_dvd ha hv h, mult5_dvd ha hv h, fun k => ?_, fun _ => main_ok ha hv h, fun _ => mult6_dvd ha hv h,
    fun _ k => ?_, fun k _ => ?_, fun _ k => ?_, fun _ k => ?_, fun _ => rem_ok ha hv h, fun _ k => r7.elim k,
    fun _ k => r7.elim k, fun _ k => r7.elim k, fun _ k => r7.elim k, fun _ k => r7.elim k, fun k => ?_,
    fun _ => main_ok ha hv h, fun _ k => ?_, fun _ => rem_ok ha hv h, fun _ k => r9.elim k,
    fun _ => main_ok ha hv h, fun _ => mult8_dvd ha hv h, fun _ k => ?_, fun _ k => ?_, fun k _ => ?_⟩,
    ⟨fun _ => rem_ok ha hv h, fun _ k => r11.elim k, fun _ k => r11.elim k, fun _ k => r11.elim k, fun _ k => r11.elim k,
    rem_ok ha hv h, fun k => r12.elim k, fun k => r12.elim k, fun k => r12.elim k, fun k => r12.elim k, fun k => r12.elim k,
    fun k => r12.elim k, fun k => r12.elim k, fun k => r12.elim k, fun k => r12.elim k, fun k => r12.elim k,
    fun k => r12.elim k, fun k => r12.elim k, fun k => r12.elim k, fun k => r12.elim k, fun k => r12.elim k,
    fun k => r12.elim k, fun k => r12.elim k, fun k => r12.elim k, fun k => r12.elim k, fun k => r12.elim k,
    fun k => r12.elim k, fun k => r12.elim k, fun k => r12.elim k, fun k => r12.elim k, fun k => r12.elim k,
    fun k => r12.elim k⟩,
    ⟨fun k => r12.elim k, fun k => r12.elim k, fun k => r12.elim k, fun k => r12.elim k⟩⟩
  all_goals have hk := k.2
  · rw [off7_eq ha hv h]; replace hk := lt_of_lt_of_eq hk e3
    intro d; fin_cases d <;> simp [Shape.size] <;> omega
  · rw [off9_eq ha hv h]; replace hk := lt_of_lt_of_eq hk e5
    intro d; fin_cases d <;> simp [Shape.size] <;> omega
  · rw [off10_eq ha hv h]; replace hk := lt_of_lt_of_eq hk e6
    intro d; fin_cases d <;> simp [Shape.size] <;> omega
  · rw [off11_eq ha hv h]; replace hk := lt_of_lt_of_eq hk e5
    intro d; fin_cases d <;> simp [Shape.size] <;> omega
  · rw [off12_eq ha hv h]; replace hk := lt_of_lt_of_eq hk e6
    intro d; fin_cases d <;> simp [Shape.size] <;> omega
  · rw [off13_eq ha hv h]; replace hk := lt_of_lt_of_eq hk e6
    intro d; fin_cases d <;> simp [Shape.size] <;> omega
  · rw [off18_eq ha hv h]; replace hk := lt_of_lt_of_eq hk e5
    intro d; fin_cases d <;> simp [Shape.size] <;> omega
  · rw [off19_eq ha hv h]; replace hk := lt_of_lt_of_eq hk e8
    intro d; fin_cases d <;> simp [Shape.size] <;> omega
  · rw [off21_eq ha hv h]; replace hk := lt_of_lt_of_eq hk e10
    intro d; fin_cases d <;> simp [Shape.size] <;> omega
  · rw [off22_eq ha hv h]; replace hk := lt_of_lt_of_eq hk e10
    intro d; fin_cases d <;> simp [Shape.size] <;> omega
  · rw [off23_eq ha hv h]; replace hk := lt_of_lt_of_eq hk e5
    intro d; fin_cases d <;> simp [Shape.size] <;> omega

end

end Cert.KernelIdeal
-- ==== Proof.Ideal.WeakLoops.lean ====
/-
  What each counted loop of the kernel touches, and that one trip of it runs: every buffer a loop
  reads or writes is held before each trip and again after it, whatever it then holds.
-/
module

public import proofs.«01_k».proof.Proof.Gen.KernelIdeal.Skeleton
public import proofs.«01_k».proof.Proof.Ideal.KernelWords
public import Idealize.ShloMosaic.Lib.Exec
public import Idealize.ShloMosaic.Lib.Tactic
public import Idealize.ShloMosaic.Lib.Pipeline.Kit
public import Idealize.ShloMosaic.Lib.LoopEntry

@[expose] public section

set_option maxRecDepth 16384

noncomputable section

namespace Cert.KernelIdeal.Weak

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- The resource algebra of the run. -/
local notation "𝕄G" => MT nD τ sig Unit (Elt F) ℕ (UR sig nD τ) ℕ

section
variable (𝒱 : Variants) (c : Dev nD) (bd : Option 𝒱.V) (E : Set ℕ)
  (i : grid0.Coords)
  (arg1 : Memref sig .tc .smem S12x7 .i32) (harg1 : arg1.IsWhole)
  (arg2 : Memref sig .tc .vmem S1x4096x256 .fp8e4m3) (harg2 : arg2.IsWhole)
  (arg3 : Memref sig .tc .vmem S1x1x4096 .f32) (harg3 : arg3.IsWhole)
  (arg4 : Memref sig .tc .vmem S1x4096x256 .fp8e4m3) (harg4 : arg4.IsWhole)
  (arg5 : Memref sig .tc .vmem S1x1x4096 .f32) (harg5 : arg5.IsWhole)
  (arg6 : Memref sig .tc .vmem S1x1x4096 .f32) (harg6 : arg6.IsWhole)
  (arg7 : Memref sig .tc .vmem S1x1x4096 .f32) (harg7 : arg7.IsWhole)
  (arg8 : Memref sig .tc .vmem S1x4096x256 .bf16) (harg8 : arg8.IsWhole)
  (arg9 : Memref sig .tc .vmem S1x4096x256 .bf16) (harg9 : arg9.IsWhole)
  (arg10 : Memref sig .tc .vmem S4096x256 .bf16) (harg10 : arg10.IsWhole)
  (arg11 : Memref sig .tc .vmem S4096x256 .bf16) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S4096x128 .f32) (harg14 : arg14.IsWhole)
  (arg15 : Memref sig .tc .vmem S8x4224 .f32) (harg15 : arg15.IsWhole)
  (arg16 : Memref sig .tc .vmem S8x4224 .f32) (harg16 : arg16.IsWhole)
  (arg17 : Memref sig .tc .vmem S16x32x8x256 .f32) (harg17 : arg17.IsWhole)
  (arg18 : Memref sig .tc .vmem S4096x256 .f32) (harg18 : arg18.IsWhole)
  (arg19 : Memref sig .tc .vmem S4096x256 .f32) (harg19 : arg19.IsWhole)

/-- The preparation of one 128-row block of the operands. -/
@[sl_loop] def t1  (init : Unit) :
    Idealize.ShloMosaic.LoopInv (M := 𝕄G) Idealize.ShloMosaic.frame (wpE (defs₀ (F := F)) 𝒱 (c : Thread nD τ) bd) E
      k0_t1_loop.lb k0_t1_loop.ub k0_t1_loop.st k0_t1_ok init
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) where
  inv k acc := iprop((∃ f : BufTy.Contents (Elt F) arg2.view.ty, (arg2.view.loc (c : Thread nD τ) ↦[arg2.view.set]{fullShare} f)) ∗ (∃ f : BufTy.Contents (Elt F) arg3.view.ty, (arg3.view.loc (c : Thread nD τ) ↦[arg3.view.set]{fullShare} f)) ∗ (∃ f : BufTy.Contents (Elt F) arg4.view.ty, (arg4.view.loc (c : Thread nD τ) ↦[arg4.view.set]{fullShare} f)) ∗ (∃ f : BufTy.Contents (Elt F) arg5.view.ty, (arg5.view.loc (c : Thread nD τ) ↦[arg5.view.set]{fullShare} f)) ∗ (∃ f : BufTy.Contents (Elt F) arg6.view.ty, (arg6.view.loc (c : Thread nD τ) ↦[arg6.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)))
  step k acc := by
    iintro ⟨⟨%f2, H2⟩, ⟨%f3, H3⟩, ⟨%f4, H4⟩, ⟨%f5, H5⟩, ⟨%f6, H6⟩, ⟨%f10, H10⟩, ⟨%f11, H11⟩, ⟨%f12, H12⟩, ⟨%f13, H13⟩, ⟨%f14, H14⟩, ⟨%f15, H15⟩, ⟨%f18, H18⟩, ⟨%f19, H19⟩⟩
    unfold k0_t1_body
    sl_exec
    sl_step
    sl_close

/-- The masking of one 32-row block of the segment's tiles. -/
@[sl_loop] def t3 (arg21 : BitVec 32) (v23 : Elt F .i32) (k0_hw1 : k0_chk1 arg21 v23) (v24 v42 v61 : BitVec 32) (v62 : BitVec 1) (init : BitVec 32) :
    Idealize.ShloMosaic.LoopInv (M := 𝕄G) Idealize.ShloMosaic.frame (wpE (defs₀ (F := F)) 𝒱 (c : Thread nD τ) bd) E
      (k0_t3_loop arg21 v23).lb (k0_t3_loop arg21 v23).ub (k0_t3_loop arg21 v23).st (k0_t3_ok arg21 v23 k0_hw1) init
      (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 v23 k0_hw1 v24 v42 v61 v62) where
  inv k acc := iprop((∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)))
  step k acc := by
    iintro ⟨⟨%f13, H13⟩, ⟨%f14, H14⟩⟩
    unfold k0_t3_body
    sl_exec
    sl_step
    sl_close

/-- One tile of scores for a row block. -/
@[sl_loop] def t6 (v13 : IVec S256x256 1) (arg21 : BitVec 32) (v23 : Elt F .i32) (k0_hw1 : k0_chk1 arg21 v23) (v63 v66 c0_i32_38 c1_i32_41 : BitVec 32) (k0_t5 : Fin (k0_t5_loop arg21 v23).trips) (v106 : Vec F S8x384 .f32) (init : FVec F S8x256 .f32) :
    Idealize.ShloMosaic.LoopInv (M := 𝕄G) Idealize.ShloMosaic.frame (wpE (defs₀ (F := F)) 𝒱 (c : Thread nD τ) bd) E
      (k0_t6_loop arg21 v23).lb (k0_t6_loop arg21 v23).ub (k0_t6_loop arg21 v23).st (k0_t6_ok arg21 v23 k0_hw1 k0_t5) init
      (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v13 arg21 v23 k0_hw1 v63 v66 c0_i32_38 c1_i32_41 k0_t5 v106) where
  inv k acc := iprop((∃ f : BufTy.Contents (Elt F) arg2.view.ty, (arg2.view.loc (c : Thread nD τ) ↦[arg2.view.set]{fullShare} f)) ∗ (∃ f : BufTy.Contents (Elt F) arg4.view.ty, (arg4.view.loc (c : Thread nD τ) ↦[arg4.view.set]{fullShare} f)) ∗ (∃ f : BufTy.Contents (Elt F) arg12.view.ty, (arg12.view.loc (c : Thread nD τ) ↦[arg12.view.set]{fullShare} f)) ∗ (∃ f : BufTy.Contents (Elt F) arg14.view.ty, (arg14.view.loc (c : Thread nD τ) ↦[arg14.view.set]{fullShare} f)) ∗ (∃ f : BufTy.Contents (Elt F) arg17.view.ty, (arg17.view.loc (c : Thread nD τ) ↦[arg17.view.set]{fullShare} f)))
  step k acc := by
    iintro ⟨⟨%f2, H2⟩, ⟨%f4, H4⟩, ⟨%f12, H12⟩, ⟨%f14, H14⟩, ⟨%f17, H17⟩⟩
    unfold k0_t6_body
    sl_exec
    sl_step
    sl_close

/-- One tile of exponentials for a row block. -/
@[sl_loop] def t8 (arg21 : BitVec 32) (v23 : Elt F .i32) (k0_hw1 : k0_chk1 arg21 v23) (v63 : BitVec 32) (k0_t5 : Fin (k0_t5_loop arg21 v23).trips) (arg22 : BitVec 32) (v121 : FVec F S8x256 .f32) (v122 : IVec S32x8x256 1) (init : FVec F S8x256 .f32) :
    Idealize.ShloMosaic.LoopInv (M := 𝕄G) Idealize.ShloMosaic.frame (wpE (defs₀ (F := F)) 𝒱 (c : Thread nD τ) bd) E
      (k0_t8_loop arg21 v23).lb (k0_t8_loop arg21 v23).ub (k0_t8_loop arg21 v23).st (k0_t8_ok arg21 v23 k0_hw1 k0_t5) init
      (k0_t8_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 v23 k0_hw1 v63 k0_t5 arg22 v121 v122) where
  inv k acc := iprop((∃ f : BufTy.Contents (Elt F) arg17.view.ty, (arg17.view.loc (c : Thread nD τ) ↦[arg17.view.set]{fullShare} f)))
  step k acc := by
    iintro ⟨%f17, H17⟩
    unfold k0_t8_body
    sl_exec
    sl_step
    sl_close

/-- One tile of the gradients for a row block. -/
@[sl_loop] def t10 (arg21 : BitVec 32) (v23 : Elt F .i32) (k0_hw1 : k0_chk1 arg21 v23) (v24 : BitVec 32) (k0_t5 : Fin (k0_t5_loop arg21 v23).trips) (v84 : BitVec 32) (v151 : FVec F S8x256 .f32) (init : BitVec 32) :
    Idealize.ShloMosaic.LoopInv (M := 𝕄G) Idealize.ShloMosaic.frame (wpE (defs₀ (F := F)) 𝒱 (c : Thread nD τ) bd) E
      (k0_t10_loop arg21 v23).lb (k0_t10_loop arg21 v23).ub (k0_t10_loop arg21 v23).st (k0_t10_ok arg21 v23 k0_hw1 k0_t5) init
      (k0_t10_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 v23 k0_hw1 v24 k0_t5 v84 v151) where
  inv k acc := iprop((∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)))
  step k acc := by
    iintro ⟨⟨%f10, H10⟩, ⟨%f11, H11⟩, ⟨%f17, H17⟩, ⟨%f18, H18⟩, ⟨%f19, H19⟩⟩
    unfold k0_t10_body
    sl_exec
    sl_step
    sl_close

/-- One row block of a segment. -/
@[sl_loop] def t5 (arg21 : BitVec 32) (v23 : Elt F .i32) (k0_hw1 : k0_chk1 arg21 v23) (h7 : (k0_t7_loop arg21 v23).trips = 0) (h9 : (k0_t9_loop arg21 v23).trips = 0) (h11 : (k0_t11_loop arg21 v23).trips = 0) (v24 v63 v66 : BitVec 32) (init : BitVec 32) :
    Idealize.ShloMosaic.LoopInv (M := 𝕄G) Idealize.ShloMosaic.frame (wpE (defs₀ (F := F)) 𝒱 (c : Thread nD τ) bd) E
      (k0_t5_loop arg21 v23).lb (k0_t5_loop arg21 v23).ub (k0_t5_loop arg21 v23).st (k0_t5_ok arg21 v23 k0_hw1) init
      (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 v23 k0_hw1 v24 v63 v66) where
  inv k acc := iprop((∃ f : BufTy.Contents (Elt F) arg2.view.ty, (arg2.view.loc (c : Thread nD τ) ↦[arg2.view.set]{fullShare} f)) ∗ (∃ f : BufTy.Contents (Elt F) arg4.view.ty, (arg4.view.loc (c : Thread nD τ) ↦[arg4.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)))
  step k acc := by
    iintro ⟨⟨%f2, H2⟩, ⟨%f4, H4⟩, ⟨%f10, H10⟩, ⟨%f11, H11⟩, ⟨%f12, H12⟩, ⟨%f14, H14⟩, ⟨%f15, H15⟩, ⟨%f16, H16⟩, ⟨%f17, H17⟩, ⟨%f18, H18⟩, ⟨%f19, H19⟩⟩
    unfold k0_t5_body
    sl_exec
    sl_step
    sl_close

/-- The scaling of one 128-row block of the gradients. -/
@[sl_loop] def t19  (init : Unit) :
    Idealize.ShloMosaic.LoopInv (M := 𝕄G) Idealize.ShloMosaic.frame (wpE (defs₀ (F := F)) 𝒱 (c : Thread nD τ) bd) E
      k0_t19_loop.lb k0_t19_loop.ub k0_t19_loop.st k0_t19_ok init
      (k0_t19_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) where
  inv k acc := iprop((∃ f : BufTy.Contents (Elt F) arg8.view.ty, (arg8.view.loc (c : Thread nD τ) ↦[arg8.view.set]{fullShare} f)) ∗ (∃ f : BufTy.Contents (Elt F) arg9.view.ty, (arg9.view.loc (c : Thread nD τ) ↦[arg9.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)))
  step k acc := by
    iintro ⟨⟨%f8, H8⟩, ⟨%f9, H9⟩, ⟨%f18, H18⟩, ⟨%f19, H19⟩⟩
    unfold k0_t19_body
    sl_exec
    sl_step
    sl_close

end

end Cert.KernelIdeal.Weak
-- ==== Proof.Ideal.Segments.lean ====
/-
  The table of segment lengths as the kernel reads it, row by row.
-/
module

public import proofs.«01_k».proof.Proof.Gen.KernelIdeal
public import proofs.«01_k».proof.Proof.Ideal.KernelWords
public import proofs.«01_k».proof.Proof.Table

@[expose] public section

noncomputable section

namespace Cert.KernelIdeal

open Idealize.ShloMosaic Idealize.ShloMosaic.Affine Cert.Seg Cert.KernelIdeal.Gen

variable {F : FTy → Type}

/-- The word of the table that trip `k` of the segment loop reads. -/
abbrev wordAt (i : grid0.Coords) (arg1 : Memref sig .tc .smem S12x7 .i32) (T : BufTy.Contents (Elt F) arg1.view.ty)
    (k : Fin k0_t2_loop.trips) : BitVec 32 :=
  View.readAt (Elt F) arg1.view (Rect.unit (s := S12x7) (k0_off6 i k) S1x1.size (k0_off6_inb i k)).toLoadRect T
    (Shape.Idx.first (numel1_S1x1.symm ▸ Nat.one_pos))

/-- The table's row holds the lengths `len`, and they fit within the 4096 rows. -/
def SegsOk (i : grid0.Coords) (arg1 : Memref sig .tc .smem S12x7 .i32) (T : BufTy.Contents (Elt F) arg1.view.ty)
    (len : ℕ → ℕ) : Prop :=
  (∀ k : Fin k0_t2_loop.trips, IsInt (wordAt i arg1 T k) (len k : ℕ)) ∧ startN len 7 ≤ 4096

/-- A segment ends within the row. -/
theorem SegsOk.le {i : grid0.Coords} {arg1 : Memref sig .tc .smem S12x7 .i32} {T : BufTy.Contents (Elt F) arg1.view.ty}
    {len : ℕ → ℕ} (h : SegsOk i arg1 T len) (k : Fin k0_t2_loop.trips) : startN len k + len k ≤ 4096 := by
  have hk : (k : ℕ) + 1 ≤ 7 := k.2
  have := Finset.sum_le_sum_of_subset (f := len) (Finset.range_mono hk)
  rw [Finset.sum_range_succ] at this
  exact le_trans this h.2

/-- The start of a segment plus its length is the start of the next one. -/
theorem startN_succ {len : ℕ → ℕ} {k : ℕ} {a v : BitVec 32} (ha : IsInt a (startN len k : ℕ)) (hv : IsInt v (len k : ℕ))
    (h : startN len k + len k ≤ 4096) : IsInt (Scalar.addi a v) (startN len (k + 1) : ℕ) := by
  refine addi ha hv ⟨?_, ?_, ?_⟩ <;> simp only [startN, Finset.sum_range_succ] at h ⊢ <;> omega

end Cert.KernelIdeal
-- ==== Proof.Ideal.WeakBody.lean ====
/-
  The loop over the segments, and the kernel's body as a whole.
-/
module

public import proofs.«01_k».proof.Proof.Gen.KernelIdeal.Skeleton
public import proofs.«01_k».proof.Proof.Ideal.WeakLoops
public import proofs.«01_k».proof.Proof.Ideal.Segments
public import Idealize.ShloMosaic.Lib.Exec
public import Idealize.ShloMosaic.Lib.Tactic
public import Idealize.ShloMosaic.Lib.Pipeline.Kit
public import Idealize.ShloMosaic.Lib.LoopEntry

@[expose] public section

set_option maxRecDepth 16384

noncomputable section

namespace Cert.KernelIdeal.Weak

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Seg Idealize.ShloMosaic.Affine

variable {F : FTy → Type} [FloatOps F] [Named F]

/-- The resource algebra of the run. -/
local notation "𝕄G" => MT nD τ sig Unit (Elt F) ℕ (UR sig nD τ) ℕ

section
variable (𝒱 : Variants) (c : Dev nD) (bd : Option 𝒱.V) (E : Set ℕ)
  (i : grid0.Coords)
  (arg1 : Memref sig .tc .smem S12x7 .i32) (harg1 : arg1.IsWhole)
  (arg2 : Memref sig .tc .vmem S1x4096x256 .fp8e4m3) (harg2 : arg2.IsWhole)
  (arg3 : Memref sig .tc .vmem S1x1x4096 .f32) (harg3 : arg3.IsWhole)
  (arg4 : Memref sig .tc .vmem S1x4096x256 .fp8e4m3) (harg4 : arg4.IsWhole)
  (arg5 : Memref sig .tc .vmem S1x1x4096 .f32) (harg5 : arg5.IsWhole)
  (arg6 : Memref sig .tc .vmem S1x1x4096 .f32) (harg6 : arg6.IsWhole)
  (arg7 : Memref sig .tc .vmem S1x1x4096 .f32) (harg7 : arg7.IsWhole)
  (arg8 : Memref sig .tc .vmem S1x4096x256 .bf16) (harg8 : arg8.IsWhole)
  (arg9 : Memref sig .tc .vmem S1x4096x256 .bf16) (harg9 : arg9.IsWhole)
  (arg10 : Memref sig .tc .vmem S4096x256 .bf16) (harg10 : arg10.IsWhole)
  (arg11 : Memref sig .tc .vmem S4096x256 .bf16) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S4096x128 .f32) (harg14 : arg14.IsWhole)
  (arg15 : Memref sig .tc .vmem S8x4224 .f32) (harg15 : arg15.IsWhole)
  (arg16 : Memref sig .tc .vmem S8x4224 .f32) (harg16 : arg16.IsWhole)
  (arg17 : Memref sig .tc .vmem S16x32x8x256 .f32) (harg17 : arg17.IsWhole)
  (arg18 : Memref sig .tc .vmem S4096x256 .f32) (harg18 : arg18.IsWhole)
  (arg19 : Memref sig .tc .vmem S4096x256 .f32) (harg19 : arg19.IsWhole)

/-- One segment: its length is read from the table, its start is carried. -/
@[sl_loop] def t2 (arg0 : BitVec 32) (T : BufTy.Contents (Elt F) arg1.view.ty) (len : ℕ → ℕ) (hseg : SegsOk i arg1 T len) :
    Idealize.ShloMosaic.LoopInv (M := 𝕄G) Idealize.ShloMosaic.frame (wpE (defs₀ (F := F)) 𝒱 (c : Thread nD τ) bd) E
      k0_t2_loop.lb k0_t2_loop.ub k0_t2_loop.st k0_t2_ok 0#32
      (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0) where
  inv k acc := iprop(⌜IsInt acc ((startN len k : ℕ) : ℤ)⌝ ∗ (arg1.view.loc (c : Thread nD τ) ↦[arg1.view.set]{fullShare.right} T) ∗ (∃ f : BufTy.Contents (Elt F) arg2.view.ty, (arg2.view.loc (c : Thread nD τ) ↦[arg2.view.set]{fullShare} f)) ∗ (∃ f : BufTy.Contents (Elt F) arg4.view.ty, (arg4.view.loc (c : Thread nD τ) ↦[arg4.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)))
  step k acc := by
    iintro ⟨%hacc, H1, ⟨%f2, H2⟩, ⟨%f4, H4⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
    unfold k0_t2_body
    sl_exec
    have hv : IsInt (t2.sl.r i arg1 T k) (len k : ℕ) := hseg.1 k
    have hle := hseg.le k
    have hw : k0_chk1 acc (t2.sl.r i arg1 T k) := chk1_of hacc hv hle
    have h4 := t4_trips hacc hv hle
    have h7 := t7_trips hacc hv hle
    have h9 := t9_trips hacc hv hle
    have h11 := t11_trips hacc hv hle
    have h12 := t12_trips hacc hv hle
    sl_exec
    have hn : IsInt (t2.sl.v24 i arg1 T k acc) ((startN len (k + 1) : ℕ) : ℤ) := startN_succ hacc hv hle
    sl_step
    sl_close

/-- The body of the kernel runs from any contents of its blocks and scratch, given a table whose
    segments lie within the rows. -/
theorem body_run (T : BufTy.Contents (Elt F) arg1.view.ty) (len : ℕ → ℕ) (hseg : SegsOk i arg1 T len) :
    (iprop((arg1.view.loc (c : Thread nD τ) ↦[arg1.view.set]{fullShare.right} T) ∗ (∃ f : BufTy.Contents (Elt F) arg2.view.ty, (arg2.view.loc (c : Thread nD τ) ↦[arg2.view.set]{fullShare} f)) ∗ (∃ f : BufTy.Contents (Elt F) arg3.view.ty, (arg3.view.loc (c : Thread nD τ) ↦[arg3.view.set]{fullShare} f)) ∗ (∃ f : BufTy.Contents (Elt F) arg4.view.ty, (arg4.view.loc (c : Thread nD τ) ↦[arg4.view.set]{fullShare} f)) ∗ (∃ f : BufTy.Contents (Elt F) arg5.view.ty, (arg5.view.loc (c : Thread nD τ) ↦[arg5.view.set]{fullShare} f)) ∗ (∃ f : BufTy.Contents (Elt F) arg6.view.ty, (arg6.view.loc (c : Thread nD τ) ↦[arg6.view.set]{fullShare} f)) ∗ (∃ f : BufTy.Contents (Elt F) arg7.view.ty, (arg7.view.loc (c : Thread nD τ) ↦[arg7.view.set]{fullShare} f)) ∗ (∃ f : BufTy.Contents (Elt F) arg8.view.ty, (arg8.view.loc (c : Thread nD τ) ↦[arg8.view.set]{fullShare} f)) ∗ (∃ f : BufTy.Contents (Elt F) arg9.view.ty, (arg9.view.loc (c : Thread nD τ) ↦[arg9.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f))) : sProp 𝕄G)
    ⊢ wp Idealize.ShloMosaic.frame (wpE (defs₀ (F := F)) 𝒱 (c : Thread nD τ) bd) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) fun _ =>
      iprop((arg1.view.loc (c : Thread nD τ) ↦[arg1.view.set]{fullShare.right} T) ∗ (∃ f : BufTy.Contents (Elt F) arg2.view.ty, (arg2.view.loc (c : Thread nD τ) ↦[arg2.view.set]{fullShare} f)) ∗ (∃ f : BufTy.Contents (Elt F) arg3.view.ty, (arg3.view.loc (c : Thread nD τ) ↦[arg3.view.set]{fullShare} f)) ∗ (∃ f : BufTy.Contents (Elt F) arg4.view.ty, (arg4.view.loc (c : Thread nD τ) ↦[arg4.view.set]{fullShare} f)) ∗ (∃ f : BufTy.Contents (Elt F) arg5.view.ty, (arg5.view.loc (c : Thread nD τ) ↦[arg5.view.set]{fullShare} f)) ∗ (∃ f : BufTy.Contents (Elt F) arg6.view.ty, (arg6.view.loc (c : Thread nD τ) ↦[arg6.view.set]{fullShare} f)) ∗ (∃ f : BufTy.Contents (Elt F) arg7.view.ty, (arg7.view.loc (c : Thread nD τ) ↦[arg7.view.set]{fullShare} f)) ∗ (∃ f : BufTy.Contents (Elt F) arg8.view.ty, (arg8.view.loc (c : Thread nD τ) ↦[arg8.view.set]{fullShare} f)) ∗ (∃ f : BufTy.Contents (Elt F) arg9.view.ty, (arg9.view.loc (c : Thread nD τ) ↦[arg9.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f))) := by
  iintro ⟨H1, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
  rw [cc0__body_eq_skeleton]
  unfold cc0__body_skel
  have h0 : IsInt 0#32 ((startN len 0 : ℕ) : ℤ) := ofNat 0 ⟨by simp [startN], by decide⟩
  sl_exec
  sl_step
  sl_close

end
end Cert.KernelIdeal.Weak
-- ==== Proof.Ideal.KernelFrame.lean ====
/-
  The launch: from the walk of the body to a run of the whole program, the arguments left as they were.
-/
module

public import proofs.«01_k».proof.Proof.Gen.KernelIdeal.Launch
public import proofs.«01_k».proof.Proof.Ideal.WeakBody
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Seg

variable {F : FTy → Type} [FloatOps F] [Named F]

/-- The resource algebra of the run. -/
local notation "𝕄" => MT nD τ sig Unit (Elt F) ℕ (UR sig nD τ) ℕ

/-- The word the body reads is the table's, at the row of the grid point and the column of the trip. -/
theorem wordAt_whole (i : grid0.Coords) (T : IVec STab 32) (k : Fin k0_t2_loop.trips) :
    wordAt (F := F) i (Memref.whole main_arg5) T k = T (tabIdx (i 0) k) := by
  show T _ = T _
  congr 1
  funext a
  refine Fin.ext ?_
  have h := k0_off6_eq i k
  have hz : ∀ j : S1x1.Idx, ∀ a, (j a : ℕ) = 0 := fun j a => by
    have := (j a).isLt
    have h1 : S1x1.size a = 1 := by fin_cases a <;> rfl
    omega
  fin_cases a
  · show (k0_off6 i k) 0 + 1 * ((Shape.Idx.first (numel1_S1x1.symm ▸ Nat.one_pos) : S1x1.Idx) 0 : ℕ) = (i 0).val
    rw [hz, h]; rfl
  · show (k0_off6 i k) 1 + 1 * ((Shape.Idx.first (numel1_S1x1.symm ▸ Nat.one_pos) : S1x1.Idx) 1 : ℕ) = k.val
    rw [hz, h]; rfl

/-- A table that fills its rows gives each grid point its segment lengths. -/
theorem segsOk_of_fills {T : IVec STab 32} (h : Fills T) (i : grid0.Coords) :
    SegsOk (F := F) i (Memref.whole main_arg5) T (lenN T (i 0)) :=
  ⟨fun k => by rw [wordAt_whole]; exact h.isInt _ _, le_of_eq (h.total _)⟩

variable (m : (ℓ : Loc nD τ sig) → Buf (Elt F) ℓ) (ρ : Dev nD → PrngReg)

/-- The contents of a buffer when the pipeline is entered: after the operations that precede it. -/
abbrev V (c : Dev nD) (b : Ref sig .tc) : Buf (Elt F) ((c : Thread nD τ).loc b) := StableHlo.after hostOps0 (fun b => m (c, b)) b

/-- The operations in front of the launch take no fresh buffer. -/
theorem hostOps0_fresh : (hostOps0 : List (HloOp τ sig (Elt F))).Forall fun op => op.fresh = ∅ := by
  simp only [List.Forall]; repeat' constructor

set_option maxHeartbeats 800000 in
/-- The program is the operations in front of the launch, and then the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No operation before the pipeline writes a buffer other than the five it fills. -/
theorem V_of (c : Dev nD) (b : Ref sig .tc) (h0 : b ≠ main_v0) (h1 : b ≠ main_v1) (h2 : b ≠ main_v2) (h3 : b ≠ main_v3) (h4 : b ≠ main_v4) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3, StableHlo.devRef_ne_of_ne h4⟩))

/-- The table as the pipeline holds it. -/
def tbl : (pcfg0 (F := F)).Adm := ⟨fun | ⟨0, _⟩ => m ((0 : Dev nD).tc.loc main_arg5) | ⟨_ + 1, h⟩ => absurd h (by simp), trivial⟩

/-- The pipeline at that table. -/
abbrev cfgT : Cfg sig Λ₀ := Pipeline.pin (pcfgs (F := F)) (fun _ => tbl m) 0

/-- No kernel here waits on another core. -/
abbrev 𝒱₀ : Variants := Variants.none

/-- The proof data: the arrays at their contents on entry; nothing is said of what a point leaves. -/
def dats (p : Fin 1) (c : Dev nD) : Dat τ (Elt F) Unit ℕ (UR sig nD τ) ℕ (Pipeline.pin (pcfgs (F := F)) (fun _ => tbl m) p) c :=
  { A := fun w => V m c (Pipeline.arrRef (Pipeline.pin (pcfgs (F := F)) (fun _ => tbl m) p).spec w)
    after := fun w t => Dat.unnamed w t
    Φ := fun _ => iprop(Pipeline.ΦA (Pipeline.pin (pcfgs (F := F)) (fun _ => tbl m) p).spec c ∗ Pipeline.ΦT (pcfgs (F := F) p).pre (tbl m).1 c)
    q := fun _ => fullShare
    owed := fun _ => 0 }

/-- Every window is described only as owned at some contents. -/
abbrev fgt : Fin 8 → Bool := fun _ => true

/-- A whole memref owned at some contents, written as the walk of the body writes it. -/
theorem owns_eq {sp : Space} {s : Shape} {e : EltTy} (c : Dev nD) (M : Memref sig .tc sp s e) (hM : M.IsWhole) :
    (iprop(∃ X, owns (c : Thread nD τ) M fullShare X) : sProp 𝕄)
      = iprop(∃ f : BufTy.Contents (Elt F) M.view.ty, (M.view.loc (c : Thread nD τ) ↦[M.view.set]{fullShare} f)) := by
  rw [hM.exists_owns_eq]
  obtain ⟨b, hsp, hsh, he, h⟩ := hM
  subst hsp hsh he
  cases h
  simp only [Memref.view_whole, View.set_whole]

/-- The table as the pipeline holds it during the body. -/
theorem table_eq (c : Dev nD) (v : pre0.Contents (Elt F)) :
    (Pipeline.ΦT pre0 v c : sProp 𝕄) = iprop(((c : Thread nD τ).loc main_arg5) ↦{fullShare.right} v 0) :=
  (bigSep_univ_eq_bigSepL [(0 : Fin 1)] (by decide) (by decide) _)

/-- What a run of the body holds: the table, the staging buffers of the windows and the scratch buffers, all but the
    table at some contents. -/
abbrev held (c : Dev nD) (T : IVec STab 32)
    (arg2 : Memref sig .tc .vmem S1x4096x256 .fp8e4m3) (harg2 : arg2.IsWhole)
    (arg3 : Memref sig .tc .vmem S1x1x4096 .f32) (harg3 : arg3.IsWhole)
    (arg4 : Memref sig .tc .vmem S1x4096x256 .fp8e4m3) (harg4 : arg4.IsWhole)
    (arg5 : Memref sig .tc .vmem S1x1x4096 .f32) (harg5 : arg5.IsWhole)
    (arg6 : Memref sig .tc .vmem S1x1x4096 .f32) (harg6 : arg6.IsWhole)
    (arg7 : Memref sig .tc .vmem S1x1x4096 .f32) (harg7 : arg7.IsWhole)
    (arg8 : Memref sig .tc .vmem S1x4096x256 .bf16) (harg8 : arg8.IsWhole)
    (arg9 : Memref sig .tc .vmem S1x4096x256 .bf16) (harg9 : arg9.IsWhole) : sProp 𝕄 :=
  iprop((((c : Thread nD τ).loc main_arg5) ↦{fullShare.right} T) ∗ (∃ X, owns (c : Thread nD τ) arg2 fullShare X) ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f))

/-- A run of the body gives back what it held. -/
theorem body_held (c : Dev nD) (i : grid0.Coords) (T : IVec STab 32) (hf : Fills T)
    (arg2 : Memref sig .tc .vmem S1x4096x256 .fp8e4m3) (harg2 : arg2.IsWhole)
    (arg3 : Memref sig .tc .vmem S1x1x4096 .f32) (harg3 : arg3.IsWhole)
    (arg4 : Memref sig .tc .vmem S1x4096x256 .fp8e4m3) (harg4 : arg4.IsWhole)
    (arg5 : Memref sig .tc .vmem S1x1x4096 .f32) (harg5 : arg5.IsWhole)
    (arg6 : Memref sig .tc .vmem S1x1x4096 .f32) (harg6 : arg6.IsWhole)
    (arg7 : Memref sig .tc .vmem S1x1x4096 .f32) (harg7 : arg7.IsWhole)
    (arg8 : Memref sig .tc .vmem S1x4096x256 .bf16) (harg8 : arg8.IsWhole)
    (arg9 : Memref sig .tc .vmem S1x4096x256 .bf16) (harg9 : arg9.IsWhole) :
    held c T arg2 harg2 arg3 harg3 arg4 harg4 arg5 harg5 arg6 harg6 arg7 harg7 arg8 harg8 arg9 harg9
    ⊢ wp frame (wpE (defs₀ (F := F)) 𝒱₀ (c : Thread nD τ) none) Set.univ (cc0__body i (Memref.whole main_arg5) (Memref.isWhole_whole _) arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)) fun _ =>
      held c T arg2 harg2 arg3 harg3 arg4 harg4 arg5 harg5 arg6 harg6 arg7 harg7 arg8 harg8 arg9 harg9 := by
  have h := Weak.body_run (F := F) 𝒱₀ c none Set.univ i (Memref.whole main_arg5) (Memref.isWhole_whole _) arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) T _ (segsOk_of_fills hf i)
  simp only [Memref.view_whole, View.set_whole] at h
  unfold held
  rw [owns_eq c arg2 harg2, owns_eq c arg3 harg3, owns_eq c arg4 harg4, owns_eq c arg5 harg5, owns_eq c arg6 harg6, owns_eq c arg7 harg7, owns_eq c arg8 harg8, owns_eq c arg9 harg9]
  exact h

/-- What the pipeline hands the body, beside what it needs nothing of. -/
theorem held_in (c : Dev nD) (T : IVec STab 32) (P O : sProp 𝕄)
    (arg2 : Memref sig .tc .vmem S1x4096x256 .fp8e4m3) (harg2 : arg2.IsWhole)
    (arg3 : Memref sig .tc .vmem S1x1x4096 .f32) (harg3 : arg3.IsWhole)
    (arg4 : Memref sig .tc .vmem S1x4096x256 .fp8e4m3) (harg4 : arg4.IsWhole)
    (arg5 : Memref sig .tc .vmem S1x1x4096 .f32) (harg5 : arg5.IsWhole)
    (arg6 : Memref sig .tc .vmem S1x1x4096 .f32) (harg6 : arg6.IsWhole)
    (arg7 : Memref sig .tc .vmem S1x1x4096 .f32) (harg7 : arg7.IsWhole)
    (arg8 : Memref sig .tc .vmem S1x4096x256 .bf16) (harg8 : arg8.IsWhole)
    (arg9 : Memref sig .tc .vmem S1x4096x256 .bf16) (harg9 : arg9.IsWhole) :
    iprop(((((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f)) ∗ P) ∗ (((c : Thread nD τ).loc main_arg5) ↦{fullShare.right} T)) ∗ O ∗ (∃ X, owns (c : Thread nD τ) arg2 fullShare X) ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X))
      ⊢ iprop(held c T arg2 harg2 arg3 harg3 arg4 harg4 arg5 harg5 arg6 harg6 arg7 harg7 arg8 harg8 arg9 harg9 ∗ P ∗ O) := by
  unfold held
  iintro ⟨⟨⟨⟨A0, A1, A2, A3, A4, A5, A6, A7, A8, A9⟩, HP⟩, HT⟩, HO, W0, W1, W2, W3, W4, W5, W6, W7⟩
  isplitr [HP HO]
  · isplitl [HT]
    · iexact HT
    isplitl [W0]
    · iexact W0
    isplitl [W1]
    · iexact W1
    isplitl [W2]
    · iexact W2
    isplitl [W3]
    · iexact W3
    isplitl [W4]
    · iexact W4
    isplitl [W5]
    · iexact W5
    isplitl [W6]
    · iexact W6
    isplitl [W7]
    · iexact W7
    isplitl [A0]
    · iexact A0
    isplitl [A1]
    · iexact A1
    isplitl [A2]
    · iexact A2
    isplitl [A3]
    · iexact A3
    isplitl [A4]
    · iexact A4
    isplitl [A5]
    · iexact A5
    isplitl [A6]
    · iexact A6
    isplitl [A7]
    · iexact A7
    isplitl [A8]
    · iexact A8
    iexact A9
  · isplitl [HP]
    · iexact HP
    · iexact HO

/-- And what it takes back. -/
theorem held_out (c : Dev nD) (T : IVec STab 32) (P O O' : sProp 𝕄) (hO : O ⊢ O')
    (arg2 : Memref sig .tc .vmem S1x4096x256 .fp8e4m3) (harg2 : arg2.IsWhole)
    (arg3 : Memref sig .tc .vmem S1x1x4096 .f32) (harg3 : arg3.IsWhole)
    (arg4 : Memref sig .tc .vmem S1x4096x256 .fp8e4m3) (harg4 : arg4.IsWhole)
    (arg5 : Memref sig .tc .vmem S1x1x4096 .f32) (harg5 : arg5.IsWhole)
    (arg6 : Memref sig .tc .vmem S1x1x4096 .f32) (harg6 : arg6.IsWhole)
    (arg7 : Memref sig .tc .vmem S1x1x4096 .f32) (harg7 : arg7.IsWhole)
    (arg8 : Memref sig .tc .vmem S1x4096x256 .bf16) (harg8 : arg8.IsWhole)
    (arg9 : Memref sig .tc .vmem S1x4096x256 .bf16) (harg9 : arg9.IsWhole) :
    iprop(held c T arg2 harg2 arg3 harg3 arg4 harg4 arg5 harg5 arg6 harg6 arg7 harg7 arg8 harg8 arg9 harg9 ∗ P ∗ O)
      ⊢ iprop(((((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f)) ∗ P) ∗ (((c : Thread nD τ).loc main_arg5) ↦{fullShare.right} T)) ∗ O' ∗ (∃ X, owns (c : Thread nD τ) arg2 fullShare X) ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X)) := by
  refine (Laws.sep_mono_right (Laws.sep_mono_right hO)).trans ?_
  unfold held
  iintro ⟨⟨HT, W0, W1, W2, W3, W4, W5, W6, W7, A0, A1, A2, A3, A4, A5, A6, A7, A8, A9⟩, HP, HO⟩
  isplitl [A0 A1 A2 A3 A4 A5 A6 A7 A8 A9 HP HT]
  · isplitr [HT]
    · isplitr [HP]
      · isplitl [A0]
        · iexact A0
        isplitl [A1]
        · iexact A1
        isplitl [A2]
        · iexact A2
        isplitl [A3]
        · iexact A3
        isplitl [A4]
        · iexact A4
        isplitl [A5]
        · iexact A5
        isplitl [A6]
        · iexact A6
        isplitl [A7]
        · iexact A7
        isplitl [A8]
        · iexact A8
        iexact A9
      · iexact HP
    · iexact HT
  · isplitl [HO]
    · iexact HO
    isplitl [W0]
    · iexact W0
    isplitl [W1]
    · iexact W1
    isplitl [W2]
    · iexact W2
    isplitl [W3]
    · iexact W3
    isplitl [W4]
    · iexact W4
    isplitl [W5]
    · iexact W5
    isplitl [W6]
    · iexact W6
    iexact W7

set_option maxHeartbeats 400000 in
/-- The body at every grid point. -/
theorem hbody (hf : Fills (m ((0 : Dev nD).tc.loc main_arg5))) (c : Dev nD) :
    Pipeline.BodyObligationLoose (dats m 0 c) (defs₀ (F := F)) 𝒱₀ () Set.univ fgt := by
  intro t
  have hc : c = 0 := Subsingleton.elim _ _
  subst hc
  show iprop((dats m 0 0).Φ t.castSucc ∗ (dats m 0 0).owesAt () t.castSucc ∗ bigSep Finset.univ fun w : Fin 8 => iprop(∃ X, owns ((0 : Dev nD) : Thread nD τ) (((cfgT m).win w).stage ((cfgT m).slots t w)) fullShare X))
    ⊢ wp frame (wpE (defs₀ (F := F)) 𝒱₀ ((0 : Dev nD) : Thread nD τ) none) Set.univ (cc0__body (grid0.coords t) (Memref.whole main_arg5) (Memref.isWhole_whole _) (spec0_0.stage ((cfgT m).slots t 0)) (hstage0_0 (((cfgT m).slots t 0).cast nbuf0_0)) (spec0_1.stage ((cfgT m).slots t 1)) (hstage0_1 (((cfgT m).slots t 1).cast nbuf0_1)) (spec0_2.stage ((cfgT m).slots t 2)) (hstage0_2 (((cfgT m).slots t 2).cast nbuf0_2)) (spec0_3.stage ((cfgT m).slots t 3)) (hstage0_3 (((cfgT m).slots t 3).cast nbuf0_3)) (spec0_4.stage ((cfgT m).slots t 4)) (hstage0_4 (((cfgT m).slots t 4).cast nbuf0_4)) (spec0_5.stage ((cfgT m).slots t 5)) (hstage0_5 (((cfgT m).slots t 5).cast nbuf0_5)) (spec0_6.stage ((cfgT m).slots t 6)) (hstage0_6 (((cfgT m).slots t 6).cast nbuf0_6)) (spec0_7.stage ((cfgT m).slots t 7)) (hstage0_7 (((cfgT m).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)) fun _ =>
      iprop((dats m 0 0).Φ t.succ ∗ (dats m 0 0).owesAt () t.succ ∗ bigSep Finset.univ fun w : Fin 8 => iprop(∃ X, owns ((0 : Dev nD) : Thread nD τ) (((cfgT m).win w).stage ((cfgT m).slots t w)) fullShare X))
  have hΦ : ∀ u, (dats m 0 0).Φ u = iprop((Pipeline.scopedRest spec0 0 ∗ ∃ r, prngReg (0 : Dev nD) r) ∗ Pipeline.ΦT pre0 (tbl m).1 0) := fun _ => rfl
  have hO : (dats m 0 0).owesAt () t.castSucc ⊢ ((dats m 0 0).owesAt () t.succ : sProp 𝕄) := Pipeline.owesWithin_mono _ _ (fun _ _ => Or.inl trivial)
  rw [bigSep_W0, hΦ, hΦ, scopedRest0_eq, table_eq]
  refine BIBase.Entails.trans (held_in 0 (m ((0 : Dev nD).tc.loc main_arg5)) (iprop(∃ r, prngReg (0 : Dev nD) r)) ((dats m 0 0).owesAt () t.castSucc) (spec0_0.stage ((cfgT m).slots t 0)) (hstage0_0 (((cfgT m).slots t 0).cast nbuf0_0)) (spec0_1.stage ((cfgT m).slots t 1)) (hstage0_1 (((cfgT m).slots t 1).cast nbuf0_1)) (spec0_2.stage ((cfgT m).slots t 2)) (hstage0_2 (((cfgT m).slots t 2).cast nbuf0_2)) (spec0_3.stage ((cfgT m).slots t 3)) (hstage0_3 (((cfgT m).slots t 3).cast nbuf0_3)) (spec0_4.stage ((cfgT m).slots t 4)) (hstage0_4 (((cfgT m).slots t 4).cast nbuf0_4)) (spec0_5.stage ((cfgT m).slots t 5)) (hstage0_5 (((cfgT m).slots t 5).cast nbuf0_5)) (spec0_6.stage ((cfgT m).slots t 6)) (hstage0_6 (((cfgT m).slots t 6).cast nbuf0_6)) (spec0_7.stage ((cfgT m).slots t 7)) (hstage0_7 (((cfgT m).slots t 7).cast nbuf0_7))) ?_
  refine BIBase.Entails.trans ?_ ((wp_frame_r _ _ _).trans (wp_mono _ _ _ fun _ => held_out 0 _ _ _ _ hO (spec0_0.stage ((cfgT m).slots t 0)) (hstage0_0 (((cfgT m).slots t 0).cast nbuf0_0)) (spec0_1.stage ((cfgT m).slots t 1)) (hstage0_1 (((cfgT m).slots t 1).cast nbuf0_1)) (spec0_2.stage ((cfgT m).slots t 2)) (hstage0_2 (((cfgT m).slots t 2).cast nbuf0_2)) (spec0_3.stage ((cfgT m).slots t 3)) (hstage0_3 (((cfgT m).slots t 3).cast nbuf0_3)) (spec0_4.stage ((cfgT m).slots t 4)) (hstage0_4 (((cfgT m).slots t 4).cast nbuf0_4)) (spec0_5.stage ((cfgT m).slots t 5)) (hstage0_5 (((cfgT m).slots t 5).cast nbuf0_5)) (spec0_6.stage ((cfgT m).slots t 6)) (hstage0_6 (((cfgT m).slots t 6).cast nbuf0_6)) (spec0_7.stage ((cfgT m).slots t 7)) (hstage0_7 (((cfgT m).slots t 7).cast nbuf0_7))))
  exact Laws.sep_mono_left (body_held 0 (grid0.coords t) _ hf (spec0_0.stage ((cfgT m).slots t 0)) (hstage0_0 (((cfgT m).slots t 0).cast nbuf0_0)) (spec0_1.stage ((cfgT m).slots t 1)) (hstage0_1 (((cfgT m).slots t 1).cast nbuf0_1)) (spec0_2.stage ((cfgT m).slots t 2)) (hstage0_2 (((cfgT m).slots t 2).cast nbuf0_2)) (spec0_3.stage ((cfgT m).slots t 3)) (hstage0_3 (((cfgT m).slots t 3).cast nbuf0_3)) (spec0_4.stage ((cfgT m).slots t 4)) (hstage0_4 (((cfgT m).slots t 4).cast nbuf0_4)) (spec0_5.stage ((cfgT m).slots t 5)) (hstage0_5 (((cfgT m).slots t 5).cast nbuf0_5)) (spec0_6.stage ((cfgT m).slots t 6)) (hstage0_6 (((cfgT m).slots t 6).cast nbuf0_6)) (spec0_7.stage ((cfgT m).slots t 7)) (hstage0_7 (((cfgT m).slots t 7).cast nbuf0_7)))

/-- Every run of the program ends, with the arguments as they were and every counter at zero. -/
theorem run_frame (hf : Fills (m ((0 : Dev nD).tc.loc main_arg5))) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine Pipeline.θ_run_frameP_forget pcfgs (fun _ => tbl m) (dats m) 0 launch0 defs₀ 𝒱₀ fgt m g main (hbody m hf)
    (fun c w => ?_) (fun _ _ => rfl) (V m) (hmain m 𝒱₀) (fun _ _ => rfl) ?_ (fun _ _ => rfl) _ ?_
  · fin_cases w <;> rfl
  · intro c k
    obtain rfl : c = 0 := Subsingleton.elim _ _
    fin_cases k
    exact V_of m 0 main_arg5 (by decide) (by decide) (by decide) (by decide) (by decide)
  · rintro r ⟨h, hs⟩
    refine ⟨fun c => ?_, hs⟩
    have rest : ∀ b : Ref sig .tc, b ∈ Pipeline.restRefs sig spec0 → b ≠ main_v0 → b ≠ main_v1 → b ≠ main_v2 → b ≠ main_v3 → b ≠ main_v4 →
        r.2.mem ((c.tc : Thread nD τ).loc b) = m ((c.tc : Thread nD τ).loc b) := fun b hb h0 h1 h2 h3 h4 =>
      ((h c).2 b hb).trans (V_of m c b h0 h1 h2 h3 h4)
    refine ⟨?_, ?_, ?_, ?_, ?_, ?_⟩ <;>
      exact rest _ (Pipeline.mem_restRefs_of _ (by decide) (by decide)) (by decide) (by decide) (by decide) (by decide) (by decide)

end Cert.KernelIdeal
-- ==== Proof.RefRun.lean ====
/-
  The reference's run: its operations in order, what they leave, and the arguments untouched.
-/
module

public import proofs.«01_k».proof.Proof.Gen.ReferenceIdeal
public import Idealize.ShloMosaic.Lib.StableHlo.Run
public import Idealize.ShloMosaic.Lib.Quiescent

@[expose] public section

set_option maxRecDepth 16384

noncomputable section

namespace Cert.ReferenceIdeal

open Cert.ReferenceIdeal.Gen
open Idealize.ShloMosaic Idealize.ShloMosaic.TcCoe Idealize.ShloMosaic.StableHlo Idealize.SL.Sem

variable {F : FTy → Type} [FloatOps F]

/-- The operations of the program in order, those of the functions it calls in their places. -/
abbrev ops : List (HloOp τ sig (Elt F)) :=
  [ nullary main_v0 (iotaInDim S4096 32 0),
    nullary main_call0_call0_c (constantI S_ 32 0#32),
    unary main_call0_call0_c main_call0_call0_v0 (broadcastInDim S_ ![] bcast_S_S_),
    binary main_arg5 main_call0_call0_v0 main_v1 (fun x v => Host.reduceWindow IntOp.addi ![1, 7] ![1, 1] ![0, 6] ![0, 0] x v reduceWindows_S12x7_S12x7_w1s1p0_0_w7s1p6_0 h_S_),
    unary main_v1 main_v2 (broadcastInDim S12x1x7 ![0, 2] bcast_S12x7_S12x1x7_0_2 : (⟨S12x7, .i32⟩ : BufTy).Contents (Elt F) → (⟨S12x1x7, .i32⟩ : BufTy).Contents (Elt F)),
    unary main_v0 main_v3 (broadcastInDim S1x4096x1 ![1] bcast_S4096_S1x4096x1_1 : (⟨S4096, .i32⟩ : BufTy).Contents (Elt F) → (⟨S1x4096x1, .i32⟩ : BufTy).Contents (Elt F)),
    unary main_v2 main_v4 (broadcastInDim S12x4096x7 ![0, 1, 2] bcast_S12x1x7_S12x4096x7_0_1_2 : (⟨S12x1x7, .i32⟩ : BufTy).Contents (Elt F) → (⟨S12x4096x7, .i32⟩ : BufTy).Contents (Elt F)),
    unary main_v3 main_v5 (broadcastInDim S12x4096x7 ![0, 1, 2] bcast_S1x4096x1_S12x4096x7_0_1_2 : (⟨S1x4096x1, .i32⟩ : BufTy).Contents (Elt F) → (⟨S12x4096x7, .i32⟩ : BufTy).Contents (Elt F)),
    binary main_v4 main_v5 main_v6 (cmpi .sle : (⟨S12x4096x7, .i32⟩ : BufTy).Contents (Elt F) → (⟨S12x4096x7, .i32⟩ : BufTy).Contents (Elt F) → (⟨S12x4096x7, .i1⟩ : BufTy).Contents (Elt F)),
    unary main_v6 main_v7 ((extui 32 · natLt_1_32) : (⟨S12x4096x7, .i1⟩ : BufTy).Contents (Elt F) → (⟨S12x4096x7, .i32⟩ : BufTy).Contents (Elt F)),
    nullary main_c (constantI S_ 32 0#32),
    binary main_v7 main_c main_v8 ((fun x v => Host.reduce IntOp.addi x v reducesTo_S12x4096x7_S12x4096_d2 h_S_) : (⟨S12x4096x7, .i32⟩ : BufTy).Contents (Elt F) → (⟨S_, .i32⟩ : BufTy).Contents (Elt F) → (⟨S12x4096, .i32⟩ : BufTy).Contents (Elt F)),
    unary main_arg0 main_v9 ((truncf .bf16 · bitsLt_bf16_f32) : (⟨S12x4096x256, .f32⟩ : BufTy).Contents (Elt F) → (⟨S12x4096x256, .bf16⟩ : BufTy).Contents (Elt F)),
    unary main_arg1 main_v10 ((truncf .bf16 · bitsLt_bf16_f32) : (⟨S12x4096, .f32⟩ : BufTy).Contents (Elt F) → (⟨S12x4096, .bf16⟩ : BufTy).Contents (Elt F)),
    unary main_v10 main_v11 (broadcastInDim S12x4096x1 ![0, 1] bcast_S12x4096_S12x4096x1_0_1 : (⟨S12x4096, .bf16⟩ : BufTy).Contents (Elt F) → (⟨S12x4096x1, .bf16⟩ : BufTy).Contents (Elt F)),
    unary main_v11 main_v12 (broadcastInDim S12x4096x256 ![0, 1, 2] bcast_S12x4096x1_S12x4096x256_0_1_2 : (⟨S12x4096x1, .bf16⟩ : BufTy).Contents (Elt F) → (⟨S12x4096x256, .bf16⟩ : BufTy).Contents (Elt F)),
    binary main_v9 main_v12 main_v13 (mulf : (⟨S12x4096x256, .bf16⟩ : BufTy).Contents (Elt F) → (⟨S12x4096x256, .bf16⟩ : BufTy).Contents (Elt F) → (⟨S12x4096x256, .bf16⟩ : BufTy).Contents (Elt F)),
    unary main_arg2 main_v14 ((truncf .bf16 · bitsLt_bf16_f32) : (⟨S12x4096x256, .f32⟩ : BufTy).Contents (Elt F) → (⟨S12x4096x256, .bf16⟩ : BufTy).Contents (Elt F)),
    unary main_arg3 main_v15 ((truncf .bf16 · bitsLt_bf16_f32) : (⟨S12x4096, .f32⟩ : BufTy).Contents (Elt F) → (⟨S12x4096, .bf16⟩ : BufTy).Contents (Elt F)),
    unary main_v15 main_v16 (broadcastInDim S12x4096x1 ![0, 1] bcast_S12x4096_S12x4096x1_0_1 : (⟨S12x4096, .bf16⟩ : BufTy).Contents (Elt F) → (⟨S12x4096x1, .bf16⟩ : BufTy).Contents (Elt F)),
    unary main_v16 main_v17 (broadcastInDim S12x4096x256 ![0, 1, 2] bcast_S12x4096x1_S12x4096x256_0_1_2 : (⟨S12x4096x1, .bf16⟩ : BufTy).Contents (Elt F) → (⟨S12x4096x256, .bf16⟩ : BufTy).Contents (Elt F)),
    binary main_v14 main_v17 main_v18 (mulf : (⟨S12x4096x256, .bf16⟩ : BufTy).Contents (Elt F) → (⟨S12x4096x256, .bf16⟩ : BufTy).Contents (Elt F) → (⟨S12x4096x256, .bf16⟩ : BufTy).Contents (Elt F)),
    binary main_arg0 main_arg2 main_v19 ((fun l r => Host.dotGeneral dot_S12x4096x256_S12x4096x256_S12x4096x4096_2_2_1_1_0_0 none l r) : (⟨S12x4096x256, .f32⟩ : BufTy).Contents (Elt F) → (⟨S12x4096x256, .f32⟩ : BufTy).Contents (Elt F) → (⟨S12x4096x4096, .f32⟩ : BufTy).Contents (Elt F)),
    unary main_arg1 main_v20 (broadcastInDim S12x4096x1 ![0, 1] bcast_S12x4096_S12x4096x1_0_1 : (⟨S12x4096, .f32⟩ : BufTy).Contents (Elt F) → (⟨S12x4096x1, .f32⟩ : BufTy).Contents (Elt F)),
    unary main_arg3 main_v21 (broadcastInDim S12x1x4096 ![0, 2] bcast_S12x4096_S12x1x4096_0_2 : (⟨S12x4096, .f32⟩ : BufTy).Contents (Elt F) → (⟨S12x1x4096, .f32⟩ : BufTy).Contents (Elt F)),
    unary main_v20 main_v22 (broadcastInDim S12x4096x4096 ![0, 1, 2] bcast_S12x4096x1_S12x4096x4096_0_1_2 : (⟨S12x4096x1, .f32⟩ : BufTy).Contents (Elt F) → (⟨S12x4096x4096, .f32⟩ : BufTy).Contents (Elt F)),
    unary main_v21 main_v23 (broadcastInDim S12x4096x4096 ![0, 1, 2] bcast_S12x1x4096_S12x4096x4096_0_1_2 : (⟨S12x1x4096, .f32⟩ : BufTy).Contents (Elt F) → (⟨S12x4096x4096, .f32⟩ : BufTy).Contents (Elt F)),
    binary main_v22 main_v23 main_v24 (mulf : (⟨S12x4096x4096, .f32⟩ : BufTy).Contents (Elt F) → (⟨S12x4096x4096, .f32⟩ : BufTy).Contents (Elt F) → (⟨S12x4096x4096, .f32⟩ : BufTy).Contents (Elt F)),
    binary main_v19 main_v24 main_v25 (mulf : (⟨S12x4096x4096, .f32⟩ : BufTy).Contents (Elt F) → (⟨S12x4096x4096, .f32⟩ : BufTy).Contents (Elt F) → (⟨S12x4096x4096, .f32⟩ : BufTy).Contents (Elt F)),
    nullary main_cst (constant S_ .f32 0x41A00000#32),
    unary main_cst main_v26 (broadcastInDim S12x4096x4096 ![] bcast_S_S12x4096x4096 : (⟨S_, .f32⟩ : BufTy).Contents (Elt F) → (⟨S12x4096x4096, .f32⟩ : BufTy).Contents (Elt F)),
    binary main_v25 main_v26 main_v27 (mulf : (⟨S12x4096x4096, .f32⟩ : BufTy).Contents (Elt F) → (⟨S12x4096x4096, .f32⟩ : BufTy).Contents (Elt F) → (⟨S12x4096x4096, .f32⟩ : BufTy).Contents (Elt F)),
    unary main_arg4 main_v28 (broadcastInDim S12x1x4096 ![0, 2] bcast_S12x4096_S12x1x4096_0_2 : (⟨S12x4096, .f32⟩ : BufTy).Contents (Elt F) → (⟨S12x1x4096, .f32⟩ : BufTy).Contents (Elt F)),
    unary main_v28 main_v29 (broadcastInDim S12x4096x4096 ![0, 1, 2] bcast_S12x1x4096_S12x4096x4096_0_1_2 : (⟨S12x1x4096, .f32⟩ : BufTy).Contents (Elt F) → (⟨S12x4096x4096, .f32⟩ : BufTy).Contents (Elt F)),
    binary main_v27 main_v29 main_v30 (subf : (⟨S12x4096x4096, .f32⟩ : BufTy).Contents (Elt F) → (⟨S12x4096x4096, .f32⟩ : BufTy).Contents (Elt F) → (⟨S12x4096x4096, .f32⟩ : BufTy).Contents (Elt F)),
    unary main_v8 main_v31 (broadcastInDim S12x4096x1 ![0, 1] bcast_S12x4096_S12x4096x1_0_1 : (⟨S12x4096, .i32⟩ : BufTy).Contents (Elt F) → (⟨S12x4096x1, .i32⟩ : BufTy).Contents (Elt F)),
    unary main_v8 main_v32 (broadcastInDim S12x1x4096 ![0, 2] bcast_S12x4096_S12x1x4096_0_2 : (⟨S12x4096, .i32⟩ : BufTy).Contents (Elt F) → (⟨S12x1x4096, .i32⟩ : BufTy).Contents (Elt F)),
    unary main_v31 main_v33 (broadcastInDim S12x4096x4096 ![0, 1, 2] bcast_S12x4096x1_S12x4096x4096_0_1_2 : (⟨S12x4096x1, .i32⟩ : BufTy).Contents (Elt F) → (⟨S12x4096x4096, .i32⟩ : BufTy).Contents (Elt F)),
    unary main_v32 main_v34 (broadcastInDim S12x4096x4096 ![0, 1, 2] bcast_S12x1x4096_S12x4096x4096_0_1_2 : (⟨S12x1x4096, .i32⟩ : BufTy).Contents (Elt F) → (⟨S12x4096x4096, .i32⟩ : BufTy).Contents (Elt F)),
    binary main_v33 main_v34 main_v35 (cmpi .eq : (⟨S12x4096x4096, .i32⟩ : BufTy).Contents (Elt F) → (⟨S12x4096x4096, .i32⟩ : BufTy).Contents (Elt F) → (⟨S12x4096x4096, .i1⟩ : BufTy).Contents (Elt F)),
    nullary main_cst_0 (constant S_ .f32 0xFF800000#32),
    unary main_cst_0 main_call1_v0 id,
    unary main_call1_v0 main_call1_v1 (broadcastInDim S12x4096x4096 ![] bcast_S_S12x4096x4096),
    ternary main_v35 main_v30 main_call1_v1 main_v36 select,
    nullary main_cst_1 (constant S_ .f32 0xFF800000#32),
    binary main_v36 main_cst_1 main_v37 ((fun x v => Host.reduce FloatOps.maximumf x v reducesTo_S12x4096x4096_S12x4096_d2 h_S_) : (⟨S12x4096x4096, .f32⟩ : BufTy).Contents (Elt F) → (⟨S_, .f32⟩ : BufTy).Contents (Elt F) → (⟨S12x4096, .f32⟩ : BufTy).Contents (Elt F)),
    unary main_v37 main_v38 (broadcastInDim S12x4096x1 ![0, 1] bcast_S12x4096_S12x4096x1_0_1 : (⟨S12x4096, .f32⟩ : BufTy).Contents (Elt F) → (⟨S12x4096x1, .f32⟩ : BufTy).Contents (Elt F)),
    unary main_v38 main_v39 (broadcastInDim S12x4096x4096 ![0, 1, 2] bcast_S12x4096x1_S12x4096x4096_0_1_2 : (⟨S12x4096x1, .f32⟩ : BufTy).Contents (Elt F) → (⟨S12x4096x4096, .f32⟩ : BufTy).Contents (Elt F)),
    binary main_v36 main_v39 main_v40 (subf : (⟨S12x4096x4096, .f32⟩ : BufTy).Contents (Elt F) → (⟨S12x4096x4096, .f32⟩ : BufTy).Contents (Elt F) → (⟨S12x4096x4096, .f32⟩ : BufTy).Contents (Elt F)),
    unary main_v40 main_v41 (Host.exp : (⟨S12x4096x4096, .f32⟩ : BufTy).Contents (Elt F) → (⟨S12x4096x4096, .f32⟩ : BufTy).Contents (Elt F)),
    nullary main_cst_2 (constant S_ .f32 0x00000000#32),
    binary main_v41 main_cst_2 main_v42 ((fun x v => Host.reduceAdd x v reducesTo_S12x4096x4096_S12x4096_d2 h_S_) : (⟨S12x4096x4096, .f32⟩ : BufTy).Contents (Elt F) → (⟨S_, .f32⟩ : BufTy).Contents (Elt F) → (⟨S12x4096, .f32⟩ : BufTy).Contents (Elt F)),
    unary main_v42 main_v43 (Host.log : (⟨S12x4096, .f32⟩ : BufTy).Contents (Elt F) → (⟨S12x4096, .f32⟩ : BufTy).Contents (Elt F)),
    binary main_v37 main_v43 main_v44 (addf : (⟨S12x4096, .f32⟩ : BufTy).Contents (Elt F) → (⟨S12x4096, .f32⟩ : BufTy).Contents (Elt F) → (⟨S12x4096, .f32⟩ : BufTy).Contents (Elt F)),
    unary main_v0 main_v45 (broadcastInDim S4096x1 ![0] bcast_S4096_S4096x1_0 : (⟨S4096, .i32⟩ : BufTy).Contents (Elt F) → (⟨S4096x1, .i32⟩ : BufTy).Contents (Elt F)),
    unary main_v0 main_v46 (broadcastInDim S1x4096 ![1] bcast_S4096_S1x4096_1 : (⟨S4096, .i32⟩ : BufTy).Contents (Elt F) → (⟨S1x4096, .i32⟩ : BufTy).Contents (Elt F)),
    unary main_v45 main_v47 (broadcastInDim S4096x4096 ![0, 1] bcast_S4096x1_S4096x4096_0_1 : (⟨S4096x1, .i32⟩ : BufTy).Contents (Elt F) → (⟨S4096x4096, .i32⟩ : BufTy).Contents (Elt F)),
    unary main_v46 main_v48 (broadcastInDim S4096x4096 ![0, 1] bcast_S1x4096_S4096x4096_0_1 : (⟨S1x4096, .i32⟩ : BufTy).Contents (Elt F) → (⟨S4096x4096, .i32⟩ : BufTy).Contents (Elt F)),
    binary main_v47 main_v48 main_v49 (cmpi .eq : (⟨S4096x4096, .i32⟩ : BufTy).Contents (Elt F) → (⟨S4096x4096, .i32⟩ : BufTy).Contents (Elt F) → (⟨S4096x4096, .i1⟩ : BufTy).Contents (Elt F)),
    unary main_v49 main_v50 (broadcastInDim S1x4096x4096 ![1, 2] bcast_S4096x4096_S1x4096x4096_1_2 : (⟨S4096x4096, .i1⟩ : BufTy).Contents (Elt F) → (⟨S1x4096x4096, .i1⟩ : BufTy).Contents (Elt F)),
    nullary main_cst_3 (constant S_ .f32 0x00000000#32),
    unary main_cst_3 main_call2_v0 id,
    unary main_v50 main_call2_v1 (broadcastInDim S12x4096x4096 ![0, 1, 2] bcast_S1x4096x4096_S12x4096x4096_0_1_2),
    unary main_call2_v0 main_call2_v2 (broadcastInDim S12x4096x4096 ![] bcast_S_S12x4096x4096),
    ternary main_call2_v1 main_v30 main_call2_v2 main_v51 select,
    nullary main_cst_4 (constant S_ .f32 0x00000000#32),
    binary main_v51 main_cst_4 main_v52 ((fun x v => Host.reduceAdd x v reducesTo_S12x4096x4096_S12x4096_d2 h_S_) : (⟨S12x4096x4096, .f32⟩ : BufTy).Contents (Elt F) → (⟨S_, .f32⟩ : BufTy).Contents (Elt F) → (⟨S12x4096, .f32⟩ : BufTy).Contents (Elt F)),
    binary main_v44 main_v52 main_v53 (subf : (⟨S12x4096, .f32⟩ : BufTy).Contents (Elt F) → (⟨S12x4096, .f32⟩ : BufTy).Contents (Elt F) → (⟨S12x4096, .f32⟩ : BufTy).Contents (Elt F)),
    unary main_v44 main_v54 (broadcastInDim S12x4096x1 ![0, 1] bcast_S12x4096_S12x4096x1_0_1 : (⟨S12x4096, .f32⟩ : BufTy).Contents (Elt F) → (⟨S12x4096x1, .f32⟩ : BufTy).Contents (Elt F)),
    unary main_v54 main_v55 (broadcastInDim S12x4096x4096 ![0, 1, 2] bcast_S12x4096x1_S12x4096x4096_0_1_2 : (⟨S12x4096x1, .f32⟩ : BufTy).Contents (Elt F) → (⟨S12x4096x4096, .f32⟩ : BufTy).Contents (Elt F)),
    binary main_v36 main_v55 main_v56 (subf : (⟨S12x4096x4096, .f32⟩ : BufTy).Contents (Elt F) → (⟨S12x4096x4096, .f32⟩ : BufTy).Contents (Elt F) → (⟨S12x4096x4096, .f32⟩ : BufTy).Contents (Elt F)),
    unary main_v56 main_v57 (Host.exp : (⟨S12x4096x4096, .f32⟩ : BufTy).Contents (Elt F) → (⟨S12x4096x4096, .f32⟩ : BufTy).Contents (Elt F)),
    unary main_v49 main_v58 (broadcastInDim S1x4096x4096 ![1, 2] bcast_S4096x4096_S1x4096x4096_1_2 : (⟨S4096x4096, .i1⟩ : BufTy).Contents (Elt F) → (⟨S1x4096x4096, .i1⟩ : BufTy).Contents (Elt F)),
    nullary main_cst_5 (constant S_ .f32 0x3F800000#32),
    unary main_cst_5 main_v59 (broadcastInDim S12x4096x4096 ![] bcast_S_S12x4096x4096 : (⟨S_, .f32⟩ : BufTy).Contents (Elt F) → (⟨S12x4096x4096, .f32⟩ : BufTy).Contents (Elt F)),
    binary main_v57 main_v59 main_v60 (subf : (⟨S12x4096x4096, .f32⟩ : BufTy).Contents (Elt F) → (⟨S12x4096x4096, .f32⟩ : BufTy).Contents (Elt F) → (⟨S12x4096x4096, .f32⟩ : BufTy).Contents (Elt F)),
    unary main_v58 main_call3_v0 (broadcastInDim S12x4096x4096 ![0, 1, 2] bcast_S1x4096x4096_S12x4096x4096_0_1_2),
    ternary main_call3_v0 main_v60 main_v57 main_v61 select,
    unary main_v61 main_v62 ((truncf .bf16 · bitsLt_bf16_f32) : (⟨S12x4096x4096, .f32⟩ : BufTy).Contents (Elt F) → (⟨S12x4096x4096, .bf16⟩ : BufTy).Contents (Elt F)),
    binary main_v62 main_v18 main_v63 ((fun l r => Host.dotGeneral dot_S12x4096x4096_S12x4096x256_S12x4096x256_2_1_1_2_0_0 none l r) : (⟨S12x4096x4096, .bf16⟩ : BufTy).Contents (Elt F) → (⟨S12x4096x256, .bf16⟩ : BufTy).Contents (Elt F) → (⟨S12x4096x256, .f32⟩ : BufTy).Contents (Elt F)),
    nullary main_cst_6 (constant S_ .f32 0x41A00000#32),
    unary main_cst_6 main_v64 (broadcastInDim S12x4096x256 ![] bcast_S_S12x4096x256 : (⟨S_, .f32⟩ : BufTy).Contents (Elt F) → (⟨S12x4096x256, .f32⟩ : BufTy).Contents (Elt F)),
    binary main_v63 main_v64 main_v65 (mulf : (⟨S12x4096x256, .f32⟩ : BufTy).Contents (Elt F) → (⟨S12x4096x256, .f32⟩ : BufTy).Contents (Elt F) → (⟨S12x4096x256, .f32⟩ : BufTy).Contents (Elt F)),
    binary main_v62 main_v13 main_v66 ((fun l r => Host.dotGeneral dot_S12x4096x4096_S12x4096x256_S12x4096x256_1_1_2_2_0_0 none l r) : (⟨S12x4096x4096, .bf16⟩ : BufTy).Contents (Elt F) → (⟨S12x4096x256, .bf16⟩ : BufTy).Contents (Elt F) → (⟨S12x4096x256, .f32⟩ : BufTy).Contents (Elt F)),
    nullary main_cst_7 (constant S_ .f32 0x41A00000#32),
    unary main_cst_7 main_v67 (broadcastInDim S12x4096x256 ![] bcast_S_S12x4096x256 : (⟨S_, .f32⟩ : BufTy).Contents (Elt F) → (⟨S12x4096x256, .f32⟩ : BufTy).Contents (Elt F)),
    binary main_v66 main_v67 main_v68 (mulf : (⟨S12x4096x256, .f32⟩ : BufTy).Contents (Elt F) → (⟨S12x4096x256, .f32⟩ : BufTy).Contents (Elt F) → (⟨S12x4096x256, .f32⟩ : BufTy).Contents (Elt F)),
    unary main_v53 main_v69 (broadcastInDim S12x1x4096 ![0, 2] bcast_S12x4096_S12x1x4096_0_2 : (⟨S12x4096, .f32⟩ : BufTy).Contents (Elt F) → (⟨S12x1x4096, .f32⟩ : BufTy).Contents (Elt F)),
    unary main_v65 main_v70 ((truncf .bf16 · bitsLt_bf16_f32) : (⟨S12x4096x256, .f32⟩ : BufTy).Contents (Elt F) → (⟨S12x4096x256, .bf16⟩ : BufTy).Contents (Elt F)),
    unary main_v68 main_v71 ((truncf .bf16 · bitsLt_bf16_f32) : (⟨S12x4096x256, .f32⟩ : BufTy).Contents (Elt F) → (⟨S12x4096x256, .bf16⟩ : BufTy).Contents (Elt F)) ]

set_option maxHeartbeats 4000000 in
/-- The program is that line of operations. -/
theorem main_eq (c : Dev nD) : main (F := F) c = seq ops := by rfl

/-- The program has no scoped buffer. -/
theorem scopedRefs_eq : (Finset.univ.filter fun b : Ref sig .tc => b.isScoped) = ∅ := by decide
/-- The program has no scoped semaphore. -/
theorem scopedSems_eq : (Finset.univ.filter fun sm : SemLoc sig => sm.isScoped .tc) = ∅ := by decide

/-- Every operation touches buffers of the core only. -/
theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub .., unary_bufs_sub .., unary_bufs_sub .., binary_bufs_sub .., unary_bufs_sub .., nullary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., unary_bufs_sub .., unary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., unary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., unary_bufs_sub .., nullary_bufs_sub .., binary_bufs_sub .., unary_bufs_sub .., binary_bufs_sub .., unary_bufs_sub .., unary_bufs_sub .., unary_bufs_sub .., unary_bufs_sub .., binary_bufs_sub .., unary_bufs_sub .., nullary_bufs_sub .., unary_bufs_sub .., unary_bufs_sub .., unary_bufs_sub .., ternary_bufs_sub .., nullary_bufs_sub .., binary_bufs_sub .., binary_bufs_sub .., unary_bufs_sub .., unary_bufs_sub .., binary_bufs_sub .., unary_bufs_sub .., unary_bufs_sub .., nullary_bufs_sub .., unary_bufs_sub .., binary_bufs_sub .., unary_bufs_sub .., ternary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., unary_bufs_sub ..⟩

/-- What the operations write, in order. -/
abbrev written : List (Ref sig .tc) :=
  [main_v0, main_call0_call0_c, main_call0_call0_v0, main_v1, main_v2, main_v3, main_v4, main_v5, main_v6, main_v7, main_c, main_v8, main_v9, main_v10, main_v11, main_v12, main_v13, main_v14, main_v15, main_v16, main_v17, main_v18, main_v19, main_v20, main_v21, main_v22, main_v23, main_v24, main_v25, main_cst, main_v26, main_v27, main_v28, main_v29, main_v30, main_v31, main_v32, main_v33, main_v34, main_v35, main_cst_0, main_call1_v0, main_call1_v1, main_v36, main_cst_1, main_v37, main_v38, main_v39, main_v40, main_v41, main_cst_2, main_v42, main_v43, main_v44, main_v45, main_v46, main_v47, main_v48, main_v49, main_v50, main_cst_3, main_call2_v0, main_call2_v1, main_call2_v2, main_v51, main_cst_4, main_v52, main_v53, main_v54, main_v55, main_v56, main_v57, main_v58, main_cst_5, main_v59, main_v60, main_call3_v0, main_v61, main_v62, main_v63, main_cst_6, main_v64, main_v65, main_v66, main_cst_7, main_v67, main_v68, main_v69, main_v70, main_v71]

/-- A buffer that no operation writes keeps its contents. -/
theorem kept (V : Valuation τ sig (Elt F)) (b : Ref sig .tc) (hb : b ∉ written) :
    after ops V (Proc.devRef .tc b) = V (Proc.devRef .tc b) :=
  after_of_writes_sub (W := written) ops V (forall_writes_sub_of_map rfl) hb

/-- The program ends, every buffer as the operations leave it. -/
theorem run_all (m : (ℓ : Loc nD τ sig) → Buf (Elt F) ℓ) (g : Dev nD → PrngReg) :
    θ_run defs (onTc (τ := τ) (main (F := F))) ⟨m, fun _ => 0, g⟩ fun r =>
      ∀ (d : Dev nD) (b : Ref sig .tc), r.2.mem ((d.tc : Thread nD τ).loc b) = after ops (launchContents m d) (Proc.devRef .tc b) :=
  run_seq scopedRefs_eq scopedSems_eq defs main (fun _ => (ops (F := F))) main_eq (fun _ => ops_sub) m g

/-- Every run ends with the arguments as they were and every counter at zero. -/
theorem run_frame (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r h => ⟨fun c => ?_, Idealize.ShloMosaic.sem_eq_zero_of_no_sems (by decide) r.2⟩) (run_all m g)
  refine ⟨?_, ?_, ?_, ?_, ?_, ?_⟩ <;> exact (h c _).trans (kept _ _ (by decide))

end Cert.ReferenceIdeal
-- ==== Proof.RefValue.lean ====
/-
  What the reference leaves in its results, as functions of its arguments.
-/
module

public import proofs.«01_k».proof.Proof.RefRun
public import Idealize.ShloMosaic.Lib.StableHlo.Run
public import Idealize.ShloMosaic.Lib.Pointwise

@[expose] public section

set_option maxRecDepth 16384

noncomputable section

namespace Cert.ReferenceIdeal

open Cert.ReferenceIdeal.Gen
open Idealize.ShloMosaic Idealize.ShloMosaic.TcCoe Idealize.ShloMosaic.StableHlo Idealize.SL.Sem

/-- The segment of each position, counted from the ends of the segments. -/
def vSeg (arg5 : IVec S12x7 32) : IVec S12x4096 32 :=
  (Host.reduce IntOp.addi (extui 32 (cmpi .sle (broadcastInDim S12x4096x7 ![0, 1, 2] bcast_S12x1x7_S12x4096x7_0_1_2 (broadcastInDim S12x1x7 ![0, 2] bcast_S12x7_S12x1x7_0_2 (Host.reduceWindow IntOp.addi ![1, 7] ![1, 1] ![0, 6] ![0, 0] arg5 ((broadcastInDim S_ ![] bcast_S_S_) ((constantI S_ 32 0#32))) reduceWindows_S12x7_S12x7_w1s1p0_0_w7s1p6_0 h_S_))) (broadcastInDim S12x4096x7 ![0, 1, 2] bcast_S1x4096x1_S12x4096x7_0_1_2 (broadcastInDim S1x4096x1 ![1] bcast_S4096_S1x4096x1_1 ((iotaInDim S4096 32 0))))) natLt_1_32) ((constantI S_ 32 0#32)) reducesTo_S12x4096x7_S12x4096_d2 h_S_)

/-- The users' dequantised codes. -/
def vU (arg0 : FVec Ideal S12x4096x256 .f32) (arg1 : FVec Ideal S12x4096 .f32) : FVec Ideal S12x4096x256 .bf16 :=
  (mulf (truncf .bf16 arg0 bitsLt_bf16_f32) (broadcastInDim S12x4096x256 ![0, 1, 2] bcast_S12x4096x1_S12x4096x256_0_1_2 (broadcastInDim S12x4096x1 ![0, 1] bcast_S12x4096_S12x4096x1_0_1 (truncf .bf16 arg1 bitsLt_bf16_f32))))

/-- The items' dequantised codes. -/
def vV (arg2 : FVec Ideal S12x4096x256 .f32) (arg3 : FVec Ideal S12x4096 .f32) : FVec Ideal S12x4096x256 .bf16 :=
  (mulf (truncf .bf16 arg2 bitsLt_bf16_f32) (broadcastInDim S12x4096x256 ![0, 1, 2] bcast_S12x4096x1_S12x4096x256_0_1_2 (broadcastInDim S12x4096x1 ![0, 1] bcast_S12x4096_S12x4096x1_0_1 (truncf .bf16 arg3 bitsLt_bf16_f32))))

/-- The logits. -/
def vL (arg0 : FVec Ideal S12x4096x256 .f32) (arg1 : FVec Ideal S12x4096 .f32) (arg2 : FVec Ideal S12x4096x256 .f32) (arg3 : FVec Ideal S12x4096 .f32) (arg4 : FVec Ideal S12x4096 .f32) : FVec Ideal S12x4096x4096 .f32 :=
  (subf (mulf (mulf (Host.dotGeneral dot_S12x4096x256_S12x4096x256_S12x4096x4096_2_2_1_1_0_0 none arg0 arg2) (mulf (broadcastInDim S12x4096x4096 ![0, 1, 2] bcast_S12x4096x1_S12x4096x4096_0_1_2 (broadcastInDim S12x4096x1 ![0, 1] bcast_S12x4096_S12x4096x1_0_1 arg1)) (broadcastInDim S12x4096x4096 ![0, 1, 2] bcast_S12x1x4096_S12x4096x4096_0_1_2 (broadcastInDim S12x1x4096 ![0, 2] bcast_S12x4096_S12x1x4096_0_2 arg3)))) (broadcastInDim S12x4096x4096 ![] bcast_S_S12x4096x4096 ((constant S_ .f32 0x41A00000#32)))) (broadcastInDim S12x4096x4096 ![0, 1, 2] bcast_S12x1x4096_S12x4096x4096_0_1_2 (broadcastInDim S12x1x4096 ![0, 2] bcast_S12x4096_S12x1x4096_0_2 arg4)))

/-- The logits within a segment. -/
def vLm (v8 : IVec S12x4096 32) (v30 : FVec Ideal S12x4096x4096 .f32) : FVec Ideal S12x4096x4096 .f32 :=
  (select (cmpi .eq (broadcastInDim S12x4096x4096 ![0, 1, 2] bcast_S12x4096x1_S12x4096x4096_0_1_2 (broadcastInDim S12x4096x1 ![0, 1] bcast_S12x4096_S12x4096x1_0_1 v8)) (broadcastInDim S12x4096x4096 ![0, 1, 2] bcast_S12x1x4096_S12x4096x4096_0_1_2 (broadcastInDim S12x1x4096 ![0, 2] bcast_S12x4096_S12x1x4096_0_2 v8))) v30 ((broadcastInDim S12x4096x4096 ![] bcast_S_S12x4096x4096) ((constant S_ .f32 0xFF800000#32))))

/-- Their maxima. -/
def vMx (v36 : FVec Ideal S12x4096x4096 .f32) : FVec Ideal S12x4096 .f32 :=
  (Host.reduce FloatOps.maximumf v36 ((constant S_ .f32 0xFF800000#32)) reducesTo_S12x4096x4096_S12x4096_d2 h_S_)

/-- The logarithm of the sum of their exponentials. -/
def vLse (v36 : FVec Ideal S12x4096x4096 .f32) (v37 : FVec Ideal S12x4096 .f32) : FVec Ideal S12x4096 .f32 :=
  (addf v37 (Host.log (Host.reduceAdd (Host.exp (subf v36 (broadcastInDim S12x4096x4096 ![0, 1, 2] bcast_S12x4096x1_S12x4096x4096_0_1_2 (broadcastInDim S12x4096x1 ![0, 1] bcast_S12x4096_S12x4096x1_0_1 v37)))) ((constant S_ .f32 0x00000000#32)) reducesTo_S12x4096x4096_S12x4096_d2 h_S_)))

/-- The logits of the positive pairs. -/
def vPos (v30 : FVec Ideal S12x4096x4096 .f32) : FVec Ideal S12x4096 .f32 :=
  (Host.reduceAdd (select ((broadcastInDim S12x4096x4096 ![0, 1, 2] bcast_S1x4096x4096_S12x4096x4096_0_1_2) (broadcastInDim S1x4096x4096 ![1, 2] bcast_S4096x4096_S1x4096x4096_1_2 (cmpi .eq (broadcastInDim S4096x4096 ![0, 1] bcast_S4096x1_S4096x4096_0_1 (broadcastInDim S4096x1 ![0] bcast_S4096_S4096x1_0 ((iotaInDim S4096 32 0)))) (broadcastInDim S4096x4096 ![0, 1] bcast_S1x4096_S4096x4096_0_1 (broadcastInDim S1x4096 ![1] bcast_S4096_S1x4096_1 ((iotaInDim S4096 32 0))))))) v30 ((broadcastInDim S12x4096x4096 ![] bcast_S_S12x4096x4096) ((constant S_ .f32 0x00000000#32)))) ((constant S_ .f32 0x00000000#32)) reducesTo_S12x4096x4096_S12x4096_d2 h_S_)

/-- The weights of the pairs in the gradients. -/
def vG (v36 : FVec Ideal S12x4096x4096 .f32) (v44 : FVec Ideal S12x4096 .f32) : FVec Ideal S12x4096x4096 .bf16 :=
  (truncf .bf16 (select ((broadcastInDim S12x4096x4096 ![0, 1, 2] bcast_S1x4096x4096_S12x4096x4096_0_1_2) (broadcastInDim S1x4096x4096 ![1, 2] bcast_S4096x4096_S1x4096x4096_1_2 (cmpi .eq (broadcastInDim S4096x4096 ![0, 1] bcast_S4096x1_S4096x4096_0_1 (broadcastInDim S4096x1 ![0] bcast_S4096_S4096x1_0 ((iotaInDim S4096 32 0)))) (broadcastInDim S4096x4096 ![0, 1] bcast_S1x4096_S4096x4096_0_1 (broadcastInDim S1x4096 ![1] bcast_S4096_S1x4096_1 ((iotaInDim S4096 32 0))))))) (subf (Host.exp (subf v36 (broadcastInDim S12x4096x4096 ![0, 1, 2] bcast_S12x4096x1_S12x4096x4096_0_1_2 (broadcastInDim S12x4096x1 ![0, 1] bcast_S12x4096_S12x4096x1_0_1 v44)))) (broadcastInDim S12x4096x4096 ![] bcast_S_S12x4096x4096 ((constant S_ .f32 0x3F800000#32)))) (Host.exp (subf v36 (broadcastInDim S12x4096x4096 ![0, 1, 2] bcast_S12x4096x1_S12x4096x4096_0_1_2 (broadcastInDim S12x4096x1 ![0, 1] bcast_S12x4096_S12x4096x1_0_1 v44))))) bitsLt_bf16_f32)

/-- The losses. -/
def vLoss (v44 : FVec Ideal S12x4096 .f32) (v52 : FVec Ideal S12x4096 .f32) : FVec Ideal S12x1x4096 .f32 :=
  (broadcastInDim S12x1x4096 ![0, 2] bcast_S12x4096_S12x1x4096_0_2 (subf v44 v52))

/-- The users' gradients. -/
def vDu (v62 : FVec Ideal S12x4096x4096 .bf16) (v18 : FVec Ideal S12x4096x256 .bf16) : FVec Ideal S12x4096x256 .bf16 :=
  (truncf .bf16 (mulf (Host.dotGeneral dot_S12x4096x4096_S12x4096x256_S12x4096x256_2_1_1_2_0_0 none v62 v18) (broadcastInDim S12x4096x256 ![] bcast_S_S12x4096x256 ((constant S_ .f32 0x41A00000#32)))) bitsLt_bf16_f32)

/-- The items' gradients. -/
def vDv (v62 : FVec Ideal S12x4096x4096 .bf16) (v13 : FVec Ideal S12x4096x256 .bf16) : FVec Ideal S12x4096x256 .bf16 :=
  (truncf .bf16 (mulf (Host.dotGeneral dot_S12x4096x4096_S12x4096x256_S12x4096x256_1_1_2_2_0_0 none v62 v13) (broadcastInDim S12x4096x256 ![] bcast_S_S12x4096x256 ((constant S_ .f32 0x41A00000#32)))) bitsLt_bf16_f32)

section
variable (V : Valuation τ sig (Elt Ideal))

/-- The logits within a segment, of the contents of the arguments. -/
abbrev lmOf : FVec Ideal S12x4096x4096 .f32 := vLm (vSeg (V (Proc.devRef .tc main_arg5))) (vL (V (Proc.devRef .tc main_arg0)) (V (Proc.devRef .tc main_arg1)) (V (Proc.devRef .tc main_arg2)) (V (Proc.devRef .tc main_arg3)) (V (Proc.devRef .tc main_arg4)))
/-- The logarithm of the sums, of the contents of the arguments. -/
abbrev lseOf : FVec Ideal S12x4096 .f32 := vLse (lmOf V) (vMx (lmOf V))
/-- The operations leave the losses. -/
theorem leaves_loss : after ops V (Proc.devRef .tc main_v69) = vLoss (lseOf V) (vPos (vL (V (Proc.devRef .tc main_arg0)) (V (Proc.devRef .tc main_arg1)) (V (Proc.devRef .tc main_arg2)) (V (Proc.devRef .tc main_arg3)) (V (Proc.devRef .tc main_arg4)))) := by
  after_results
  rfl
/-- The operations leave the gradients of the users. -/
theorem leaves_du : after ops V (Proc.devRef .tc main_v70) = vDu (vG (lmOf V) (lseOf V)) (vV (V (Proc.devRef .tc main_arg2)) (V (Proc.devRef .tc main_arg3))) := by
  after_results
  rfl
/-- The operations leave the gradients of the items. -/
theorem leaves_dv : after ops V (Proc.devRef .tc main_v71) = vDv (vG (lmOf V) (lseOf V)) (vU (V (Proc.devRef .tc main_arg0)) (V (Proc.devRef .tc main_arg1))) := by
  after_results
  rfl
end

end Cert.ReferenceIdeal
-- ==== Proof.RefSegments.lean ====
/-
  The segment of each position as the reference counts it.
-/
module

public import proofs.«01_k».proof.Proof.RefValue
public import proofs.«01_k».proof.Proof.Table
public import Idealize.ShloMosaic.Lib.Routing.Ops
public import Idealize.ShloMosaic.Lib.WordCmp

@[expose] public section

set_option maxRecDepth 16384

noncomputable section

namespace Cert.ReferenceIdeal

open Cert.ReferenceIdeal.Gen Cert.Seg
open Idealize.ShloMosaic

/-- The position of element `n` in a window of one row and seven columns. -/
theorem win_at : ∀ n : Fin (⟨2, ![1, 7]⟩ : Shape).numel, ((⟨2, ![1, 7]⟩ : Shape).rowMajor.symm n 0).val = 0 ∧ ((⟨2, ![1, 7]⟩ : Shape).rowMajor.symm n 1).val = n.val := by
  decide +kernel

/-- The running sum along a row of the table. -/
theorem ends_at (x : IVec S12x7 32) (f : Fin 12 → ℕ → ℕ) (hx : ∀ (b : Fin 12) (k : Fin 7), x (ix2 b k) = BitVec.ofNat 32 (f b k))
    (init : IVec S_ 32) (hinit : ∀ j, init j = 0#32) (h) (hu) (b : Fin 12) (j : Fin 7) :
    Host.reduceWindow (t := S12x7) IntOp.addi ![1, 7] ![1, 1] ![0, 6] ![0, 0] x init h hu (ix2 b j) = BitVec.ofNat 32 ((List.range (j.val + 1)).map (f b)).sum := by
  have hv : init (Shape.Idx.first hu) = BitVec.ofNat 32 0 := hinit _
  have hj := j.isLt
  have hb := b.isLt
  unfold Host.reduceWindow
  refine (Routing.foldl_addi_ofNat _ _ (fun n => if 6 ≤ j.val + n.val then f b (j.val + n.val - 6) else 0) (fun n _ => ?_) _ 0 hv).trans ?_
  · obtain ⟨hw0, hw1⟩ := win_at n
    have hn : n.val < 7 := n.isLt
    dsimp only
    split
    · next hin =>
      have h1 := hin 1
      change 6 ≤ j.val * 1 + ((⟨2, ![1, 7]⟩ : Shape).rowMajor.symm n 1).val ∧ j.val * 1 + ((⟨2, ![1, 7]⟩ : Shape).rowMajor.symm n 1).val - 6 < 7 at h1
      rw [hw1] at h1
      rw [if_pos (by omega)]
      refine (congrArg x (funext fun a => Fin.ext ?_)).trans (hx b ⟨j.val + n.val - 6, by omega⟩)
      match a with
      | ⟨0, _⟩ =>
        show b.val * 1 + ((⟨2, ![1, 7]⟩ : Shape).rowMajor.symm n 0).val - 0 = b.val
        rw [hw0]
        omega
      | ⟨1, _⟩ =>
        show j.val * 1 + ((⟨2, ![1, 7]⟩ : Shape).rowMajor.symm n 1).val - 6 = j.val + n.val - 6
        rw [hw1, Nat.mul_one]
    · next hin =>
      rw [if_neg fun hle => hin fun a => by
        match a with
        | ⟨0, _⟩ =>
          show 0 ≤ b.val * 1 + ((⟨2, ![1, 7]⟩ : Shape).rowMajor.symm n 0).val ∧ b.val * 1 + ((⟨2, ![1, 7]⟩ : Shape).rowMajor.symm n 0).val - 0 < 12
          rw [hw0]
          omega
        | ⟨1, _⟩ =>
          show 6 ≤ j.val * 1 + ((⟨2, ![1, 7]⟩ : Shape).rowMajor.symm n 1).val
            ∧ j.val * 1 + ((⟨2, ![1, 7]⟩ : Shape).rowMajor.symm n 1).val - 6 < 7
          rw [hw1]
          omega]
      exact hv
  · rw [Nat.zero_add, Routing.map_finRange_val _ (fun w => if 6 ≤ j.val + w then f b (j.val + w - 6) else 0)]
    exact congrArg (BitVec.ofNat 32) (Routing.sum_window (fun i => f b i) 6 j.val (by omega))

/-- The two spellings of an index of the table are equal. -/
theorem tabIdx_eq (b : Fin 12) (k : Fin 7) : tabIdx b k = (ix2 b k : S12x7.Idx) := by
  funext a
  fin_cases a <;> rfl

/-- The sum of a list of lengths is the start of the next segment. -/
theorem list_sum_eq (f : ℕ → ℕ) (n : ℕ) : ((List.range n).map f).sum = startN f n := by
  induction n with
  | zero => rfl
  | succ n ih => simp only [List.range_succ, List.map_append, List.sum_append, ih, startN, Finset.sum_range_succ, List.map_singleton, List.sum_singleton]

/-- A later segment starts no earlier. -/
theorem start_mono (f : ℕ → ℕ) {i j : ℕ} (h : i ≤ j) : startN f i ≤ startN f j :=
  Finset.sum_le_sum_of_subset (Finset.range_mono h)

/-- Where a position lies in segment `p`, the count of the ends at or before it is `p`. -/
theorem seg_at (T : IVec S12x7 32) (hT : Fills T) (b : Fin 12) (p : ℕ) (hp : p < 7) (i : Fin 4096)
    (h1 : startN (lenN T b) p ≤ i.val) (h2 : i.val < startN (lenN T b) p + lenN T b p) : vSeg T (ix2 b i) = BitVec.ofNat 32 p := by
  have hx : ∀ (b : Fin 12) (k : Fin 7), T (ix2 b k) = BitVec.ofNat 32 (lenN T b k) := fun b k => by
    rw [lenN, dif_pos k.isLt, tabIdx_eq]
    simp
  have e : ∀ x : Fin 7, BitVec.setWidth 32 (IntOp.cmpi .sle (Host.reduceWindow (t := S12x7) IntOp.addi ![1, 7] ![1, 1] ![0, 6] ![0, 0] T
      (broadcastInDim S_ ![] bcast_S_S_ (constantI S_ 32 0#32)) reduceWindows_S12x7_S12x7_w1s1p0_0_w7s1p6_0 h_S_ (ix2 b x)) (BitVec.ofNat 32 i.val))
      = BitVec.ofNat 32 (if x.val < p then 1 else 0) := fun x => by
    rw [ends_at T (fun b => lenN T b) hx (broadcastInDim S_ ![] bcast_S_S_ (constantI S_ 32 0#32)) (fun _ => rfl), list_sum_eq]
    have hs : startN (lenN T b) (x.val + 1) ≤ 4096 := (hT.total b) ▸ start_mono _ (by omega)
    have hi := i.isLt
    have c : IntOp.cmpi .sle (BitVec.ofNat 32 (startN (lenN T b) (x.val + 1))) (BitVec.ofNat 32 i.val) = 1#1 ↔ startN (lenN T b) (x.val + 1) ≤ i.val := by
      rw [IntOp.cmpi_sle]
      rw [BitVec.toInt_eq_toNat_of_lt (by rw [BitVec.toNat_ofNat]; omega), BitVec.toInt_eq_toNat_of_lt (by rw [BitVec.toNat_ofNat]; omega)]
      rw [BitVec.toNat_ofNat, BitVec.toNat_ofNat]
      omega
    by_cases hlt : x.val < p
    · have := start_mono (lenN T b) (show x.val + 1 ≤ p by omega)
      rw [c.mpr (by omega), if_pos hlt]
      rfl
    · have h3 := start_mono (lenN T b) (show p + 1 ≤ x.val + 1 by omega)
      have h4 : startN (lenN T b) (p + 1) = startN (lenN T b) p + lenN T b p := Finset.sum_range_succ _ _
      have hc : IntOp.cmpi .sle (BitVec.ofNat 32 (startN (lenN T b) (x.val + 1))) (BitVec.ofNat 32 i.val) = 0#1 := by
        have := mt c.mp (by omega)
        revert this
        generalize IntOp.cmpi .sle (BitVec.ofNat 32 (startN (lenN T b) (x.val + 1))) (BitVec.ofNat 32 i.val) = w
        revert w
        decide
      rw [hc, if_neg hlt]
      rfl
  pointwise [vSeg]
  refine (Finset.fold_congr fun x _ => e x).trans ?_
  apply BitVec.eq_of_toNat_eq
  rw [fold_addi_toNat]
  interval_cases p <;> decide

end Cert.ReferenceIdeal
-- ==== Proof.Spec.lean ====
/-
  The mathematics of one row of the batch, over the reals: the logits, their soft maximum within one
  segment, the loss and the weights of the gradients; and the values a tile of the kernel holds on the
  way, as extended reals.
-/
module

public import Idealize.ShloMosaic.PureOps.Ideal
public import Mathlib.Algebra.BigOperators.Fin
public import Mathlib.Algebra.BigOperators.Intervals
public import Mathlib.Data.EReal.Operations

@[expose] public section

noncomputable section

namespace Cert.Spec

open Idealize.ShloMosaic

/-- A sum of reals, read as extended reals term by term. -/
theorem coe_sum {ι : Type*} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The data of one row: the codes of both sides, their scales, and the log frequencies. -/
structure Row where
  /-- the codes of the users -/
  U : ℕ → ℕ → ℝ
  /-- the codes of the items -/
  V : ℕ → ℕ → ℝ
  /-- the scales of the users -/
  us : ℕ → ℝ
  /-- the scales of the items -/
  vs : ℕ → ℝ
  /-- the log frequencies of the items -/
  lq : ℕ → ℝ

namespace Row
variable (D : Row)

/-- The dequantised codes of a user. -/
def ub (i d : ℕ) : ℝ := D.U i d * D.us i
/-- The dequantised codes of an item. -/
def vb (j d : ℕ) : ℝ := D.V j d * D.vs j
/-- The logit of item `j` for user `i`. -/
def X (j i : ℕ) : ℝ := (∑ d : Fin 256, D.V j d * D.U i d) * D.vs j * (D.us i * 20) - D.lq j

section
variable (a v : ℕ)

/-- Position `j` lies in the segment of length `v` from `a` on. -/
abbrev In (j : ℕ) : Prop := a ≤ j ∧ j < a + v

/-- The masked logit. -/
def XE (j i : ℕ) : EReal := if In a v j then (D.X j i : EReal) else ⊥
/-- The maximum of the masked logits of user `i`, as a real. -/
def M (i : ℕ) : ℝ := ((Finset.Ico a (a + v)).sup fun j => (D.X j i : EReal)).toReal
/-- The exponential of a masked logit, off the maximum. -/
def ex (j i : ℕ) : ℝ := if In a v j then Real.exp (D.X j i - D.M a v i) else 0
/-- The sum of the exponentials. -/
def L (i : ℕ) : ℝ := ∑ j ∈ Finset.Ico a (a + v), Real.exp (D.X j i - D.M a v i)
/-- The loss of user `i`. -/
def loss (i : ℕ) : ℝ := D.M a v i + Real.log (D.L a v i) - D.X i i
/-- The exponential with the positive pair's sum taken off. -/
def E (j i : ℕ) : ℝ := D.ex a v j i - if j = i then D.L a v i else 0
/-- What a user's sum divides by; zero for users outside the segment. -/
def Inv (i : ℕ) : ℝ := if In a v i then (D.L a v i)⁻¹ else 0
/-- The weight of the pair in both gradients. -/
def G (j i : ℕ) : ℝ := D.E a v j i * D.Inv a v i
/-- What the segment adds to the loss at position `i`. -/
def lossIn (i : ℕ) : ℝ := if In a v i then D.loss a v i else 0

variable {a v}

/-- The maximum is a real and is attained when the segment is not empty. -/
theorem sup_eq (hv : v ≠ 0) (i : ℕ) : ((Finset.Ico a (a + v)).sup fun j => (D.X j i : EReal)) = (D.M a v i : EReal) := by
  obtain ⟨j, -, hj⟩ := Finset.exists_mem_eq_sup (Finset.Ico a (a + v)) ⟨a, by simp; omega⟩ fun j => (D.X j i : EReal)
  unfold M
  rw [hj, EReal.toReal_coe]

/-- A logit within the segment is at most the maximum. -/
theorem le_M (hv : v ≠ 0) {j : ℕ} (hj : In a v j) (i : ℕ) : (D.X j i : EReal) ≤ (D.M a v i : EReal) := by
  rw [← D.sup_eq hv]
  exact Finset.le_sup (f := fun j => (D.X j i : EReal)) (Finset.mem_Ico.mpr hj)

/-- The sum of the exponentials is positive. -/
theorem L_pos (hv : v ≠ 0) (i : ℕ) : 0 < D.L a v i :=
  Finset.sum_pos (fun _ _ => Real.exp_pos _) ⟨a, by simp; omega⟩

/-- A supremum over tiles of eight sublanes that cover the segment is the maximum. -/
theorem sup_tiles (hv : v ≠ 0) {lo nt : ℕ} (hlo : lo ≤ a) (hc : a + v ≤ lo + 256 * nt) (i : ℕ) :
    (Finset.univ.sup fun q : Fin 8 => (Finset.range nt).sup fun c => Finset.univ.sup fun s : Fin 32 =>
      D.XE a v (lo + 256 * c + (s * 8 + q)) i) = (D.M a v i : EReal) := by
  apply le_antisymm
  · refine Finset.sup_le fun q _ => Finset.sup_le fun c _ => Finset.sup_le fun s _ => ?_
    unfold XE
    split
    · exact D.le_M hv ‹_› i
    · exact bot_le
  · rw [← D.sup_eq hv]
    refine Finset.sup_le fun j hj => ?_
    obtain ⟨h1, h2⟩ := Finset.mem_Ico.mp hj
    have hq : (j - lo) % 8 < 8 := Nat.mod_lt _ (by decide)
    have hs : (j - lo) % 256 / 8 < 32 := by omega
    have hc' : (j - lo) / 256 ∈ Finset.range nt := Finset.mem_range.mpr (by omega)
    have e : lo + 256 * ((j - lo) / 256) + ((j - lo) % 256 / 8 * 8 + (j - lo) % 8) = j := by omega
    refine le_trans ?_ (Finset.le_sup (f := fun q : Fin 8 => (Finset.range nt).sup fun c => Finset.univ.sup fun s : Fin 32 =>
      D.XE a v (lo + 256 * c + (s * 8 + q)) i) (Finset.mem_univ (⟨_, hq⟩ : Fin 8)))
    refine le_trans ?_ (Finset.le_sup (f := fun c => Finset.univ.sup fun s : Fin 32 =>
      D.XE a v (lo + 256 * c + (s * 8 + (j - lo) % 8)) i) hc')
    refine le_trans ?_ (Finset.le_sup (f := fun s : Fin 32 =>
      D.XE a v (lo + 256 * ((j - lo) / 256) + (s * 8 + (j - lo) % 8)) i) (Finset.mem_univ (⟨_, hs⟩ : Fin 32)))
    show _ ≤ D.XE a v (lo + 256 * ((j - lo) / 256) + ((j - lo) % 256 / 8 * 8 + (j - lo) % 8)) i
    rw [e, XE, if_pos ⟨h1, h2⟩]

/-- A sum over `m` groups of `n`, as one sum. -/
theorem sum_groups (f : ℕ → ℝ) (n m : ℕ) :
    ∑ c ∈ Finset.range m, ∑ t ∈ Finset.range n, f (n * c + t) = ∑ j ∈ Finset.range (n * m), f j := by
  induction m with
  | zero => simp
  | succ m ih => rw [Finset.sum_range_succ, ih, Nat.mul_succ, Finset.sum_range_add]

/-- A sum over a range that covers the segment, of terms zero off the segment. -/
theorem sum_cover (f : ℕ → ℝ) {lo n : ℕ} (hlo : lo ≤ a) (hc : a + v ≤ lo + n) (h0 : ∀ j, ¬ In a v j → f j = 0) :
    ∑ t ∈ Finset.range n, f (lo + t) = ∑ j ∈ Finset.Ico a (a + v), f j := by
  have e := Finset.sum_Ico_eq_sum_range f lo (lo + n)
  rw [Nat.add_sub_cancel_left] at e
  rw [← e]
  symm
  refine Finset.sum_subset (fun j hj => ?_) fun j _ hj => h0 j fun h => hj (Finset.mem_Ico.mpr h)
  obtain ⟨h1, h2⟩ := Finset.mem_Ico.mp hj
  exact Finset.mem_Ico.mpr ⟨by omega, by omega⟩

/-- Off the segment the exponential is zero. -/
theorem ex_off {j : ℕ} (h : ¬ In a v j) (i : ℕ) : D.ex a v j i = 0 := if_neg h

/-- The sum of the exponentials, tile by tile. -/
theorem sum_tiles {lo nt : ℕ} (hlo : lo ≤ a) (hc : a + v ≤ lo + 256 * nt) (i : ℕ) :
    ∑ q : Fin 8, ∑ c ∈ Finset.range nt, ∑ s : Fin 32, D.ex a v (lo + 256 * c + (s * 8 + q)) i = D.L a v i := by
  have h := sum_cover (a := a) (v := v) (fun j => D.ex a v j i) (n := 256 * nt) hlo hc (fun j h => D.ex_off h i)
  have hL : ∑ j ∈ Finset.Ico a (a + v), D.ex a v j i = D.L a v i :=
    Finset.sum_congr rfl fun j hj => if_pos (Finset.mem_Ico.mp hj)
  rw [← hL, ← h, ← sum_groups (fun t => D.ex a v (lo + t) i), Finset.sum_comm]
  refine Finset.sum_congr rfl fun c _ => ?_
  rw [show (256 : ℕ) = 8 * 32 from rfl, ← sum_groups (fun t => D.ex a v (lo + (8 * 32 * c + t)) i), Finset.sum_comm,
    Finset.sum_range]
  refine Finset.sum_congr rfl fun s _ => ?_
  rw [Finset.sum_range]
  exact Finset.sum_congr rfl fun q _ => by congr 1; omega

/-- Off the diagonal nothing is taken from the exponential. -/
theorem E_off {j i : ℕ} (h : j ≠ i) : D.E a v j i = D.ex a v j i := by simp [E, h]

/-- The weight is zero for an item outside the segment. -/
theorem G_off_left {j : ℕ} (h : ¬ In a v j) (i : ℕ) : D.G a v j i = 0 := by
  unfold G E
  rw [D.ex_off h]
  by_cases e : j = i
  · subst e; simp [Inv, h]
  · simp [e]

/-- The weight is zero for a user outside the segment. -/
theorem G_off_right {i : ℕ} (h : ¬ In a v i) (j : ℕ) : D.G a v j i = 0 := by simp [G, Inv, h]

/-- A row's sum over the tiles is the sum over the whole row. -/
theorem sum_G_left {lo n : ℕ} (hlo : lo ≤ a) (hc : v ≠ 0 → a + v ≤ lo + n) (hn : lo + n ≤ 4096) (w : ℕ → ℝ) (i : ℕ) :
    ∑ t ∈ Finset.range n, D.G a v (lo + t) i * w (lo + t) = ∑ j ∈ Finset.range 4096, D.G a v j i * w j := by
  by_cases hv : v = 0
  · subst hv
    simp [D.G_off_left (a := a) (v := 0) (by simp : ¬ In a 0 _)]
  · rw [sum_cover (a := a) (v := v) (fun j => D.G a v j i * w j) hlo (hc hv) (fun j h => by simp [D.G_off_left h])]
    refine Finset.sum_subset (fun j hj => ?_) fun j _ hj => by
      simp [D.G_off_left (fun h => hj (Finset.mem_Ico.mpr h))]
    have := Finset.mem_Ico.mp hj
    have := hc hv
    exact Finset.mem_range.mpr (by omega)

/-- A sum of weights over tiles that cover the segment is the sum over the whole row. -/
theorem sum_G_right {lo n : ℕ} (hlo : lo ≤ a) (hc : v ≠ 0 → a + v ≤ lo + n) (hn : lo + n ≤ 4096) (w : ℕ → ℝ) (j : ℕ) :
    ∑ t ∈ Finset.range n, D.G a v j (lo + t) * w (lo + t) = ∑ i ∈ Finset.range 4096, D.G a v j i * w i := by
  by_cases hv : v = 0
  · subst hv
    simp [D.G_off_right (a := a) (v := 0) (by simp : ¬ In a 0 _)]
  · rw [sum_cover (a := a) (v := v) (fun i => D.G a v j i * w i) hlo (hc hv) (fun j h => by simp [D.G_off_right h])]
    refine Finset.sum_subset (fun j hj => ?_) fun j _ hj => by
      simp [D.G_off_right (fun h => hj (Finset.mem_Ico.mpr h))]
    have := Finset.mem_Ico.mp hj
    have := hc hv
    exact Finset.mem_range.mpr (by omega)

/-! ### What the kernel's scalar steps give -/

/-- The binary exponential of a masked logit off the maximum. -/
theorem exp2_XE (j i : ℕ) : Ideal.exp2 ((D.XE a v j i - (D.M a v i : EReal)) * (((Real.log 2)⁻¹ : ℝ) : EReal)) = (D.ex a v j i : EReal) := by
  have h2 : 0 < Real.log 2 := Real.log_pos (by norm_num)
  unfold XE ex
  split
  · rw [← EReal.coe_sub, ← EReal.coe_mul, Ideal.exp2_coe]
    congr 1
    rw [Real.rpow_eq_pow, Real.rpow_def_of_pos (by norm_num)]
    congr 1
    field_simp
  · rw [EReal.bot_sub, EReal.bot_mul_coe_of_pos (by positivity), Ideal.exp2_bot, EReal.coe_zero]

/-- The logarithm of the sum, through the binary logarithm. -/
theorem log_L (hv : v ≠ 0) (i : ℕ) : (D.M a v i : EReal) + Ideal.log (D.L a v i : EReal) * (((Real.log 2)⁻¹ : ℝ) : EReal) * ((Real.log 2 : ℝ) : EReal)
    = ((D.M a v i + Real.log (D.L a v i) : ℝ) : EReal) := by
  have h2 : 0 < Real.log 2 := Real.log_pos (by norm_num)
  rw [Ideal.log_coe, if_neg (not_le.mpr (D.L_pos hv i)), ← EReal.coe_mul, ← EReal.coe_mul, ← EReal.coe_add]
  congr 1
  field_simp

/-- What that logarithm is to the base two. -/
def T (a v i : ℕ) : ℝ := (D.M a v i + Real.log (D.L a v i) - D.M a v i) * (Real.log 2)⁻¹

/-- Two to the base-two logarithm of the sum is the sum. -/
theorem exp2_T (hv : v ≠ 0) (i : ℕ) : Ideal.exp2 (D.T a v i : EReal) = (D.L a v i : EReal) := by
  have h2 : 0 < Real.log 2 := Real.log_pos (by norm_num)
  rw [Ideal.exp2_coe]
  congr 1
  rw [Real.rpow_eq_pow, Real.rpow_def_of_pos (by norm_num), T, show Real.log 2 * ((D.M a v i + Real.log (D.L a v i) - D.M a v i) * (Real.log 2)⁻¹)
    = Real.log (D.L a v i) by field_simp; ring, Real.exp_log (D.L_pos hv i)]

/-- Two to its negative is the inverse of the sum. -/
theorem exp2_neg_T (hv : v ≠ 0) (i : ℕ) : Ideal.exp2 (0 - (D.T a v i : EReal)) = (((D.L a v i)⁻¹ : ℝ) : EReal) := by
  have h2 : 0 < Real.log 2 := Real.log_pos (by norm_num)
  rw [← EReal.coe_zero, ← EReal.coe_sub, Ideal.exp2_coe]
  congr 1
  rw [Real.rpow_eq_pow, Real.rpow_def_of_pos (by norm_num), T, show Real.log 2 * (0 - (D.M a v i + Real.log (D.L a v i) - D.M a v i) * (Real.log 2)⁻¹)
    = -Real.log (D.L a v i) by field_simp; ring, Real.exp_neg, Real.exp_log (D.L_pos hv i)]

end
end Row
end Cert.Spec
-- ==== Proof.RowSums.lean ====
/-
  A row of the reference over the reals: the maximum, the sum and the weights within the segment of a user,
  and the sums over all segments that the kernel takes.
-/
module

public import proofs.«01_k».proof.Proof.Spec
public import proofs.«01_k».proof.Proof.Table

@[expose] public section

noncomputable section

namespace Cert.Spec.Row

open Idealize.ShloMosaic Cert.Seg

variable (D : Row)

section
variable {a v : ℕ}

/-- The maximum of the masked logits over the whole row. -/
theorem fold_max (hv : v ≠ 0) (hl : a + v ≤ 4096) (i : ℕ) :
    Finset.fold max (⊥ : EReal) (fun j : Fin 4096 => D.XE a v j i) Finset.univ = (D.M a v i : EReal) := by
  show (Finset.univ.sup fun j : Fin 4096 => D.XE a v j i) = _
  apply le_antisymm
  · refine Finset.sup_le fun j _ => ?_
    unfold XE
    split
    · exact D.le_M hv ‹_› i
    · exact bot_le
  · rw [← D.sup_eq hv]
    refine Finset.sup_le fun j hj => ?_
    obtain ⟨h1, h2⟩ := Finset.mem_Ico.mp hj
    refine le_trans ?_ (Finset.le_sup (f := fun j : Fin 4096 => D.XE a v j i) (Finset.mem_univ (⟨j, by omega⟩ : Fin 4096)))
    show _ ≤ D.XE a v j i
    rw [XE, if_pos ⟨h1, h2⟩]

/-- The exponential of a masked logit, off a real. -/
theorem exp_XE (j i : ℕ) (c : ℝ) : Ideal.exp (D.XE a v j i - (c : EReal)) = ((if In a v j then Real.exp (D.X j i - c) else 0 : ℝ) : EReal) := by
  unfold XE
  split
  · rw [← EReal.coe_sub, Ideal.exp_coe]
  · rw [EReal.bot_sub, Ideal.exp_bot, EReal.coe_zero]

/-- The sum of the exponentials over the whole row. -/
theorem sum_exp (hl : a + v ≤ 4096) (i : ℕ) : ∑ j : Fin 4096, Ideal.exp (D.XE a v j i - (D.M a v i : EReal)) = (D.L a v i : EReal) := by
  rw [Finset.sum_congr rfl fun (j : Fin 4096) _ => D.exp_XE j i _, ← coe_sum]
  congr 1
  rw [Fin.sum_univ_eq_sum_range (fun j => if In a v j then Real.exp (D.X j i - D.M a v i) else 0) 4096]
  refine (Finset.sum_subset (s₁ := Finset.Ico a (a + v)) (fun j hj => ?_) fun j _ hj => if_neg fun h => hj (Finset.mem_Ico.mpr h)).symm.trans
    (Finset.sum_congr rfl fun j hj => if_pos (Finset.mem_Ico.mp hj))
  have := Finset.mem_Ico.mp hj
  exact Finset.mem_range.mpr (by omega)

/-- The logarithm of the sum. -/
theorem lse_eq (hv : v ≠ 0) (i : ℕ) : (D.M a v i : EReal) + Ideal.log (D.L a v i : EReal) = ((D.M a v i + Real.log (D.L a v i) : ℝ) : EReal) := by
  rw [Ideal.log_coe, if_neg (not_le.mpr (D.L_pos hv i)), ← EReal.coe_add]

/-- The weight of a pair, of a user of the segment. -/
theorem weight (hv : v ≠ 0) {i : ℕ} (hi : In a v i) (j : ℕ) :
    (if i = j then Ideal.exp (D.XE a v j i - ((D.M a v i + Real.log (D.L a v i) : ℝ) : EReal)) - 1
      else Ideal.exp (D.XE a v j i - ((D.M a v i + Real.log (D.L a v i) : ℝ) : EReal))) = (D.G a v j i : EReal) := by
  have hL := D.L_pos (a := a) hv i
  have e : (if In a v j then Real.exp (D.X j i - (D.M a v i + Real.log (D.L a v i))) else 0 : ℝ) = D.ex a v j i * (D.L a v i)⁻¹ := by
    unfold ex
    split
    · rw [← sub_sub, Real.exp_sub, Real.exp_log hL, div_eq_mul_inv]
    · simp
  rw [D.exp_XE, e]
  unfold G E Inv
  rw [if_pos hi]
  by_cases h : i = j
  · rw [if_pos h, if_pos h.symm, ← EReal.coe_one, ← EReal.coe_sub, sub_mul, mul_inv_cancel₀ hL.ne']
  · rw [if_neg h, if_neg (Ne.symm h), sub_zero]
end

section
variable {len : ℕ → ℕ}

/-- Segments do not meet. -/
theorem seg_unique {p q i : ℕ} (hp : In (startN len p) (len p) i) (hq : In (startN len q) (len q) i) : p = q := by
  have key : ∀ {p q : ℕ}, In (startN len p) (len p) i → In (startN len q) (len q) i → ¬ p < q := by
    intro p q hp hq h
    have h1 : startN len (p + 1) ≤ startN len q := Finset.sum_le_sum_of_subset (Finset.range_mono h)
    have h2 : startN len (p + 1) = startN len p + len p := Finset.sum_range_succ _ _
    have := hp.2
    have := hq.1
    omega
  have := key hp hq
  have := key hq hp
  omega

/-- Every position of the row lies in a segment. -/
theorem seg_exists {n i : ℕ} (hi : i < startN len n) : ∃ p, p < n ∧ In (startN len p) (len p) i := by
  induction n with
  | zero => simp [startN] at hi
  | succ n ih =>
    by_cases h : i < startN len n
    · obtain ⟨p, hp, h⟩ := ih h
      exact ⟨p, by omega, h⟩
    · have h2 : startN len (n + 1) = startN len n + len n := Finset.sum_range_succ _ _
      exact ⟨n, by omega, by omega, by omega⟩

/-- The losses of all segments, at a position of segment `p`. -/
theorem sum_loss {p i : ℕ} (hp : p < 7) (hi : In (startN len p) (len p) i) :
    ∑ q ∈ Finset.range 7, D.lossIn (startN len q) (len q) i = D.loss (startN len p) (len p) i := by
  refine (Finset.sum_eq_single_of_mem p (Finset.mem_range.mpr hp) fun q _ hq => ?_).trans ?_
  · exact if_neg fun h => hq (seg_unique h hi)
  · exact if_pos hi

/-- The weights of all segments, of a user of segment `p`. -/
theorem sum_weight {p i : ℕ} (hp : p < 7) (hi : In (startN len p) (len p) i) (j : ℕ) :
    ∑ q ∈ Finset.range 7, D.G (startN len q) (len q) j i = D.G (startN len p) (len p) j i :=
  Finset.sum_eq_single_of_mem p (Finset.mem_range.mpr hp) fun q _ hq => D.G_off_right (fun h => hq (seg_unique h hi)) j

/-- A sum of weights, over the positions and then over the segments. -/
theorem sum_swap (f : ℕ → ℕ → ℝ) (w : ℕ → ℝ) :
    ∑ p ∈ Finset.range 7, ∑ j ∈ Finset.range 4096, f p j * w j = ∑ j : Fin 4096, (∑ p ∈ Finset.range 7, f p j) * w j := by
  rw [Finset.sum_comm, Fin.sum_univ_eq_sum_range (fun j => (∑ p ∈ Finset.range 7, f p j) * w j) 4096]
  exact Finset.sum_congr rfl fun j _ => (Finset.sum_mul _ _ _).symm
end

end Cert.Spec.Row
-- ==== Proof.RefRows.lean ====
/-
  The reference's results over the reals: at each position the loss and the gradients are those of the rows.
-/
module

public import proofs.«01_k».proof.Proof.RefSegments
public import proofs.«01_k».proof.Proof.RowSums

@[expose] public section

set_option maxRecDepth 16384

noncomputable section

namespace Cert.ReferenceIdeal

open Cert.ReferenceIdeal.Gen Cert.Seg Cert.Spec Cert.Spec.Row
open Idealize.ShloMosaic

/-- The arguments hold the real rows `D`. -/
structure RowsOf (a0 : FVec Ideal S12x4096x256 .f32) (a1 : FVec Ideal S12x4096 .f32) (a2 : FVec Ideal S12x4096x256 .f32) (a3 a4 : FVec Ideal S12x4096 .f32)
    (D : Fin 12 → Row) : Prop where
  U : ∀ b (i : Fin 4096) (d : Fin 256), a0 (ix3 b i d) = ((D b).U i d : EReal)
  us : ∀ b (i : Fin 4096), a1 (ix2 b i) = ((D b).us i : EReal)
  V : ∀ b (i : Fin 4096) (d : Fin 256), a2 (ix3 b i d) = ((D b).V i d : EReal)
  vs : ∀ b (i : Fin 4096), a3 (ix2 b i) = ((D b).vs i : EReal)
  lq : ∀ b (i : Fin 4096), a4 (ix2 b i) = ((D b).lq i : EReal)

/-- The bits of twenty. -/
theorem bits_twenty : Ideal.ofBits .f32 1101004800#32 = ((20 : ℝ) : EReal) := by
  simp [Ideal.ofBits, Ideal.ieee]
  rw [← EReal.coe_mul]
  congr 1
  norm_num

/-- The bits of minus infinity. -/
theorem bits_bot : Ideal.ofBits .f32 4286578688#32 = (⊥ : EReal) := by
  simp [Ideal.ofBits, Ideal.ieee]

/-- A choice on the equality of two words. -/
theorem select_eq {α : Type} (u w : BitVec 32) (x y : α) : Scalar.select (IntOp.cmpi .eq u w) x y = if u = w then x else y := by
  unfold Scalar.select
  by_cases h : u = w
  · exact (if_pos (IntOp.cmpi_eq.mpr h)).trans (if_pos h).symm
  · exact (if_neg (mt IntOp.cmpi_eq.mp h)).trans (if_neg h).symm

/-- Two positions' words are equal only where the positions are. -/
theorem pos_eq (i j : Fin 4096) : BitVec.ofNat 32 i.val = BitVec.ofNat 32 j.val ↔ i.val = j.val := by
  have hi := i.isLt
  have hj := j.isLt
  constructor
  · intro h
    have := congrArg BitVec.toNat h
    rw [BitVec.toNat_ofNat, BitVec.toNat_ofNat] at this
    omega
  · exact fun h => h ▸ rfl

/-! ### Each step at an index -/

/-- A masked logit is the logit where the two segments are equal, and minus infinity elsewhere. -/
theorem lm_pt (sg : IVec S12x4096 32) (l : FVec Ideal S12x4096x4096 .f32) (b : Fin 12) (i j : Fin 4096) :
    vLm sg l (ix3 b i j) = if sg (ix2 b i) = sg (ix2 b j) then l (ix3 b i j) else (⊥ : EReal) := by
  pointwise [vLm]
  rw [select_eq, bits_bot]

/-- A maximum runs over the items. -/
theorem mx_pt (l : FVec Ideal S12x4096x4096 .f32) (b : Fin 12) (i : Fin 4096) :
    vMx l (ix2 b i) = Finset.fold max (⊥ : EReal) (fun x => l (ix3 b i x)) Finset.univ := by
  pointwise [vMx]
  rw [bits_bot]

/-- The logarithm of the sum of the exponentials runs over the items. -/
theorem lse_pt (l : FVec Ideal S12x4096x4096 .f32) (mx : FVec Ideal S12x4096 .f32) (b : Fin 12) (i : Fin 4096) :
    vLse l mx (ix2 b i) = (mx (ix2 b i) + Ideal.log (∑ x : Fin 4096, Ideal.exp (l (ix3 b i x) - mx (ix2 b i))) : EReal) := by
  pointwise [vLse]

/-- The positive pair's logit is a sum over the items that keeps one. -/
theorem pos_pt (l : FVec Ideal S12x4096x4096 .f32) (b : Fin 12) (i : Fin 4096) :
    vPos l (ix2 b i) = (∑ x : Fin 4096, (Scalar.select (IntOp.cmpi .eq (BitVec.ofNat 32 i.val) (BitVec.ofNat 32 x.val)) (l (ix3 b i x)) 0 : EReal) : EReal) := by
  pointwise [vPos]

/-- A weight is the exponential, less one on the diagonal. -/
theorem g_pt (l : FVec Ideal S12x4096x4096 .f32) (e : FVec Ideal S12x4096 .f32) (b : Fin 12) (i j : Fin 4096) :
    vG l e (ix3 b i j) = (Scalar.select (IntOp.cmpi .eq (BitVec.ofNat 32 i.val) (BitVec.ofNat 32 j.val)) (Ideal.exp (l (ix3 b i j) - e (ix2 b i)) - 1)
      (Ideal.exp (l (ix3 b i j) - e (ix2 b i))) : EReal) := by
  pointwise [vG]

/-- A loss is a difference. -/
theorem loss_pt (e p : FVec Ideal S12x4096 .f32) (b : Fin 12) (z : Fin 1) (i : Fin 4096) :
    vLoss e p (ix3 b z i) = (e (ix2 b i) - p (ix2 b i) : EReal) := by
  pointwise [vLoss]

/-- A user's gradient is a sum over the items, times twenty. -/
theorem du_pt (g : FVec Ideal S12x4096x4096 .bf16) (w : FVec Ideal S12x4096x256 .bf16) (b : Fin 12) (i : Fin 4096) (d : Fin 256) :
    vDu g w (ix3 b i d) = ((∑ x : Fin 4096, g (ix3 b i x) * w (ix3 b x d)) * ((20 : ℝ) : EReal) : EReal) := by
  pointwise [vDu]
  rw [bits_twenty]

/-- An item's gradient is a sum over the users, times twenty. -/
theorem dv_pt (g : FVec Ideal S12x4096x4096 .bf16) (w : FVec Ideal S12x4096x256 .bf16) (b : Fin 12) (j : Fin 4096) (d : Fin 256) :
    vDv g w (ix3 b j d) = ((∑ x : Fin 4096, g (ix3 b x j) * w (ix3 b x d)) * ((20 : ℝ) : EReal) : EReal) := by
  pointwise [vDv]
  rw [bits_twenty]

variable {a0 : FVec Ideal S12x4096x256 .f32} {a1 : FVec Ideal S12x4096 .f32} {a2 : FVec Ideal S12x4096x256 .f32} {a3 a4 : FVec Ideal S12x4096 .f32}
  {D : Fin 12 → Row} {T : IVec S12x7 32}

/-- A logit. -/
theorem l_at (h : RowsOf a0 a1 a2 a3 a4 D) (b : Fin 12) (i j : Fin 4096) : vL a0 a1 a2 a3 a4 (ix3 b i j) = ((D b).X j i : EReal) := by
  pointwise [vL]
  simp only [h.U, h.us, h.V, h.vs, h.lq, bits_twenty, ← EReal.coe_mul, ← coe_sum, ← EReal.coe_sub]
  congr 1
  unfold Row.X
  rw [Finset.sum_congr rfl fun (x : Fin 256) _ => mul_comm ((D b).U i x) ((D b).V j x)]
  ring

/-- The segment of a position, and that it is where another one is. -/
theorem seg_iff (hT : Fills T) (b : Fin 12) {p : ℕ} (hp : p < 7) {i : Fin 4096} (hi : In (startN (lenN T b) p) (lenN T b p) i.val) (j : Fin 4096) :
    vSeg T (ix2 b i) = vSeg T (ix2 b j) ↔ In (startN (lenN T b) p) (lenN T b p) j.val := by
  obtain ⟨q, hq, hj⟩ := Row.seg_exists (len := lenN T b) (n := 7) (i := j.val) (by rw [hT.total b]; exact j.isLt)
  rw [seg_at T hT b p hp i hi.1 hi.2, seg_at T hT b q hq j hj.1 hj.2]
  constructor
  · intro h
    have := congrArg BitVec.toNat h
    rw [BitVec.toNat_ofNat, BitVec.toNat_ofNat] at this
    have : p = q := by omega
    exact this ▸ hj
  · exact fun h => by rw [Row.seg_unique h hj]

section
variable (h : RowsOf a0 a1 a2 a3 a4 D) (hT : Fills T) (b : Fin 12) {p : ℕ} (hp : p < 7) {i : Fin 4096}
  (hi : In (startN (lenN T b) p) (lenN T b p) i.val)

include hT hp in
/-- A segment ends within the row. -/
theorem seg_end : startN (lenN T b) p + lenN T b p ≤ 4096 := by
  rw [← hT.total b, ← show startN (lenN T b) (p + 1) = startN (lenN T b) p + lenN T b p from Finset.sum_range_succ _ _]
  exact start_mono _ hp

/-- A segment that has a position is not empty. -/
theorem len_ne {a v i : ℕ} (hi : In a v i) : v ≠ 0 := by
  have := hi.1
  have := hi.2
  omega

include h hT hp hi

/-- A logit within the segment of its user. -/
theorem lm_at (j : Fin 4096) : vLm (vSeg T) (vL a0 a1 a2 a3 a4) (ix3 b i j) = (D b).XE (startN (lenN T b) p) (lenN T b p) j i := by
  rw [lm_pt, l_at h]
  unfold Row.XE
  exact if_congr (seg_iff hT b hp hi j) rfl rfl

/-- The logarithm of a user's sum. -/
theorem lse_at : vLse (vLm (vSeg T) (vL a0 a1 a2 a3 a4)) (vMx (vLm (vSeg T) (vL a0 a1 a2 a3 a4))) (ix2 b i)
    = (((D b).M (startN (lenN T b) p) (lenN T b p) i + Real.log ((D b).L (startN (lenN T b) p) (lenN T b p) i) : ℝ) : EReal) := by
  have hm : vMx (vLm (vSeg T) (vL a0 a1 a2 a3 a4)) (ix2 b i) = ((D b).M (startN (lenN T b) p) (lenN T b p) i : EReal) := by
    rw [← (D b).fold_max (len_ne hi) (seg_end hT b hp)]
    rw [mx_pt]
    exact Finset.fold_congr fun x _ => lm_at h hT b hp hi x
  rw [← (D b).lse_eq (len_ne hi), ← (D b).sum_exp (seg_end hT b hp)]
  rw [lse_pt, hm]
  refine congrArg (HAdd.hAdd _) (congrArg Ideal.log (Finset.sum_congr rfl fun x _ => ?_))
  rw [lm_at h hT b hp hi]

/-- The loss of a user. -/
theorem loss_at (e : Fin 1) : vLoss (vLse (vLm (vSeg T) (vL a0 a1 a2 a3 a4)) (vMx (vLm (vSeg T) (vL a0 a1 a2 a3 a4)))) (vPos (vL a0 a1 a2 a3 a4)) (ix3 b e i)
    = ((∑ q ∈ Finset.range 7, (D b).lossIn (startN (lenN T b) q) (lenN T b q) i : ℝ) : EReal) := by
  have hpos : vPos (vL a0 a1 a2 a3 a4) (ix2 b i) = ((D b).X i i : EReal) := by
    rw [pos_pt]
    simp only [select_eq, pos_eq]
    refine (Finset.sum_eq_single_of_mem i (Finset.mem_univ _) fun x _ hx => if_neg fun hh => hx (Fin.ext hh.symm)).trans ?_
    rw [if_pos rfl, l_at h]
  rw [(D b).sum_loss hp hi]
  rw [loss_pt, lse_at h hT b hp hi, hpos, ← EReal.coe_sub]
  rfl

/-- The weight of a pair. -/
theorem g_at (j : Fin 4096) : vG (vLm (vSeg T) (vL a0 a1 a2 a3 a4)) (vLse (vLm (vSeg T) (vL a0 a1 a2 a3 a4)) (vMx (vLm (vSeg T) (vL a0 a1 a2 a3 a4)))) (ix3 b i j)
    = ((∑ q ∈ Finset.range 7, (D b).G (startN (lenN T b) q) (lenN T b q) j i : ℝ) : EReal) := by
  rw [(D b).sum_weight hp hi, ← (D b).weight (len_ne hi) hi]
  rw [g_pt, select_eq, lse_at h hT b hp hi, lm_at h hT b hp hi]
  exact if_congr (pos_eq i j) rfl rfl
end

/-- Every position is in a segment. -/
theorem seg_of (hT : Fills T) (b : Fin 12) (i : Fin 4096) : ∃ p, p < 7 ∧ In (startN (lenN T b) p) (lenN T b p) i.val :=
  Row.seg_exists (len := lenN T b) (n := 7) (i := i.val) (by rw [hT.total b]; exact i.isLt)

section
variable (h : RowsOf a0 a1 a2 a3 a4 D) (hT : Fills T) (b : Fin 12)
include h hT

/-- A user's gradient. -/
theorem du_at (i : Fin 4096) (d : Fin 256) :
    vDu (vG (vLm (vSeg T) (vL a0 a1 a2 a3 a4)) (vLse (vLm (vSeg T) (vL a0 a1 a2 a3 a4)) (vMx (vLm (vSeg T) (vL a0 a1 a2 a3 a4))))) (vV a2 a3) (ix3 b i d)
    = ((∑ p ∈ Finset.range 7, ∑ j ∈ Finset.range 4096, (D b).G (startN (lenN T b) p) (lenN T b p) j i * (D b).vb j d : ℝ) : EReal) * ((20 : ℝ) : EReal) := by
  have hv : ∀ x : Fin 4096, vV a2 a3 (ix3 b x d) = ((D b).vb x d : EReal) := fun x => by
    pointwise [vV]
    rw [h.V, h.vs, ← EReal.coe_mul]
    rfl
  obtain ⟨p, hp, hi⟩ := seg_of hT b i
  rw [Row.sum_swap (fun p j => (D b).G (startN (lenN T b) p) (lenN T b p) j i) (fun j => (D b).vb j d)]
  rw [du_pt]
  simp only [g_at h hT b hp hi, hv, ← EReal.coe_mul, ← coe_sum]

/-- An item's gradient. -/
theorem dv_at (j : Fin 4096) (d : Fin 256) :
    vDv (vG (vLm (vSeg T) (vL a0 a1 a2 a3 a4)) (vLse (vLm (vSeg T) (vL a0 a1 a2 a3 a4)) (vMx (vLm (vSeg T) (vL a0 a1 a2 a3 a4))))) (vU a0 a1) (ix3 b j d)
    = ((∑ p ∈ Finset.range 7, ∑ i ∈ Finset.range 4096, (D b).G (startN (lenN T b) p) (lenN T b p) j i * (D b).ub i d : ℝ) : EReal) * ((20 : ℝ) : EReal) := by
  have hu : ∀ x : Fin 4096, vU a0 a1 (ix3 b x d) = ((D b).ub x d : EReal) := fun x => by
    pointwise [vU]
    rw [h.U, h.us, ← EReal.coe_mul]
    rfl
  have hg : ∀ x : Fin 4096, vG (vLm (vSeg T) (vL a0 a1 a2 a3 a4)) (vLse (vLm (vSeg T) (vL a0 a1 a2 a3 a4)) (vMx (vLm (vSeg T) (vL a0 a1 a2 a3 a4)))) (ix3 b x j)
      = ((∑ q ∈ Finset.range 7, (D b).G (startN (lenN T b) q) (lenN T b q) j x : ℝ) : EReal) := fun x => by
    obtain ⟨p, hp, hi⟩ := seg_of hT b x
    exact g_at h hT b hp hi j
  rw [Row.sum_swap (fun p i => (D b).G (startN (lenN T b) p) (lenN T b p) j i) (fun i => (D b).ub i d)]
  rw [dv_pt]
  simp only [hg, hu, ← EReal.coe_mul, ← coe_sum]
end

end Cert.ReferenceIdeal
-- ==== Proof.Ideal.Payloads.lean ====
/-
  What each value the kernel stores is, element by element, over the extended reals.
-/
module

public import proofs.«01_k».proof.Proof.Gen.KernelIdeal.Skeleton
public import proofs.«01_k».proof.Proof.Ideal.KernelWords
public import proofs.«01_k».proof.Proof.Spec
public import Idealize.ShloMosaic.Lib.Pointwise
public import Idealize.ShloMosaic.Lib.WordCmp
public import Idealize.ShloMosaic.PureOps.IdealRules
public import Idealize.ShloMosaic.PureOps.Ideal.Laws
public import Idealize.ShloMosaic.PureOps.Ideal
public import Idealize.ShloMosaic.Lib.Pipeline.Value

@[expose] public section

set_option maxRecDepth 16384

noncomputable section

namespace Cert.KernelIdeal.Strong

open Idealize.ShloMosaic Idealize.ShloMosaic.Affine Cert.Seg Cert.KernelIdeal Cert.KernelIdeal.Gen Cert.Spec
open Cert.Spec.Row (In)

/-! ### Constants -/

/-- The bits of minus infinity. -/
theorem bits_bot : Ideal.ofBits .f32 0xFF800000#32 = ⊥ := by
  simp [Ideal.ofBits, Ideal.ieee]
/-- The bits of twenty. -/
theorem bits_20 : Ideal.ofBits .f32 0x41A00000#32 = ((20 : ℝ) : EReal) := by
  simp [Ideal.ofBits, Ideal.ieee]
  rw [← EReal.coe_mul]
  congr 1
  norm_num
/-- What masks an item is read as plus infinity. -/
theorem named_neg : (Named.named (F := Ideal) κ "neg" 0x7149F2CA#32 : Ideal .f32) = (⊤ : EReal) := by
  exact IdealRules.named_const.ideal_named_scalar κ _ _ _ rfl
/-- The start of the maximum is read as minus infinity. -/
theorem named_lowest : (Named.named (F := Ideal) κ "lowest" 0xFF61B1E6#32 : Ideal .f32) = (⊥ : EReal) := by
  exact IdealRules.named_const.ideal_named_scalar κ _ _ _ rfl
/-- The constant `log2 e` is read as the inverse of `log 2`. -/
theorem named_log2e : (Named.named (F := Ideal) κ "log2e" 0x3FB8AA3B#32 : Ideal .f32) = (((Real.log 2)⁻¹ : ℝ) : EReal) := by
  exact IdealRules.named_const.ideal_named_scalar κ _ _ _ rfl
/-- The constant `ln 2` is read as `log 2`. -/
theorem named_ln2 : (Named.named (F := Ideal) κ "ln2" 0x3F317218#32 : Ideal .f32) = ((Real.log 2 : ℝ) : EReal) := by
  exact IdealRules.named_const.ideal_named_scalar κ _ _ _ rfl

/-! ### Words -/

/-- Rotating back by what is left of a block's start. -/
theorem rot_nat {l r : ℕ} (hl : l < 256) (hr : r < 128) : (l + 384 - (384 - r) % 384) % 384 = l + r := by
  rcases Nat.eq_zero_or_pos r with h | h
  · subst h; omega
  · rw [Nat.mod_eq_of_lt (by omega : 384 - r < 384)]; omega

section
variable {a v b c : BitVec 32} {A V o n : ℕ}

/-- The test that a position lies in the segment. -/
theorem sel_in {α : Type} (ha : IsInt a A) (hb : IsInt b ((A + V : ℕ) : ℤ)) (hc : IsInt c (o : ℕ)) (hn : n < 4096) (ho : o ≤ 4096) (x y : α) :
    Scalar.select (IntOp.andi (IntOp.cmpi .sge (IntOp.addi (BitVec.ofNat 32 n) c) a) (IntOp.cmpi .slt (IntOp.addi (BitVec.ofNat 32 n) c) b)) x y
      = if In A V (o + n) then x else y := by
  have h1 : IsInt (IntOp.addi (BitVec.ofNat 32 n) c) ((o + n : ℕ) : ℤ) :=
    addi (ofNat n (by omega) : IsInt (BitVec.ofNat 32 n) (n : ℕ)) hc ⟨by push_cast; omega, by omega, by omega⟩
  unfold IsInt at ha hb h1
  have e1 : IntOp.cmpi .sge (IntOp.addi (BitVec.ofNat 32 n) c) a = BitVec.ofBool (decide (A ≤ o + n)) := by
    rw [WordCmp.cmpi_sge_eq, ha, h1]; simp only [Int.ofNat_le]
  have e2 : IntOp.cmpi .slt (IntOp.addi (BitVec.ofNat 32 n) c) b = BitVec.ofBool (decide (o + n < A + V)) := by
    rw [WordCmp.cmpi_slt_eq, hb, h1]; simp only [Int.ofNat_lt]
  rw [e1, e2]
  unfold Scalar.select In
  by_cases p : A ≤ o + n <;> by_cases q : o + n < A + V <;> simp [p, q, IntOp.andi]

/-- The test that two positions of a block are the same. -/
theorem sel_eq {α : Type} {m : ℕ} (hn : n < 4096) (hm : m < 4096) (x y : α) :
    Scalar.select (IntOp.cmpi .eq (BitVec.ofNat 32 n) (BitVec.ofNat 32 m)) x y = if n = m then x else y := by
  unfold Scalar.select IntOp.cmpi
  by_cases h : n = m
  · simp [h]
  · have : BitVec.ofNat 32 n ≠ BitVec.ofNat 32 m := fun e => h (by
      have := congrArg BitVec.toNat e; simp only [BitVec.toNat_ofNat] at this; omega)
    simp only [beq_eq_false_iff_ne.mpr this, if_neg h]; rfl

variable (ha : IsInt a A) (hv : IsInt v V) (h : A + V ≤ 4096)

include ha hv h in
/-- By how much the lanes of a tile are off the multiple of 128 below it. -/
theorem rot_toNat {r : ℕ} (hr : r < ntN A V) :
    (Scalar.subi (rowW a v 256#32 r) (w0W (rowW a v 256#32 r))).toNat = (loN A V + 256 * r) % 128 := by
  have h1 := row256 ha hv h hr
  have h2 := w0_row ha hv h hr
  have := loN_add h; have := ntN_le h
  show (rowW a v 256#32 r - w0W (rowW a v 256#32 r)).toNat = _
  rw [BitVec.toNat_sub, h1, h2]
  omega

include ha hv h in
/-- A row of scales, rotated to the block's own start. -/
theorem pay42_apply (k : Fin (k0_t5_loop a v).trips) (x : Vec Ideal S8x384 .f32) (q : Fin 8) (l : Fin 256)
    (hl : l.val + (loN A V + 256 * k.val) % 128 < 384) :
    k0_pay42 (F := Ideal) a v (loW a v) 0#32 1#32 k x (ix2 q l) = x (ix2 q ⟨l.val + (loN A V + 256 * k.val) % 128, hl⟩) := by
  have hr := rot_toNat ha hv h (lt_of_lt_of_eq k.2 (t5_trips ha hv h))
  unfold k0_pay42
  pointwise
  congr 2
  apply Fin.ext
  show (l.val + 384 - (Scalar.subi 384#32 (Scalar.subi (rowW a v 256#32 k) (w0W (rowW a v 256#32 k)))).toNat % 384) % 384 = _
  have e : (Scalar.subi 384#32 (Scalar.subi (rowW a v 256#32 k) (w0W (rowW a v 256#32 k)))).toNat = 384 - (loN A V + 256 * k.val) % 128 := by
    show (384#32 - Scalar.subi (rowW a v 256#32 k) (w0W (rowW a v 256#32 k))).toNat = _
    rw [BitVec.toNat_sub, hr, show (384#32).toNat = 384 from rfl]
    omega
  generalize hgen : (Scalar.subi 384#32 (Scalar.subi (rowW a v 256#32 k) (w0W (rowW a v 256#32 k)))).toNat = g at e
  rw [e]
  exact rot_nat l.2 (Nat.mod_lt _ (by decide))

variable (D : Row)

include ha hv h in
/-- A tile of masked logits. -/
theorem pay44_apply (k : Fin (k0_t5_loop a v).trips) (c : ℕ) (x : Vec Ideal S8x384 .f32) (y z : Vec Ideal S1x256x256 .fp8e4m3)
    (t u : Vec Ideal S256x128 .f32)
    (hx : ∀ q (l : Fin 256) hl, x (ix2 q ⟨l.val + (loN A V + 256 * k.val) % 128, hl⟩) = ((D.us (loN A V + 256 * k + l) * 20 : ℝ) : EReal))
    (hy : ∀ r d, y (ix3 0 r d) = (D.V (loN A V + 256 * c + r) d : EReal))
    (hz : ∀ r d, z (ix3 0 r d) = (D.U (loN A V + 256 * k + r) d : EReal))
    (ht : ∀ r l, t (ix2 r l) = (D.vs (loN A V + 256 * c + r) : EReal))
    (hu : ∀ (r : Fin 256) l, u (ix2 r l) = if In A V (loN A V + 256 * c + r) then (D.lq (loN A V + 256 * c + r) : EReal) else ⊤)
    (s : Fin 32) (q : Fin 8) (l : Fin 256) :
    k0_pay44 (F := Ideal) a v (loW a v) 0#32 1#32 k x y z t u (ix3 s q l)
      = D.XE A V (loN A V + 256 * c + (s * 8 + q)) (loN A V + 256 * k + l) := by
  pointwise [k0_pay44]
  rw [pay42_apply ha hv h k x q l (by have := l.2; omega), hx]
  simp only [hy, hz, ht, hu, dite_eq_ite, ite_self]
  unfold Row.XE
  split
  · unfold Row.X
    simp only [← EReal.coe_mul, ← coe_sum, ← EReal.coe_sub, ← add_assoc]
    trace_state
  · simp only [← EReal.coe_mul, ← coe_sum]
    exact EReal.sub_top _

end

/-- A maximum that starts at minus infinity is a supremum. -/
theorem fold_max {ι : Type*} (s : Finset ι) (f : ι → EReal) : Finset.fold max ⊥ f s = s.sup f := rfl

/-- The maximum over the sublane groups of a tile. -/
theorem pay46_apply {a v b c d : BitVec 32} (k) (x w y z t u) (q : Fin 8) (l : Fin 256) :
    k0_pay46 (F := Ideal) a v b c d k x w y z t u (ix2 q l)
      = max (w (ix2 q l)) (Finset.univ.sup fun s : Fin 32 => k0_pay44 (F := Ideal) a v b c d k x y z t u (ix3 s q l)) := by
  pointwise [k0_pay46]
  rw [bits_bot, fold_max]

/-- The stored tile of logits is the tile computed. -/
theorem pay45_apply {a v b c d : BitVec 32} (k) (x y z t u) (s : Fin 32) (q : Fin 8) (l : Fin 256) :
    k0_pay45 (F := Ideal) a v b c d k x y z t u (ix4 0 s q l) = k0_pay44 (F := Ideal) a v b c d k x y z t u (ix3 s q l) := by
  pointwise [k0_pay45]

/-- The maximum starts at minus infinity. -/
theorem pay43_apply (q : Fin 8) (l : Fin 256) : k0_pay43 (F := Ideal) (ix2 q l) = ⊥ := by
  pointwise [k0_pay43]
  exact named_lowest

/-- The maximum over the sublanes. -/
theorem pay50_apply (x : FVec Ideal S8x256 .f32) (q : Fin 8) (l : Fin 256) :
    k0_pay50 (F := Ideal) x (ix2 q l) = Finset.univ.sup fun p : Fin 8 => x (ix2 p l) := by
  pointwise [k0_pay50]
  rw [bits_bot, fold_max]

/-- The diagonal of a tile. -/
theorem pay52_apply (x : Vec Ideal S1x32x8x256 .f32) (f : ℕ → ℕ → EReal) (hx : ∀ s q l, x (ix4 0 s q l) = f (s * 8 + q) l) (l : Fin 256) :
    k0_pay52 (F := Ideal) (k0_pay51 k0_pay9) x (ix2 0 l) = f l l := by
  pointwise [k0_pay52, k0_pay51, k0_pay9]
  have hl := l.2
  have e : ∀ (q : Fin 8) (s : Fin 32), Scalar.select (IntOp.cmpi .eq (BitVec.ofNat 32 (s.val * 8 + q.val)) (BitVec.ofNat 32 l.val)) (x (ix4 0 s q l)) (0 : EReal)
      = if s.val * 8 + q.val = l.val then f (s.val * 8 + q.val) l else 0 := fun q s => by
    rw [sel_eq (by omega) (by omega), hx]
  simp only [e]
  rw [Finset.sum_eq_single (⟨l.val % 8, by omega⟩ : Fin 8), Finset.sum_eq_single (⟨l.val / 8, by omega⟩ : Fin 32)]
  · rw [if_pos (by show l.val / 8 * 8 + l.val % 8 = _; omega)]
    congr 1; show l.val / 8 * 8 + l.val % 8 = _; omega
  · intro s _ hs
    exact if_neg fun e => hs (Fin.ext (by show s.val = l.val / 8; simp only at e; omega))
  · simp
  · intro q _ hq
    refine Finset.sum_eq_zero fun s _ => if_neg fun e => hq (Fin.ext (by show q.val = l.val % 8; omega))
  · simp

/-- An exponential off the maximum. -/
theorem pay54_apply (x : FVec Ideal S8x256 .f32) (y : Vec Ideal S1x32x8x256 .f32) (s : Fin 32) (q : Fin 8) (l : Fin 256) :
    k0_pay54 (F := Ideal) x y (ix3 s q l) = Ideal.exp2 ((y (ix4 0 s q l) - x (ix2 q l)) * (((Real.log 2)⁻¹ : ℝ) : EReal)) := by
  pointwise [k0_pay54]
  rw [named_log2e]; rfl

/-- The stored exponential off the maximum. -/
theorem pay55_apply (x : FVec Ideal S8x256 .f32) (y : Vec Ideal S1x32x8x256 .f32) (s : Fin 32) (q : Fin 8) (l : Fin 256) :
    k0_pay55 (F := Ideal) x y (ix4 0 s q l) = Ideal.exp2 ((y (ix4 0 s q l) - x (ix2 q l)) * (((Real.log 2)⁻¹ : ℝ) : EReal)) := by
  pointwise [k0_pay55]
  exact pay54_apply x y s q l

/-- The sum of exponentials with one tile's added. -/
theorem pay56_apply (x y : FVec Ideal S8x256 .f32) (z : Vec Ideal S1x32x8x256 .f32) (q : Fin 8) (l : Fin 256) :
    k0_pay56 (F := Ideal) x y z (ix2 q l)
      = y (ix2 q l) + ∑ s : Fin 32, Ideal.exp2 ((z (ix4 0 s q l) - x (ix2 q l)) * (((Real.log 2)⁻¹ : ℝ) : EReal)) := by
  pointwise [k0_pay56]
  simp only [pay54_apply]

/-- The maximum plus the logarithm of the sum. -/
theorem pay60_apply (x z : FVec Ideal S8x256 .f32) (q : Fin 8) (l : Fin 256) :
    k0_pay60 (F := Ideal) x z (ix2 q l)
      = x (ix2 q l) + Ideal.log (∑ p : Fin 8, z (ix2 p l)) * (((Real.log 2)⁻¹ : ℝ) : EReal) * ((Real.log 2 : ℝ) : EReal) := by
  pointwise [k0_pay60]
  rw [named_log2e, named_ln2]

/-- The base-two logarithm of the sum. -/
theorem pay61_apply (x z : FVec Ideal S8x256 .f32) (q : Fin 8) (l : Fin 256) :
    k0_pay61 (F := Ideal) x z (ix2 q l) = (k0_pay60 (F := Ideal) x z (ix2 q l) - x (ix2 q l)) * (((Real.log 2)⁻¹ : ℝ) : EReal) := by
  pointwise [k0_pay61]
  rw [named_log2e]

/-- The exponentials with the sum taken off on the diagonal. -/
theorem pay62_apply (x y : FVec Ideal S8x256 .f32) (z w : Vec Ideal S1x32x8x256 .f32) (s : Fin 32) (q : Fin 8) (l : Fin 256) :
    k0_pay62 (F := Ideal) x (k0_pay51 k0_pay9) y z w (ix3 s q l)
      = if s.val * 8 + q.val = l.val then z (ix4 0 s q l) - Ideal.exp2 (k0_pay61 (F := Ideal) x y (ix2 q l)) else w (ix4 0 s q l) := by
  pointwise [k0_pay62, k0_pay51, k0_pay9]
  rw [sel_eq (by omega) (by omega)]
  rfl

section
variable {a b c : BitVec 32} {A V o : ℕ} (ha : IsInt a A) (hb : IsInt b ((A + V : ℕ) : ℤ)) (hc : IsInt c (o : ℕ)) (ho : o ≤ 4096)

include ha hb hc ho in
/-- What a user's weights are multiplied by: zero outside the segment. -/
theorem pay14_apply (x : FVec Ideal S8x256 .f32) (q : Fin 8) (l : Fin 256) :
    k0_pay14 (F := Ideal) a b c x (ix2 q l) = if In A V (o + l) then Ideal.exp2 (0 - x (ix2 q l)) else 0 := by
  pointwise [k0_pay14, k0_pay13]
  rw [sel_in ha hb hc (by omega) ho]; rfl

include ha hb hc ho in
/-- The losses of a block, added where the block lies. -/
theorem pay15_apply {d : BitVec 32} {r : ℕ} (hd : d.toNat = r) (hr : r < 128) (x : FVec Ideal S1x256 .f32) (y : FVec Ideal S8x256 .f32)
    (z : Vec Ideal S8x384 .f32) (f : ℕ → EReal) (hf : ∀ q l, y (ix2 q l) - x (ix2 0 l) = f (o + l)) (q : Fin 8) (n : Fin 384) :
    k0_pay15 (F := Ideal) a b c d x y z (ix2 q n)
      = z (ix2 q n) + if r ≤ n.val ∧ n.val < r + 256 ∧ In A V (o + (n.val - r)) then f (o + (n.val - r)) else 0 := by
  pointwise [k0_pay15, k0_pay13]
  congr 1
  have hn := n.2
  rw [hd]
  by_cases h : r ≤ n.val ∧ n.val < r + 256
  · have e : (n.val + 384 - r % 384) % 384 = n.val - r := by omega
    rw [dif_pos (by omega), sel_in ha hb hc (by omega) ho]
    simp only [e, h, true_and]
    split
    · exact hf q ⟨n.val - r, by omega⟩
    · rfl
  · rw [dif_neg (by omega), if_neg (by tauto)]

end

/-- A tile of weights, as a matrix. -/
theorem pay16_apply (a b c : BitVec 32) (x : FVec Ideal S8x256 .f32) (y : Vec Ideal S1x32x8x256 .f32) (j i : Fin 256) :
    k0_pay16 (F := Ideal) a b c x y (ix2 j i)
      = y (ix4 0 ⟨j.val / 8, by omega⟩ ⟨j.val % 8, by omega⟩ i) * k0_pay14 (F := Ideal) a b c x (ix2 ⟨j.val % 8, by omega⟩ i) := by
  pointwise [k0_pay16]

end Cert.KernelIdeal.Strong
-- ==== Proof.Ideal.Access.lean ====
/-
  A buffer read at an index after one store through a unit-stride rectangle, and a load through such a
  rectangle read at an index: at ranks two, three and four, by coordinates.
-/
module

public import Idealize.ShloMosaic.Lib.WritesUnit
public import Idealize.ShloMosaic.Lib.Pointwise
public import Idealize.ShloMosaic.Lib.Pipeline.ValueKit.Tiles

@[expose] public section

noncomputable section

namespace Cert.Access

open Idealize.ShloMosaic

variable {sig : RefSig} {κ : Kind} {sp : Space} {e : EltTy} {Val : EltTy → Type}

section
variable {n0 n1 s0 s1 o0 o1 : ℕ} (v : View sig κ sp ⟨2, ![n0, n1]⟩ e) (f : v.ty.Contents Val) {off : Fin 2 → ℕ}
  (inb : ∀ a, off a + (![s0, s1] : Fin 2 → ℕ) a ≤ (⟨2, ![n0, n1]⟩ : Shape).size a) (ho : off = ![o0, o1])

include ho in
/-- A load through a rectangle, at a local index. -/
theorem load2 (x : Fin s0) (y : Fin s1) (h0 : o0 + x < n0) (h1 : o1 + y < n1) :
    View.readAt Val v (Rect.unit (s := ⟨2, ![n0, n1]⟩) off ![s0, s1] inb).toLoadRect f (ix2 x y)
      = v.read Val f (ix2 ⟨o0 + x, h0⟩ ⟨o1 + y, h1⟩) := by
  subst ho
  exact View.ld_unit_apply_of (v.read Val f) _ _ inb _ _ (by intro a; fin_cases a <;> rfl)

include ho in
/-- Inside the stored rectangle the payload is read. -/
theorem store2_in (w : (⟨2, ![s0, s1]⟩ : Shape).Idx → Val e) (i : Fin n0) (j : Fin n1) (x : Fin s0) (y : Fin s1)
    (h0 : (i : ℕ) = o0 + x) (h1 : (j : ℕ) = o1 + y) :
    v.read Val (v.writes Val f [⟨Rect.unit (s := ⟨2, ![n0, n1]⟩) off ![s0, s1] inb, w⟩]) (ix2 i j) = w (ix2 x y) :=
  View.read_writes_cons_unit_of_mem v f inb w [] (ix2 i j) (ix2 x y) ho (by intro a; fin_cases a <;> assumption)

include ho in
/-- Outside it the old contents are read. -/
theorem store2_out (w : (⟨2, ![s0, s1]⟩ : Shape).Idx → Val e) (i : Fin n0) (j : Fin n1)
    (h : (i : ℕ) < o0 ∨ o0 + s0 ≤ i ∨ (j : ℕ) < o1 ∨ o1 + s1 ≤ j) :
    v.read Val (v.writes Val f [⟨Rect.unit (s := ⟨2, ![n0, n1]⟩) off ![s0, s1] inb, w⟩]) (ix2 i j) = v.read Val f (ix2 i j) := by
  rcases h with h | h | h | h
  · exact View.read_writes_cons_unit_of_not_mem v f inb w [] (ix2 i j) ho 0 (.inl h)
  · exact View.read_writes_cons_unit_of_not_mem v f inb w [] (ix2 i j) ho 0 (.inr h)
  · exact View.read_writes_cons_unit_of_not_mem v f inb w [] (ix2 i j) ho 1 (.inl h)
  · exact View.read_writes_cons_unit_of_not_mem v f inb w [] (ix2 i j) ho 1 (.inr h)
end

section
variable {n0 n1 n2 s0 s1 s2 o0 o1 o2 : ℕ} (v : View sig κ sp ⟨3, ![n0, n1, n2]⟩ e) (f : v.ty.Contents Val) {off : Fin 3 → ℕ}
  (inb : ∀ a, off a + (![s0, s1, s2] : Fin 3 → ℕ) a ≤ (⟨3, ![n0, n1, n2]⟩ : Shape).size a) (ho : off = ![o0, o1, o2])

include ho in
/-- A load through a rectangle, at a local index. -/
theorem load3 (x : Fin s0) (y : Fin s1) (z : Fin s2) (h0 : o0 + x < n0) (h1 : o1 + y < n1) (h2 : o2 + z < n2) :
    View.readAt Val v (Rect.unit (s := ⟨3, ![n0, n1, n2]⟩) off ![s0, s1, s2] inb).toLoadRect f (ix3 x y z)
      = v.read Val f (ix3 ⟨o0 + x, h0⟩ ⟨o1 + y, h1⟩ ⟨o2 + z, h2⟩) := by
  subst ho
  exact View.ld_unit_apply_of (v.read Val f) _ _ inb _ _ (by intro a; fin_cases a <;> rfl)

include ho in
/-- Inside the stored rectangle the payload is read. -/
theorem store3_in (w : (⟨3, ![s0, s1, s2]⟩ : Shape).Idx → Val e) (i : Fin n0) (j : Fin n1) (k : Fin n2) (x : Fin s0)
    (y : Fin s1) (z : Fin s2) (h0 : (i : ℕ) = o0 + x) (h1 : (j : ℕ) = o1 + y) (h2 : (k : ℕ) = o2 + z) :
    v.read Val (v.writes Val f [⟨Rect.unit (s := ⟨3, ![n0, n1, n2]⟩) off ![s0, s1, s2] inb, w⟩]) (ix3 i j k) = w (ix3 x y z) :=
  View.read_writes_cons_unit_of_mem v f inb w [] (ix3 i j k) (ix3 x y z) ho (by intro a; fin_cases a <;> assumption)

include ho in
/-- Outside it, on the middle axis, the old contents are read. -/
theorem store3_out (w : (⟨3, ![s0, s1, s2]⟩ : Shape).Idx → Val e) (i : Fin n0) (j : Fin n1) (k : Fin n2)
    (h : (j : ℕ) < o1 ∨ o1 + s1 ≤ j) :
    v.read Val (v.writes Val f [⟨Rect.unit (s := ⟨3, ![n0, n1, n2]⟩) off ![s0, s1, s2] inb, w⟩]) (ix3 i j k)
      = v.read Val f (ix3 i j k) :=
  View.read_writes_cons_unit_of_not_mem v f inb w [] (ix3 i j k) ho 1 h
end

section
variable {n0 n1 n2 n3 s0 s1 s2 s3 o0 o1 o2 o3 : ℕ} (v : View sig κ sp ⟨4, ![n0, n1, n2, n3]⟩ e) (f : v.ty.Contents Val)
  {off : Fin 4 → ℕ} (inb : ∀ a, off a + (![s0, s1, s2, s3] : Fin 4 → ℕ) a ≤ (⟨4, ![n0, n1, n2, n3]⟩ : Shape).size a)
  (ho : off = ![o0, o1, o2, o3])

include ho in
/-- A load through a rectangle, at a local index. -/
theorem load4 (x : Fin s0) (y : Fin s1) (z : Fin s2) (w : Fin s3) (h0 : o0 + x < n0) (h1 : o1 + y < n1)
    (h2 : o2 + z < n2) (h3 : o3 + w < n3) :
    View.readAt Val v (Rect.unit (s := ⟨4, ![n0, n1, n2, n3]⟩) off ![s0, s1, s2, s3] inb).toLoadRect f (ix4 x y z w)
      = v.read Val f (ix4 ⟨o0 + x, h0⟩ ⟨o1 + y, h1⟩ ⟨o2 + z, h2⟩ ⟨o3 + w, h3⟩) := by
  subst ho
  exact View.ld_unit_apply_of (v.read Val f) _ _ inb _ _ (by intro a; fin_cases a <;> rfl)

include ho in
/-- Inside the stored rectangle the payload is read. -/
theorem store4_in (u : (⟨4, ![s0, s1, s2, s3]⟩ : Shape).Idx → Val e) (i : Fin n0) (j : Fin n1) (k : Fin n2) (l : Fin n3)
    (x : Fin s0) (y : Fin s1) (z : Fin s2) (w : Fin s3) (h0 : (i : ℕ) = o0 + x) (h1 : (j : ℕ) = o1 + y)
    (h2 : (k : ℕ) = o2 + z) (h3 : (l : ℕ) = o3 + w) :
    v.read Val (v.writes Val f [⟨Rect.unit (s := ⟨4, ![n0, n1, n2, n3]⟩) off ![s0, s1, s2, s3] inb, u⟩]) (ix4 i j k l)
      = u (ix4 x y z w) :=
  View.read_writes_cons_unit_of_mem v f inb u [] (ix4 i j k l) (ix4 x y z w) ho (by intro a; fin_cases a <;> assumption)

include ho in
/-- Outside it, on the first axis, the old contents are read. -/
theorem store4_out (u : (⟨4, ![s0, s1, s2, s3]⟩ : Shape).Idx → Val e) (i : Fin n0) (j : Fin n1) (k : Fin n2) (l : Fin n3)
    (h : (i : ℕ) < o0 ∨ o0 + s0 ≤ i) :
    v.read Val (v.writes Val f [⟨Rect.unit (s := ⟨4, ![n0, n1, n2, n3]⟩) off ![s0, s1, s2, s3] inb, u⟩]) (ix4 i j k l)
      = v.read Val f (ix4 i j k l) :=
  View.read_writes_cons_unit_of_not_mem v f inb u [] (ix4 i j k l) ho 0 h
end

end Cert.Access
-- ==== Proof.Ideal.Steps.lean ====
/-
  What the kernel's buffers hold before each trip of its loops, and that one trip's stores take one
  to the next.
-/
module

public import proofs.«01_k».proof.Proof.Ideal.Payloads
public import proofs.«01_k».proof.Proof.Ideal.Access

@[expose] public section

set_option maxRecDepth 16384

noncomputable section

namespace Cert.KernelIdeal.Strong

open Idealize.ShloMosaic Idealize.ShloMosaic.Affine Cert.Seg Cert.KernelIdeal Cert.KernelIdeal.Gen Cert.Spec Cert.Access
open Cert.Spec.Row (In)

/-! ### What the buffers hold -/

section
variable (D : Row) (A V : ℕ)

/-- The codes of the users. -/
structure IsU (g : Vec Ideal S1x4096x256 .fp8e4m3) : Prop where
  eq : ∀ (i : Fin 4096) d, g (ix3 0 i d) = (D.U i d : EReal)
/-- The codes of the items. -/
structure IsV (g : Vec Ideal S1x4096x256 .fp8e4m3) : Prop where
  eq : ∀ (j : Fin 4096) d, g (ix3 0 j d) = (D.V j d : EReal)
/-- A row of values. -/
structure IsRow (f : ℕ → ℝ) (g : Vec Ideal S1x1x4096 .f32) : Prop where
  eq : ∀ i : Fin 4096, g (ix3 0 0 i) = (f i : EReal)
/-- A value for each row, repeated along it, for the first `n` rows. -/
structure IsRep (f : ℕ → ℝ) (n : ℕ) (g : Vec Ideal S4096x128 .f32) : Prop where
  eq : ∀ (j : Fin 4096) l, j.val < n → g (ix2 j l) = (f j : EReal)
/-- The scales of the users, repeated over sublanes, for the first `n` columns. -/
structure IsScale (n : ℕ) (g : Vec Ideal S8x4224 .f32) : Prop where
  eq : ∀ q (i : Fin 4224), i.val < n → g (ix2 q i) = ((D.us i * 20 : ℝ) : EReal)
/-- Dequantised codes, for the first `n` rows. -/
structure IsDeq (f : ℕ → ℕ → ℝ) (n : ℕ) (g : Vec Ideal S4096x256 .bf16) : Prop where
  eq : ∀ (j : Fin 4096) d, j.val < n → g (ix2 j d) = (f j d : EReal)
/-- Zeros in the first `n` rows. -/
structure IsZero (n : ℕ) (g : Vec Ideal S4096x256 .f32) : Prop where
  eq : ∀ (j : Fin 4096) d, j.val < n → g (ix2 j d) = 0
/-- The log frequencies with everything off the segment masked, for the first `n` rows of the tiles. -/
structure IsMask (n : ℕ) (g : Vec Ideal S4096x128 .f32) : Prop where
  eq : ∀ (j : Fin 4096) l, loN A V ≤ j.val → j.val < loN A V + n → g (ix2 j l) = if In A V j then (D.lq j : EReal) else ⊤

/-- Tiles of masked logits for row block `r`, the first `k` of them, and their maximum so far. -/
structure Scores (r k : ℕ) (g : Vec Ideal S16x32x8x256 .f32) (acc : FVec Ideal S8x256 .f32) : Prop where
  tile : ∀ c : Fin 16, c.val < k → ∀ s q l, g (ix4 c s q l) = D.XE A V (loN A V + 256 * c + (s * 8 + q)) (loN A V + 256 * r + l)
  acc : ∀ q l, acc (ix2 q l) = (Finset.range k).sup fun c => Finset.univ.sup fun s : Fin 32 =>
    D.XE A V (loN A V + 256 * c + (s * 8 + q)) (loN A V + 256 * r + l)

/-- Tiles of exponentials for row block `r`, the first `k` of them, the others still logits; and their sum so far. -/
structure Exps (r k : ℕ) (g : Vec Ideal S16x32x8x256 .f32) (acc : FVec Ideal S8x256 .f32) : Prop where
  done : ∀ c : Fin 16, c.val < k → ∀ s q l, g (ix4 c s q l) = (D.ex A V (loN A V + 256 * c + (s * 8 + q)) (loN A V + 256 * r + l) : EReal)
  todo : ∀ c : Fin 16, k ≤ c.val → c.val < ntN A V → ∀ s q l, g (ix4 c s q l) = D.XE A V (loN A V + 256 * c + (s * 8 + q)) (loN A V + 256 * r + l)
  acc : ∀ q l, acc (ix2 q l) = ((∑ c ∈ Finset.range k, ∑ s : Fin 32, D.ex A V (loN A V + 256 * c + (s * 8 + q)) (loN A V + 256 * r + l) : ℝ) : EReal)

/-- Tiles of the weights before division. -/
structure Weights (r : ℕ) (g : Vec Ideal S16x32x8x256 .f32) : Prop where
  eq : ∀ c : Fin 16, c.val < ntN A V → ∀ s q l, g (ix4 c s q l) = (D.E A V (loN A V + 256 * c + (s * 8 + q)) (loN A V + 256 * r + l) : EReal)

/-- The maxima of row block `r`. -/
structure IsM (r : ℕ) (x : FVec Ideal S8x256 .f32) : Prop where
  eq : ∀ q (l : Fin 256), x (ix2 q l) = (D.M A V (loN A V + 256 * r + l) : EReal)
/-- The logarithms to the base two of the sums of row block `r`. -/
structure IsT (r : ℕ) (x : FVec Ideal S8x256 .f32) : Prop where
  eq : ∀ q (l : Fin 256), x (ix2 q l) = (D.T A V (loN A V + 256 * r + l) : EReal)
/-- The logarithms of the sums, the maxima added. -/
structure IsLse (r : ℕ) (x : FVec Ideal S8x256 .f32) : Prop where
  eq : ∀ q (l : Fin 256), x (ix2 q l) = ((D.M A V (loN A V + 256 * r + l) + Real.log (D.L A V (loN A V + 256 * r + l)) : ℝ) : EReal)
/-- The positive pair's logit. -/
structure IsDiag (r : ℕ) (x : FVec Ideal S1x256 .f32) : Prop where
  eq : ∀ l : Fin 256, x (ix2 0 l) = D.XE A V (loN A V + 256 * r + l) (loN A V + 256 * r + l)

/-- The losses added by the first `r` row blocks to what was held. -/
structure LossAdd (r : ℕ) (b g : Vec Ideal S8x4224 .f32) : Prop where
  eq : ∀ q (n : Fin 4224), g (ix2 q n) = b (ix2 q n) + ((if loN A V ≤ n.val ∧ n.val < loN A V + 256 * r then D.lossIn A V n else 0 : ℝ) : EReal)
/-- The users' gradients added by the first `k` tiles of row block `r`. -/
structure DuPart (r k : ℕ) (b g : Vec Ideal S4096x256 .f32) : Prop where
  eq : ∀ (i : Fin 4096) d, g (ix2 i d) = b (ix2 i d) + ((if loN A V + 256 * r ≤ i.val ∧ i.val < loN A V + 256 * r + 256 then
    ∑ t ∈ Finset.range (256 * k), D.G A V (loN A V + t) i * D.vb (loN A V + t) d else 0 : ℝ) : EReal)
/-- The items' gradients added by the first `k` tiles of row block `r`. -/
structure DvPart (r k : ℕ) (b g : Vec Ideal S4096x256 .f32) : Prop where
  eq : ∀ (j : Fin 4096) d, g (ix2 j d) = b (ix2 j d) + ((if loN A V ≤ j.val ∧ j.val < loN A V + 256 * k then
    ∑ t ∈ Finset.range 256, D.G A V j (loN A V + 256 * r + t) * D.ub (loN A V + 256 * r + t) d else 0 : ℝ) : EReal)
/-- The users' gradients added by the first `r` row blocks. -/
structure DuAdd (r : ℕ) (b g : Vec Ideal S4096x256 .f32) : Prop where
  eq : ∀ (i : Fin 4096) d, g (ix2 i d) = b (ix2 i d) + ((if loN A V ≤ i.val ∧ i.val < loN A V + 256 * r then
    ∑ t ∈ Finset.range (256 * ntN A V), D.G A V (loN A V + t) i * D.vb (loN A V + t) d else 0 : ℝ) : EReal)
/-- The items' gradients added by the first `r` row blocks. -/
structure DvAdd (r : ℕ) (b g : Vec Ideal S4096x256 .f32) : Prop where
  eq : ∀ (j : Fin 4096) d, g (ix2 j d) = b (ix2 j d) + ((if loN A V ≤ j.val ∧ j.val < loN A V + 256 * ntN A V then
    ∑ t ∈ Finset.range (256 * r), D.G A V j (loN A V + t) * D.ub (loN A V + t) d else 0 : ℝ) : EReal)
end

/-! ### One trip -/

/-- A segment that has a tile is not empty. -/
theorem nt_ne {A V k : ℕ} (hk : k < ntN A V) : V ≠ 0 := by
  rintro rfl; simp [ntN] at hk

/-- A segment has at most sixteen tiles. -/
theorem nt16 {A V : ℕ} (h : A + V ≤ 4096) : ntN A V ≤ 16 := by have := ntN_le h; omega

section
variable {D : Row} {a v : BitVec 32} {A V : ℕ} (ha : IsInt a A) (hv : IsInt v V) (h : A + V ≤ 4096)
variable {arg2 : Memref sig .tc .vmem S1x4096x256 .fp8e4m3} {f2 : BufTy.Contents (Elt Ideal) arg2.view.ty}
  {arg4 : Memref sig .tc .vmem S1x4096x256 .fp8e4m3} {f4 : BufTy.Contents (Elt Ideal) arg4.view.ty}
  {arg10 : Memref sig .tc .vmem S4096x256 .bf16} {f10 : BufTy.Contents (Elt Ideal) arg10.view.ty}
  {arg11 : Memref sig .tc .vmem S4096x256 .bf16} {f11 : BufTy.Contents (Elt Ideal) arg11.view.ty}
  {arg12 : Memref sig .tc .vmem S4096x128 .f32} {f12 : BufTy.Contents (Elt Ideal) arg12.view.ty}
  {arg13 : Memref sig .tc .vmem S4096x128 .f32} {f13 : BufTy.Contents (Elt Ideal) arg13.view.ty}
  {arg14 : Memref sig .tc .vmem S4096x128 .f32} {f14 : BufTy.Contents (Elt Ideal) arg14.view.ty}
  {arg15 : Memref sig .tc .vmem S8x4224 .f32} {f15 : BufTy.Contents (Elt Ideal) arg15.view.ty}
  {arg16 : Memref sig .tc .vmem S8x4224 .f32} {f16 : BufTy.Contents (Elt Ideal) arg16.view.ty}
  {arg17 : Memref sig .tc .vmem S16x32x8x256 .f32} {f17 : BufTy.Contents (Elt Ideal) arg17.view.ty}
  {arg18 : Memref sig .tc .vmem S4096x256 .f32} {f18 : BufTy.Contents (Elt Ideal) arg18.view.ty}
  {arg19 : Memref sig .tc .vmem S4096x256 .f32} {f19 : BufTy.Contents (Elt Ideal) arg19.view.ty}

include ha hv h in
/-- One tile of masked logits. -/
theorem scores_step (w : BitVec 32) (hw : w = loW a v) (r : Fin (k0_t5_loop a v).trips) (k : Fin (k0_t6_loop a v).trips) (inb9 inb10 inb11 inb12 inb13 acc)
    (hU : IsU D (arg2.view.read _ f2)) (hV : IsV D (arg4.view.read _ f4)) (hvs : IsRep D.vs 4096 (arg12.view.read _ f12))
    (hlm : IsMask D A V (256 * ntN A V) (arg14.view.read _ f14)) (hus : IsScale D 4096 (arg15.view.read _ f15))
    (hS : Scores D A V r k (arg17.view.read _ f17) acc) :
    Scores D A V r (k + 1)
      (arg17.view.read _ (arg17.view.writes (Elt Ideal) f17 [⟨Rect.unit (s := S16x32x8x256) (k0_off13 a v k) S1x32x8x256.size inb13,
        k0_pay45 a v w 0#32 1#32 r
          (View.readAt (Elt Ideal) arg15.view (Rect.unit (s := S8x4224) (k0_off9 a v r) S8x384.size inb9).toLoadRect f15)
          (View.readAt (Elt Ideal) arg4.view (Rect.unit (s := S1x4096x256) (k0_off10 a v k) S1x256x256.size inb10).toLoadRect f4)
          (View.readAt (Elt Ideal) arg2.view (Rect.unit (s := S1x4096x256) (k0_off11 a v r) S1x256x256.size inb11).toLoadRect f2)
          (View.readAt (Elt Ideal) arg12.view (Rect.unit (s := S4096x128) (k0_off12 a v k) S256x128.size inb12).toLoadRect f12)
          (View.readAt (Elt Ideal) arg14.view (Rect.unit (s := S4096x128) (k0_off12 a v k) S256x128.size inb12).toLoadRect f14)⟩]))
      (k0_pay46 a v w 0#32 1#32 r
          (View.readAt (Elt Ideal) arg15.view (Rect.unit (s := S8x4224) (k0_off9 a v r) S8x384.size inb9).toLoadRect f15) acc
          (View.readAt (Elt Ideal) arg4.view (Rect.unit (s := S1x4096x256) (k0_off10 a v k) S1x256x256.size inb10).toLoadRect f4)
          (View.readAt (Elt Ideal) arg2.view (Rect.unit (s := S1x4096x256) (k0_off11 a v r) S1x256x256.size inb11).toLoadRect f2)
          (View.readAt (Elt Ideal) arg12.view (Rect.unit (s := S4096x128) (k0_off12 a v k) S256x128.size inb12).toLoadRect f12)
          (View.readAt (Elt Ideal) arg14.view (Rect.unit (s := S4096x128) (k0_off12 a v k) S256x128.size inb12).toLoadRect f14)) := by
  subst hw
  have hr := lt_of_lt_of_eq r.2 (t5_trips ha hv h)
  have hk := lt_of_lt_of_eq k.2 (t6_trips ha hv h)
  have hlo := loN_add h
  have hn := ntN_le h
  have key := pay44_apply ha hv h D r k.val
    (View.readAt (Elt Ideal) arg15.view (Rect.unit (s := S8x4224) (k0_off9 a v r) S8x384.size inb9).toLoadRect f15)
    (View.readAt (Elt Ideal) arg4.view (Rect.unit (s := S1x4096x256) (k0_off10 a v k) S1x256x256.size inb10).toLoadRect f4)
    (View.readAt (Elt Ideal) arg2.view (Rect.unit (s := S1x4096x256) (k0_off11 a v r) S1x256x256.size inb11).toLoadRect f2)
    (View.readAt (Elt Ideal) arg12.view (Rect.unit (s := S4096x128) (k0_off12 a v k) S256x128.size inb12).toLoadRect f12)
    (View.readAt (Elt Ideal) arg14.view (Rect.unit (s := S4096x128) (k0_off12 a v k) S256x128.size inb12).toLoadRect f14)
    (fun q l hl => by
      have e : (loN A V + 256 * r.val) / 128 * 128 + (l.val + (loN A V + 256 * r.val) % 128) = loN A V + 256 * r.val + l.val := by omega
      refine (load2 arg15.view f15 inb9 (off9_eq ha hv h r) q ⟨_, hl⟩ (by omega) (by simp only [e]; omega)).trans ?_
      refine (hus.eq _ _ (by simp only [e]; omega)).trans ?_
      simp only [e])
    (fun j d => (load3 arg4.view f4 inb10 (off10_eq ha hv h k) 0 j d (by decide) (by omega) (by omega)).trans (by
      have := hV.eq ⟨loN A V + 256 * k.val + j, by omega⟩ d
      simpa using this))
    (fun j d => (load3 arg2.view f2 inb11 (off11_eq ha hv h r) 0 j d (by decide) (by omega) (by omega)).trans (by
      have := hU.eq ⟨loN A V + 256 * r.val + j, by omega⟩ d
      simpa using this))
    (fun j l => (load2 arg12.view f12 inb12 (off12_eq ha hv h k) j l (by omega) (by omega)).trans (by
      exact hvs.eq ⟨loN A V + 256 * k.val + j, by omega⟩ _ (by simp only; omega)))
    (fun j l => (load2 arg14.view f14 inb12 (off12_eq ha hv h k) j l (by omega) (by omega)).trans (by
      exact hlm.eq ⟨loN A V + 256 * k.val + j, by omega⟩ _ (by simp only; omega) (by simp only; omega)))
  refine ⟨fun c hc s q l => ?_, fun q l => ?_⟩
  · by_cases e : c.val = k.val
    · refine (store4_in arg17.view f17 inb13 (off13_eq ha hv h k) _ c s q l 0 s q l (by simpa using e) (by simp) (by simp) (by simp)).trans ?_
      rw [pay45_apply, key, e]
    · refine (store4_out arg17.view f17 inb13 (off13_eq ha hv h k) _ c s q l (by omega)).trans (hS.tile c (by omega) s q l)
  · rw [pay46_apply, hS.acc, Finset.range_add_one, Finset.sup_insert, max_comm]
    simp only [key]

/-- The number of a tile is below sixteen. -/
theorem fin16 {V A : ℕ} (h : A + V ≤ 4096) {k : ℕ} (hk : k < ntN A V) : k < 16 := lt_of_lt_of_le hk (nt16 h)

include ha hv h in
/-- One tile of exponentials. -/
theorem exps_step (r : ℕ) (k : Fin (k0_t8_loop a v).trips) (inb19) (m acc : FVec Ideal S8x256 .f32) (hm : IsM D A V r m)
    (hS : Exps D A V r k (arg17.view.read _ f17) acc) :
    Exps D A V r (k + 1)
      (arg17.view.read _ (arg17.view.writes (Elt Ideal) f17 [⟨Rect.unit (s := S16x32x8x256) (k0_off19 a v k) S1x32x8x256.size inb19,
        k0_pay55 m (View.readAt (Elt Ideal) arg17.view (Rect.unit (s := S16x32x8x256) (k0_off19 a v k) S1x32x8x256.size inb19).toLoadRect f17)⟩]))
      (k0_pay56 m acc (View.readAt (Elt Ideal) arg17.view (Rect.unit (s := S16x32x8x256) (k0_off19 a v k) S1x32x8x256.size inb19).toLoadRect f17)) := by
  have hk := lt_of_lt_of_eq k.2 (t8_trips ha hv h)
  have hk16 := fin16 h hk
  have key : ∀ s q l, Ideal.exp2 ((View.readAt (Elt Ideal) arg17.view (Rect.unit (s := S16x32x8x256) (k0_off19 a v k) S1x32x8x256.size inb19).toLoadRect f17
      (ix4 0 s q l) - m (ix2 q l)) * (((Real.log 2)⁻¹ : ℝ) : EReal)) = (D.ex A V (loN A V + 256 * k + (s * 8 + q)) (loN A V + 256 * r + l) : EReal) := fun s q l => by
    have e := (load4 arg17.view f17 inb19 (off19_eq ha hv h k) 0 s q l (by simp only [Fin.val_zero]; omega) (by omega) (by omega) (by omega)).trans (by
      have := hS.todo ⟨k.val, hk16⟩ (le_refl _) hk s q l
      simpa using this)
    rw [e, hm.eq]
    exact D.exp2_XE _ _
  refine ⟨fun c hc s q l => ?_, fun c hc hc' s q l => ?_, fun q l => ?_⟩
  · by_cases e : c.val = k.val
    · refine (store4_in arg17.view f17 inb19 (off19_eq ha hv h k) _ c s q l 0 s q l (by simpa using e) (by simp) (by simp) (by simp)).trans ?_
      rw [pay55_apply, key, e]
    · exact (store4_out arg17.view f17 inb19 (off19_eq ha hv h k) _ c s q l (by omega)).trans (hS.done c (by omega) s q l)
  · exact (store4_out arg17.view f17 inb19 (off19_eq ha hv h k) _ c s q l (by omega)).trans (hS.todo c (by omega) hc' s q l)
  · rw [pay56_apply, hS.acc, Finset.sum_range_succ, EReal.coe_add]
    simp only [key, ← coe_sum]

include ha hv h in
/-- The masking of 32 rows. -/
theorem mask_step (b : BitVec 32) (hb : IsInt b ((A + V : ℕ) : ℤ)) (w42 w61 : BitVec 32) (w62 : BitVec 1)
    (hw : Scalar.minsi w42 (Scalar.subi 4096#32 (Scalar.muli (Scalar.select w62 w61 0#32) 256#32)) = loW a v)
    (k : Fin (k0_t3_loop a v).trips) (inb7) (hlq : IsRep D.lq 4096 (arg13.view.read _ f13))
    (hS : IsMask D A V (32 * k) (arg14.view.read _ f14)) :
    IsMask D A V (32 * (k + 1))
      (arg14.view.read _ (arg14.view.writes (Elt Ideal) f14 [⟨Rect.unit (s := S4096x128) (k0_off7 a v k) S32x128.size inb7,
        k0_pay10 a v b w42 w61 w62 k (View.readAt (Elt Ideal) arg13.view (Rect.unit (s := S4096x128) (k0_off7 a v k) S32x128.size inb7).toLoadRect f13)⟩])) := by
  have hk := lt_of_lt_of_eq k.2 (t3_trips ha hv h)
  have hlo := loN_add h
  have hn := ntN_le h
  have key : ∀ (x : Vec Ideal S32x128 .f32) (j : Fin 32) (l : Fin 128), k0_pay10 a v b w42 w61 w62 k x (ix2 j l)
      = if In A V (loN A V + 32 * k + j) then x (ix2 j l) else ⊤ := fun x j l => by
    unfold k0_pay10
    pointwise
    rw [hw, sel_in ha hb (o := loN A V + 32 * k.val)
      (rowW_isInt ha hv h (ofNat 32 (by decide) : IsInt 32#32 32) (by omega) (by omega) (by omega)) (by omega) (by omega), named_neg]
  refine ⟨fun j l h0 h1 => ?_⟩
  by_cases e : loN A V + 32 * k.val ≤ j.val
  · have e' : loN A V + 32 * k.val + (j.val - (loN A V + 32 * k.val)) = j.val := by omega
    refine (store2_in arg14.view f14 inb7 (off7_eq ha hv h k) _ j l ⟨j.val - (loN A V + 32 * k.val), by omega⟩ l (by simp only; omega) (by simp)).trans ?_
    rw [key, load2 arg13.view f13 inb7 (off7_eq ha hv h k) _ l (by simp only; omega) (by omega), hlq.eq _ _ (by simp only; omega)]
    simp only [e']
  · exact (store2_out arg14.view f14 inb7 (off7_eq ha hv h k) _ j l (by omega)).trans (hS.eq j l h0 (by omega))

/-- The weight of a pair, from the stored tile and the reciprocals of the sums. -/
theorem weight_apply {b c : BitVec 32} (ha : IsInt a A) (hb : IsInt b ((A + V : ℕ) : ℤ)) {r k : ℕ} (hc : IsInt c ((loN A V + 256 * r : ℕ) : ℤ))
    (ho : loN A V + 256 * r ≤ 4096) (hV : V ≠ 0) (t : FVec Ideal S8x256 .f32) (ht : IsT D A V r t) (y : Vec Ideal S1x32x8x256 .f32)
    (hy : ∀ s q l, y (ix4 0 s q l) = (D.E A V (loN A V + 256 * k + (s * 8 + q)) (loN A V + 256 * r + l) : EReal)) (j i : Fin 256) :
    k0_pay16 (F := Ideal) a b c t y (ix2 j i) = (D.G A V (loN A V + 256 * k + j) (loN A V + 256 * r + i) : EReal) := by
  refine (pay16_apply a b c t y j i).trans ?_
  rw [pay14_apply ha hb hc ho, hy, ht.eq, D.exp2_neg_T (a := A) hV]
  have e : (j.val / 8) * 8 + j.val % 8 = j.val := by omega
  simp only [e]
  unfold Row.G Row.Inv
  split
  · rw [← EReal.coe_mul]
  · rw [mul_zero, mul_zero, EReal.coe_zero]

/-- A product of a weight tile and a block of codes, summed. -/
theorem sum_coe_mul (f g : ℕ → ℝ) : ∑ x : Fin 256, (f x : EReal) * (g x : EReal) = ((∑ t ∈ Finset.range 256, f t * g t : ℝ) : EReal) := by
  rw [Finset.sum_range, coe_sum]
  exact Finset.sum_congr rfl fun _ _ => (EReal.coe_mul _ _).symm

include ha hv h in
/-- One tile's weights. -/
theorem weights_load {b c : BitVec 32} (hb : IsInt b ((A + V : ℕ) : ℤ)) (r : Fin (k0_t5_loop a v).trips) (hc : IsInt c ((loN A V + 256 * r : ℕ) : ℤ)) (k : Fin (k0_t10_loop a v).trips) (inb21)
    (t : FVec Ideal S8x256 .f32) (ht : IsT D A V r t) (hW : Weights D A V r (arg17.view.read _ f17)) (j i : Fin 256) :
    k0_pay16 (F := Ideal) a b c t (View.readAt (Elt Ideal) arg17.view (Rect.unit (s := S16x32x8x256) (k0_off21 a v k) S1x32x8x256.size inb21).toLoadRect f17) (ix2 j i)
      = (D.G A V (loN A V + 256 * k + j) (loN A V + 256 * r + i) : EReal) := by
  have hr := lt_of_lt_of_eq r.2 (t5_trips ha hv h)
  have hk := lt_of_lt_of_eq k.2 (t10_trips ha hv h)
  have hk16 := fin16 h hk
  have hlo := loN_add h
  refine weight_apply ha hb hc (by omega) (nt_ne hk) t ht _ (fun s q l => ?_) j i
  refine (load4 arg17.view f17 inb21 (off21_eq ha hv h k) 0 s q l (by simp only [Fin.val_zero]; omega) (by omega) (by omega) (by omega)).trans ?_
  have := hW.eq ⟨k.val, hk16⟩ hk s q l
  simpa using this

include ha hv h in
/-- One tile added to the items' gradients. -/
theorem dv_step {b c : BitVec 32} (hb : IsInt b ((A + V : ℕ) : ℤ)) (r : Fin (k0_t5_loop a v).trips) (hc : IsInt c ((loN A V + 256 * r : ℕ) : ℤ)) (k : Fin (k0_t10_loop a v).trips) (inb21 inb22 inb23)
    (t : FVec Ideal S8x256 .f32) (ht : IsT D A V r t) (hW : Weights D A V r (arg17.view.read _ f17)) (hub : IsDeq D.ub 4096 (arg10.view.read _ f10))
    (bb : Vec Ideal S4096x256 .f32) (hS : DvPart D A V r k bb (arg19.view.read _ f19)) :
    DvPart D A V r (k + 1) bb
      (arg19.view.read _ (arg19.view.writes (Elt Ideal) f19 [⟨Rect.unit (s := S4096x256) (k0_off22 a v k) S256x256.size inb22,
        k0_pay17 a b c t
          (View.readAt (Elt Ideal) arg17.view (Rect.unit (s := S16x32x8x256) (k0_off21 a v k) S1x32x8x256.size inb21).toLoadRect f17)
          (View.readAt (Elt Ideal) arg19.view (Rect.unit (s := S4096x256) (k0_off22 a v k) S256x256.size inb22).toLoadRect f19)
          (View.readAt (Elt Ideal) arg10.view (Rect.unit (s := S4096x256) (k0_off23 a v r) S256x256.size inb23).toLoadRect f10)⟩])) := by
  have hr := lt_of_lt_of_eq r.2 (t5_trips ha hv h)
  have hk := lt_of_lt_of_eq k.2 (t10_trips ha hv h)
  have hlo := loN_add h
  refine ⟨fun j d => ?_⟩
  by_cases e : loN A V + 256 * k.val ≤ j.val ∧ j.val < loN A V + 256 * k.val + 256
  · have e' : loN A V + 256 * k.val + (j.val - (loN A V + 256 * k.val)) = j.val := by omega
    have ej : (⟨loN A V + 256 * k.val + (j.val - (loN A V + 256 * k.val)), by omega⟩ : Fin 4096) = j := Fin.ext e'
    refine (store2_in arg19.view f19 inb22 (off22_eq ha hv h k) _ j d ⟨j.val - (loN A V + 256 * k.val), by omega⟩ d (by simp only; omega) (by simp)).trans ?_
    pointwise [k0_pay17]
    simp only [weights_load ha hv h hb r hc k inb21 t ht hW, e']
    rw [load2 arg19.view f19 inb22 (off22_eq ha hv h k) _ d (by simp only; omega) (by omega)]
    have el : ∀ x : Fin 256, View.readAt (Elt Ideal) arg10.view (Rect.unit (s := S4096x256) (k0_off23 a v r) S256x256.size inb23).toLoadRect f10 (ix2 x d)
        = (D.ub (loN A V + 256 * r + x) d : EReal) := fun x =>
      (load2 arg10.view f10 inb23 (off23_eq ha hv h r) x d (by omega) (by omega)).trans (by
        have := hub.eq ⟨loN A V + 256 * r.val + x, by omega⟩ d (by simp only; omega)
        simpa using this)
    simp only [el]
    rw [sum_coe_mul (fun x => D.G A V j (loN A V + 256 * r + x)) (fun x => D.ub (loN A V + 256 * r + x) d), if_pos (by omega)]
    congr 1
    simp only [zero_add]
    have := hS.eq j d
    rw [if_neg (by omega), EReal.coe_zero, add_zero] at this
    rw [← this]
    simp only [ej, Fin.eta]
  · refine (store2_out arg19.view f19 inb22 (off22_eq ha hv h k) _ j d (by omega)).trans ((hS.eq j d).trans ?_)
    congr 3
    exact propext ⟨fun _ => by omega, fun _ => by omega⟩

include ha hv h in
/-- One tile added to the users' gradients. -/
theorem du_step {b c : BitVec 32} (hb : IsInt b ((A + V : ℕ) : ℤ)) (r : Fin (k0_t5_loop a v).trips) (hc : IsInt c ((loN A V + 256 * r : ℕ) : ℤ)) (k : Fin (k0_t10_loop a v).trips) (inb21 inb22 inb23)
    (t : FVec Ideal S8x256 .f32) (ht : IsT D A V r t) (hW : Weights D A V r (arg17.view.read _ f17)) (hvb : IsDeq D.vb 4096 (arg11.view.read _ f11))
    (bb : Vec Ideal S4096x256 .f32) (hS : DuPart D A V r k bb (arg18.view.read _ f18)) :
    DuPart D A V r (k + 1) bb
      (arg18.view.read _ (arg18.view.writes (Elt Ideal) f18 [⟨Rect.unit (s := S4096x256) (k0_off23 a v r) S256x256.size inb23,
        k0_pay18 a b c t
          (View.readAt (Elt Ideal) arg17.view (Rect.unit (s := S16x32x8x256) (k0_off21 a v k) S1x32x8x256.size inb21).toLoadRect f17)
          (View.readAt (Elt Ideal) arg18.view (Rect.unit (s := S4096x256) (k0_off23 a v r) S256x256.size inb23).toLoadRect f18)
          (View.readAt (Elt Ideal) arg11.view (Rect.unit (s := S4096x256) (k0_off22 a v k) S256x256.size inb22).toLoadRect f11)⟩])) := by
  have hr := lt_of_lt_of_eq r.2 (t5_trips ha hv h)
  have hk := lt_of_lt_of_eq k.2 (t10_trips ha hv h)
  have hlo := loN_add h
  refine ⟨fun i d => ?_⟩
  by_cases e : loN A V + 256 * r.val ≤ i.val ∧ i.val < loN A V + 256 * r.val + 256
  · have e' : loN A V + 256 * r.val + (i.val - (loN A V + 256 * r.val)) = i.val := by omega
    have ei : (⟨loN A V + 256 * r.val + (i.val - (loN A V + 256 * r.val)), by omega⟩ : Fin 4096) = i := Fin.ext e'
    refine (store2_in arg18.view f18 inb23 (off23_eq ha hv h r) _ i d ⟨i.val - (loN A V + 256 * r.val), by omega⟩ d (by simp only; omega) (by simp)).trans ?_
    pointwise [k0_pay18]
    simp only [weights_load ha hv h hb r hc k inb21 t ht hW, e']
    rw [load2 arg18.view f18 inb23 (off23_eq ha hv h r) _ d (by simp only; omega) (by omega)]
    have el : ∀ x : Fin 256, View.readAt (Elt Ideal) arg11.view (Rect.unit (s := S4096x256) (k0_off22 a v k) S256x256.size inb22).toLoadRect f11 (ix2 x d)
        = (D.vb (loN A V + 256 * k + x) d : EReal) := fun x =>
      (load2 arg11.view f11 inb22 (off22_eq ha hv h k) x d (by omega) (by omega)).trans (by
        have := hvb.eq ⟨loN A V + 256 * k.val + x, by omega⟩ d (by simp only; omega)
        simpa using this)
    simp only [el]
    rw [sum_coe_mul (fun x => D.G A V (loN A V + 256 * k + x) i) (fun x => D.vb (loN A V + 256 * k + x) d), if_pos e,
      show 256 * (k.val + 1) = 256 * k.val + 256 by ring, Finset.sum_range_add, EReal.coe_add, ← add_assoc]
    simp only [add_assoc (loN A V)]
    congr 1
    have := hS.eq i d
    rw [if_pos e] at this
    simp only [zero_add]
    rw [← this]
    congr 2
    apply Fin.ext
    simp only
    omega
  · refine (store2_out arg18.view f18 inb23 (off23_eq ha hv h r) _ i d (by omega)).trans ((hS.eq i d).trans ?_)
    rw [if_neg e, if_neg e]

end

end Cert.KernelIdeal.Strong
-- ==== Proof.Ideal.Edges.lean ====
/-
  The filling of the buffers before the first segment, and the writing of the gradients after the
  last one.
-/
module

public import proofs.«01_k».proof.Proof.Ideal.Steps

@[expose] public section

set_option maxRecDepth 16384

noncomputable section

namespace Cert.KernelIdeal.Strong

open Idealize.ShloMosaic Idealize.ShloMosaic.Affine Cert.Seg Cert.KernelIdeal Cert.KernelIdeal.Gen Cert.Spec Cert.Access
open Cert.Spec.Row (In)

/-- The row offset of turn `k` of a loop over chunks of 128 rows. -/
theorem row128 : ∀ k : Fin 32, (Scalar.muli (Scf.iv 0#32 1#32 k.val) 128#32).toNat = 128 * k.val := by decide

/-- The loop that prepares the row takes 32 turns. -/
theorem t1_trips : k0_t1_loop.trips = 32 := by decide
/-- The loop that writes the gradients takes 32 turns. -/
theorem t19_trips : k0_t19_loop.trips = 32 := by decide

section
variable (k : Fin k0_t1_loop.trips)
/-- The row offset of a turn of the loop that prepares the row. -/
theorem row128_t1 : (Scalar.muli (Scf.iv 0#32 1#32 k.val) 128#32).toNat = 128 * k.val := row128 ⟨k.val, lt_of_lt_of_eq k.2 t1_trips⟩
/-- The offsets of access 1. -/
theorem off1_eq : k0_off1 k = ![0, 0, 128 * k.val] := by rw [← row128_t1 k]; rfl
/-- The offsets of access 2. -/
theorem off2_eq : k0_off2 k = ![128 * k.val, 0] := by rw [← row128_t1 k]; rfl
/-- The offsets of access 3. -/
theorem off3_eq : k0_off3 k = ![0, 128 * k.val] := by rw [← row128_t1 k]; rfl
/-- The offsets of access 4. -/
theorem off4_eq : k0_off4 k = ![0, 128 * k.val, 0] := by rw [← row128_t1 k]; rfl
/-- The offsets of access 5. -/
theorem off5_eq : k0_off5 k = ![128 * k.val, 0] := by rw [← row128_t1 k]; rfl
end

section
variable (k : Fin k0_t19_loop.trips)
/-- The row offset of a turn of the loop that writes the gradients. -/
theorem row128_t19 : (Scalar.muli (Scf.iv 0#32 1#32 k.val) 128#32).toNat = 128 * k.val := row128 ⟨k.val, lt_of_lt_of_eq k.2 t19_trips⟩
/-- The offsets of access 45. -/
theorem off45_eq : k0_off45 k = ![128 * k.val, 0] := by rw [← row128_t19 k]; rfl
/-- The offsets of access 46. -/
theorem off46_eq : k0_off46 k = ![0, 128 * k.val, 0] := by rw [← row128_t19 k]; rfl
end

/-- The first `n` rows of a result: the accumulated gradients, scaled. -/
structure IsOut (n : ℕ) (x : Vec Ideal S4096x256 .f32) (g : Vec Ideal S1x4096x256 .bf16) : Prop where
  eq : ∀ (j : Fin 4096) d, j.val < n → g (ix3 0 j d) = x (ix2 j d) * ((20 : ℝ) : EReal)

section
variable {D : Row} {arg2 : Memref sig .tc .vmem S1x4096x256 .fp8e4m3} {f2 : BufTy.Contents (Elt Ideal) arg2.view.ty}
  {arg4 : Memref sig .tc .vmem S1x4096x256 .fp8e4m3} {f4 : BufTy.Contents (Elt Ideal) arg4.view.ty}
  {arg8 : Memref sig .tc .vmem S1x4096x256 .bf16} {f8 : BufTy.Contents (Elt Ideal) arg8.view.ty}
  {arg10 : Memref sig .tc .vmem S4096x256 .bf16} {f10 : BufTy.Contents (Elt Ideal) arg10.view.ty}
  {arg12 : Memref sig .tc .vmem S4096x128 .f32} {f12 : BufTy.Contents (Elt Ideal) arg12.view.ty}
  {arg15 : Memref sig .tc .vmem S8x4224 .f32} {f15 : BufTy.Contents (Elt Ideal) arg15.view.ty}
  {arg18 : Memref sig .tc .vmem S4096x256 .f32} {f18 : BufTy.Contents (Elt Ideal) arg18.view.ty}
  {argR : Memref sig .tc .vmem S1x1x4096 .f32} {fR : BufTy.Contents (Elt Ideal) argR.view.ty}

/-- A piece of a row of values. -/
theorem row_load {f : ℕ → ℝ} (k : Fin k0_t1_loop.trips) (inb1) (hR : IsRow f (argR.view.read _ fR)) (l : Fin 128) :
    View.readAt (Elt Ideal) argR.view (Rect.unit (s := S1x1x4096) (k0_off1 k) S1x1x128.size inb1).toLoadRect fR (ix3 0 0 l) = (f (128 * k + l) : EReal) := by
  have hk := lt_of_lt_of_eq k.2 t1_trips
  refine (load3 argR.view fR inb1 (off1_eq k) 0 0 l (by simp) (by simp) (by omega)).trans ?_
  have := hR.eq ⟨128 * k.val + l, by omega⟩
  simpa using this

/-- Storing 128 rows. -/
theorem rep_step {f : ℕ → ℝ} (k : Fin k0_t1_loop.trips) (inb2) (w : Vec Ideal S128x128 .f32) (hw : ∀ (j l : Fin 128), w (ix2 j l) = (f (128 * k + j) : EReal))
    (hS : IsRep f (128 * k) (arg12.view.read _ f12)) :
    IsRep f (128 * (k + 1)) (arg12.view.read _ (arg12.view.writes (Elt Ideal) f12 [⟨Rect.unit (s := S4096x128) (k0_off2 k) S128x128.size inb2, w⟩])) := by
  refine ⟨fun j l hj => ?_⟩
  by_cases e : 128 * k.val ≤ j.val
  · refine (store2_in arg12.view f12 inb2 (off2_eq k) _ j l ⟨j.val - 128 * k.val, by omega⟩ l (by simp only; omega) (by simp)).trans ?_
    rw [hw]
    simp only
    rw [show 128 * k.val + (j.val - 128 * k.val) = j.val by omega]
  · exact (store2_out arg12.view f12 inb2 (off2_eq k) _ j l (by omega)).trans (hS.eq j l (by omega))

/-- One turn copies a further chunk of the items' scales across the lanes. -/
theorem vs_step {f : ℕ → ℝ} (k : Fin k0_t1_loop.trips) (inb1) (inb2) (hR : IsRow f (argR.view.read _ fR)) (hS : IsRep f (128 * k) (arg12.view.read _ f12)) :
    IsRep f (128 * (k + 1)) (arg12.view.read _ (arg12.view.writes (Elt Ideal) f12 [⟨Rect.unit (s := S4096x128) (k0_off2 k) S128x128.size inb2,
      k0_pay38 (F := Ideal) (View.readAt (Elt Ideal) argR.view (Rect.unit (s := S1x1x4096) (k0_off1 k) S1x1x128.size inb1).toLoadRect fR)⟩])) :=
  rep_step k inb2 _ (fun j l => by
    pointwise [k0_pay38, k0_pay35]
    exact row_load k inb1 hR j) hS

/-- One turn copies a further chunk of the log frequencies across the lanes. -/
theorem lq_step {f : ℕ → ℝ} (k : Fin k0_t1_loop.trips) (inb1) (inb2) (hR : IsRow f (argR.view.read _ fR)) (hS : IsRep f (128 * k) (arg12.view.read _ f12)) :
    IsRep f (128 * (k + 1)) (arg12.view.read _ (arg12.view.writes (Elt Ideal) f12 [⟨Rect.unit (s := S4096x128) (k0_off2 k) S128x128.size inb2,
      k0_pay39 (F := Ideal) (View.readAt (Elt Ideal) argR.view (Rect.unit (s := S1x1x4096) (k0_off1 k) S1x1x128.size inb1).toLoadRect fR)⟩])) :=
  rep_step k inb2 _ (fun j l => by
    pointwise [k0_pay39, k0_pay37]
    exact row_load k inb1 hR j) hS

/-- One turn stores a further chunk of the users' scales times twenty. -/
theorem scale_step (k : Fin k0_t1_loop.trips) (inb1) (inb3) (hR : IsRow D.us (argR.view.read _ fR)) (hS : IsScale D (128 * k) (arg15.view.read _ f15)) :
    IsScale D (128 * (k + 1)) (arg15.view.read _ (arg15.view.writes (Elt Ideal) f15 [⟨Rect.unit (s := S8x4224) (k0_off3 k) S8x128.size inb3,
      k0_pay2 (F := Ideal) (k0_pay41 (F := Ideal) (View.readAt (Elt Ideal) argR.view (Rect.unit (s := S1x1x4096) (k0_off1 k) S1x1x128.size inb1).toLoadRect fR))⟩])) := by
  refine ⟨fun q i hi => ?_⟩
  by_cases e : 128 * k.val ≤ i.val
  · refine (store2_in arg15.view f15 inb3 (off3_eq k) _ q i q ⟨i.val - 128 * k.val, by omega⟩ (by simp) (by simp only; omega)).trans ?_
    pointwise [k0_pay2, k0_pay41]
    rw [row_load k inb1 hR, bits_20, ← EReal.coe_mul]
    simp only
    rw [show 128 * k.val + (i.val - 128 * k.val) = i.val by omega]
  · exact (store2_out arg15.view f15 inb3 (off3_eq k) _ q i (by omega)).trans (hS.eq q i (by omega))

/-- A piece of the codes. -/
theorem code_load (k : Fin k0_t1_loop.trips) (inb4) (c : ℕ → ℕ → ℝ) (hc : ∀ (i : Fin 4096) (d : Fin 256), arg2.view.read (Elt Ideal) f2 (ix3 0 i d) = (c i d : EReal))
    (j : Fin 128) (d : Fin 256) :
    View.readAt (Elt Ideal) arg2.view (Rect.unit (s := S1x4096x256) (k0_off4 k) S1x128x256.size inb4).toLoadRect f2 (ix3 0 j d) = (c (128 * k + j) d : EReal) := by
  have hk := lt_of_lt_of_eq k.2 t1_trips
  refine (load3 arg2.view f2 inb4 (off4_eq k) 0 j d (by simp) (by omega) (by omega)).trans ?_
  have := hc ⟨128 * k.val + j, by omega⟩ d
  simpa using this

/-- Storing 128 rows of dequantised codes. -/
theorem deq_step {f : ℕ → ℕ → ℝ} (k : Fin k0_t1_loop.trips) (inb5) (w : Vec Ideal S128x256 .bf16) (hw : ∀ (j : Fin 128) (d : Fin 256), w (ix2 j d) = (f (128 * k + j) d : EReal))
    (hS : IsDeq f (128 * k) (arg10.view.read _ f10)) :
    IsDeq f (128 * (k + 1)) (arg10.view.read _ (arg10.view.writes (Elt Ideal) f10 [⟨Rect.unit (s := S4096x256) (k0_off5 k) S128x256.size inb5, w⟩])) := by
  refine ⟨fun j d hj => ?_⟩
  by_cases e : 128 * k.val ≤ j.val
  · refine (store2_in arg10.view f10 inb5 (off5_eq k) _ j d ⟨j.val - 128 * k.val, by omega⟩ d (by simp only; omega) (by simp)).trans ?_
    rw [hw]
    simp only
    rw [show 128 * k.val + (j.val - 128 * k.val) = j.val by omega]
  · exact (store2_out arg10.view f10 inb5 (off5_eq k) _ j d (by omega)).trans (hS.eq j d (by omega))

/-- One turn dequantises a further chunk of the items' codes. -/
theorem vb_step (k : Fin k0_t1_loop.trips) (inb1) (inb4) (inb5) (hR : IsRow D.vs (argR.view.read _ fR)) (hV : IsV D (arg2.view.read _ f2))
    (hS : IsDeq D.vb (128 * k) (arg10.view.read _ f10)) :
    IsDeq D.vb (128 * (k + 1)) (arg10.view.read _ (arg10.view.writes (Elt Ideal) f10 [⟨Rect.unit (s := S4096x256) (k0_off5 k) S128x256.size inb5,
      k0_pay3 (F := Ideal) (k0_pay35 (F := Ideal) (View.readAt (Elt Ideal) argR.view (Rect.unit (s := S1x1x4096) (k0_off1 k) S1x1x128.size inb1).toLoadRect fR))
        (View.readAt (Elt Ideal) arg2.view (Rect.unit (s := S1x4096x256) (k0_off4 k) S1x128x256.size inb4).toLoadRect f2)⟩])) :=
  deq_step k inb5 _ (fun j d => by
    pointwise [k0_pay3, k0_pay35]
    simp only [row_load k inb1 hR, code_load k inb4 D.V hV.eq]
    rw [Row.vb, EReal.coe_mul]
    split <;> rfl) hS

/-- One turn dequantises a further chunk of the users' codes. -/
theorem ub_step (k : Fin k0_t1_loop.trips) (inb1) (inb4) (inb5) (hR : IsRow D.us (argR.view.read _ fR)) (hU : IsU D (arg2.view.read _ f2))
    (hS : IsDeq D.ub (128 * k) (arg10.view.read _ f10)) :
    IsDeq D.ub (128 * (k + 1)) (arg10.view.read _ (arg10.view.writes (Elt Ideal) f10 [⟨Rect.unit (s := S4096x256) (k0_off5 k) S128x256.size inb5,
      k0_pay4 (F := Ideal) (k0_pay36 (F := Ideal) (View.readAt (Elt Ideal) argR.view (Rect.unit (s := S1x1x4096) (k0_off1 k) S1x1x128.size inb1).toLoadRect fR))
        (View.readAt (Elt Ideal) arg2.view (Rect.unit (s := S1x4096x256) (k0_off4 k) S1x128x256.size inb4).toLoadRect f2)⟩])) :=
  deq_step k inb5 _ (fun j d => by
    pointwise [k0_pay4, k0_pay36]
    simp only [row_load k inb1 hR, code_load k inb4 D.U hU.eq]
    rw [Row.ub, EReal.coe_mul]
    split <;> rfl) hS

/-- Storing 128 rows of zeros. -/
theorem zero_step (k : Fin k0_t1_loop.trips) (inb5) (w : Vec Ideal S128x256 .f32) (hw : ∀ (j : Fin 128) (d : Fin 256), w (ix2 j d) = (0 : EReal))
    (hS : IsZero (128 * k) (arg18.view.read _ f18)) :
    IsZero (128 * (k + 1)) (arg18.view.read _ (arg18.view.writes (Elt Ideal) f18 [⟨Rect.unit (s := S4096x256) (k0_off5 k) S128x256.size inb5, w⟩])) := by
  refine ⟨fun j d hj => ?_⟩
  by_cases e : 128 * k.val ≤ j.val
  · exact (store2_in arg18.view f18 inb5 (off5_eq k) _ j d ⟨j.val - 128 * k.val, by omega⟩ d (by simp only; omega) (by simp)).trans (hw _ _)
  · exact (store2_out arg18.view f18 inb5 (off5_eq k) _ j d (by omega)).trans (hS.eq j d (by omega))

/-- What clears the users' accumulator is zero. -/
theorem pay6_apply (j : Fin 128) (d : Fin 256) : k0_pay6 (F := Ideal) (ix2 j d) = 0 := by
  pointwise [k0_pay6, k0_pay5]
  first | done | simp

/-- What clears the items' accumulator is zero. -/
theorem pay7_apply (j : Fin 128) (d : Fin 256) : k0_pay7 (F := Ideal) (ix2 j d) = 0 := by
  pointwise [k0_pay7, k0_pay5]
  first | done | simp

/-- Writing 128 rows of a result. -/
theorem out_step (k : Fin k0_t19_loop.trips) (inb46) (w : Vec Ideal S1x128x256 .bf16) (x : Vec Ideal S4096x256 .f32)
    (hw : ∀ (j : Fin 128) (d : Fin 256) h, w (ix3 0 j d) = x (ix2 ⟨128 * k + j, h⟩ d) * ((20 : ℝ) : EReal)) (hS : IsOut (128 * k) x (arg8.view.read _ f8)) :
    IsOut (128 * (k + 1)) x (arg8.view.read _ (arg8.view.writes (Elt Ideal) f8 [⟨Rect.unit (s := S1x4096x256) (k0_off46 k) S1x128x256.size inb46, w⟩])) := by
  have hk := lt_of_lt_of_eq k.2 t19_trips
  refine ⟨fun j d hj => ?_⟩
  by_cases e : 128 * k.val ≤ j.val
  · refine (store3_in arg8.view f8 inb46 (off46_eq k) _ 0 j d 0 ⟨j.val - 128 * k.val, by omega⟩ d (by simp) (by simp only; omega) (by simp)).trans ?_
    rw [hw _ _ (by simp only; omega)]
    congr 2
    congr 1
    apply Fin.ext
    simp only
    omega
  · exact (store3_out arg8.view f8 inb46 (off46_eq k) _ 0 j d (by omega)).trans (hS.eq j d (by omega))

/-- What a turn reads from an accumulator is the accumulator's own chunk. -/
theorem acc_load (k : Fin k0_t19_loop.trips) (inb45) (j : Fin 128) (d : Fin 256) (h) :
    View.readAt (Elt Ideal) arg18.view (Rect.unit (s := S4096x256) (k0_off45 k) S128x256.size inb45).toLoadRect f18 (ix2 j d)
      = arg18.view.read (Elt Ideal) f18 (ix2 ⟨128 * k + j, h⟩ d) := by
  refine (load2 arg18.view f18 inb45 (off45_eq k) j d h (by omega)).trans ?_
  congr 2
  apply Fin.ext
  simp

/-- One turn writes a further chunk of the users' gradients, times twenty. -/
theorem du_out (k : Fin k0_t19_loop.trips) (inb45) (inb46) (hS : IsOut (128 * k) (arg18.view.read _ f18) (arg8.view.read _ f8)) :
    IsOut (128 * (k + 1)) (arg18.view.read _ f18) (arg8.view.read _ (arg8.view.writes (Elt Ideal) f8 [⟨Rect.unit (s := S1x4096x256) (k0_off46 k) S1x128x256.size inb46,
      k0_pay32 (F := Ideal) (View.readAt (Elt Ideal) arg18.view (Rect.unit (s := S4096x256) (k0_off45 k) S128x256.size inb45).toLoadRect f18)⟩])) :=
  out_step k inb46 _ _ (fun j d h => by
    pointwise [k0_pay32]
    rw [bits_20, acc_load k inb45 j d h]) hS

/-- One turn writes a further chunk of the items' gradients, times twenty. -/
theorem dv_out (k : Fin k0_t19_loop.trips) (inb45) (inb46) (hS : IsOut (128 * k) (arg18.view.read _ f18) (arg8.view.read _ f8)) :
    IsOut (128 * (k + 1)) (arg18.view.read _ f18) (arg8.view.read _ (arg8.view.writes (Elt Ideal) f8 [⟨Rect.unit (s := S1x4096x256) (k0_off46 k) S1x128x256.size inb46,
      k0_pay33 (F := Ideal) (View.readAt (Elt Ideal) arg18.view (Rect.unit (s := S4096x256) (k0_off45 k) S128x256.size inb45).toLoadRect f18)⟩])) :=
  out_step k inb46 _ _ (fun j d h => by
    pointwise [k0_pay33]
    rw [bits_20, acc_load k inb45 j d h]) hS

end

end Cert.KernelIdeal.Strong
-- ==== Proof.Ideal.StrongEdges.lean ====
/-
  The kernel's loops, over the extended reals: one trip runs and takes what the buffers hold before it
  to what they hold after it.
-/
module

public import proofs.«01_k».proof.Proof.Gen.KernelIdeal.Skeleton
public import proofs.«01_k».proof.Proof.Ideal.Edges
public import Idealize.ShloMosaic.Lib.Exec
public import Idealize.ShloMosaic.Lib.Tactic
public import Idealize.ShloMosaic.Lib.Pipeline.Kit
public import Idealize.ShloMosaic.Lib.LoopEntry

@[expose] public section

set_option maxRecDepth 16384

noncomputable section

namespace Cert.KernelIdeal.Strong

open Idealize.ShloMosaic Idealize.ShloMosaic.TcCoe Idealize.ShloMosaic.Tactic Idealize.ShloMosaic.Affine
open Idealize.SL Idealize.SL.RA Idealize.SL.BI
open scoped Idealize.SL.BI
open Idealize.SL.BI.BIBase Idealize.SL.BI.Laws Idealize.SL.ProofMode Idealize.SL.Sem
open Cert.KernelIdeal.Gen Cert.Spec Cert.Seg

/-- The resource algebra of the run. -/
local notation "𝕄G" => MT nD τ sig Unit (Elt Ideal) ℕ (UR sig nD τ) ℕ

section
variable (𝒱 : Variants) (c : Dev nD) (bd : Option 𝒱.V) (E : Set ℕ)
  (i : grid0.Coords)
  (arg1 : Memref sig .tc .smem S12x7 .i32) (harg1 : arg1.IsWhole)
  (arg2 : Memref sig .tc .vmem S1x4096x256 .fp8e4m3) (harg2 : arg2.IsWhole)
  (arg3 : Memref sig .tc .vmem S1x1x4096 .f32) (harg3 : arg3.IsWhole)
  (arg4 : Memref sig .tc .vmem S1x4096x256 .fp8e4m3) (harg4 : arg4.IsWhole)
  (arg5 : Memref sig .tc .vmem S1x1x4096 .f32) (harg5 : arg5.IsWhole)
  (arg6 : Memref sig .tc .vmem S1x1x4096 .f32) (harg6 : arg6.IsWhole)
  (arg7 : Memref sig .tc .vmem S1x1x4096 .f32) (harg7 : arg7.IsWhole)
  (arg8 : Memref sig .tc .vmem S1x4096x256 .bf16) (harg8 : arg8.IsWhole)
  (arg9 : Memref sig .tc .vmem S1x4096x256 .bf16) (harg9 : arg9.IsWhole)
  (arg10 : Memref sig .tc .vmem S4096x256 .bf16) (harg10 : arg10.IsWhole)
  (arg11 : Memref sig .tc .vmem S4096x256 .bf16) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S4096x128 .f32) (harg14 : arg14.IsWhole)
  (arg15 : Memref sig .tc .vmem S8x4224 .f32) (harg15 : arg15.IsWhole)
  (arg16 : Memref sig .tc .vmem S8x4224 .f32) (harg16 : arg16.IsWhole)
  (arg17 : Memref sig .tc .vmem S16x32x8x256 .f32) (harg17 : arg17.IsWhole)
  (arg18 : Memref sig .tc .vmem S4096x256 .f32) (harg18 : arg18.IsWhole)
  (arg19 : Memref sig .tc .vmem S4096x256 .f32) (harg19 : arg19.IsWhole)

/-- The filling of 128 rows of every buffer. -/
def t1  (D : Row) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty)
    (hU : IsU D (arg2.view.read _ f2)) (hus : IsRow D.us (arg3.view.read _ f3)) (hV : IsV D (arg4.view.read _ f4)) (hvs : IsRow D.vs (arg5.view.read _ f5))
    (hlq : IsRow D.lq (arg6.view.read _ f6)) (init : Unit) :
    Idealize.ShloMosaic.LoopInv (M := 𝕄G) Idealize.ShloMosaic.frame (wpE (defs₀ (F := Ideal)) 𝒱 (c : Thread nD τ) bd) E
      k0_t1_loop.lb k0_t1_loop.ub k0_t1_loop.st k0_t1_ok init
      (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) where
  inv k acc := iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ f : BufTy.Contents (Elt Ideal) arg10.view.ty, (arg10.view.loc (c : Thread nD τ) ↦[arg10.view.set]{fullShare} f) ∗ ⌜IsDeq D.ub (128 * k) (arg10.view.read _ f)⌝) ∗ (∃ f : BufTy.Contents (Elt Ideal) arg11.view.ty, (arg11.view.loc (c : Thread nD τ) ↦[arg11.view.set]{fullShare} f) ∗ ⌜IsDeq D.vb (128 * k) (arg11.view.read _ f)⌝) ∗ (∃ f : BufTy.Contents (Elt Ideal) arg12.view.ty, (arg12.view.loc (c : Thread nD τ) ↦[arg12.view.set]{fullShare} f) ∗ ⌜IsRep D.vs (128 * k) (arg12.view.read _ f)⌝) ∗ (∃ f : BufTy.Contents (Elt Ideal) arg13.view.ty, (arg13.view.loc (c : Thread nD τ) ↦[arg13.view.set]{fullShare} f) ∗ ⌜IsRep D.lq (128 * k) (arg13.view.read _ f)⌝) ∗ (∃ f : BufTy.Contents (Elt Ideal) arg14.view.ty, (arg14.view.loc (c : Thread nD τ) ↦[arg14.view.set]{fullShare} f)) ∗ (∃ f : BufTy.Contents (Elt Ideal) arg15.view.ty, (arg15.view.loc (c : Thread nD τ) ↦[arg15.view.set]{fullShare} f) ∗ ⌜IsScale D (128 * k) (arg15.view.read _ f)⌝) ∗ (∃ f : BufTy.Contents (Elt Ideal) arg18.view.ty, (arg18.view.loc (c : Thread nD τ) ↦[arg18.view.set]{fullShare} f) ∗ ⌜IsZero (128 * k) (arg18.view.read _ f)⌝) ∗ (∃ f : BufTy.Contents (Elt Ideal) arg19.view.ty, (arg19.view.loc (c : Thread nD τ) ↦[arg19.view.set]{fullShare} f) ∗ ⌜IsZero (128 * k) (arg19.view.read _ f)⌝))
  step k acc := by
    iintro ⟨H2, H3, H4, H5, H6, ⟨%f10, H10, %h10⟩, ⟨%f11, H11, %h11⟩, ⟨%f12, H12, %h12⟩, ⟨%f13, H13, %h13⟩, ⟨%f14, H14⟩, ⟨%f15, H15, %h15⟩, ⟨%f18, H18, %h18⟩, ⟨%f19, H19, %h19⟩⟩
    unfold k0_t1_body
    sl_exec
    have h10' := ub_step k (k0_off1_inb k) (k0_off4_inb k) (k0_off5_inb k) hus hU h10
    have h11' := vb_step k (k0_off1_inb k) (k0_off4_inb k) (k0_off5_inb k) hvs hV h11
    have h12' := vs_step k (k0_off1_inb k) (k0_off2_inb k) hvs h12
    have h13' := lq_step k (k0_off1_inb k) (k0_off2_inb k) hlq h13
    have h15' := scale_step k (k0_off1_inb k) (k0_off3_inb k) hus h15
    have h18' := zero_step k (k0_off5_inb k) _ pay6_apply h18
    have h19' := zero_step k (k0_off5_inb k) _ pay7_apply h19
    sl_step
    sl_close

/-- The writing of 128 rows of both gradients. -/
def t19  (f18 : BufTy.Contents (Elt Ideal) arg18.view.ty) (f19 : BufTy.Contents (Elt Ideal) arg19.view.ty) (init : Unit) :
    Idealize.ShloMosaic.LoopInv (M := 𝕄G) Idealize.ShloMosaic.frame (wpE (defs₀ (F := Ideal)) 𝒱 (c : Thread nD τ) bd) E
      k0_t19_loop.lb k0_t19_loop.ub k0_t19_loop.st k0_t19_ok init
      (k0_t19_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) where
  inv k acc := iprop((∃ f : BufTy.Contents (Elt Ideal) arg8.view.ty, (arg8.view.loc (c : Thread nD τ) ↦[arg8.view.set]{fullShare} f) ∗ ⌜IsOut (128 * k) (arg18.view.read _ f18) (arg8.view.read _ f)⌝) ∗
    (∃ f : BufTy.Contents (Elt Ideal) arg9.view.ty, (arg9.view.loc (c : Thread nD τ) ↦[arg9.view.set]{fullShare} f) ∗ ⌜IsOut (128 * k) (arg19.view.read _ f19) (arg9.view.read _ f)⌝) ∗ (arg18.view.loc (c : Thread nD τ) ↦[arg18.view.set]{fullShare} f18) ∗ (arg19.view.loc (c : Thread nD τ) ↦[arg19.view.set]{fullShare} f19))
  step k acc := by
    iintro ⟨⟨%f8, H8, %h8⟩, ⟨%f9, H9, %h9⟩, H18, H19⟩
    unfold k0_t19_body
    sl_exec
    have h8' := du_out k (k0_off45_inb k) (k0_off46_inb k) h8
    have h9' := dv_out k (k0_off45_inb k) (k0_off46_inb k) h9
    sl_step
    sl_close

end

end Cert.KernelIdeal.Strong
-- ==== Proof.Ideal.StrongLoops.lean ====
/-
  The kernel's loops, over the extended reals: one trip runs and takes what the buffers hold before it
  to what they hold after it.
-/
module

public import proofs.«01_k».proof.Proof.Gen.KernelIdeal.Skeleton
public import proofs.«01_k».proof.Proof.Ideal.Steps
public import Idealize.ShloMosaic.Lib.Exec
public import Idealize.ShloMosaic.Lib.Tactic
public import Idealize.ShloMosaic.Lib.Pipeline.Kit
public import Idealize.ShloMosaic.Lib.LoopEntry

@[expose] public section

set_option maxRecDepth 16384

noncomputable section

namespace Cert.KernelIdeal.Strong

open Idealize.ShloMosaic Idealize.ShloMosaic.TcCoe Idealize.ShloMosaic.Tactic Idealize.ShloMosaic.Affine
open Idealize.SL Idealize.SL.RA Idealize.SL.BI
open scoped Idealize.SL.BI
open Idealize.SL.BI.BIBase Idealize.SL.BI.Laws Idealize.SL.ProofMode Idealize.SL.Sem
open Cert.KernelIdeal.Gen Cert.Spec Cert.Seg

/-- The resource algebra of the run. -/
local notation "𝕄G" => MT nD τ sig Unit (Elt Ideal) ℕ (UR sig nD τ) ℕ

section
variable (𝒱 : Variants) (c : Dev nD) (bd : Option 𝒱.V) (E : Set ℕ)
  (i : grid0.Coords)
  (arg1 : Memref sig .tc .smem S12x7 .i32) (harg1 : arg1.IsWhole)
  (arg2 : Memref sig .tc .vmem S1x4096x256 .fp8e4m3) (harg2 : arg2.IsWhole)
  (arg3 : Memref sig .tc .vmem S1x1x4096 .f32) (harg3 : arg3.IsWhole)
  (arg4 : Memref sig .tc .vmem S1x4096x256 .fp8e4m3) (harg4 : arg4.IsWhole)
  (arg5 : Memref sig .tc .vmem S1x1x4096 .f32) (harg5 : arg5.IsWhole)
  (arg6 : Memref sig .tc .vmem S1x1x4096 .f32) (harg6 : arg6.IsWhole)
  (arg7 : Memref sig .tc .vmem S1x1x4096 .f32) (harg7 : arg7.IsWhole)
  (arg8 : Memref sig .tc .vmem S1x4096x256 .bf16) (harg8 : arg8.IsWhole)
  (arg9 : Memref sig .tc .vmem S1x4096x256 .bf16) (harg9 : arg9.IsWhole)
  (arg10 : Memref sig .tc .vmem S4096x256 .bf16) (harg10 : arg10.IsWhole)
  (arg11 : Memref sig .tc .vmem S4096x256 .bf16) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S4096x128 .f32) (harg14 : arg14.IsWhole)
  (arg15 : Memref sig .tc .vmem S8x4224 .f32) (harg15 : arg15.IsWhole)
  (arg16 : Memref sig .tc .vmem S8x4224 .f32) (harg16 : arg16.IsWhole)
  (arg17 : Memref sig .tc .vmem S16x32x8x256 .f32) (harg17 : arg17.IsWhole)
  (arg18 : Memref sig .tc .vmem S4096x256 .f32) (harg18 : arg18.IsWhole)
  (arg19 : Memref sig .tc .vmem S4096x256 .f32) (harg19 : arg19.IsWhole)

/-- One tile of scores for a row block. -/
def t6 (v13 : IVec S256x256 1) (arg21 : BitVec 32) (v23 : Elt Ideal .i32) (k0_hw1 : k0_chk1 arg21 v23) (v63 v66 : BitVec 32) (k0_t5 : Fin (k0_t5_loop arg21 v23).trips) (D : Row) {A V : ℕ} (ha : IsInt arg21 A) (hv : IsInt v23 V) (h : A + V ≤ 4096) (hw : v66 = loW arg21 v23)
    (f2 : BufTy.Contents (Elt Ideal) arg2.view.ty) (f4 : BufTy.Contents (Elt Ideal) arg4.view.ty) (f12 : BufTy.Contents (Elt Ideal) arg12.view.ty)
    (f14 : BufTy.Contents (Elt Ideal) arg14.view.ty) (f15 : BufTy.Contents (Elt Ideal) arg15.view.ty)
    (hU : IsU D (arg2.view.read _ f2)) (hV : IsV D (arg4.view.read _ f4)) (hvs : IsRep D.vs 4096 (arg12.view.read _ f12))
    (hlm : IsMask D A V (256 * ntN A V) (arg14.view.read _ f14)) (hus : IsScale D 4096 (arg15.view.read _ f15)) (init : FVec Ideal S8x256 .f32) :
    Idealize.ShloMosaic.LoopInv (M := 𝕄G) Idealize.ShloMosaic.frame (wpE (defs₀ (F := Ideal)) 𝒱 (c : Thread nD τ) bd) E
      (k0_t6_loop arg21 v23).lb (k0_t6_loop arg21 v23).ub (k0_t6_loop arg21 v23).st (k0_t6_ok arg21 v23 k0_hw1 k0_t5) init
      (k0_t6_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v13 arg21 v23 k0_hw1 v63 v66 0#32 1#32 k0_t5 (View.readAt (Elt Ideal) arg15.view (Rect.unit (s := S8x4224) (k0_off9 arg21 v23 k0_t5) S8x384.size (k0_off9_inb arg21 v23 k0_hw1 k0_t5)).toLoadRect f15)) where
  inv k acc := iprop((arg2.view.loc (c : Thread nD τ) ↦[arg2.view.set]{fullShare} f2) ∗ (arg4.view.loc (c : Thread nD τ) ↦[arg4.view.set]{fullShare} f4) ∗ (arg12.view.loc (c : Thread nD τ) ↦[arg12.view.set]{fullShare} f12) ∗ (arg14.view.loc (c : Thread nD τ) ↦[arg14.view.set]{fullShare} f14) ∗ (∃ f : BufTy.Contents (Elt Ideal) arg17.view.ty, (arg17.view.loc (c : Thread nD τ) ↦[arg17.view.set]{fullShare} f) ∗ ⌜Scores D A V k0_t5 k (arg17.view.read _ f) acc⌝))
  step k acc := by
    iintro ⟨H2, H4, H12, H14, ⟨%f17, H17, %hS⟩⟩
    unfold k0_t6_body
    sl_exec
    have hS' := scores_step ha hv h v66 hw k0_t5 k (k0_off9_inb arg21 v23 k0_hw1 k0_t5) (k0_off10_inb arg21 v23 k0_hw1 k0_t5 k) (k0_off11_inb arg21 v23 k0_hw1 k0_t5 k)
      (k0_off12_inb arg21 v23 k0_hw1 k0_t5 k) (k0_off13_inb arg21 v23 k0_hw1 k0_t5 k) acc hU hV hvs hlm hus hS
    sl_step
    sl_close

/-- The masking of one 32-row block of the segment's tiles. -/
def t3 (arg21 : BitVec 32) (v23 : Elt Ideal .i32) (k0_hw1 : k0_chk1 arg21 v23) (v24 v42 v61 : BitVec 32) (v62 : BitVec 1) (D : Row) {A V : ℕ} (ha : IsInt arg21 A) (hv : IsInt v23 V) (h : A + V ≤ 4096)
    (hb : IsInt v24 ((A + V : ℕ) : ℤ))
    (hw : Scalar.minsi v42 (Scalar.subi 4096#32 (Scalar.muli (Scalar.select v62 v61 0#32) 256#32)) = loW arg21 v23)
    (f13 : BufTy.Contents (Elt Ideal) arg13.view.ty) (hlq : IsRep D.lq 4096 (arg13.view.read _ f13)) (init : BitVec 32) :
    Idealize.ShloMosaic.LoopInv (M := 𝕄G) Idealize.ShloMosaic.frame (wpE (defs₀ (F := Ideal)) 𝒱 (c : Thread nD τ) bd) E
      (k0_t3_loop arg21 v23).lb (k0_t3_loop arg21 v23).ub (k0_t3_loop arg21 v23).st (k0_t3_ok arg21 v23 k0_hw1) init
      (k0_t3_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 v23 k0_hw1 v24 v42 v61 v62) where
  inv k acc := iprop((arg13.view.loc (c : Thread nD τ) ↦[arg13.view.set]{fullShare} f13) ∗ (∃ f : BufTy.Contents (Elt Ideal) arg14.view.ty, (arg14.view.loc (c : Thread nD τ) ↦[arg14.view.set]{fullShare} f) ∗ ⌜IsMask D A V (32 * k) (arg14.view.read _ f)⌝))
  step k acc := by
    iintro ⟨H13, ⟨%f14, H14, %hS⟩⟩
    unfold k0_t3_body
    sl_exec
    have hS' := mask_step ha hv h v24 hb v42 v61 v62 hw k (k0_off7_inb arg21 v23 k0_hw1 k) hlq hS
    sl_step
    sl_close

/-- One tile of exponentials for a row block. -/
def t8 (arg21 : BitVec 32) (v23 : Elt Ideal .i32) (k0_hw1 : k0_chk1 arg21 v23) (v63 : BitVec 32) (k0_t5 : Fin (k0_t5_loop arg21 v23).trips) (arg22 : BitVec 32) (v121 : FVec Ideal S8x256 .f32) (v122 : IVec S32x8x256 1) (D : Row) {A V : ℕ} (ha : IsInt arg21 A) (hv : IsInt v23 V) (h : A + V ≤ 4096)
    (hm : IsM D A V k0_t5 v121) (init : FVec Ideal S8x256 .f32) :
    Idealize.ShloMosaic.LoopInv (M := 𝕄G) Idealize.ShloMosaic.frame (wpE (defs₀ (F := Ideal)) 𝒱 (c : Thread nD τ) bd) E
      (k0_t8_loop arg21 v23).lb (k0_t8_loop arg21 v23).ub (k0_t8_loop arg21 v23).st (k0_t8_ok arg21 v23 k0_hw1 k0_t5) init
      (k0_t8_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 v23 k0_hw1 v63 k0_t5 arg22 v121 v122) where
  inv k acc := iprop(∃ f : BufTy.Contents (Elt Ideal) arg17.view.ty, (arg17.view.loc (c : Thread nD τ) ↦[arg17.view.set]{fullShare} f) ∗ ⌜Exps D A V k0_t5 k (arg17.view.read _ f) acc⌝)
  step k acc := by
    iintro ⟨%f17, H17, %hS⟩
    unfold k0_t8_body
    sl_exec
    have hS' := exps_step ha hv h k0_t5 k (k0_off19_inb arg21 v23 k0_hw1 k0_t5 k) v121 acc hm hS
    sl_step
    sl_close

/-- One tile of the gradients for a row block. -/
def t10 (arg21 : BitVec 32) (v23 : Elt Ideal .i32) (k0_hw1 : k0_chk1 arg21 v23) (v24 : BitVec 32) (k0_t5 : Fin (k0_t5_loop arg21 v23).trips) (v84 : BitVec 32) (v151 : FVec Ideal S8x256 .f32) (D : Row) {A V : ℕ} (ha : IsInt arg21 A) (hv : IsInt v23 V) (h : A + V ≤ 4096)
    (hb : IsInt v24 ((A + V : ℕ) : ℤ)) (hc : IsInt v84 ((loN A V + 256 * k0_t5 : ℕ) : ℤ)) (ht : IsT D A V k0_t5 v151)
    (f10 : BufTy.Contents (Elt Ideal) arg10.view.ty) (f11 : BufTy.Contents (Elt Ideal) arg11.view.ty) (f17 : BufTy.Contents (Elt Ideal) arg17.view.ty)
    (hub : IsDeq D.ub 4096 (arg10.view.read _ f10)) (hvb : IsDeq D.vb 4096 (arg11.view.read _ f11)) (hW : Weights D A V k0_t5 (arg17.view.read _ f17))
    (b18 b19 : Vec Ideal S4096x256 .f32) (init : BitVec 32) :
    Idealize.ShloMosaic.LoopInv (M := 𝕄G) Idealize.ShloMosaic.frame (wpE (defs₀ (F := Ideal)) 𝒱 (c : Thread nD τ) bd) E
      (k0_t10_loop arg21 v23).lb (k0_t10_loop arg21 v23).ub (k0_t10_loop arg21 v23).st (k0_t10_ok arg21 v23 k0_hw1 k0_t5) init
      (k0_t10_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 v23 k0_hw1 v24 k0_t5 v84 v151) where
  inv k acc := iprop((arg10.view.loc (c : Thread nD τ) ↦[arg10.view.set]{fullShare} f10) ∗ (arg11.view.loc (c : Thread nD τ) ↦[arg11.view.set]{fullShare} f11) ∗ (arg17.view.loc (c : Thread nD τ) ↦[arg17.view.set]{fullShare} f17) ∗ (∃ f : BufTy.Contents (Elt Ideal) arg18.view.ty, (arg18.view.loc (c : Thread nD τ) ↦[arg18.view.set]{fullShare} f) ∗ ⌜DuPart D A V k0_t5 k b18 (arg18.view.read _ f)⌝) ∗
    (∃ f : BufTy.Contents (Elt Ideal) arg19.view.ty, (arg19.view.loc (c : Thread nD τ) ↦[arg19.view.set]{fullShare} f) ∗ ⌜DvPart D A V k0_t5 k b19 (arg19.view.read _ f)⌝))
  step k acc := by
    iintro ⟨H10, H11, H17, ⟨%f18, H18, %h18⟩, ⟨%f19, H19, %h19⟩⟩
    unfold k0_t10_body
    sl_exec
    have h18' := du_step ha hv h hb k0_t5 hc k (k0_off21_inb arg21 v23 k0_hw1 k0_t5 k) (k0_off22_inb arg21 v23 k0_hw1 k0_t5 k) (k0_off23_inb arg21 v23 k0_hw1 k0_t5 k)
      v151 ht hW hvb b18 h18
    have h19' := dv_step ha hv h hb k0_t5 hc k (k0_off21_inb arg21 v23 k0_hw1 k0_t5 k) (k0_off22_inb arg21 v23 k0_hw1 k0_t5 k) (k0_off23_inb arg21 v23 k0_hw1 k0_t5 k)
      v151 ht hW hub b19 h19
    sl_step
    sl_close

end

end Cert.KernelIdeal.Strong
-- ==== Proof.Ideal.Blocks.lean ====
/-
  From the results of a segment's inner loops to what the rest of its row block uses, and the
  losses and gradients that one row block adds.
-/
module

public import proofs.«01_k».proof.Proof.Ideal.Steps

@[expose] public section

set_option maxRecDepth 16384

noncomputable section

namespace Cert.KernelIdeal.Strong

open Idealize.ShloMosaic Idealize.ShloMosaic.Affine Cert.Seg Cert.KernelIdeal Cert.KernelIdeal.Gen Cert.Spec Cert.Access
open Cert.Spec.Row (In)

section
variable {D : Row} {a v : BitVec 32} {A V : ℕ} (ha : IsInt a A) (hv : IsInt v V) (h : A + V ≤ 4096)
variable {arg16 : Memref sig .tc .vmem S8x4224 .f32} {f16 : BufTy.Contents (Elt Ideal) arg16.view.ty}
  {arg17 : Memref sig .tc .vmem S16x32x8x256 .f32} {f17 : BufTy.Contents (Elt Ideal) arg17.view.ty}

/-- Before the first tile of logits. -/
theorem scores_start (r : ℕ) (g : Vec Ideal S16x32x8x256 .f32) : Scores D A V r 0 g (k0_pay43 (F := Ideal)) :=
  ⟨fun c hc => absurd hc (Nat.not_lt_zero _), fun q l => by rw [pay43_apply]; rfl⟩

include h in
/-- The maxima over the whole segment. -/
theorem isM_of {r : ℕ} (hr : r < ntN A V) {g : Vec Ideal S16x32x8x256 .f32} {m : FVec Ideal S8x256 .f32} (hS : Scores D A V r (ntN A V) g m) :
    IsM D A V r (k0_pay50 (F := Ideal) m) := ⟨fun q l => by
  rw [pay50_apply]
  simp only [hS.acc]
  exact D.sup_tiles (nt_ne hr) loN_le (cover h (nt_ne hr)) _⟩

/-- Before the first tile of exponentials. -/
theorem exps_start {r : ℕ} {g : Vec Ideal S16x32x8x256 .f32} {m : FVec Ideal S8x256 .f32} (hS : Scores D A V r (ntN A V) g m) :
    Exps D A V r 0 g (k0_pay53 (F := Ideal)) :=
  ⟨fun c hc => absurd hc (Nat.not_lt_zero _), fun c _ hc => hS.tile c hc, fun q l => by
    pointwise [k0_pay53]
    simp⟩

include ha hv h in
/-- The positive pairs' logits. -/
theorem diag_of (r : Fin (k0_t5_loop a v).trips) (inb18) {m : FVec Ideal S8x256 .f32} (hS : Scores D A V r (ntN A V) (arg17.view.read _ f17) m) :
    IsDiag D A V r (k0_pay52 (F := Ideal) (k0_pay51 k0_pay9)
      (View.readAt (Elt Ideal) arg17.view (Rect.unit (s := S16x32x8x256) (k0_off18 a v r) S1x32x8x256.size inb18).toLoadRect f17)) := by
  have hr := lt_of_lt_of_eq r.2 (t5_trips ha hv h)
  have hr16 := fin16 h hr
  refine ⟨fun l => pay52_apply _ (fun j i => D.XE A V (loN A V + 256 * r + j) (loN A V + 256 * r + i)) (fun s q l => ?_) l⟩
  refine (load4 arg17.view f17 inb18 (off18_eq ha hv h r) 0 s q l (by simp only [Fin.val_zero]; omega) (by omega) (by omega) (by omega)).trans ?_
  have := hS.tile ⟨r.val, hr16⟩ hr s q l
  simpa using this

include h in
/-- The sum of the exponentials. -/
theorem exps_sum {r : ℕ} (hr : r < ntN A V) {g : Vec Ideal S16x32x8x256 .f32} {z : FVec Ideal S8x256 .f32} (hS : Exps D A V r (ntN A V) g z) (l : Fin 256) :
    ∑ p : Fin 8, z (ix2 p l) = (D.L A V (loN A V + 256 * r + l) : EReal) := by
  simp only [hS.acc]
  rw [← D.sum_tiles (loN_le) (cover h (nt_ne hr)), coe_sum]

include h in
/-- From the maximum and the sum of exponentials of a row block, the logarithm of each user's sum. -/
theorem lse_of {r : ℕ} (hr : r < ntN A V) {x : FVec Ideal S8x256 .f32} (hm : IsM D A V r x) {g : Vec Ideal S16x32x8x256 .f32} {z : FVec Ideal S8x256 .f32}
    (hS : Exps D A V r (ntN A V) g z) : IsLse D A V r (k0_pay60 (F := Ideal) x z) := ⟨fun q l => by
  rw [pay60_apply, hm.eq, exps_sum h hr hS]
  exact D.log_L (nt_ne hr) _⟩

include h in
/-- From the same, the base-two logarithm of each user's sum. -/
theorem t_of {r : ℕ} (hr : r < ntN A V) {x : FVec Ideal S8x256 .f32} (hm : IsM D A V r x) {g : Vec Ideal S16x32x8x256 .f32} {z : FVec Ideal S8x256 .f32}
    (hS : Exps D A V r (ntN A V) g z) : IsT D A V r (k0_pay61 (F := Ideal) x z) := ⟨fun q l => by
  rw [pay61_apply, (lse_of h hr hm hS).eq, hm.eq, ← EReal.coe_sub, ← EReal.coe_mul, Row.T]⟩

include ha hv h in
/-- The weights: the positive pair's own term takes the sum off. -/
theorem weights_of (r : Fin (k0_t5_loop a v).trips) (inb18) {x : FVec Ideal S8x256 .f32} (hm : IsM D A V r x) {z : FVec Ideal S8x256 .f32}
    (hS : Exps D A V r (ntN A V) (arg17.view.read _ f17) z) :
    Weights D A V r (arg17.view.read _ (arg17.view.writes (Elt Ideal) f17 [⟨Rect.unit (s := S16x32x8x256) (k0_off18 a v r) S1x32x8x256.size inb18,
      k0_pay12 (F := Ideal) (k0_pay62 (F := Ideal) x (k0_pay51 k0_pay9) z
        (View.readAt (Elt Ideal) arg17.view (Rect.unit (s := S16x32x8x256) (k0_off18 a v r) S1x32x8x256.size inb18).toLoadRect f17)
        (View.readAt (Elt Ideal) arg17.view (Rect.unit (s := S16x32x8x256) (k0_off18 a v r) S1x32x8x256.size inb18).toLoadRect f17))⟩])) := by
  have hr := lt_of_lt_of_eq r.2 (t5_trips ha hv h)
  have hr16 := fin16 h hr
  have key : ∀ s q l, View.readAt (Elt Ideal) arg17.view (Rect.unit (s := S16x32x8x256) (k0_off18 a v r) S1x32x8x256.size inb18).toLoadRect f17 (ix4 0 s q l)
      = (D.ex A V (loN A V + 256 * r + (s * 8 + q)) (loN A V + 256 * r + l) : EReal) := fun s q l =>
    (load4 arg17.view f17 inb18 (off18_eq ha hv h r) 0 s q l (by simp only [Fin.val_zero]; omega) (by omega) (by omega) (by omega)).trans (by
      have := hS.done ⟨r.val, hr16⟩ hr s q l
      simpa using this)
  refine ⟨fun c hc s q l => ?_⟩
  by_cases e : c.val = r.val
  · refine (store4_in arg17.view f17 inb18 (off18_eq ha hv h r) _ c s q l 0 s q l (by simpa using e) (by simp) (by simp) (by simp)).trans ?_
    pointwise [k0_pay12]
    rw [pay62_apply, key, (t_of h hr hm hS).eq, D.exp2_T (nt_ne hr), e, Row.E]
    by_cases g : s.val * 8 + q.val = l.val
    · rw [if_pos g, if_pos (by omega), EReal.coe_sub]
    · rw [if_neg g, if_neg (by omega), sub_zero]
  · refine (store4_out arg17.view f17 inb18 (off18_eq ha hv h r) _ c s q l (by omega)).trans ((hS.done c hc s q l).trans ?_)
    rw [D.E_off]
    have := l.2
    have := q.2
    have := s.2
    omega

include ha hv h in
/-- The losses of one row block. -/
theorem loss_step {b c d : BitVec 32} (hb : IsInt b ((A + V : ℕ) : ℤ)) (r : Fin (k0_t5_loop a v).trips) (hc : IsInt c ((loN A V + 256 * r : ℕ) : ℤ))
    (hd : d.toNat = (loN A V + 256 * r) % 128) (inb9) {x : FVec Ideal S1x256 .f32} {y : FVec Ideal S8x256 .f32} (hx : IsDiag D A V r x) (hy : IsLse D A V r y)
    (b0 : Vec Ideal S8x4224 .f32) (hS : LossAdd D A V r b0 (arg16.view.read _ f16)) :
    LossAdd D A V (r + 1) b0 (arg16.view.read _ (arg16.view.writes (Elt Ideal) f16 [⟨Rect.unit (s := S8x4224) (k0_off9 a v r) S8x384.size inb9,
      k0_pay15 (F := Ideal) a b c d x y
        (View.readAt (Elt Ideal) arg16.view (Rect.unit (s := S8x4224) (k0_off9 a v r) S8x384.size inb9).toLoadRect f16)⟩])) := by
  have hr := lt_of_lt_of_eq r.2 (t5_trips ha hv h)
  have hlo := loN_add h
  have hR : (loN A V + 256 * r.val) % 128 < 128 := Nat.mod_lt _ (by norm_num)
  have hw := Nat.div_add_mod (loN A V + 256 * r.val) 128
  set o := loN A V + 256 * r.val with ho
  set R := o % 128 with hRe
  set w := o / 128 * 128 with hwe
  have how : w + R = o := by omega
  refine ⟨fun q n => ?_⟩
  by_cases e : w ≤ n.val ∧ n.val < w + 384
  · have e' : w + (n.val - w) = n.val := by omega
    refine (store2_in arg16.view f16 inb9 (off9_eq ha hv h r) _ q n q ⟨n.val - w, by omega⟩ (by simp) (by simp only; omega)).trans ?_
    rw [pay15_apply ha hb hc (by omega) hd hR x y _ (fun n => ((D.M A V n + Real.log (D.L A V n) : ℝ) : EReal) - D.XE A V n n)
      (fun q l => by rw [hy.eq, hx.eq]),
      load2 arg16.view f16 inb9 (off9_eq ha hv h r) _ _ (by omega) (by simp only; omega)]
    have e2 : arg16.view.read (Elt Ideal) f16 (ix2 ⟨0 + q.val, by omega⟩ ⟨w + (n.val - w), by omega⟩) = arg16.view.read (Elt Ideal) f16 (ix2 q n) := by
      congr 2 <;> apply Fin.ext <;> simp only <;> omega
    rw [e2, hS.eq, add_assoc]
    congr 1
    simp only
    by_cases g : R ≤ n.val - w ∧ n.val - w < R + 256
    · have en : o + (n.val - w - R) = n.val := by omega
      rw [en, if_neg (by omega), EReal.coe_zero, zero_add, if_pos (by omega : loN A V ≤ n.val ∧ n.val < loN A V + 256 * (r.val + 1)), Row.lossIn]
      by_cases gi : In A V n.val
      · rw [if_pos ⟨g.1, g.2, gi⟩, if_pos gi, Row.XE, if_pos gi, ← EReal.coe_sub, Row.loss]
      · rw [if_neg (fun t => gi t.2.2), if_neg gi, EReal.coe_zero]
    · have gn : ¬ (R ≤ n.val - w ∧ n.val - w < R + 256 ∧ In A V (o + (n.val - w - R))) := fun t => g ⟨t.1, t.2.1⟩
      rw [if_neg gn, add_zero]
      congr 2
      exact propext ⟨fun _ => by omega, fun _ => by omega⟩
  · refine (store2_out arg16.view f16 inb9 (off9_eq ha hv h r) _ q n (by omega)).trans ((hS.eq q n).trans ?_)
    congr 3
    exact propext ⟨fun _ => by omega, fun _ => by omega⟩

/-- Before the first tile nothing is added to the users' gradients. -/
theorem du_start (r : ℕ) (b : Vec Ideal S4096x256 .f32) : DuPart D A V r 0 b b := ⟨fun i d => by simp⟩
/-- Before the first tile nothing is added to the items' gradients. -/
theorem dv_start (r : ℕ) (b : Vec Ideal S4096x256 .f32) : DvPart D A V r 0 b b := ⟨fun i d => by
  rw [if_neg (by omega), EReal.coe_zero, add_zero]⟩

/-- A row block's part of the users' gradients. -/
theorem du_add {r : ℕ} {b g g' : Vec Ideal S4096x256 .f32} (hS : DuAdd D A V r b g) (hP : DuPart D A V r (ntN A V) g g') :
    DuAdd D A V (r + 1) b g' := ⟨fun i d => by
  rw [hP.eq, hS.eq, add_assoc, ← EReal.coe_add]
  congr 2
  by_cases e : loN A V + 256 * r ≤ i.val ∧ i.val < loN A V + 256 * r + 256
  · rw [if_pos e, if_neg (by omega), if_pos (by omega), zero_add]
  · rw [if_neg e, add_zero]
    congr 1
    exact propext ⟨fun _ => by omega, fun _ => by omega⟩⟩

/-- A row block's part of the items' gradients. -/
theorem dv_add {r : ℕ} {b g g' : Vec Ideal S4096x256 .f32} (hS : DvAdd D A V r b g) (hP : DvPart D A V r (ntN A V) g g') :
    DvAdd D A V (r + 1) b g' := ⟨fun j d => by
  rw [hP.eq, hS.eq, add_assoc, ← EReal.coe_add]
  congr 2
  by_cases e : loN A V ≤ j.val ∧ j.val < loN A V + 256 * ntN A V
  · rw [if_pos e, if_pos e, if_pos e, show 256 * (r + 1) = 256 * r + 256 by ring, Finset.sum_range_add]
    simp only [add_assoc (loN A V)]
  · rw [if_neg e, if_neg e, if_neg e, zero_add]⟩

end

end Cert.KernelIdeal.Strong
-- ==== Proof.Ideal.StrongRows.lean ====
/-
  The kernel's loops, over the extended reals: one trip runs and takes what the buffers hold before it
  to what they hold after it.
-/
module

public import proofs.«01_k».proof.Proof.Gen.KernelIdeal.Skeleton
public import proofs.«01_k».proof.Proof.Ideal.StrongLoops
public import proofs.«01_k».proof.Proof.Ideal.Blocks
public import Idealize.ShloMosaic.Lib.Exec
public import Idealize.ShloMosaic.Lib.Tactic
public import Idealize.ShloMosaic.Lib.Pipeline.Kit
public import Idealize.ShloMosaic.Lib.LoopEntry

@[expose] public section

set_option maxRecDepth 16384

noncomputable section

namespace Cert.KernelIdeal.Strong

open Idealize.ShloMosaic Idealize.ShloMosaic.TcCoe Idealize.ShloMosaic.Tactic Idealize.ShloMosaic.Affine
open Idealize.SL Idealize.SL.RA Idealize.SL.BI
open scoped Idealize.SL.BI
open Idealize.SL.BI.BIBase Idealize.SL.BI.Laws Idealize.SL.ProofMode Idealize.SL.Sem
open Cert.KernelIdeal.Gen Cert.Spec Cert.Seg

/-- The resource algebra of the run. -/
local notation "𝕄G" => MT nD τ sig Unit (Elt Ideal) ℕ (UR sig nD τ) ℕ

section
variable (𝒱 : Variants) (c : Dev nD) (bd : Option 𝒱.V) (E : Set ℕ)
  (i : grid0.Coords)
  (arg1 : Memref sig .tc .smem S12x7 .i32) (harg1 : arg1.IsWhole)
  (arg2 : Memref sig .tc .vmem S1x4096x256 .fp8e4m3) (harg2 : arg2.IsWhole)
  (arg3 : Memref sig .tc .vmem S1x1x4096 .f32) (harg3 : arg3.IsWhole)
  (arg4 : Memref sig .tc .vmem S1x4096x256 .fp8e4m3) (harg4 : arg4.IsWhole)
  (arg5 : Memref sig .tc .vmem S1x1x4096 .f32) (harg5 : arg5.IsWhole)
  (arg6 : Memref sig .tc .vmem S1x1x4096 .f32) (harg6 : arg6.IsWhole)
  (arg7 : Memref sig .tc .vmem S1x1x4096 .f32) (harg7 : arg7.IsWhole)
  (arg8 : Memref sig .tc .vmem S1x4096x256 .bf16) (harg8 : arg8.IsWhole)
  (arg9 : Memref sig .tc .vmem S1x4096x256 .bf16) (harg9 : arg9.IsWhole)
  (arg10 : Memref sig .tc .vmem S4096x256 .bf16) (harg10 : arg10.IsWhole)
  (arg11 : Memref sig .tc .vmem S4096x256 .bf16) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S4096x128 .f32) (harg14 : arg14.IsWhole)
  (arg15 : Memref sig .tc .vmem S8x4224 .f32) (harg15 : arg15.IsWhole)
  (arg16 : Memref sig .tc .vmem S8x4224 .f32) (harg16 : arg16.IsWhole)
  (arg17 : Memref sig .tc .vmem S16x32x8x256 .f32) (harg17 : arg17.IsWhole)
  (arg18 : Memref sig .tc .vmem S4096x256 .f32) (harg18 : arg18.IsWhole)
  (arg19 : Memref sig .tc .vmem S4096x256 .f32) (harg19 : arg19.IsWhole)

/-- One row block of a segment. -/
def t5 (arg21 : BitVec 32) (v23 : Elt Ideal .i32) (k0_hw1 : k0_chk1 arg21 v23) (h7 : (k0_t7_loop arg21 v23).trips = 0) (h9 : (k0_t9_loop arg21 v23).trips = 0) (h11 : (k0_t11_loop arg21 v23).trips = 0) (v24 v63 v66 : BitVec 32) (D : Row) {A V : ℕ} (ha : IsInt arg21 A) (hv : IsInt v23 V) (h : A + V ≤ 4096)
    (hb : IsInt v24 ((A + V : ℕ) : ℤ)) (hw : v66 = loW arg21 v23)
    (f2 : BufTy.Contents (Elt Ideal) arg2.view.ty) (f4 : BufTy.Contents (Elt Ideal) arg4.view.ty) (f10 : BufTy.Contents (Elt Ideal) arg10.view.ty) (f11 : BufTy.Contents (Elt Ideal) arg11.view.ty) (f12 : BufTy.Contents (Elt Ideal) arg12.view.ty)
    (f14 : BufTy.Contents (Elt Ideal) arg14.view.ty) (f15 : BufTy.Contents (Elt Ideal) arg15.view.ty)
    (hU : IsU D (arg2.view.read _ f2)) (hV : IsV D (arg4.view.read _ f4)) (hub : IsDeq D.ub 4096 (arg10.view.read _ f10))
    (hvb : IsDeq D.vb 4096 (arg11.view.read _ f11)) (hvs : IsRep D.vs 4096 (arg12.view.read _ f12))
    (hlm : IsMask D A V (256 * ntN A V) (arg14.view.read _ f14)) (hus : IsScale D 4096 (arg15.view.read _ f15))
    (b16 : Vec Ideal S8x4224 .f32) (b18 b19 : Vec Ideal S4096x256 .f32) (init : BitVec 32) :
    Idealize.ShloMosaic.LoopInv (M := 𝕄G) Idealize.ShloMosaic.frame (wpE (defs₀ (F := Ideal)) 𝒱 (c : Thread nD τ) bd) E
      (k0_t5_loop arg21 v23).lb (k0_t5_loop arg21 v23).ub (k0_t5_loop arg21 v23).st (k0_t5_ok arg21 v23 k0_hw1) init
      (k0_t5_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg21 v23 k0_hw1 v24 v63 v66) where
  inv k acc := iprop((arg2.view.loc (c : Thread nD τ) ↦[arg2.view.set]{fullShare} f2) ∗ (arg4.view.loc (c : Thread nD τ) ↦[arg4.view.set]{fullShare} f4) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg14.view.loc (c : Thread nD τ) ↦[arg14.view.set]{fullShare} f14) ∗ (arg15.view.loc (c : Thread nD τ) ↦[arg15.view.set]{fullShare} f15) ∗ (∃ f : BufTy.Contents (Elt Ideal) arg16.view.ty, (arg16.view.loc (c : Thread nD τ) ↦[arg16.view.set]{fullShare} f) ∗ ⌜LossAdd D A V k b16 (arg16.view.read _ f)⌝) ∗ (∃ f : BufTy.Contents (Elt Ideal) arg17.view.ty, (arg17.view.loc (c : Thread nD τ) ↦[arg17.view.set]{fullShare} f)) ∗
    (∃ f : BufTy.Contents (Elt Ideal) arg18.view.ty, (arg18.view.loc (c : Thread nD τ) ↦[arg18.view.set]{fullShare} f) ∗ ⌜DuAdd D A V k b18 (arg18.view.read _ f)⌝) ∗ (∃ f : BufTy.Contents (Elt Ideal) arg19.view.ty, (arg19.view.loc (c : Thread nD τ) ↦[arg19.view.set]{fullShare} f) ∗ ⌜DvAdd D A V k b19 (arg19.view.read _ f)⌝))
  step k acc := by
    iintro ⟨H2, H4, H10, H11, H12, H14, H15, ⟨%f16, H16, %hS16⟩, ⟨%f17, H17⟩, ⟨%f18, H18, %hS18⟩, ⟨%f19, H19, %hS19⟩⟩
    unfold k0_t5_body
    sl_exec
    have hk := lt_of_lt_of_eq k.2 (t5_trips ha hv h)
    have hlo := loN_add h
    have hc : IsInt (t5.sl.v83 arg21 v23 v66 k) ((loN A V + 256 * k : ℕ) : ℤ) := by
      subst hw
      exact rowW_isInt ha hv h (ofNat 256 (by decide) : IsInt 256#32 256) (by omega) (by omega) (by omega)
    have hd : (t5.sl.v104 arg21 v23 v66 k).toNat = (loN A V + 256 * k) % 128 := by
      subst hw
      exact rot_toNat ha hv h hk
    have h6 : Scores D A V k 0 (arg17.view.read _ f17) (k0_pay43 (F := Ideal)) := scores_start k _
    let L6 := t6 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      k0_pay9 arg21 v23 k0_hw1 v63 v66 k D ha hv h hw f2 f4 f12 f14 f15 hU hV hvs hlm hus k0_pay43
    sl_exec
    rename_i m
    clear L6; clear h6
    have hT := hL5
    rw [show Scf.trips (k0_t6_loop arg21 v23).lb (k0_t6_loop arg21 v23).ub (k0_t6_loop arg21 v23).st = ntN A V from t6_trips ha hv h] at hT
    have hM := isM_of h hk hT
    have hdiag := diag_of ha hv h k (k0_off18_inb arg21 v23 k0_hw1 k) hT
    have h8 := exps_start hT
    let L8 := t8 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      arg21 v23 k0_hw1 v63 k (t5.sl.arg22 arg21 v23 k) (k0_pay50 (F := Ideal) m) (k0_pay51 k0_pay9) D ha hv h hM k0_pay53
    sl_exec
    rename_i z
    clear L8; clear h8
    have hZ := hL1
    rw [show Scf.trips (k0_t8_loop arg21 v23).lb (k0_t8_loop arg21 v23).ub (k0_t8_loop arg21 v23).st = ntN A V from t8_trips ha hv h] at hZ
    have h16 := loss_step ha hv h hb k hc hd (k0_off9_inb arg21 v23 k0_hw1 k) hdiag (lse_of h hk hM hZ) b16 hS16
    have hW := weights_of ha hv h k (k0_off18_inb arg21 v23 k0_hw1 k) hM hZ
    have hd0 := du_start (D := D) (A := A) (V := V) k (arg18.view.read (Elt Ideal) f18)
    have hv0 := dv_start (D := D) (A := A) (V := V) k (arg19.view.read (Elt Ideal) f19)
    let L10 := t10 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      arg21 v23 k0_hw1 v24 k (t5.sl.v83 arg21 v23 v66 k) (t5.sl.r_2 m z) D ha hv h hb hc (t_of h hk hM hZ) f10 f11 _ hub hvb hW
      (arg18.view.read _ f18) (arg19.view.read _ f19) 0#32
    sl_exec
    have hDu := hL4
    have hDv := hL6
    rw [show Scf.trips (k0_t10_loop arg21 v23).lb (k0_t10_loop arg21 v23).ub (k0_t10_loop arg21 v23).st = ntN A V from t10_trips ha hv h] at hDu hDv
    have h18 := du_add hS18 hDu
    have h19 := dv_add hS19 hDv
    sl_step
    sl_close

end

end Cert.KernelIdeal.Strong
-- ==== Proof.Ideal.StrongBody.lean ====
/-
  The loop over the segments and the kernel's body as a whole, over the extended reals, with what the
  results hold at the end.
-/
module

public import proofs.«01_k».proof.Proof.Gen.KernelIdeal.Skeleton
public import proofs.«01_k».proof.Proof.Ideal.StrongEdges
public import proofs.«01_k».proof.Proof.Ideal.StrongRows
public import proofs.«01_k».proof.Proof.Ideal.Segments
public import Idealize.ShloMosaic.Lib.Exec
public import Idealize.ShloMosaic.Lib.Tactic
public import Idealize.ShloMosaic.Lib.Pipeline.Kit
public import Idealize.ShloMosaic.Lib.LoopEntry

@[expose] public section

set_option maxRecDepth 16384

noncomputable section

namespace Cert.KernelIdeal.Strong

open Idealize.ShloMosaic Idealize.ShloMosaic.TcCoe Idealize.ShloMosaic.Tactic Idealize.ShloMosaic.Affine
open Idealize.SL Idealize.SL.RA Idealize.SL.BI
open scoped Idealize.SL.BI
open Idealize.SL.BI.BIBase Idealize.SL.BI.Laws Idealize.SL.ProofMode Idealize.SL.Sem
open Cert.KernelIdeal.Gen Cert.Spec Cert.Seg Cert.Access
open Cert.Spec.Row (In)

/-- The resource algebra of the run. -/
local notation "𝕄G" => MT nD τ sig Unit (Elt Ideal) ℕ (UR sig nD τ) ℕ

section
variable (D : Row) (len : ℕ → ℕ)

/-- The losses of the first `k` segments. -/
structure Losses (k : ℕ) (g : Vec Ideal S8x4224 .f32) : Prop where
  eq : ∀ q (n : Fin 4224), g (ix2 q n) = ((∑ p ∈ Finset.range k, D.lossIn (startN len p) (len p) n : ℝ) : EReal)
/-- The users' gradients of the first `k` segments, before scaling. -/
structure Dus (k : ℕ) (g : Vec Ideal S4096x256 .f32) : Prop where
  eq : ∀ (i : Fin 4096) (d : Fin 256), g (ix2 i d) = ((∑ p ∈ Finset.range k, ∑ j ∈ Finset.range 4096, D.G (startN len p) (len p) j i * D.vb j d : ℝ) : EReal)
/-- The items' gradients of the first `k` segments, before scaling. -/
structure Dvs (k : ℕ) (g : Vec Ideal S4096x256 .f32) : Prop where
  eq : ∀ (j : Fin 4096) (d : Fin 256), g (ix2 j d) = ((∑ p ∈ Finset.range k, ∑ i ∈ Finset.range 4096, D.G (startN len p) (len p) j i * D.ub i d : ℝ) : EReal)
end

section
variable {D : Row} {len : ℕ → ℕ} {k : ℕ}

/-- A position in the segment lies in the tiles that cover it. -/
theorem in_tiles {A V n : ℕ} (h : A + V ≤ 4096) (hi : In A V n) : loN A V ≤ n ∧ n < loN A V + 256 * ntN A V := by
  have h1 := cover h (show V ≠ 0 by rintro rfl; simp only [In] at hi; omega)
  have h2 : loN A V ≤ A := loN_le
  simp only [In] at hi
  omega

/-- A segment's losses added to those of the segments before it. -/
theorem losses_succ {b g : Vec Ideal S8x4224 .f32} (h : startN len k + len k ≤ 4096) (hb : Losses D len k b)
    (hg : LossAdd D (startN len k) (len k) (ntN (startN len k) (len k)) b g) : Losses D len (k + 1) g := ⟨fun q n => by
  rw [hg.eq, hb.eq, ← EReal.coe_add, Finset.sum_range_succ]
  congr 2
  split
  · rfl
  · rename_i e
    rw [Row.lossIn, if_neg (fun hi => e (in_tiles h hi))]⟩

/-- A segment's part of the users' gradients added to that of the segments before it. -/
theorem dus_succ {b g : Vec Ideal S4096x256 .f32} (h : startN len k + len k ≤ 4096) (hb : Dus D len k b)
    (hg : DuAdd D (startN len k) (len k) (ntN (startN len k) (len k)) b g) : Dus D len (k + 1) g := ⟨fun i d => by
  rw [hg.eq, hb.eq, ← EReal.coe_add, Finset.sum_range_succ]
  congr 2
  split
  · exact D.sum_G_left loN_le (cover h) (loN_add h) (fun j => D.vb j d) i
  · rename_i e
    exact (Finset.sum_eq_zero fun j _ => by rw [D.G_off_right (fun hi => e (in_tiles h hi)), zero_mul]).symm⟩

/-- A segment's part of the items' gradients added to that of the segments before it. -/
theorem dvs_succ {b g : Vec Ideal S4096x256 .f32} (h : startN len k + len k ≤ 4096) (hb : Dvs D len k b)
    (hg : DvAdd D (startN len k) (len k) (ntN (startN len k) (len k)) b g) : Dvs D len (k + 1) g := ⟨fun j d => by
  rw [hg.eq, hb.eq, ← EReal.coe_add, Finset.sum_range_succ]
  congr 2
  split
  · exact D.sum_G_right loN_le (cover h) (loN_add h) (fun i => D.ub i d) j
  · rename_i e
    exact (Finset.sum_eq_zero fun i _ => by rw [D.G_off_left (fun hi => e (in_tiles h hi)), zero_mul]).symm⟩

/-- Before the first row block no loss is added. -/
theorem lossAdd_zero (A V : ℕ) (b : Vec Ideal S8x4224 .f32) : LossAdd D A V 0 b b := ⟨fun q n => by
  rw [if_neg (by omega), EReal.coe_zero, add_zero]⟩
/-- Before the first row block nothing is added to the users' gradients. -/
theorem duAdd_zero (A V : ℕ) (b : Vec Ideal S4096x256 .f32) : DuAdd D A V 0 b b := ⟨fun i d => by
  rw [if_neg (by omega), EReal.coe_zero, add_zero]⟩
/-- Before the first row block nothing is added to the items' gradients. -/
theorem dvAdd_zero (A V : ℕ) (b : Vec Ideal S4096x256 .f32) : DvAdd D A V 0 b b := ⟨fun j d => by simp⟩
/-- Before the first chunk no item is masked. -/
theorem mask_zero (A V : ℕ) (g : Vec Ideal S4096x128 .f32) : IsMask D A V (32 * 0) g := ⟨fun j l h1 h2 => absurd h2 (by omega)⟩
end

section
variable (𝒱 : Variants) (c : Dev nD) (bd : Option 𝒱.V) (E : Set ℕ)
  (i : grid0.Coords)
  (arg1 : Memref sig .tc .smem S12x7 .i32) (harg1 : arg1.IsWhole)
  (arg2 : Memref sig .tc .vmem S1x4096x256 .fp8e4m3) (harg2 : arg2.IsWhole)
  (arg3 : Memref sig .tc .vmem S1x1x4096 .f32) (harg3 : arg3.IsWhole)
  (arg4 : Memref sig .tc .vmem S1x4096x256 .fp8e4m3) (harg4 : arg4.IsWhole)
  (arg5 : Memref sig .tc .vmem S1x1x4096 .f32) (harg5 : arg5.IsWhole)
  (arg6 : Memref sig .tc .vmem S1x1x4096 .f32) (harg6 : arg6.IsWhole)
  (arg7 : Memref sig .tc .vmem S1x1x4096 .f32) (harg7 : arg7.IsWhole)
  (arg8 : Memref sig .tc .vmem S1x4096x256 .bf16) (harg8 : arg8.IsWhole)
  (arg9 : Memref sig .tc .vmem S1x4096x256 .bf16) (harg9 : arg9.IsWhole)
  (arg10 : Memref sig .tc .vmem S4096x256 .bf16) (harg10 : arg10.IsWhole)
  (arg11 : Memref sig .tc .vmem S4096x256 .bf16) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S4096x128 .f32) (harg14 : arg14.IsWhole)
  (arg15 : Memref sig .tc .vmem S8x4224 .f32) (harg15 : arg15.IsWhole)
  (arg16 : Memref sig .tc .vmem S8x4224 .f32) (harg16 : arg16.IsWhole)
  (arg17 : Memref sig .tc .vmem S16x32x8x256 .f32) (harg17 : arg17.IsWhole)
  (arg18 : Memref sig .tc .vmem S4096x256 .f32) (harg18 : arg18.IsWhole)
  (arg19 : Memref sig .tc .vmem S4096x256 .f32) (harg19 : arg19.IsWhole)

set_option maxHeartbeats 400000 in
/-- One segment: its length is read from the table, its start is carried. -/
def t2 (arg0 : BitVec 32) (T : BufTy.Contents (Elt Ideal) arg1.view.ty) (len : ℕ → ℕ) (hseg : SegsOk i arg1 T len)
    (D : Row) (f2 : BufTy.Contents (Elt Ideal) arg2.view.ty) (f4 : BufTy.Contents (Elt Ideal) arg4.view.ty) (f10 : BufTy.Contents (Elt Ideal) arg10.view.ty) (f11 : BufTy.Contents (Elt Ideal) arg11.view.ty) (f12 : BufTy.Contents (Elt Ideal) arg12.view.ty)
    (f13 : BufTy.Contents (Elt Ideal) arg13.view.ty) (f15 : BufTy.Contents (Elt Ideal) arg15.view.ty)
    (hU : IsU D (arg2.view.read _ f2)) (hV : IsV D (arg4.view.read _ f4)) (hub : IsDeq D.ub 4096 (arg10.view.read _ f10))
    (hvb : IsDeq D.vb 4096 (arg11.view.read _ f11)) (hvs : IsRep D.vs 4096 (arg12.view.read _ f12))
    (hlq : IsRep D.lq 4096 (arg13.view.read _ f13)) (hus : IsScale D 4096 (arg15.view.read _ f15)) :
    Idealize.ShloMosaic.LoopInv (M := 𝕄G) Idealize.ShloMosaic.frame (wpE (defs₀ (F := Ideal)) 𝒱 (c : Thread nD τ) bd) E
      k0_t2_loop.lb k0_t2_loop.ub k0_t2_loop.st k0_t2_ok 0#32
      (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0) where
  inv k acc := iprop(⌜IsInt acc ((startN len k : ℕ) : ℤ)⌝ ∗ (arg1.view.loc (c : Thread nD τ) ↦[arg1.view.set]{fullShare.right} T) ∗ (arg2.view.loc (c : Thread nD τ) ↦[arg2.view.set]{fullShare} f2) ∗ (arg4.view.loc (c : Thread nD τ) ↦[arg4.view.set]{fullShare} f4) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg15.view.loc (c : Thread nD τ) ↦[arg15.view.set]{fullShare} f15) ∗ (∃ f : BufTy.Contents (Elt Ideal) arg14.view.ty, (arg14.view.loc (c : Thread nD τ) ↦[arg14.view.set]{fullShare} f)) ∗ (∃ f : BufTy.Contents (Elt Ideal) arg16.view.ty, (arg16.view.loc (c : Thread nD τ) ↦[arg16.view.set]{fullShare} f) ∗ ⌜Losses D len k (arg16.view.read _ f)⌝) ∗ (∃ f : BufTy.Contents (Elt Ideal) arg17.view.ty, (arg17.view.loc (c : Thread nD τ) ↦[arg17.view.set]{fullShare} f)) ∗ (∃ f : BufTy.Contents (Elt Ideal) arg18.view.ty, (arg18.view.loc (c : Thread nD τ) ↦[arg18.view.set]{fullShare} f) ∗ ⌜Dus D len k (arg18.view.read _ f)⌝) ∗ (∃ f : BufTy.Contents (Elt Ideal) arg19.view.ty, (arg19.view.loc (c : Thread nD τ) ↦[arg19.view.set]{fullShare} f) ∗ ⌜Dvs D len k (arg19.view.read _ f)⌝))
  step k acc := by
    iintro ⟨%hacc, H1, H2, H4, H10, H11, H12, H13, H15, ⟨%f14, H14⟩, ⟨%f16, H16, %hS16⟩, ⟨%f17, H17⟩, ⟨%f18, H18, %hS18⟩, ⟨%f19, H19, %hS19⟩⟩
    unfold k0_t2_body
    sl_exec
    have hv : IsInt (t2.sl.r i arg1 T k) (len k : ℕ) := hseg.1 k
    have hle := hseg.le k
    have hw : k0_chk1 acc (t2.sl.r i arg1 T k) := chk1_of hacc hv hle
    have h4 := t4_trips hacc hv hle
    have h7 := t7_trips hacc hv hle
    have h9 := t9_trips hacc hv hle
    have h11 := t11_trips hacc hv hle
    have h12 := t12_trips hacc hv hle
    sl_exec
    have hn : IsInt (t2.sl.v24 i arg1 T k acc) ((startN len (k + 1) : ℕ) : ℤ) := startN_succ hacc hv hle
    have hb : IsInt (t2.sl.v24 i arg1 T k acc) ((startN len k + len k : ℕ) : ℤ) := by
      rw [show startN len k + len k = startN len (k + 1) by simp only [startN, Finset.sum_range_succ]]; exact hn
    have h3 := mask_zero (D := D) (startN len k) (len k) (arg14.view.read (Elt Ideal) f14)
    have hw3 : Scalar.minsi (t2.sl.v42 acc) (Scalar.subi 4096#32 (Scalar.muli (Scalar.select (t2.sl.v62 i arg1 T k acc) (t2.sl.v61 i arg1 T k acc) 0#32) 256#32))
        = loW acc (t2.sl.r i arg1 T k) := rfl
    have hw5 : t2.sl.v66 i arg1 T k acc = loW acc (t2.sl.r i arg1 T k) := rfl
    sl_for (fun n (_ : BitVec 32) => iprop((arg13.view.loc (c : Thread nD τ) ↦[arg13.view.set]{fullShare} f13) ∗ (∃ f : BufTy.Contents (Elt Ideal) arg14.view.ty,
      (arg14.view.loc (c : Thread nD τ) ↦[arg14.view.set]{fullShare} f) ∗ ⌜IsMask D (startN len k) (len k) (32 * n) (arg14.view.read _ f)⌝))) $$ [H13 H14]
    · exact (t3 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
        acc (t2.sl.r i arg1 T k) hw (t2.sl.v24 i arg1 T k acc) (t2.sl.v42 acc) (t2.sl.v61 i arg1 T k acc) (t2.sl.v62 i arg1 T k acc) D hacc hv hle hb hw3 f13 hlq 0#32).step
    · isplitl [H13]
      · iexact H13
      · iexists f14
        isplitl [H14]
        · iexact H14
        · ipureintro
          exact h3
    iintro %w HI
    icases HI with ⟨H13, %fm, H14, %hL1⟩
    have hlm := hL1
    rw [show Scf.trips (k0_t3_loop acc (t2.sl.r i arg1 T k)).lb (k0_t3_loop acc (t2.sl.r i arg1 T k)).ub (k0_t3_loop acc (t2.sl.r i arg1 T k)).st
      = 8 * ntN (startN len k) (len k) from t3_trips hacc hv hle, ← mul_assoc] at hlm
    have h16 := lossAdd_zero (D := D) (startN len k) (len k) (arg16.view.read (Elt Ideal) f16)
    have h18 := duAdd_zero (D := D) (startN len k) (len k) (arg18.view.read (Elt Ideal) f18)
    have h19 := dvAdd_zero (D := D) (startN len k) (len k) (arg19.view.read (Elt Ideal) f19)
    sl_exec
    sl_for (fun n (_ : BitVec 32) => iprop((arg2.view.loc (c : Thread nD τ) ↦[arg2.view.set]{fullShare} f2) ∗ (arg4.view.loc (c : Thread nD τ) ↦[arg4.view.set]{fullShare} f4) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg14.view.loc (c : Thread nD τ) ↦[arg14.view.set]{fullShare} fm) ∗ (arg15.view.loc (c : Thread nD τ) ↦[arg15.view.set]{fullShare} f15) ∗
      (∃ f : BufTy.Contents (Elt Ideal) arg16.view.ty, (arg16.view.loc (c : Thread nD τ) ↦[arg16.view.set]{fullShare} f) ∗ ⌜LossAdd D (startN len k) (len k) n (arg16.view.read _ f16) (arg16.view.read _ f)⌝) ∗ (∃ f : BufTy.Contents (Elt Ideal) arg17.view.ty, (arg17.view.loc (c : Thread nD τ) ↦[arg17.view.set]{fullShare} f)) ∗
      (∃ f : BufTy.Contents (Elt Ideal) arg18.view.ty, (arg18.view.loc (c : Thread nD τ) ↦[arg18.view.set]{fullShare} f) ∗ ⌜DuAdd D (startN len k) (len k) n (arg18.view.read _ f18) (arg18.view.read _ f)⌝) ∗
      (∃ f : BufTy.Contents (Elt Ideal) arg19.view.ty, (arg19.view.loc (c : Thread nD τ) ↦[arg19.view.set]{fullShare} f) ∗ ⌜DvAdd D (startN len k) (len k) n (arg19.view.read _ f19) (arg19.view.read _ f)⌝))) $$ [H2 H4 H10 H11 H12 H14 H15 H16 H17 H18 H19]
    · exact (t5 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
        acc (t2.sl.r i arg1 T k) hw h7 h9 h11 (t2.sl.v24 i arg1 T k acc) (t2.sl.v63 i arg1 T k acc) (t2.sl.v66 i arg1 T k acc) D hacc hv hle hb hw5
        f2 f4 f10 f11 f12 fm f15 hU hV hub hvb hvs hlm hus (arg16.view.read _ f16) (arg18.view.read _ f18) (arg19.view.read _ f19) 0#32).step
    · sl_close
    iintro %w' HI
    icases HI with ⟨H2, H4, H10, H11, H12, H14, H15, ⟨%g16, H16, %h16'⟩, ⟨%g17, H17⟩, ⟨%g18, H18, %h18'⟩, ⟨%g19, H19, %h19'⟩⟩
    rw [show Scf.trips (k0_t5_loop acc (t2.sl.r i arg1 T k)).lb (k0_t5_loop acc (t2.sl.r i arg1 T k)).ub (k0_t5_loop acc (t2.sl.r i arg1 T k)).st
      = ntN (startN len k) (len k) from t5_trips hacc hv hle] at h16' h18' h19'
    have q16 := losses_succ hle hS16 h16'
    have q18 := dus_succ hle hS18 h18'
    have q19 := dvs_succ hle hS19 h19'
    sl_exec
    sl_step
    sl_close

end

end Cert.KernelIdeal.Strong
-- ==== Proof.Ideal.StrongRun.lean ====
/-
  The kernel's body as a whole, over the extended reals, with what the
  results hold at the end.
-/
module

public import proofs.«01_k».proof.Proof.Gen.KernelIdeal.Skeleton
public import proofs.«01_k».proof.Proof.Ideal.StrongBody
public import proofs.«01_k».proof.Proof.Ideal.StrongRows
public import proofs.«01_k».proof.Proof.Ideal.Segments
public import Idealize.ShloMosaic.Lib.Exec
public import Idealize.ShloMosaic.Lib.Tactic
public import Idealize.ShloMosaic.Lib.Pipeline.Kit
public import Idealize.ShloMosaic.Lib.LoopEntry

@[expose] public section

set_option maxRecDepth 16384

noncomputable section

namespace Cert.KernelIdeal.Strong

open Idealize.ShloMosaic Idealize.ShloMosaic.TcCoe Idealize.ShloMosaic.Tactic Idealize.ShloMosaic.Affine
open Idealize.SL Idealize.SL.RA Idealize.SL.BI
open scoped Idealize.SL.BI
open Idealize.SL.BI.BIBase Idealize.SL.BI.Laws Idealize.SL.ProofMode Idealize.SL.Sem
open Cert.KernelIdeal.Gen Cert.Spec Cert.Seg Cert.Access
open Cert.Spec.Row (In)

/-- The resource algebra of the run. -/
local notation "𝕄G" => MT nD τ sig Unit (Elt Ideal) ℕ (UR sig nD τ) ℕ

section
variable (D : Row) (len : ℕ → ℕ)
/-- The losses of a row. -/
structure IsLoss (g : Vec Ideal S1x1x4096 .f32) : Prop where
  eq : ∀ i : Fin 4096, g (ix3 0 0 i) = ((∑ p ∈ Finset.range 7, D.lossIn (startN len p) (len p) i : ℝ) : EReal)
/-- The users' gradients of a row. -/
structure IsDu (g : Vec Ideal S1x4096x256 .bf16) : Prop where
  eq : ∀ (i : Fin 4096) (d : Fin 256), g (ix3 0 i d) = ((∑ p ∈ Finset.range 7, ∑ j ∈ Finset.range 4096, D.G (startN len p) (len p) j i * D.vb j d : ℝ) : EReal) * ((20 : ℝ) : EReal)
/-- The items' gradients of a row. -/
structure IsDv (g : Vec Ideal S1x4096x256 .bf16) : Prop where
  eq : ∀ (j : Fin 4096) (d : Fin 256), g (ix3 0 j d) = ((∑ p ∈ Finset.range 7, ∑ i ∈ Finset.range 4096, D.G (startN len p) (len p) j i * D.ub i d : ℝ) : EReal) * ((20 : ℝ) : EReal)
end

section
variable {D : Row} {len : ℕ → ℕ}
variable {arg7 : Memref sig .tc .vmem S1x1x4096 .f32} {arg16 : Memref sig .tc .vmem S8x4224 .f32}
variable {f7 : BufTy.Contents (Elt Ideal) arg7.view.ty} {f16 : BufTy.Contents (Elt Ideal) arg16.view.ty}

/-- What clears the losses is zero. -/
theorem pay8_apply (q : Fin 8) (n : Fin 4224) : k0_pay8 (F := Ideal) (ix2 q n) = 0 := by
  pointwise [k0_pay8]
  first | done | simp

/-- The row of losses starts at zero. -/
theorem loss_zero (inb) : Losses D len 0 (arg16.view.read _ (arg16.view.writes (Elt Ideal) f16 [⟨Rect.unit (s := S8x4224) ![0, 0] S8x4224.size inb, k0_pay8 (F := Ideal)⟩])) :=
  ⟨fun q n => (store2_in arg16.view f16 inb rfl _ q n q n (by simp) (by simp)).trans (by rw [pay8_apply]; simp)⟩

/-- The losses with a leading axis. -/
theorem pay34_apply (x : Vec Ideal S1x4096 .f32) (i : Fin 4096) : k0_pay34 (F := Ideal) x (ix3 0 0 i) = x (ix2 0 i) := by
  pointwise [k0_pay34]
  first | done | simp | rfl

/-- The first sublane of the row of losses is the result. -/
theorem loss_out (inb inb') (h : Losses D len 7 (arg16.view.read _ f16)) :
    IsLoss D len (arg7.view.read _ (arg7.view.writes (Elt Ideal) f7 [⟨Rect.unit (s := S1x1x4096) ![0, 0, 0] S1x1x4096.size inb,
      k0_pay34 (F := Ideal) (View.readAt (Elt Ideal) arg16.view (Rect.unit (s := S8x4224) ![0, 0] S1x4096.size inb').toLoadRect f16)⟩])) :=
  ⟨fun i => (store3_in arg7.view f7 inb rfl _ 0 0 i 0 0 i (by simp) (by simp) (by simp)).trans ((pay34_apply _ i).trans
    ((load2 arg16.view f16 inb' rfl 0 i (by decide) (by omega)).trans ((h.eq _ _).trans (by simp))))⟩

/-- What is written after the last segment is the users' gradients. -/
theorem du_of {x : Vec Ideal S4096x256 .f32} {g : Vec Ideal S1x4096x256 .bf16} (hx : Dus D len 7 x) (hg : IsOut 4096 x g) : IsDu D len g :=
  ⟨fun i d => by rw [hg.eq i d i.2, hx.eq]⟩
/-- What is written after the last segment is the items' gradients. -/
theorem dv_of {x : Vec Ideal S4096x256 .f32} {g : Vec Ideal S1x4096x256 .bf16} (hx : Dvs D len 7 x) (hg : IsOut 4096 x g) : IsDv D len g :=
  ⟨fun i d => by rw [hg.eq i d i.2, hx.eq]⟩
/-- A cleared accumulator holds the users' gradients of no segment. -/
theorem dus_zero {x : Vec Ideal S4096x256 .f32} (h : IsZero 4096 x) : Dus D len 0 x := ⟨fun i d => by rw [h.eq i d i.2]; simp⟩
/-- A cleared accumulator holds the items' gradients of no segment. -/
theorem dvs_zero {x : Vec Ideal S4096x256 .f32} (h : IsZero 4096 x) : Dvs D len 0 x := ⟨fun i d => by rw [h.eq i d i.2]; simp⟩
end

section
variable (𝒱 : Variants) (c : Dev nD) (bd : Option 𝒱.V) (E : Set ℕ)
  (i : grid0.Coords)
  (arg1 : Memref sig .tc .smem S12x7 .i32) (harg1 : arg1.IsWhole)
  (arg2 : Memref sig .tc .vmem S1x4096x256 .fp8e4m3) (harg2 : arg2.IsWhole)
  (arg3 : Memref sig .tc .vmem S1x1x4096 .f32) (harg3 : arg3.IsWhole)
  (arg4 : Memref sig .tc .vmem S1x4096x256 .fp8e4m3) (harg4 : arg4.IsWhole)
  (arg5 : Memref sig .tc .vmem S1x1x4096 .f32) (harg5 : arg5.IsWhole)
  (arg6 : Memref sig .tc .vmem S1x1x4096 .f32) (harg6 : arg6.IsWhole)
  (arg7 : Memref sig .tc .vmem S1x1x4096 .f32) (harg7 : arg7.IsWhole)
  (arg8 : Memref sig .tc .vmem S1x4096x256 .bf16) (harg8 : arg8.IsWhole)
  (arg9 : Memref sig .tc .vmem S1x4096x256 .bf16) (harg9 : arg9.IsWhole)
  (arg10 : Memref sig .tc .vmem S4096x256 .bf16) (harg10 : arg10.IsWhole)
  (arg11 : Memref sig .tc .vmem S4096x256 .bf16) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S4096x128 .f32) (harg14 : arg14.IsWhole)
  (arg15 : Memref sig .tc .vmem S8x4224 .f32) (harg15 : arg15.IsWhole)
  (arg16 : Memref sig .tc .vmem S8x4224 .f32) (harg16 : arg16.IsWhole)
  (arg17 : Memref sig .tc .vmem S16x32x8x256 .f32) (harg17 : arg17.IsWhole)
  (arg18 : Memref sig .tc .vmem S4096x256 .f32) (harg18 : arg18.IsWhole)
  (arg19 : Memref sig .tc .vmem S4096x256 .f32) (harg19 : arg19.IsWhole)

set_option maxHeartbeats 2000000 in
/-- The body of the kernel leaves in its results the losses and the gradients of the row. -/
theorem body_run (T : BufTy.Contents (Elt Ideal) arg1.view.ty) (len : ℕ → ℕ) (hseg : SegsOk i arg1 T len)
    (D : Row) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty)
    (hU : IsU D (arg2.view.read _ f2)) (hus : IsRow D.us (arg3.view.read _ f3)) (hV : IsV D (arg4.view.read _ f4)) (hvs : IsRow D.vs (arg5.view.read _ f5))
    (hlq : IsRow D.lq (arg6.view.read _ f6)) :
    (iprop((arg1.view.loc (c : Thread nD τ) ↦[arg1.view.set]{fullShare.right} T) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ f : BufTy.Contents (Elt Ideal) arg7.view.ty, (arg7.view.loc (c : Thread nD τ) ↦[arg7.view.set]{fullShare} f)) ∗ (∃ f : BufTy.Contents (Elt Ideal) arg8.view.ty, (arg8.view.loc (c : Thread nD τ) ↦[arg8.view.set]{fullShare} f)) ∗ (∃ f : BufTy.Contents (Elt Ideal) arg9.view.ty, (arg9.view.loc (c : Thread nD τ) ↦[arg9.view.set]{fullShare} f)) ∗ (∃ f : BufTy.Contents (Elt Ideal) arg10.view.ty, (arg10.view.loc (c : Thread nD τ) ↦[arg10.view.set]{fullShare} f)) ∗ (∃ f : BufTy.Contents (Elt Ideal) arg11.view.ty, (arg11.view.loc (c : Thread nD τ) ↦[arg11.view.set]{fullShare} f)) ∗ (∃ f : BufTy.Contents (Elt Ideal) arg12.view.ty, (arg12.view.loc (c : Thread nD τ) ↦[arg12.view.set]{fullShare} f)) ∗ (∃ f : BufTy.Contents (Elt Ideal) arg13.view.ty, (arg13.view.loc (c : Thread nD τ) ↦[arg13.view.set]{fullShare} f)) ∗ (∃ f : BufTy.Contents (Elt Ideal) arg14.view.ty, (arg14.view.loc (c : Thread nD τ) ↦[arg14.view.set]{fullShare} f)) ∗ (∃ f : BufTy.Contents (Elt Ideal) arg15.view.ty, (arg15.view.loc (c : Thread nD τ) ↦[arg15.view.set]{fullShare} f)) ∗ (∃ f : BufTy.Contents (Elt Ideal) arg16.view.ty, (arg16.view.loc (c : Thread nD τ) ↦[arg16.view.set]{fullShare} f)) ∗ (∃ f : BufTy.Contents (Elt Ideal) arg17.view.ty, (arg17.view.loc (c : Thread nD τ) ↦[arg17.view.set]{fullShare} f)) ∗ (∃ f : BufTy.Contents (Elt Ideal) arg18.view.ty, (arg18.view.loc (c : Thread nD τ) ↦[arg18.view.set]{fullShare} f)) ∗ (∃ f : BufTy.Contents (Elt Ideal) arg19.view.ty, (arg19.view.loc (c : Thread nD τ) ↦[arg19.view.set]{fullShare} f))) : sProp 𝕄G)
    ⊢ wp Idealize.ShloMosaic.frame (wpE (defs₀ (F := Ideal)) 𝒱 (c : Thread nD τ) bd) E (cc0__body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) fun _ =>
      iprop((arg1.view.loc (c : Thread nD τ) ↦[arg1.view.set]{fullShare.right} T) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ f : BufTy.Contents (Elt Ideal) arg7.view.ty, (arg7.view.loc (c : Thread nD τ) ↦[arg7.view.set]{fullShare} f) ∗ ⌜IsLoss D len (arg7.view.read _ f)⌝) ∗ (∃ f : BufTy.Contents (Elt Ideal) arg8.view.ty, (arg8.view.loc (c : Thread nD τ) ↦[arg8.view.set]{fullShare} f) ∗ ⌜IsDu D len (arg8.view.read _ f)⌝) ∗ (∃ f : BufTy.Contents (Elt Ideal) arg9.view.ty, (arg9.view.loc (c : Thread nD τ) ↦[arg9.view.set]{fullShare} f) ∗ ⌜IsDv D len (arg9.view.read _ f)⌝) ∗ (∃ f : BufTy.Contents (Elt Ideal) arg10.view.ty, (arg10.view.loc (c : Thread nD τ) ↦[arg10.view.set]{fullShare} f)) ∗ (∃ f : BufTy.Contents (Elt Ideal) arg11.view.ty, (arg11.view.loc (c : Thread nD τ) ↦[arg11.view.set]{fullShare} f)) ∗ (∃ f : BufTy.Contents (Elt Ideal) arg12.view.ty, (arg12.view.loc (c : Thread nD τ) ↦[arg12.view.set]{fullShare} f)) ∗ (∃ f : BufTy.Contents (Elt Ideal) arg13.view.ty, (arg13.view.loc (c : Thread nD τ) ↦[arg13.view.set]{fullShare} f)) ∗ (∃ f : BufTy.Contents (Elt Ideal) arg14.view.ty, (arg14.view.loc (c : Thread nD τ) ↦[arg14.view.set]{fullShare} f)) ∗ (∃ f : BufTy.Contents (Elt Ideal) arg15.view.ty, (arg15.view.loc (c : Thread nD τ) ↦[arg15.view.set]{fullShare} f)) ∗ (∃ f : BufTy.Contents (Elt Ideal) arg16.view.ty, (arg16.view.loc (c : Thread nD τ) ↦[arg16.view.set]{fullShare} f)) ∗ (∃ f : BufTy.Contents (Elt Ideal) arg17.view.ty, (arg17.view.loc (c : Thread nD τ) ↦[arg17.view.set]{fullShare} f)) ∗ (∃ f : BufTy.Contents (Elt Ideal) arg18.view.ty, (arg18.view.loc (c : Thread nD τ) ↦[arg18.view.set]{fullShare} f)) ∗ (∃ f : BufTy.Contents (Elt Ideal) arg19.view.ty, (arg19.view.loc (c : Thread nD τ) ↦[arg19.view.set]{fullShare} f))) := by
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
  rw [cc0__body_eq_skeleton]
  unfold cc0__body_skel
  have h0 : IsInt 0#32 ((startN len 0 : ℕ) : ℤ) := ofNat 0 ⟨by simp [startN], by decide⟩
  have z10 : IsDeq D.ub (128 * 0) (arg10.view.read _ f10) := ⟨fun j d h => absurd h (by omega)⟩
  have z11 : IsDeq D.vb (128 * 0) (arg11.view.read _ f11) := ⟨fun j d h => absurd h (by omega)⟩
  have z12 : IsRep D.vs (128 * 0) (arg12.view.read _ f12) := ⟨fun j d h => absurd h (by omega)⟩
  have z13 : IsRep D.lq (128 * 0) (arg13.view.read _ f13) := ⟨fun j d h => absurd h (by omega)⟩
  have z15 : ∀ g : BufTy.Contents (Elt Ideal) arg15.view.ty, IsScale D (128 * 0) (arg15.view.read _ g) := fun g => ⟨fun j d h => absurd h (by omega)⟩
  have z18 : IsZero (128 * 0) (arg18.view.read _ f18) := ⟨fun j d h => absurd h (by omega)⟩
  have z19 : IsZero (128 * 0) (arg19.view.read _ f19) := ⟨fun j d h => absurd h (by omega)⟩
  have z8 : ∀ x, IsOut (128 * 0) x (arg8.view.read _ f8) := fun x => ⟨fun j d h => absurd h (by omega)⟩
  have z9 : ∀ x, IsOut (128 * 0) x (arg9.view.read _ f9) := fun x => ⟨fun j d h => absurd h (by omega)⟩
  sl_exec
  sl_for (fun n (_ : Unit) => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ f : BufTy.Contents (Elt Ideal) arg10.view.ty, (arg10.view.loc (c : Thread nD τ) ↦[arg10.view.set]{fullShare} f) ∗ ⌜IsDeq D.ub (128 * n) (arg10.view.read _ f)⌝) ∗ (∃ f : BufTy.Contents (Elt Ideal) arg11.view.ty, (arg11.view.loc (c : Thread nD τ) ↦[arg11.view.set]{fullShare} f) ∗ ⌜IsDeq D.vb (128 * n) (arg11.view.read _ f)⌝) ∗ (∃ f : BufTy.Contents (Elt Ideal) arg12.view.ty, (arg12.view.loc (c : Thread nD τ) ↦[arg12.view.set]{fullShare} f) ∗ ⌜IsRep D.vs (128 * n) (arg12.view.read _ f)⌝) ∗ (∃ f : BufTy.Contents (Elt Ideal) arg13.view.ty, (arg13.view.loc (c : Thread nD τ) ↦[arg13.view.set]{fullShare} f) ∗ ⌜IsRep D.lq (128 * n) (arg13.view.read _ f)⌝) ∗ (∃ f : BufTy.Contents (Elt Ideal) arg14.view.ty, (arg14.view.loc (c : Thread nD τ) ↦[arg14.view.set]{fullShare} f)) ∗ (∃ f : BufTy.Contents (Elt Ideal) arg15.view.ty, (arg15.view.loc (c : Thread nD τ) ↦[arg15.view.set]{fullShare} f) ∗ ⌜IsScale D (128 * n) (arg15.view.read _ f)⌝) ∗ (∃ f : BufTy.Contents (Elt Ideal) arg18.view.ty, (arg18.view.loc (c : Thread nD τ) ↦[arg18.view.set]{fullShare} f) ∗ ⌜IsZero (128 * n) (arg18.view.read _ f)⌝) ∗ (∃ f : BufTy.Contents (Elt Ideal) arg19.view.ty, (arg19.view.loc (c : Thread nD τ) ↦[arg19.view.set]{fullShare} f) ∗ ⌜IsZero (128 * n) (arg19.view.read _ f)⌝))) $$ [H2 H3 H4 H5 H6 H10 H11 H12 H13 H14 H15 H18 H19]
  · exact (t1 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 D f2 f3 f4 f5 f6 hU hus hV hvs hlq ⟨⟩).step
  · isplitl [H2]; · iexact H2
    isplitl [H3]; · iexact H3
    isplitl [H4]; · iexact H4
    isplitl [H5]; · iexact H5
    isplitl [H6]; · iexact H6
    isplitl [H10]
    · iexists f10; isplitl [H10]; · iexact H10
      ipureintro; exact z10
    isplitl [H11]
    · iexists f11; isplitl [H11]; · iexact H11
      ipureintro; exact z11
    isplitl [H12]
    · iexists f12; isplitl [H12]; · iexact H12
      ipureintro; exact z12
    isplitl [H13]
    · iexists f13; isplitl [H13]; · iexact H13
      ipureintro; exact z13
    isplitl [H14]
    · iexists f14; iexact H14
    isplitl [H15]
    · iexists _; isplitl [H15]; · iexact H15
      ipureintro; exact z15 _
    isplitl [H18]
    · iexists f18; isplitl [H18]; · iexact H18
      ipureintro; exact z18
    iexists f19; isplitl [H19]; · iexact H19
    ipureintro; exact z19
  iintro %w HI
  icases HI with ⟨H2, H3, H4, H5, H6, ⟨%g10, H10, %h10⟩, ⟨%g11, H11, %h11⟩, ⟨%g12, H12, %h12⟩, ⟨%g13, H13, %h13⟩, ⟨%g14, H14⟩, ⟨%g15, H15, %h15⟩, ⟨%g18, H18, %h18⟩, ⟨%g19, H19, %h19⟩⟩
  rw [show 128 * Scf.trips k0_t1_loop.lb k0_t1_loop.ub k0_t1_loop.st = 4096 by rw [show Scf.trips k0_t1_loop.lb k0_t1_loop.ub k0_t1_loop.st = 32 from t1_trips]] at h10 h11 h12 h13 h15 h18 h19
  have p18 := dus_zero (D := D) (len := len) h18
  have p19 := dvs_zero (D := D) (len := len) h19
  sl_exec
  have p16 : Losses D len 0 (arg16.view.read (Elt Ideal) (arg16.view.writes (Elt Ideal) arg16.view.junk body_run.sl.H16_1)) := loss_zero inb_S8x4224_S8x4224_0_0
  sl_for (fun n (acc : BitVec 32) => iprop(⌜IsInt acc ((startN len n : ℕ) : ℤ)⌝ ∗ (arg1.view.loc (c : Thread nD τ) ↦[arg1.view.set]{fullShare.right} T) ∗ (arg2.view.loc (c : Thread nD τ) ↦[arg2.view.set]{fullShare} f2) ∗ (arg4.view.loc (c : Thread nD τ) ↦[arg4.view.set]{fullShare} f4) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg15.view.loc (c : Thread nD τ) ↦[arg15.view.set]{fullShare} g15) ∗ (∃ f : BufTy.Contents (Elt Ideal) arg14.view.ty, (arg14.view.loc (c : Thread nD τ) ↦[arg14.view.set]{fullShare} f)) ∗ (∃ f : BufTy.Contents (Elt Ideal) arg16.view.ty, (arg16.view.loc (c : Thread nD τ) ↦[arg16.view.set]{fullShare} f) ∗ ⌜Losses D len n (arg16.view.read _ f)⌝) ∗ (∃ f : BufTy.Contents (Elt Ideal) arg17.view.ty, (arg17.view.loc (c : Thread nD τ) ↦[arg17.view.set]{fullShare} f)) ∗ (∃ f : BufTy.Contents (Elt Ideal) arg18.view.ty, (arg18.view.loc (c : Thread nD τ) ↦[arg18.view.set]{fullShare} f) ∗ ⌜Dus D len n (arg18.view.read _ f)⌝) ∗ (∃ f : BufTy.Contents (Elt Ideal) arg19.view.ty, (arg19.view.loc (c : Thread nD τ) ↦[arg19.view.set]{fullShare} f) ∗ ⌜Dvs D len n (arg19.view.read _ f)⌝))) $$ [H1 H2 H4 H10 H11 H12 H13 H14 H15 H16 H17 H18 H19]
  · exact (t2 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ T len hseg D f2 f4 g10 g11 g12 g13 g15 hU hV h10 h11 h12 h13 h15).step
  · sl_close
  iintro %w2 HI
  icases HI with ⟨%hw2, H1, H2, H4, H10, H11, H12, H13, H15, ⟨%q14, H14⟩, ⟨%q16, H16, %h16⟩, ⟨%q17, H17⟩, ⟨%q18, H18, %hq18⟩, ⟨%q19, H19, %hq19⟩⟩
  rw [show Scf.trips k0_t2_loop.lb k0_t2_loop.ub k0_t2_loop.st = 7 from (by decide)] at h16 hq18 hq19
  sl_exec
  sl_for (fun n (_ : Unit) => iprop((∃ f : BufTy.Contents (Elt Ideal) arg8.view.ty, (arg8.view.loc (c : Thread nD τ) ↦[arg8.view.set]{fullShare} f) ∗ ⌜IsOut (128 * n) (arg18.view.read _ q18) (arg8.view.read _ f)⌝) ∗ (∃ f : BufTy.Contents (Elt Ideal) arg9.view.ty, (arg9.view.loc (c : Thread nD τ) ↦[arg9.view.set]{fullShare} f) ∗ ⌜IsOut (128 * n) (arg19.view.read _ q19) (arg9.view.read _ f)⌝) ∗ (arg18.view.loc (c : Thread nD τ) ↦[arg18.view.set]{fullShare} q18) ∗ (arg19.view.loc (c : Thread nD τ) ↦[arg19.view.set]{fullShare} q19))) $$ [H8 H9 H18 H19]
  · exact (t19 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q18 q19 ⟨⟩).step
  · isplitl [H8]
    · iexists f8; isplitl [H8]; · iexact H8
      ipureintro; exact z8 _
    isplitl [H9]
    · iexists f9; isplitl [H9]; · iexact H9
      ipureintro; exact z9 _
    isplitl [H18]; · iexact H18
    iexact H19
  iintro %w3 HI
  icases HI with ⟨⟨%g8, H8, %h8⟩, ⟨%g9, H9, %h9⟩, H18, H19⟩
  rw [show 128 * Scf.trips k0_t19_loop.lb k0_t19_loop.ub k0_t19_loop.st = 4096 by rw [show Scf.trips k0_t19_loop.lb k0_t19_loop.ub k0_t19_loop.st = 32 from t19_trips]] at h8 h9
  have r8 := du_of hq18 h8
  have r9 := dv_of hq19 h9
  have r7 := loss_out (f7 := f7) inb_S1x1x4096_S1x1x4096_0_0_0 inb_S8x4224_S1x4096_0_0 h16
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro; exact r7
  isplitl [H8]
  · iexists g8; isplitl [H8]; · iexact H8
    ipureintro; exact r8
  isplitl [H9]
  · iexists g9; isplitl [H9]; · iexact H9
    ipureintro; exact r9
  clear r7 r8 r9 h16 hq18 hq19 h8 h9 h10 h11 h12 h13 h15 h18 h19 p16 p18 p19
  sl_close

end

end Cert.KernelIdeal.Strong
-- ==== Proof.Ideal.KernelValue.lean ====
/-
  The launch over the extended reals: from the walk of the body to the three results of a run of the whole
  program, row by row.
-/
module

public import proofs.«01_k».proof.Proof.Ideal.KernelFrame
public import proofs.«01_k».proof.Proof.Ideal.StrongRun
public import Idealize.ShloMosaic.Lib.Pipeline.DatRel
public import Idealize.ShloMosaic.Lib.Pipeline.ArrRel
public import Idealize.ShloMosaic.Lib.Pipeline.ValueKit.Geometry
public import Idealize.ShloMosaic.Lib.StableHlo.Run

@[expose] public section

set_option maxRecDepth 16384

noncomputable section

namespace Cert.KernelIdeal.Strong

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)
open Cert.KernelIdeal.Gen Cert.Seg Cert.Spec

/-- The resource algebra of the run. -/
local notation "𝕄" => MT nD τ sig Unit (Elt Ideal) ℕ (UR sig nD τ) ℕ

/-- A memref whose contents meet a predicate, as a buffer whose contents, read, meet it. -/
theorem owns_out {sp : Space} {s : Shape} {e : EltTy} (c : Dev nD) (M : Memref sig .tc sp s e) (P : (s.Idx → Elt Ideal e) → Prop) :
    (iprop(∃ X, ⌜P X⌝ ∗ owns (c : Thread nD τ) M fullShare X) : sProp 𝕄)
      ⊢ iprop(∃ f : BufTy.Contents (Elt Ideal) M.view.ty, ⌜P (M.view.read (Elt Ideal) f)⌝ ∗ (M.view.loc (c : Thread nD τ) ↦[M.view.set]{fullShare} f)) := by
  unfold owns
  iintro ⟨%X, %hP, %f, %hf, H⟩
  iexists f
  isplitr
  · ipureintro
    rw [hf]
    exact hP
  · iexact H

/-- And back. -/
theorem owns_in {sp : Space} {s : Shape} {e : EltTy} (c : Dev nD) (M : Memref sig .tc sp s e) (P : (s.Idx → Elt Ideal e) → Prop) :
    (iprop(∃ f : BufTy.Contents (Elt Ideal) M.view.ty, (M.view.loc (c : Thread nD τ) ↦[M.view.set]{fullShare} f) ∗ ⌜P (M.view.read (Elt Ideal) f)⌝) : sProp 𝕄)
      ⊢ iprop(∃ X, ⌜P X⌝ ∗ owns (c : Thread nD τ) M fullShare X) := by
  unfold owns
  iintro ⟨%f, H, %hP⟩
  iexists (M.view.read (Elt Ideal) f)
  isplitr
  · ipureintro
    exact hP
  · iexists f
    isplitr
    · ipureintro
      rfl
    · iexact H

/-- And back, saying nothing of the contents. -/
theorem owns_some {sp : Space} {s : Shape} {e : EltTy} (c : Dev nD) (M : Memref sig .tc sp s e) (f : BufTy.Contents (Elt Ideal) M.view.ty) :
    ((M.view.loc (c : Thread nD τ) ↦[M.view.set]{fullShare} f) : sProp 𝕄)
      ⊢ iprop(∃ X, ⌜True⌝ ∗ owns (c : Thread nD τ) M fullShare X) := by
  unfold owns
  iintro H
  iexists (M.view.read (Elt Ideal) f)
  isplitr
  · ipureintro
    trivial
  · iexists f
    isplitr
    · ipureintro
      rfl
    · iexact H

/-- What a run of the body holds: the table, what is owned of each window, and the scratch buffers. -/
abbrev heldV (c : Dev nD) (T : IVec STab 32) (W0 W1 W2 W3 W4 W5 W6 W7 : sProp 𝕄) : sProp 𝕄 :=
  iprop((((c : Thread nD τ).loc main_arg5) ↦{fullShare.right} T) ∗ W0 ∗ W1 ∗ W2 ∗ W3 ∗ W4 ∗ W5 ∗ W6 ∗ W7 ∗ (∃ f : Buf (Elt Ideal) ((c : Thread nD τ).loc cc0_scratch0), ((c : Thread nD τ).loc cc0_scratch0) ↦{fullShare} f) ∗ (∃ f : Buf (Elt Ideal) ((c : Thread nD τ).loc cc0_scratch1), ((c : Thread nD τ).loc cc0_scratch1) ↦{fullShare} f) ∗ (∃ f : Buf (Elt Ideal) ((c : Thread nD τ).loc cc0_scratch2), ((c : Thread nD τ).loc cc0_scratch2) ↦{fullShare} f) ∗ (∃ f : Buf (Elt Ideal) ((c : Thread nD τ).loc cc0_scratch3), ((c : Thread nD τ).loc cc0_scratch3) ↦{fullShare} f) ∗ (∃ f : Buf (Elt Ideal) ((c : Thread nD τ).loc cc0_scratch4), ((c : Thread nD τ).loc cc0_scratch4) ↦{fullShare} f) ∗ (∃ f : Buf (Elt Ideal) ((c : Thread nD τ).loc cc0_scratch5), ((c : Thread nD τ).loc cc0_scratch5) ↦{fullShare} f) ∗ (∃ f : Buf (Elt Ideal) ((c : Thread nD τ).loc cc0_scratch6), ((c : Thread nD τ).loc cc0_scratch6) ↦{fullShare} f) ∗ (∃ f : Buf (Elt Ideal) ((c : Thread nD τ).loc cc0_scratch7), ((c : Thread nD τ).loc cc0_scratch7) ↦{fullShare} f) ∗ (∃ f : Buf (Elt Ideal) ((c : Thread nD τ).loc cc0_scratch8), ((c : Thread nD τ).loc cc0_scratch8) ↦{fullShare} f) ∗ (∃ f : Buf (Elt Ideal) ((c : Thread nD τ).loc cc0_scratch9), ((c : Thread nD τ).loc cc0_scratch9) ↦{fullShare} f))

set_option maxHeartbeats 400000 in
/-- A run of the body leaves the losses and both gradients of the row. -/
theorem body_heldV (c : Dev nD) (i : grid0.Coords) (T : IVec STab 32) (hf : Fills T) (D : Row) (len : ℕ → ℕ) (hlen : lenN T (i 0) = len)
    (Q2 : (Vec Ideal S1x4096x256 .fp8e4m3) → Prop) (Q3 : (Vec Ideal S1x1x4096 .f32) → Prop) (Q4 : (Vec Ideal S1x4096x256 .fp8e4m3) → Prop) (Q5 : (Vec Ideal S1x1x4096 .f32) → Prop) (Q6 : (Vec Ideal S1x1x4096 .f32) → Prop) (Q7 : (Vec Ideal S1x1x4096 .f32) → Prop) (Q8 : (Vec Ideal S1x4096x256 .bf16) → Prop) (Q9 : (Vec Ideal S1x4096x256 .bf16) → Prop) (h2 : ∀ X, Q2 X → IsU D X) (h3 : ∀ X, Q3 X → IsRow D.us X) (h4 : ∀ X, Q4 X → IsV D X) (h5 : ∀ X, Q5 X → IsRow D.vs X) (h6 : ∀ X, Q6 X → IsRow D.lq X)
    (arg2 : Memref sig .tc .vmem S1x4096x256 .fp8e4m3) (harg2 : arg2.IsWhole)
    (arg3 : Memref sig .tc .vmem S1x1x4096 .f32) (harg3 : arg3.IsWhole)
    (arg4 : Memref sig .tc .vmem S1x4096x256 .fp8e4m3) (harg4 : arg4.IsWhole)
    (arg5 : Memref sig .tc .vmem S1x1x4096 .f32) (harg5 : arg5.IsWhole)
    (arg6 : Memref sig .tc .vmem S1x1x4096 .f32) (harg6 : arg6.IsWhole)
    (arg7 : Memref sig .tc .vmem S1x1x4096 .f32) (harg7 : arg7.IsWhole)
    (arg8 : Memref sig .tc .vmem S1x4096x256 .bf16) (harg8 : arg8.IsWhole)
    (arg9 : Memref sig .tc .vmem S1x4096x256 .bf16) (harg9 : arg9.IsWhole) :
    heldV c T iprop(∃ X, ⌜Q2 X⌝ ∗ owns (c : Thread nD τ) arg2 fullShare X) iprop(∃ X, ⌜Q3 X⌝ ∗ owns (c : Thread nD τ) arg3 fullShare X) iprop(∃ X, ⌜Q4 X⌝ ∗ owns (c : Thread nD τ) arg4 fullShare X) iprop(∃ X, ⌜Q5 X⌝ ∗ owns (c : Thread nD τ) arg5 fullShare X) iprop(∃ X, ⌜Q6 X⌝ ∗ owns (c : Thread nD τ) arg6 fullShare X) iprop(∃ X, ⌜Q7 X⌝ ∗ owns (c : Thread nD τ) arg7 fullShare X) iprop(∃ X, ⌜Q8 X⌝ ∗ owns (c : Thread nD τ) arg8 fullShare X) iprop(∃ X, ⌜Q9 X⌝ ∗ owns (c : Thread nD τ) arg9 fullShare X)
    ⊢ wp frame (wpE (defs₀ (F := Ideal)) 𝒱₀ (c : Thread nD τ) none) Set.univ (cc0__body i (Memref.whole main_arg5) (Memref.isWhole_whole _) arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)) fun _ =>
      heldV c T iprop(∃ X, ⌜True⌝ ∗ owns (c : Thread nD τ) arg2 fullShare X) iprop(∃ X, ⌜True⌝ ∗ owns (c : Thread nD τ) arg3 fullShare X) iprop(∃ X, ⌜True⌝ ∗ owns (c : Thread nD τ) arg4 fullShare X) iprop(∃ X, ⌜True⌝ ∗ owns (c : Thread nD τ) arg5 fullShare X) iprop(∃ X, ⌜True⌝ ∗ owns (c : Thread nD τ) arg6 fullShare X) iprop(∃ X, ⌜IsLoss D len X⌝ ∗ owns (c : Thread nD τ) arg7 fullShare X) iprop(∃ X, ⌜IsDu D len X⌝ ∗ owns (c : Thread nD τ) arg8 fullShare X) iprop(∃ X, ⌜IsDv D len X⌝ ∗ owns (c : Thread nD τ) arg9 fullShare X) := by
  subst hlen
  iintro ⟨HT, W2, W3, W4, W5, W6, W7, W8, W9, A0, A1, A2, A3, A4, A5, A6, A7, A8, A9⟩
  ihave V2 := (owns_out c arg2 Q2) $$ W2
  icases V2 with ⟨%f2, %q2, H2⟩
  ihave V3 := (owns_out c arg3 Q3) $$ W3
  icases V3 with ⟨%f3, %q3, H3⟩
  ihave V4 := (owns_out c arg4 Q4) $$ W4
  icases V4 with ⟨%f4, %q4, H4⟩
  ihave V5 := (owns_out c arg5 Q5) $$ W5
  icases V5 with ⟨%f5, %q5, H5⟩
  ihave V6 := (owns_out c arg6 Q6) $$ W6
  icases V6 with ⟨%f6, %q6, H6⟩
  ihave V7 := (owns_out c arg7 Q7) $$ W7
  icases V7 with ⟨%f7, %q7, H7⟩
  ihave V8 := (owns_out c arg8 Q8) $$ W8
  icases V8 with ⟨%f8, %q8, H8⟩
  ihave V9 := (owns_out c arg9 Q9) $$ W9
  icases V9 with ⟨%f9, %q9, H9⟩
  have h := body_run 𝒱₀ c none Set.univ i (Memref.whole main_arg5) (Memref.isWhole_whole _) arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) T _ (segsOk_of_fills hf i) D f2 f3 f4 f5 f6 (h2 _ q2) (h3 _ q3) (h4 _ q4) (h5 _ q5) (h6 _ q6)
  simp only [Memref.view_whole, View.set_whole] at h
  iapply (h.trans (wp_mono _ _ _ fun _ => ?_)) $$ [HT H2 H3 H4 H5 H6 H7 H8 H9 A0 A1 A2 A3 A4 A5 A6 A7 A8 A9]
  swap
  · isplitl [HT]
    · iexact HT
    isplitl [H2]
    · iexact H2
    isplitl [H3]
    · iexact H3
    isplitl [H4]
    · iexact H4
    isplitl [H5]
    · iexact H5
    isplitl [H6]
    · iexact H6
    isplitl [H7]
    · iexists f7
      iexact H7
    isplitl [H8]
    · iexists f8
      iexact H8
    isplitl [H9]
    · iexists f9
      iexact H9
    isplitl [A0]
    · iexact A0
    isplitl [A1]
    · iexact A1
    isplitl [A2]
    · iexact A2
    isplitl [A3]
    · iexact A3
    isplitl [A4]
    · iexact A4
    isplitl [A5]
    · iexact A5
    isplitl [A6]
    · iexact A6
    isplitl [A7]
    · iexact A7
    isplitl [A8]
    · iexact A8
    iexact A9
  · iintro ⟨HT, H2, H3, H4, H5, H6, H7, H8, H9, A0, A1, A2, A3, A4, A5, A6, A7, A8, A9⟩
    isplitl [HT]
    · iexact HT
    isplitl [H2]
    · iapply (owns_some c arg2 f2) $$ H2
    isplitl [H3]
    · iapply (owns_some c arg3 f3) $$ H3
    isplitl [H4]
    · iapply (owns_some c arg4 f4) $$ H4
    isplitl [H5]
    · iapply (owns_some c arg5 f5) $$ H5
    isplitl [H6]
    · iapply (owns_some c arg6 f6) $$ H6
    isplitl [H7]
    · iapply (owns_in c arg7 (IsLoss D (lenN T (i 0)))) $$ H7
    isplitl [H8]
    · iapply (owns_in c arg8 (IsDu D (lenN T (i 0)))) $$ H8
    isplitl [H9]
    · iapply (owns_in c arg9 (IsDv D (lenN T (i 0)))) $$ H9
    isplitl [A0]
    · iexact A0
    isplitl [A1]
    · iexact A1
    isplitl [A2]
    · iexact A2
    isplitl [A3]
    · iexact A3
    isplitl [A4]
    · iexact A4
    isplitl [A5]
    · iexact A5
    isplitl [A6]
    · iexact A6
    isplitl [A7]
    · iexact A7
    isplitl [A8]
    · iexact A8
    iexact A9

/-- What the pipeline hands the body, beside what it needs nothing of. -/
theorem heldV_in (c : Dev nD) (T : IVec STab 32) (P O W0 W1 W2 W3 W4 W5 W6 W7 : sProp 𝕄) :
    iprop(((((∃ f : Buf (Elt Ideal) ((c : Thread nD τ).loc cc0_scratch0), ((c : Thread nD τ).loc cc0_scratch0) ↦{fullShare} f) ∗ (∃ f : Buf (Elt Ideal) ((c : Thread nD τ).loc cc0_scratch1), ((c : Thread nD τ).loc cc0_scratch1) ↦{fullShare} f) ∗ (∃ f : Buf (Elt Ideal) ((c : Thread nD τ).loc cc0_scratch2), ((c : Thread nD τ).loc cc0_scratch2) ↦{fullShare} f) ∗ (∃ f : Buf (Elt Ideal) ((c : Thread nD τ).loc cc0_scratch3), ((c : Thread nD τ).loc cc0_scratch3) ↦{fullShare} f) ∗ (∃ f : Buf (Elt Ideal) ((c : Thread nD τ).loc cc0_scratch4), ((c : Thread nD τ).loc cc0_scratch4) ↦{fullShare} f) ∗ (∃ f : Buf (Elt Ideal) ((c : Thread nD τ).loc cc0_scratch5), ((c : Thread nD τ).loc cc0_scratch5) ↦{fullShare} f) ∗ (∃ f : Buf (Elt Ideal) ((c : Thread nD τ).loc cc0_scratch6), ((c : Thread nD τ).loc cc0_scratch6) ↦{fullShare} f) ∗ (∃ f : Buf (Elt Ideal) ((c : Thread nD τ).loc cc0_scratch7), ((c : Thread nD τ).loc cc0_scratch7) ↦{fullShare} f) ∗ (∃ f : Buf (Elt Ideal) ((c : Thread nD τ).loc cc0_scratch8), ((c : Thread nD τ).loc cc0_scratch8) ↦{fullShare} f) ∗ (∃ f : Buf (Elt Ideal) ((c : Thread nD τ).loc cc0_scratch9), ((c : Thread nD τ).loc cc0_scratch9) ↦{fullShare} f)) ∗ P) ∗ (((c : Thread nD τ).loc main_arg5) ↦{fullShare.right} T)) ∗ O ∗ W0 ∗ W1 ∗ W2 ∗ W3 ∗ W4 ∗ W5 ∗ W6 ∗ W7)
      ⊢ iprop(heldV c T W0 W1 W2 W3 W4 W5 W6 W7 ∗ P ∗ O) := by
  unfold heldV
  iintro ⟨⟨⟨⟨A0, A1, A2, A3, A4, A5, A6, A7, A8, A9⟩, HP⟩, HT⟩, HO, W0, W1, W2, W3, W4, W5, W6, W7⟩
  isplitr [HP HO]
  · isplitl [HT]
    · iexact HT
    isplitl [W0]
    · iexact W0
    isplitl [W1]
    · iexact W1
    isplitl [W2]
    · iexact W2
    isplitl [W3]
    · iexact W3
    isplitl [W4]
    · iexact W4
    isplitl [W5]
    · iexact W5
    isplitl [W6]
    · iexact W6
    isplitl [W7]
    · iexact W7
    isplitl [A0]
    · iexact A0
    isplitl [A1]
    · iexact A1
    isplitl [A2]
    · iexact A2
    isplitl [A3]
    · iexact A3
    isplitl [A4]
    · iexact A4
    isplitl [A5]
    · iexact A5
    isplitl [A6]
    · iexact A6
    isplitl [A7]
    · iexact A7
    isplitl [A8]
    · iexact A8
    iexact A9
  · isplitl [HP]
    · iexact HP
    · iexact HO

/-- And what it takes back. -/
theorem heldV_out (c : Dev nD) (T : IVec STab 32) (P O O' : sProp 𝕄) (hO : O ⊢ O') (W0 W1 W2 W3 W4 W5 W6 W7 : sProp 𝕄) :
    iprop(heldV c T W0 W1 W2 W3 W4 W5 W6 W7 ∗ P ∗ O)
      ⊢ iprop(((((∃ f : Buf (Elt Ideal) ((c : Thread nD τ).loc cc0_scratch0), ((c : Thread nD τ).loc cc0_scratch0) ↦{fullShare} f) ∗ (∃ f : Buf (Elt Ideal) ((c : Thread nD τ).loc cc0_scratch1), ((c : Thread nD τ).loc cc0_scratch1) ↦{fullShare} f) ∗ (∃ f : Buf (Elt Ideal) ((c : Thread nD τ).loc cc0_scratch2), ((c : Thread nD τ).loc cc0_scratch2) ↦{fullShare} f) ∗ (∃ f : Buf (Elt Ideal) ((c : Thread nD τ).loc cc0_scratch3), ((c : Thread nD τ).loc cc0_scratch3) ↦{fullShare} f) ∗ (∃ f : Buf (Elt Ideal) ((c : Thread nD τ).loc cc0_scratch4), ((c : Thread nD τ).loc cc0_scratch4) ↦{fullShare} f) ∗ (∃ f : Buf (Elt Ideal) ((c : Thread nD τ).loc cc0_scratch5), ((c : Thread nD τ).loc cc0_scratch5) ↦{fullShare} f) ∗ (∃ f : Buf (Elt Ideal) ((c : Thread nD τ).loc cc0_scratch6), ((c : Thread nD τ).loc cc0_scratch6) ↦{fullShare} f) ∗ (∃ f : Buf (Elt Ideal) ((c : Thread nD τ).loc cc0_scratch7), ((c : Thread nD τ).loc cc0_scratch7) ↦{fullShare} f) ∗ (∃ f : Buf (Elt Ideal) ((c : Thread nD τ).loc cc0_scratch8), ((c : Thread nD τ).loc cc0_scratch8) ↦{fullShare} f) ∗ (∃ f : Buf (Elt Ideal) ((c : Thread nD τ).loc cc0_scratch9), ((c : Thread nD τ).loc cc0_scratch9) ↦{fullShare} f)) ∗ P) ∗ (((c : Thread nD τ).loc main_arg5) ↦{fullShare.right} T)) ∗ O' ∗ W0 ∗ W1 ∗ W2 ∗ W3 ∗ W4 ∗ W5 ∗ W6 ∗ W7) := by
  refine (Laws.sep_mono_right (Laws.sep_mono_right hO)).trans ?_
  unfold heldV
  iintro ⟨⟨HT, W0, W1, W2, W3, W4, W5, W6, W7, A0, A1, A2, A3, A4, A5, A6, A7, A8, A9⟩, HP, HO⟩
  isplitl [A0 A1 A2 A3 A4 A5 A6 A7 A8 A9 HP HT]
  · isplitr [HT]
    · isplitr [HP]
      · skip
        isplitl [A0]
        · iexact A0
        isplitl [A1]
        · iexact A1
        isplitl [A2]
        · iexact A2
        isplitl [A3]
        · iexact A3
        isplitl [A4]
        · iexact A4
        isplitl [A5]
        · iexact A5
        isplitl [A6]
        · iexact A6
        isplitl [A7]
        · iexact A7
        isplitl [A8]
        · iexact A8
        iexact A9
      · iexact HP
    · iexact HT
  · isplitl [HO]
    · iexact HO
    isplitl [W0]
    · iexact W0
    isplitl [W1]
    · iexact W1
    isplitl [W2]
    · iexact W2
    isplitl [W3]
    · iexact W3
    isplitl [W4]
    · iexact W4
    isplitl [W5]
    · iexact W5
    isplitl [W6]
    · iexact W6
    iexact W7

section
variable (m : (ℓ : Loc nD τ sig) → Buf (Elt Ideal) ℓ) (D : Fin 12 → Row)

/-- The rows of data that the arguments hold. -/
structure Rows : Prop where
  U : ∀ b (i : Fin 4096) (d : Fin 256), (m ((0 : Dev nD).tc.loc main_arg0) : Vec Ideal S12x4096x256 .f32) (ix3 b i d) = ((D b).U i d : EReal)
  us : ∀ b (i : Fin 4096), (m ((0 : Dev nD).tc.loc main_arg1) : Vec Ideal S12x4096 .f32) (ix2 b i) = ((D b).us i : EReal)
  V : ∀ b (i : Fin 4096) (d : Fin 256), (m ((0 : Dev nD).tc.loc main_arg2) : Vec Ideal S12x4096x256 .f32) (ix3 b i d) = ((D b).V i d : EReal)
  vs : ∀ b (i : Fin 4096), (m ((0 : Dev nD).tc.loc main_arg3) : Vec Ideal S12x4096 .f32) (ix2 b i) = ((D b).vs i : EReal)
  lq : ∀ b (i : Fin 4096), (m ((0 : Dev nD).tc.loc main_arg4) : Vec Ideal S12x4096 .f32) (ix2 b i) = ((D b).lq i : EReal)

/-- The lengths of the segments of a row. -/
abbrev lens (b : Fin 12) : ℕ → ℕ := lenN (m ((0 : Dev nD).tc.loc main_arg5)) b

/-- What a point leaves in each window: in those of the results, the results of its row. -/
def Rl : (w : Fin 8) → (t : Fin (cfgT m).N) → (((cfgT m).win w).block.Idx → Elt Ideal ((cfgT m).win w).elt) → Prop
  | ⟨5, _⟩ => fun t X => IsLoss (D (grid0.coords t 0)) (lens m (grid0.coords t 0)) X
  | ⟨6, _⟩ => fun t X => IsDu (D (grid0.coords t 0)) (lens m (grid0.coords t 0)) X
  | ⟨7, _⟩ => fun t X => IsDv (D (grid0.coords t 0)) (lens m (grid0.coords t 0)) X
  | _ => fun _ _ => True

/-- The data of the launch, with those results. -/
abbrev rdat (c : Dev nD) := (dats m 0 c).toRRel fgt (Rl m D)

variable {m D}

/-- A grid point's block of the users' codes is its own row. -/
theorem transform0 : ∀ t : Fin grid0.N, cc0_transform_0 (grid0.coords t) = ![(grid0.coords t 0).val, 0, 0] := by decide +kernel
/-- A grid point's block of the users' scales is its own row. -/
theorem transform1 : ∀ t : Fin grid0.N, cc0_transform_1 (grid0.coords t) = ![(grid0.coords t 0).val, 0, 0] := by decide +kernel
/-- A grid point's block of the items' codes is its own row. -/
theorem transform2 : ∀ t : Fin grid0.N, cc0_transform_2 (grid0.coords t) = ![(grid0.coords t 0).val, 0, 0] := by decide +kernel
/-- A grid point's block of the items' scales is its own row. -/
theorem transform3 : ∀ t : Fin grid0.N, cc0_transform_3 (grid0.coords t) = ![(grid0.coords t 0).val, 0, 0] := by decide +kernel
/-- A grid point's block of the log frequencies is its own row. -/
theorem transform4 : ∀ t : Fin grid0.N, cc0_transform_4 (grid0.coords t) = ![(grid0.coords t 0).val, 0, 0] := by decide +kernel
/-- Every grid point fetches its block of the users' codes. -/
theorem fetch0 : ∀ t : Fin grid0.N, ((cfgT m).win 0).fetch t = true := (by decide +kernel : ∀ t : Fin grid0.N, spec0_0.fetchAt cc0_transform_0 t = true)
/-- Every grid point fetches its block of the users' scales. -/
theorem fetch1 : ∀ t : Fin grid0.N, ((cfgT m).win 1).fetch t = true := (by decide +kernel : ∀ t : Fin grid0.N, spec0_1.fetchAt cc0_transform_1 t = true)
/-- Every grid point fetches its block of the items' codes. -/
theorem fetch2 : ∀ t : Fin grid0.N, ((cfgT m).win 2).fetch t = true := (by decide +kernel : ∀ t : Fin grid0.N, spec0_2.fetchAt cc0_transform_2 t = true)
/-- Every grid point fetches its block of the items' scales. -/
theorem fetch3 : ∀ t : Fin grid0.N, ((cfgT m).win 3).fetch t = true := (by decide +kernel : ∀ t : Fin grid0.N, spec0_3.fetchAt cc0_transform_3 t = true)
/-- Every grid point fetches its block of the log frequencies. -/
theorem fetch4 : ∀ t : Fin grid0.N, ((cfgT m).win 4).fetch t = true := (by decide +kernel : ∀ t : Fin grid0.N, spec0_4.fetchAt cc0_transform_4 t = true)

/-- The codes and the rows on entry are the arguments. -/
theorem entry0 : (V m 0 main_v0 : Vec Ideal S12x4096x256 .fp8e4m3) = (m ((0 : Dev nD).tc.loc main_arg0) : Vec Ideal S12x4096x256 .f32) := by
  show StableHlo.after hostOps0 _ _ = _
  unfold hostOps0
  after_results
  rfl
/-- The launch receives the items' codes as the arguments give them. -/
theorem entry2 : (V m 0 main_v2 : Vec Ideal S12x4096x256 .fp8e4m3) = (m ((0 : Dev nD).tc.loc main_arg2) : Vec Ideal S12x4096x256 .f32) := by
  show StableHlo.after hostOps0 _ _ = _
  unfold hostOps0
  after_results
  rfl
/-- The reshape of a row vector to one with a middle axis, at an index. -/
theorem reshape_at (x : Vec Ideal S12x4096 .f32) (h) (b : Fin 12) (i : Fin 4096) : (shapeCast S12x1x4096 x h) (ix3 b 0 i) = x (ix2 b i) := by
  pointwise
/-- The launch receives the users' scales, reshaped. -/
theorem entry1 : (V m 0 main_v1 : Vec Ideal S12x1x4096 .f32) = shapeCast S12x1x4096 (m ((0 : Dev nD).tc.loc main_arg1) : Vec Ideal S12x4096 .f32) shapeCasts_S12x4096_S12x1x4096 := by
  show StableHlo.after hostOps0 _ _ = _
  unfold hostOps0
  after_results
  rfl
/-- The launch receives the items' scales, reshaped. -/
theorem entry3 : (V m 0 main_v3 : Vec Ideal S12x1x4096 .f32) = shapeCast S12x1x4096 (m ((0 : Dev nD).tc.loc main_arg3) : Vec Ideal S12x4096 .f32) shapeCasts_S12x4096_S12x1x4096 := by
  show StableHlo.after hostOps0 _ _ = _
  unfold hostOps0
  after_results
  rfl
/-- The launch receives the log frequencies, reshaped. -/
theorem entry4 : (V m 0 main_v4 : Vec Ideal S12x1x4096 .f32) = shapeCast S12x1x4096 (m ((0 : Dev nD).tc.loc main_arg4) : Vec Ideal S12x4096 .f32) shapeCasts_S12x4096_S12x1x4096 := by
  show StableHlo.after hostOps0 _ _ = _
  unfold hostOps0
  after_results
  rfl
/-- The users' codes that a point finds are those of its row. -/
theorem find0 (hD : Rows m D) (t : Fin grid0.N) (X : Vec Ideal S1x4096x256 .fp8e4m3) (h : (rdat m D 0).Finds 0 t X) : IsU (D (grid0.coords t 0)) X := by
  obtain ⟨dd, rfl⟩ := (RDat.finds_of_fetch _ (fetch0 t) X).mp h
  refine ⟨fun i d => ?_⟩
  have e : (((cfgT m).win 0).blk t).view.emb (ix3 (0 : Fin 1) i d : S1x4096x256.Idx) = (ix3 (grid0.coords t 0 : Fin 12) i d : S12x4096x256.Idx) := by
    have h := transform0 t
    funext a
    refine Fin.ext ?_
    fin_cases a
    · show cc0_transform_0 (grid0.coords t) 0 * 1 + 1 * 0 = _
      rw [h]
      simp
    · show cc0_transform_0 (grid0.coords t) 1 * 4096 + 1 * i.val = _
      rw [h]
      simp
    · show cc0_transform_0 (grid0.coords t) 2 * 256 + 1 * d.val = _
      rw [h]
      simp
  show (V m 0 main_v0 : Vec Ideal S12x4096x256 .fp8e4m3) ((((cfgT m).win 0).blk t).view.emb (ix3 (0 : Fin 1) i d : S1x4096x256.Idx)) = _
  rw [e, entry0]
  exact hD.U _ i d

/-- The users' scales that a point finds are those of its row. -/
theorem find1 (hD : Rows m D) (t : Fin grid0.N) (X : Vec Ideal S1x1x4096 .f32) (h : (rdat m D 0).Finds 1 t X) : IsRow (D (grid0.coords t 0)).us X := by
  obtain ⟨dd, rfl⟩ := (RDat.finds_of_fetch _ (fetch1 t) X).mp h
  refine ⟨fun i => ?_⟩
  have e : (((cfgT m).win 1).blk t).view.emb (ix3 (0 : Fin 1) (0 : Fin 1) i : S1x1x4096.Idx) = (ix3 (grid0.coords t 0 : Fin 12) (0 : Fin 1) i : S12x1x4096.Idx) := by
    have h := transform1 t
    funext a
    refine Fin.ext ?_
    fin_cases a
    · show cc0_transform_1 (grid0.coords t) 0 * 1 + 1 * 0 = _
      rw [h]
      simp
    · show cc0_transform_1 (grid0.coords t) 1 * 1 + 1 * 0 = _
      rw [h]
      simp
    · show cc0_transform_1 (grid0.coords t) 2 * 4096 + 1 * i.val = _
      rw [h]
      simp
  show (V m 0 main_v1 : Vec Ideal S12x1x4096 .f32) ((((cfgT m).win 1).blk t).view.emb (ix3 (0 : Fin 1) (0 : Fin 1) i : S1x1x4096.Idx)) = _
  rw [e, entry1]
  exact (reshape_at _ _ _ i).trans (hD.us _ i)

/-- The items' codes that a point finds are those of its row. -/
theorem find2 (hD : Rows m D) (t : Fin grid0.N) (X : Vec Ideal S1x4096x256 .fp8e4m3) (h : (rdat m D 0).Finds 2 t X) : IsV (D (grid0.coords t 0)) X := by
  obtain ⟨dd, rfl⟩ := (RDat.finds_of_fetch _ (fetch2 t) X).mp h
  refine ⟨fun i d => ?_⟩
  have e : (((cfgT m).win 2).blk t).view.emb (ix3 (0 : Fin 1) i d : S1x4096x256.Idx) = (ix3 (grid0.coords t 0 : Fin 12) i d : S12x4096x256.Idx) := by
    have h := transform2 t
    funext a
    refine Fin.ext ?_
    fin_cases a
    · show cc0_transform_2 (grid0.coords t) 0 * 1 + 1 * 0 = _
      rw [h]
      simp
    · show cc0_transform_2 (grid0.coords t) 1 * 4096 + 1 * i.val = _
      rw [h]
      simp
    · show cc0_transform_2 (grid0.coords t) 2 * 256 + 1 * d.val = _
      rw [h]
      simp
  show (V m 0 main_v2 : Vec Ideal S12x4096x256 .fp8e4m3) ((((cfgT m).win 2).blk t).view.emb (ix3 (0 : Fin 1) i d : S1x4096x256.Idx)) = _
  rw [e, entry2]
  exact hD.V _ i d

/-- The items' scales that a point finds are those of its row. -/
theorem find3 (hD : Rows m D) (t : Fin grid0.N) (X : Vec Ideal S1x1x4096 .f32) (h : (rdat m D 0).Finds 3 t X) : IsRow (D (grid0.coords t 0)).vs X := by
  obtain ⟨dd, rfl⟩ := (RDat.finds_of_fetch _ (fetch3 t) X).mp h
  refine ⟨fun i => ?_⟩
  have e : (((cfgT m).win 3).blk t).view.emb (ix3 (0 : Fin 1) (0 : Fin 1) i : S1x1x4096.Idx) = (ix3 (grid0.coords t 0 : Fin 12) (0 : Fin 1) i : S12x1x4096.Idx) := by
    have h := transform3 t
    funext a
    refine Fin.ext ?_
    fin_cases a
    · show cc0_transform_3 (grid0.coords t) 0 * 1 + 1 * 0 = _
      rw [h]
      simp
    · show cc0_transform_3 (grid0.coords t) 1 * 1 + 1 * 0 = _
      rw [h]
      simp
    · show cc0_transform_3 (grid0.coords t) 2 * 4096 + 1 * i.val = _
      rw [h]
      simp
  show (V m 0 main_v3 : Vec Ideal S12x1x4096 .f32) ((((cfgT m).win 3).blk t).view.emb (ix3 (0 : Fin 1) (0 : Fin 1) i : S1x1x4096.Idx)) = _
  rw [e, entry3]
  exact (reshape_at _ _ _ i).trans (hD.vs _ i)

/-- The log frequencies that a point finds are those of its row. -/
theorem find4 (hD : Rows m D) (t : Fin grid0.N) (X : Vec Ideal S1x1x4096 .f32) (h : (rdat m D 0).Finds 4 t X) : IsRow (D (grid0.coords t 0)).lq X := by
  obtain ⟨dd, rfl⟩ := (RDat.finds_of_fetch _ (fetch4 t) X).mp h
  refine ⟨fun i => ?_⟩
  have e : (((cfgT m).win 4).blk t).view.emb (ix3 (0 : Fin 1) (0 : Fin 1) i : S1x1x4096.Idx) = (ix3 (grid0.coords t 0 : Fin 12) (0 : Fin 1) i : S12x1x4096.Idx) := by
    have h := transform4 t
    funext a
    refine Fin.ext ?_
    fin_cases a
    · show cc0_transform_4 (grid0.coords t) 0 * 1 + 1 * 0 = _
      rw [h]
      simp
    · show cc0_transform_4 (grid0.coords t) 1 * 1 + 1 * 0 = _
      rw [h]
      simp
    · show cc0_transform_4 (grid0.coords t) 2 * 4096 + 1 * i.val = _
      rw [h]
      simp
  show (V m 0 main_v4 : Vec Ideal S12x1x4096 .f32) ((((cfgT m).win 4).blk t).view.emb (ix3 (0 : Fin 1) (0 : Fin 1) i : S1x1x4096.Idx)) = _
  rw [e, entry4]
  exact (reshape_at _ _ _ i).trans (hD.lq _ i)

set_option maxHeartbeats 400000 in
/-- The body at every grid point. -/
theorem hbodyV (hf : Fills (m ((0 : Dev nD).tc.loc main_arg5))) (hD : Rows m D) (c : Dev nD) :
    BodyObligationRel (dats m 0 c) (defs₀ (F := Ideal)) 𝒱₀ () Set.univ fgt (Rl m D) := by
  intro t
  have hc : c = 0 := Subsingleton.elim _ _
  subst hc
  show iprop((dats m 0 0).Φ t.castSucc ∗ (dats m 0 0).owesAt () t.castSucc ∗ bigSep Finset.univ fun w : Fin 8 => iprop(∃ X, ⌜(rdat m D 0).Finds w t X⌝ ∗ owns ((0 : Dev nD) : Thread nD τ) (((cfgT m).win w).stage ((cfgT m).slots t w)) fullShare X))
    ⊢ wp frame (wpE (defs₀ (F := Ideal)) 𝒱₀ ((0 : Dev nD) : Thread nD τ) none) Set.univ (cc0__body (grid0.coords t) (Memref.whole main_arg5) (Memref.isWhole_whole _) (spec0_0.stage ((cfgT m).slots t 0)) (hstage0_0 (((cfgT m).slots t 0).cast nbuf0_0)) (spec0_1.stage ((cfgT m).slots t 1)) (hstage0_1 (((cfgT m).slots t 1).cast nbuf0_1)) (spec0_2.stage ((cfgT m).slots t 2)) (hstage0_2 (((cfgT m).slots t 2).cast nbuf0_2)) (spec0_3.stage ((cfgT m).slots t 3)) (hstage0_3 (((cfgT m).slots t 3).cast nbuf0_3)) (spec0_4.stage ((cfgT m).slots t 4)) (hstage0_4 (((cfgT m).slots t 4).cast nbuf0_4)) (spec0_5.stage ((cfgT m).slots t 5)) (hstage0_5 (((cfgT m).slots t 5).cast nbuf0_5)) (spec0_6.stage ((cfgT m).slots t 6)) (hstage0_6 (((cfgT m).slots t 6).cast nbuf0_6)) (spec0_7.stage ((cfgT m).slots t 7)) (hstage0_7 (((cfgT m).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)) fun _ =>
      iprop((dats m 0 0).Φ t.succ ∗ (dats m 0 0).owesAt () t.succ ∗ bigSep Finset.univ fun w : Fin 8 => iprop(∃ X, ⌜Rl m D w t X⌝ ∗ owns ((0 : Dev nD) : Thread nD τ) (((cfgT m).win w).stage ((cfgT m).slots t w)) fullShare X))
  have hΦ : ∀ u, (dats m 0 0).Φ u = iprop((Pipeline.scopedRest spec0 0 ∗ ∃ r, prngReg (0 : Dev nD) r) ∗ Pipeline.ΦT pre0 (tbl m).1 0) := fun _ => rfl
  have hO : (dats m 0 0).owesAt () t.castSucc ⊢ ((dats m 0 0).owesAt () t.succ : sProp 𝕄) := Pipeline.owesWithin_mono _ _ (fun _ _ => Or.inl trivial)
  rw [bigSep_W0, bigSep_W0, hΦ, hΦ, scopedRest0_eq, table_eq]
  refine BIBase.Entails.trans (heldV_in 0 (m ((0 : Dev nD).tc.loc main_arg5)) (iprop(∃ r, prngReg (0 : Dev nD) r)) ((dats m 0 0).owesAt () t.castSucc) _ _ _ _ _ _ _ _) ?_
  refine BIBase.Entails.trans ?_ ((wp_frame_r _ _ _).trans (wp_mono _ _ _ fun _ => heldV_out 0 _ _ _ _ hO _ _ _ _ _ _ _ _))
  exact Laws.sep_mono_left (body_heldV 0 (grid0.coords t) _ hf (D (grid0.coords t 0)) _ rfl _ _ _ _ _ _ _ _ (find0 hD t) (find1 hD t) (find2 hD t) (find3 hD t) (find4 hD t) (spec0_0.stage ((cfgT m).slots t 0)) (hstage0_0 (((cfgT m).slots t 0).cast nbuf0_0)) (spec0_1.stage ((cfgT m).slots t 1)) (hstage0_1 (((cfgT m).slots t 1).cast nbuf0_1)) (spec0_2.stage ((cfgT m).slots t 2)) (hstage0_2 (((cfgT m).slots t 2).cast nbuf0_2)) (spec0_3.stage ((cfgT m).slots t 3)) (hstage0_3 (((cfgT m).slots t 3).cast nbuf0_3)) (spec0_4.stage ((cfgT m).slots t 4)) (hstage0_4 (((cfgT m).slots t 4).cast nbuf0_4)) (spec0_5.stage ((cfgT m).slots t 5)) (hstage0_5 (((cfgT m).slots t 5).cast nbuf0_5)) (spec0_6.stage ((cfgT m).slots t 6)) (hstage0_6 (((cfgT m).slots t 6).cast nbuf0_6)) (spec0_7.stage ((cfgT m).slots t 7)) (hstage0_7 (((cfgT m).slots t 7).cast nbuf0_7)))

/-- Every row has its grid point. -/
theorem point : ∀ b : Fin 12, ∃ t : Fin grid0.N, (grid0.coords t 0).val = b.val := by decide +kernel
/-- A grid point's block of the losses is its own row. -/
theorem transform5 : ∀ t : Fin grid0.N, cc0_transform_5 (grid0.coords t) = ![(grid0.coords t 0).val, 0, 0] := by decide +kernel
/-- Every grid point writes its block of the losses back. -/
theorem flush5 : ∀ t : Fin grid0.N, ((cfgT m).win 5).flush t = true := (by decide +kernel : ∀ t : Fin grid0.N, spec0_5.flushAt cc0_transform_5 t = true)
/-- A grid point's block of the users' gradients is its own row. -/
theorem transform6 : ∀ t : Fin grid0.N, cc0_transform_6 (grid0.coords t) = ![(grid0.coords t 0).val, 0, 0] := by decide +kernel
/-- Every grid point writes its block of the users' gradients back. -/
theorem flush6 : ∀ t : Fin grid0.N, ((cfgT m).win 6).flush t = true := (by decide +kernel : ∀ t : Fin grid0.N, spec0_6.flushAt cc0_transform_6 t = true)
/-- A grid point's block of the items' gradients is its own row. -/
theorem transform7 : ∀ t : Fin grid0.N, cc0_transform_7 (grid0.coords t) = ![(grid0.coords t 0).val, 0, 0] := by decide +kernel
/-- Every grid point writes its block of the items' gradients back. -/
theorem flush7 : ∀ t : Fin grid0.N, ((cfgT m).win 7).flush t = true := (by decide +kernel : ∀ t : Fin grid0.N, spec0_7.flushAt cc0_transform_7 t = true)
/-- Every block of the result is written back. -/
theorem covers5 : ((cfgT m).win 5).Covers := by
  refine ⟨(by decide : ∀ a : Fin 3, 0 < (![1, 1, 4096] : Fin 3 → ℕ) a), fun β => ?_⟩
  have b0 : (β (0 : Fin 3)).val < 12 := lt_of_lt_of_eq (β (0 : Fin 3)).isLt (show (12 + 1 - 1) / 1 = 12 from by decide)
  have b1 : (β (1 : Fin 3)).val < 1 := lt_of_lt_of_eq (β (1 : Fin 3)).isLt (show (1 + 1 - 1) / 1 = 1 from by decide)
  have b2 : (β (2 : Fin 3)).val < 1 := lt_of_lt_of_eq (β (2 : Fin 3)).isLt (show (4096 + 4096 - 1) / 4096 = 1 from by decide)
  obtain ⟨t, ht⟩ := point ⟨_, b0⟩
  refine ⟨t, flush5 t, fun a => ⟨?_, Or.inl rfl⟩⟩
  have h := transform5 t
  show cc0_transform_5 (grid0.coords t) a = _
  rw [h, ht]
  fin_cases a
  · rfl
  · show 0 = (β (1 : Fin 3)).val
    omega
  · show 0 = (β (2 : Fin 3)).val
    omega

/-- Every block of the result is written back. -/
theorem covers6 : ((cfgT m).win 6).Covers := by
  refine ⟨(by decide : ∀ a : Fin 3, 0 < (![1, 4096, 256] : Fin 3 → ℕ) a), fun β => ?_⟩
  have b0 : (β (0 : Fin 3)).val < 12 := lt_of_lt_of_eq (β (0 : Fin 3)).isLt (show (12 + 1 - 1) / 1 = 12 from by decide)
  have b1 : (β (1 : Fin 3)).val < 1 := lt_of_lt_of_eq (β (1 : Fin 3)).isLt (show (4096 + 4096 - 1) / 4096 = 1 from by decide)
  have b2 : (β (2 : Fin 3)).val < 1 := lt_of_lt_of_eq (β (2 : Fin 3)).isLt (show (256 + 256 - 1) / 256 = 1 from by decide)
  obtain ⟨t, ht⟩ := point ⟨_, b0⟩
  refine ⟨t, flush6 t, fun a => ⟨?_, Or.inl rfl⟩⟩
  have h := transform6 t
  show cc0_transform_6 (grid0.coords t) a = _
  rw [h, ht]
  fin_cases a
  · rfl
  · show 0 = (β (1 : Fin 3)).val
    omega
  · show 0 = (β (2 : Fin 3)).val
    omega

/-- Every block of the result is written back. -/
theorem covers7 : ((cfgT m).win 7).Covers := by
  refine ⟨(by decide : ∀ a : Fin 3, 0 < (![1, 4096, 256] : Fin 3 → ℕ) a), fun β => ?_⟩
  have b0 : (β (0 : Fin 3)).val < 12 := lt_of_lt_of_eq (β (0 : Fin 3)).isLt (show (12 + 1 - 1) / 1 = 12 from by decide)
  have b1 : (β (1 : Fin 3)).val < 1 := lt_of_lt_of_eq (β (1 : Fin 3)).isLt (show (4096 + 4096 - 1) / 4096 = 1 from by decide)
  have b2 : (β (2 : Fin 3)).val < 1 := lt_of_lt_of_eq (β (2 : Fin 3)).isLt (show (256 + 256 - 1) / 256 = 1 from by decide)
  obtain ⟨t, ht⟩ := point ⟨_, b0⟩
  refine ⟨t, flush7 t, fun a => ⟨?_, Or.inl rfl⟩⟩
  have h := transform7 t
  show cc0_transform_7 (grid0.coords t) a = _
  rw [h, ht]
  fin_cases a
  · rfl
  · show 0 = (β (1 : Fin 3)).val
    omega
  · show 0 = (β (2 : Fin 3)).val
    omega

/-- What the result of losses holds at the end. -/
theorem result5 {after} (hL : ∀ u, ((cfgT m).win 5).flush u = true → (rdat m D 0).Leaves 5 u (after 5 u))
    (b : Fin 12) (i : Fin 1) (d : Fin 4096) :
    (((rdat m D 0).withAfter after).arrAt 5 (cfgT m).N : Vec Ideal S12x1x4096 .f32) (ix3 b i d) = ((∑ p ∈ Finset.range 7, (D b).lossIn (startN (lens m b) p) (lens m b p) d : ℝ) : EReal) := by
  refine Dat.arrAt_forall_of_covers ((rdat m D 0).withAfter after) 5
    (fun (j : S12x1x4096.Idx) v => ∀ b i d, j = ix3 b i d → v = ((∑ p ∈ Finset.range 7, (D b).lossIn (startN (lens m b) p) (lens m b p) d : ℝ) : EReal)) covers5 (fun t hf y => ?_) (ix3 b i d) (Memref.isWhole_whole _) b i d rfl
  intro b i d hj
  have hR : IsLoss (D (grid0.coords t 0)) (lens m (grid0.coords t 0)) (after 5 t) := Dat.toRRel_leaves (dats m 0 0) rfl (hL t hf)
  have h := transform5 t
  have e0 : cc0_transform_5 (grid0.coords t) 0 * 1 + 1 * (y (0 : Fin 3)).val = b.val := congrArg (fun j : S12x1x4096.Idx => (j 0).val) hj
  have e1 : cc0_transform_5 (grid0.coords t) 1 * 1 + 1 * (y (1 : Fin 3)).val = i.val := congrArg (fun j : S12x1x4096.Idx => (j 1).val) hj
  have e2 : cc0_transform_5 (grid0.coords t) 2 * 4096 + 1 * (y (2 : Fin 3)).val = d.val := congrArg (fun j : S12x1x4096.Idx => (j 2).val) hj
  have y0 : (y (0 : Fin 3)).val < 1 := (y (0 : Fin 3)).isLt
  have y1 : (y (1 : Fin 3)).val < 1 := (y (1 : Fin 3)).isLt
  have i0 := i.isLt
  rw [h] at e0 e1 e2
  simp at e0 e1 e2
  have hb : grid0.coords t 0 = b := Fin.ext (by show (grid0.coords t 0).val = b.val; omega)
  have hy : y = (ix3 (0 : Fin 1) i d : (⟨3, ![1, 1, 4096]⟩ : Shape).Idx) := by
    funext a
    refine Fin.ext ?_
    fin_cases a
    · show (y (0 : Fin 3)).val = 0
      omega
    · show (y (1 : Fin 3)).val = i.val
      omega
    · show (y (2 : Fin 3)).val = d.val
      omega
  rw [hb] at hR
  show (after 5 t : Vec Ideal (⟨3, ![1, 1, 4096]⟩ : Shape) .f32) y = _
  rw [hy]
  obtain rfl : i = 0 := Subsingleton.elim _ _
  exact hR.eq d

/-- What the result of the users' gradients holds at the end. -/
theorem result6 {after} (hL : ∀ u, ((cfgT m).win 6).flush u = true → (rdat m D 0).Leaves 6 u (after 6 u))
    (b : Fin 12) (i : Fin 4096) (d : Fin 256) :
    (((rdat m D 0).withAfter after).arrAt 6 (cfgT m).N : Vec Ideal S12x4096x256 .bf16) (ix3 b i d) = ((∑ p ∈ Finset.range 7, ∑ j ∈ Finset.range 4096, (D b).G (startN (lens m b) p) (lens m b p) j i * (D b).vb j d : ℝ) : EReal) * ((20 : ℝ) : EReal) := by
  refine Dat.arrAt_forall_of_covers ((rdat m D 0).withAfter after) 6
    (fun (j : S12x4096x256.Idx) v => ∀ b i d, j = ix3 b i d → v = ((∑ p ∈ Finset.range 7, ∑ j ∈ Finset.range 4096, (D b).G (startN (lens m b) p) (lens m b p) j i * (D b).vb j d : ℝ) : EReal) * ((20 : ℝ) : EReal)) covers6 (fun t hf y => ?_) (ix3 b i d) (Memref.isWhole_whole _) b i d rfl
  intro b i d hj
  have hR : IsDu (D (grid0.coords t 0)) (lens m (grid0.coords t 0)) (after 6 t) := Dat.toRRel_leaves (dats m 0 0) rfl (hL t hf)
  have h := transform6 t
  have e0 : cc0_transform_6 (grid0.coords t) 0 * 1 + 1 * (y (0 : Fin 3)).val = b.val := congrArg (fun j : S12x4096x256.Idx => (j 0).val) hj
  have e1 : cc0_transform_6 (grid0.coords t) 1 * 4096 + 1 * (y (1 : Fin 3)).val = i.val := congrArg (fun j : S12x4096x256.Idx => (j 1).val) hj
  have e2 : cc0_transform_6 (grid0.coords t) 2 * 256 + 1 * (y (2 : Fin 3)).val = d.val := congrArg (fun j : S12x4096x256.Idx => (j 2).val) hj
  have y0 : (y (0 : Fin 3)).val < 1 := (y (0 : Fin 3)).isLt
  have y1 : (y (1 : Fin 3)).val < 4096 := (y (1 : Fin 3)).isLt
  have i0 := i.isLt
  rw [h] at e0 e1 e2
  simp at e0 e1 e2
  have hb : grid0.coords t 0 = b := Fin.ext (by show (grid0.coords t 0).val = b.val; omega)
  have hy : y = (ix3 (0 : Fin 1) i d : (⟨3, ![1, 4096, 256]⟩ : Shape).Idx) := by
    funext a
    refine Fin.ext ?_
    fin_cases a
    · show (y (0 : Fin 3)).val = 0
      omega
    · show (y (1 : Fin 3)).val = i.val
      omega
    · show (y (2 : Fin 3)).val = d.val
      omega
  rw [hb] at hR
  show (after 6 t : Vec Ideal (⟨3, ![1, 4096, 256]⟩ : Shape) .bf16) y = _
  rw [hy]
  exact hR.eq i d

/-- What the result of the items' gradients holds at the end. -/
theorem result7 {after} (hL : ∀ u, ((cfgT m).win 7).flush u = true → (rdat m D 0).Leaves 7 u (after 7 u))
    (b : Fin 12) (i : Fin 4096) (d : Fin 256) :
    (((rdat m D 0).withAfter after).arrAt 7 (cfgT m).N : Vec Ideal S12x4096x256 .bf16) (ix3 b i d) = ((∑ p ∈ Finset.range 7, ∑ j ∈ Finset.range 4096, (D b).G (startN (lens m b) p) (lens m b p) i j * (D b).ub j d : ℝ) : EReal) * ((20 : ℝ) : EReal) := by
  refine Dat.arrAt_forall_of_covers ((rdat m D 0).withAfter after) 7
    (fun (j : S12x4096x256.Idx) v => ∀ b i d, j = ix3 b i d → v = ((∑ p ∈ Finset.range 7, ∑ j ∈ Finset.range 4096, (D b).G (startN (lens m b) p) (lens m b p) i j * (D b).ub j d : ℝ) : EReal) * ((20 : ℝ) : EReal)) covers7 (fun t hf y => ?_) (ix3 b i d) (Memref.isWhole_whole _) b i d rfl
  intro b i d hj
  have hR : IsDv (D (grid0.coords t 0)) (lens m (grid0.coords t 0)) (after 7 t) := Dat.toRRel_leaves (dats m 0 0) rfl (hL t hf)
  have h := transform7 t
  have e0 : cc0_transform_7 (grid0.coords t) 0 * 1 + 1 * (y (0 : Fin 3)).val = b.val := congrArg (fun j : S12x4096x256.Idx => (j 0).val) hj
  have e1 : cc0_transform_7 (grid0.coords t) 1 * 4096 + 1 * (y (1 : Fin 3)).val = i.val := congrArg (fun j : S12x4096x256.Idx => (j 1).val) hj
  have e2 : cc0_transform_7 (grid0.coords t) 2 * 256 + 1 * (y (2 : Fin 3)).val = d.val := congrArg (fun j : S12x4096x256.Idx => (j 2).val) hj
  have y0 : (y (0 : Fin 3)).val < 1 := (y (0 : Fin 3)).isLt
  have y1 : (y (1 : Fin 3)).val < 4096 := (y (1 : Fin 3)).isLt
  have i0 := i.isLt
  rw [h] at e0 e1 e2
  simp at e0 e1 e2
  have hb : grid0.coords t 0 = b := Fin.ext (by show (grid0.coords t 0).val = b.val; omega)
  have hy : y = (ix3 (0 : Fin 1) i d : (⟨3, ![1, 4096, 256]⟩ : Shape).Idx) := by
    funext a
    refine Fin.ext ?_
    fin_cases a
    · show (y (0 : Fin 3)).val = 0
      omega
    · show (y (1 : Fin 3)).val = i.val
      omega
    · show (y (2 : Fin 3)).val = d.val
      omega
  rw [hb] at hR
  show (after 7 t : Vec Ideal (⟨3, ![1, 4096, 256]⟩ : Shape) .bf16) y = _
  rw [hy]
  exact hR.eq i d

/-- Every run ends with the losses and both gradients of every row, and with the arguments as they were. -/
theorem run_value (hf : Fills (m ((0 : Dev nD).tc.loc main_arg5))) (hD : Rows m D) (g : Dev nD → PrngReg) :
    θ_run (defs (F := Ideal)) (onTc (τ := τ) (main (F := Ideal))) ⟨m, fun _ => 0, g⟩ (fun r =>
      (∀ (b : Fin 12) (d : Fin 4096), (r.2.mem ((0 : Dev nD).tc.loc main_v5_0) : Vec Ideal S12x1x4096 .f32) (ix3 b 0 d) = ((∑ p ∈ Finset.range 7, (D b).lossIn (startN (lens m b) p) (lens m b p) d : ℝ) : EReal))
      ∧ (∀ (b : Fin 12) (i : Fin 4096) (d : Fin 256), (r.2.mem ((0 : Dev nD).tc.loc main_v5_1) : Vec Ideal S12x4096x256 .bf16) (ix3 b i d) = ((∑ p ∈ Finset.range 7, ∑ j ∈ Finset.range 4096, (D b).G (startN (lens m b) p) (lens m b p) j i * (D b).vb j d : ℝ) : EReal) * ((20 : ℝ) : EReal))
      ∧ (∀ (b : Fin 12) (i : Fin 4096) (d : Fin 256), (r.2.mem ((0 : Dev nD).tc.loc main_v5_2) : Vec Ideal S12x4096x256 .bf16) (ix3 b i d) = ((∑ p ∈ Finset.range 7, ∑ j ∈ Finset.range 4096, (D b).G (startN (lens m b) p) (lens m b p) i j * (D b).ub j d : ℝ) : EReal) * ((20 : ℝ) : EReal))
      ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) := by
  refine RDat.θ_run_frameP pcfgs (fun _ => tbl m) 0 launch0 defs₀ 𝒱₀ (rdat m D) m g main (fun c => (hbodyV hf hD c).toRRel)
    (fun c w => ?_) (fun _ _ => rfl) (V m) (hmain m 𝒱₀) (fun _ _ => rfl) ?_ (fun _ _ => rfl) _ ?_
  · fin_cases w <;> rfl
  · intro c k
    obtain rfl : c = 0 := Subsingleton.elim _ _
    fin_cases k
    exact V_of m 0 main_arg5 (by decide) (by decide) (by decide) (by decide) (by decide)
  · rintro r ⟨h, hs⟩
    obtain ⟨after, hL, hA⟩ := RDat.FramePost.exists_exact h 0
    refine ⟨fun b d => ?_, fun b i d => ?_, fun b i d => ?_, fun c => ?_⟩
    · have e := hA 5
      exact (congrFun e _).trans (result5 (hL 5) b 0 d)
    · have e := hA 6
      exact (congrFun e _).trans (result6 (hL 6) b i d)
    · have e := hA 7
      exact (congrFun e _).trans (result7 (hL 7) b i d)
    have rest : ∀ b : Ref sig .tc, b ∈ Pipeline.restRefs sig spec0 → b ≠ main_v0 → b ≠ main_v1 → b ≠ main_v2 → b ≠ main_v3 → b ≠ main_v4 →
        r.2.mem ((c.tc : Thread nD τ).loc b) = m ((c.tc : Thread nD τ).loc b) := fun b hb h0 h1 h2 h3 h4 =>
      ((h c).2 b hb).trans (V_of m c b h0 h1 h2 h3 h4)
    refine ⟨?_, ?_, ?_, ?_, ?_, ?_⟩ <;>
      exact rest _ (Pipeline.mem_restRefs_of _ (by decide) (by decide)) (by decide) (by decide) (by decide) (by decide) (by decide)

end
end Cert.KernelIdeal.Strong
-- ==== Proof.Ideal.FiniteRows.lean ====
/-
  The real rows behind arguments of finite numbers.
-/
module

public import proofs.«01_k».proof.Proof.Ideal.KernelValue
public import proofs.«01_k».proof.Proof.Gen.Pre_valid
public import proofs.«01_k».proof.Pre_valid

@[expose] public section

noncomputable section

namespace Cert.KernelIdeal.Strong

open Cert.KernelIdeal.Gen Cert.Seg Cert.Spec
open Idealize.ShloMosaic

/-- A number below the infinite one in size is its real part. -/
theorem eq_coe_of_finite {x : Ideal .f32} (h : FloatOps.cmpf .olt (FloatOps.hostAbsf x) (FloatOps.ofBits (F := Ideal) .f32 0x7F800000#32) = 1#1) :
    x = (((x : EReal).toReal : ℝ) : EReal) := by
  have htop : Ideal.ofBits .f32 0x7F800000#32 = (⊤ : EReal) := by simp [Ideal.ofBits, Ideal.ieee]
  change Ideal.cmp .olt (max (x : EReal) (-(x : EReal))) (Ideal.ofBits .f32 0x7F800000#32) = 1#1 at h
  rw [htop] at h
  refine (EReal.coe_toReal (x := (x : EReal)) ?_ ?_).symm
  · rintro rfl
    simp [Ideal.cmp] at h
  · rintro rfl
    simp [Ideal.cmp] at h

/-- The real parts of the arguments, by row. -/
def rowsOf (a0 : FVec Ideal S12x4096x256 .f32) (a1 : FVec Ideal S12x4096 .f32) (a2 : FVec Ideal S12x4096x256 .f32) (a3 a4 : FVec Ideal S12x4096 .f32) (b : Fin 12) : Row where
  U i d := if h : i < 4096 ∧ d < 256 then (a0 (ix3 b ⟨i, h.1⟩ ⟨d, h.2⟩) : EReal).toReal else 0
  V i d := if h : i < 4096 ∧ d < 256 then (a2 (ix3 b ⟨i, h.1⟩ ⟨d, h.2⟩) : EReal).toReal else 0
  us i := if h : i < 4096 then (a1 (ix2 b ⟨i, h⟩) : EReal).toReal else 0
  vs i := if h : i < 4096 then (a3 (ix2 b ⟨i, h⟩) : EReal).toReal else 0
  lq i := if h : i < 4096 then (a4 (ix2 b ⟨i, h⟩) : EReal).toReal else 0

/-- Where every argument is finite, the arguments hold the rows of their real parts. -/
theorem rows_of_valid (m : (ℓ : Loc nD τ sig) → Buf (Elt Ideal) ℓ)
    (h : Cert.Pre_valid.fn (F := Ideal) (m ((0 : Dev nD).tc.loc main_arg0)) (m ((0 : Dev nD).tc.loc main_arg1)) (m ((0 : Dev nD).tc.loc main_arg2))
      (m ((0 : Dev nD).tc.loc main_arg3)) (m ((0 : Dev nD).tc.loc main_arg4)) (m ((0 : Dev nD).tc.loc main_arg5)) = fun _ => 1#1) :
    Rows m (rowsOf (m ((0 : Dev nD).tc.loc main_arg0)) (m ((0 : Dev nD).tc.loc main_arg1)) (m ((0 : Dev nD).tc.loc main_arg2))
      (m ((0 : Dev nD).tc.loc main_arg3)) (m ((0 : Dev nD).tc.loc main_arg4))) := by
  have e := congrFun h (fun x => x.elim0)
  simp only [Pre_valid.fn, Pre_valid.fn_part1, Pre_valid.fn_part2, andi, IntOp.andi_eq_one] at e
  obtain ⟨⟨⟨-, ⟨e1, e3⟩, e4⟩, e0⟩, e2⟩ := e
  haveI : Subsingleton (⟨0, ![]⟩ : Shape).Idx := ⟨fun a b => funext fun x => x.elim0⟩
  have q0 := Host.reduce_andi_all _ _ _ _ _ e0
  have q1 := Host.reduce_andi_all _ _ _ _ _ e1
  have q2 := Host.reduce_andi_all _ _ _ _ _ e2
  have q3 := Host.reduce_andi_all _ _ _ _ _ e3
  have q4 := Host.reduce_andi_all _ _ _ _ _ e4
  constructor
  · intro b i d
    simp only [rowsOf, dif_pos (And.intro i.isLt d.isLt)]
    exact eq_coe_of_finite (q0 (ix3 b i d))
  · intro b i
    simp only [rowsOf, dif_pos i.isLt]
    exact eq_coe_of_finite (q1 (ix2 b i))
  · intro b i d
    simp only [rowsOf, dif_pos (And.intro i.isLt d.isLt)]
    exact eq_coe_of_finite (q2 (ix3 b i d))
  · intro b i
    simp only [rowsOf, dif_pos i.isLt]
    exact eq_coe_of_finite (q3 (ix2 b i))
  · intro b i
    simp only [rowsOf, dif_pos i.isLt]
    exact eq_coe_of_finite (q4 (ix2 b i))

end Cert.KernelIdeal.Strong
-- ==== Proof.lean ====
module

public import proofs.«01_k».proof.Defs
public import proofs.«01_k».proof.Proof.KernelFrame
public import proofs.«01_k».proof.Proof.Ideal.KernelFrame
public import proofs.«01_k».proof.Proof.RefRun
public import proofs.«01_k».proof.Proof.RefRows
public import proofs.«01_k».proof.Proof.Ideal.FiniteRows
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_fills
public import proofs.«01_k».proof.Proof.Gen.Pre_valid
public import Idealize.ShloMosaic.Adequacy
public import Idealize.ShloMosaic.Init

@[expose] public section

noncomputable section

namespace Cert.Proof

open Idealize.ShloMosaic Idealize.SL.Sem

/-- The kernel as printed runs to the end; its arguments and the counters are as they were. -/
theorem kernel_frame : Cert.quiescent_Kernel :=
  fun m g h => Cert.Kernel.run_frame (F := Bits) m (Cert.Seg.fills_of_pre (h 0)) g

/-- The idealized kernel runs to the end; its arguments and the counters are as they were. -/
theorem kernelIdeal_frame : Cert.quiescent_KernelIdeal :=
  fun m g h => Cert.KernelIdeal.run_frame (F := Ideal) m (Cert.Seg.fills_of_pre (h 0)) g

/-- The same, where the arguments are also finite. -/
theorem kernelIdeal_frame_valid : Cert.quiescent_KernelIdeal_pre_valid :=
  fun m g h => Cert.KernelIdeal.run_frame (F := Ideal) m (Cert.Seg.fills_of_valid (h 0)) g

/-- The reference runs to the end; its arguments and the counters are as they were. -/
theorem reference_frame : Cert.quiescent_ReferenceIdeal :=
  fun m g _ => Cert.ReferenceIdeal.run_frame (F := Ideal) m g

/-- Each of the four named constants reads, at `Ideal`, the value its name was given. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

section
open Cert.ReferenceIdeal Cert.Seg Cert.KernelIdeal.Strong Idealize.ShloMosaic.StableHlo

/-- From equal arguments, finite and with lengths that fill each row, the idealized kernel and the reference leave the
    same losses and the same gradients. -/
theorem algebraic : Cert.algebraic_KernelIdeal_ReferenceIdeal_pre_valid := by
  intro m g m' g' hm hargs
  have hT := fills_of_valid (hm 0)
  have hD := rows_of_valid m (hm 0)
  have hR : RowsOf (m ((0 : Dev Cert.KernelIdeal.nD).tc.loc Cert.KernelIdeal.main_arg0)) (m ((0 : Dev Cert.KernelIdeal.nD).tc.loc Cert.KernelIdeal.main_arg1))
      (m ((0 : Dev Cert.KernelIdeal.nD).tc.loc Cert.KernelIdeal.main_arg2)) (m ((0 : Dev Cert.KernelIdeal.nD).tc.loc Cert.KernelIdeal.main_arg3))
      (m ((0 : Dev Cert.KernelIdeal.nD).tc.loc Cert.KernelIdeal.main_arg4)) _ :=
    ⟨hD.U, hD.us, hD.V, hD.vs, hD.lq⟩
  obtain ⟨h0, h1, h2, h3, h4, h5⟩ := hargs 0
  refine ⟨fun _ => vLoss (lseOf (launchContents m' 0)) (vPos (vL (launchContents m' 0 (Proc.devRef .tc Cert.ReferenceIdeal.main_arg0))
      (launchContents m' 0 (Proc.devRef .tc Cert.ReferenceIdeal.main_arg1)) (launchContents m' 0 (Proc.devRef .tc Cert.ReferenceIdeal.main_arg2))
      (launchContents m' 0 (Proc.devRef .tc Cert.ReferenceIdeal.main_arg3)) (launchContents m' 0 (Proc.devRef .tc Cert.ReferenceIdeal.main_arg4)))),
    fun _ => vDu (vG (lmOf (launchContents m' 0)) (lseOf (launchContents m' 0)))
      (vV (launchContents m' 0 (Proc.devRef .tc Cert.ReferenceIdeal.main_arg2)) (launchContents m' 0 (Proc.devRef .tc Cert.ReferenceIdeal.main_arg3))),
    fun _ => vDv (vG (lmOf (launchContents m' 0)) (lseOf (launchContents m' 0)))
      (vU (launchContents m' 0 (Proc.devRef .tc Cert.ReferenceIdeal.main_arg0)) (launchContents m' 0 (Proc.devRef .tc Cert.ReferenceIdeal.main_arg1))), ?_, ?_⟩
  · refine (θ_run _ _ _).mono (fun r h c => ?_) (run_value hT hD g)
    obtain rfl : c = 0 := Subsingleton.elim _ _
    obtain ⟨hl, hu, hv, ha⟩ := h
    have e0 : launchContents m' 0 (Proc.devRef .tc Cert.ReferenceIdeal.main_arg0) = m ((0 : Dev Cert.KernelIdeal.nD).tc.loc Cert.KernelIdeal.main_arg0) := h0
    have e1 : launchContents m' 0 (Proc.devRef .tc Cert.ReferenceIdeal.main_arg1) = m ((0 : Dev Cert.KernelIdeal.nD).tc.loc Cert.KernelIdeal.main_arg1) := h1
    have e2 : launchContents m' 0 (Proc.devRef .tc Cert.ReferenceIdeal.main_arg2) = m ((0 : Dev Cert.KernelIdeal.nD).tc.loc Cert.KernelIdeal.main_arg2) := h2
    have e3 : launchContents m' 0 (Proc.devRef .tc Cert.ReferenceIdeal.main_arg3) = m ((0 : Dev Cert.KernelIdeal.nD).tc.loc Cert.KernelIdeal.main_arg3) := h3
    have e4 : launchContents m' 0 (Proc.devRef .tc Cert.ReferenceIdeal.main_arg4) = m ((0 : Dev Cert.KernelIdeal.nD).tc.loc Cert.KernelIdeal.main_arg4) := h4
    have e5 : launchContents m' 0 (Proc.devRef .tc Cert.ReferenceIdeal.main_arg5) = m ((0 : Dev Cert.KernelIdeal.nD).tc.loc Cert.KernelIdeal.main_arg5) := h5
    simp only [lseOf, lmOf, e0, e1, e2, e3, e4, e5]
    refine ⟨?_, ?_, ?_, ha 0⟩
    · funext x
      obtain ⟨b, z, d, rfl⟩ : ∃ (b : Fin 12) (z : Fin 1) (d : Fin 4096), x = ix3 b z d := ⟨x 0, x 1, x 2, eq_ix3 x⟩
      obtain rfl : z = 0 := Subsingleton.elim _ _
      obtain ⟨p, hp, hi⟩ := seg_of hT b d
      exact (hl b d).trans (loss_at hR hT b hp hi 0).symm
    · funext x
      obtain ⟨b, i, d, rfl⟩ : ∃ (b : Fin 12) (i : Fin 4096) (d : Fin 256), x = ix3 b i d := ⟨x 0, x 1, x 2, eq_ix3 x⟩
      exact (hu b i d).trans (du_at hR hT b i d).symm
    · funext x
      obtain ⟨b, i, d, rfl⟩ : ∃ (b : Fin 12) (i : Fin 4096) (d : Fin 256), x = ix3 b i d := ⟨x 0, x 1, x 2, eq_ix3 x⟩
      exact (hv b i d).trans (dv_at hR hT b i d).symm
  · refine (θ_run _ _ _).mono (fun r h c => ?_) (Cert.ReferenceIdeal.run_all m' g')
    obtain rfl : c = 0 := Subsingleton.elim _ _
    refine ⟨(h 0 _).trans (leaves_loss _), (h 0 _).trans (leaves_du _), (h 0 _).trans (leaves_dv _), ?_, ?_, ?_, ?_, ?_, ?_⟩ <;>
      exact (h 0 _).trans (kept _ _ (by decide))
end

/-- Everything the certificate claims. -/
theorem claim : Cert.Claim :=
  ⟨Cert.Kernel.Gen.facts, Cert.KernelIdeal.Gen.facts, Cert.ReferenceIdeal.Gen.facts, Cert.Pre_fills.Gen.facts,
    Cert.Pre_valid.Gen.facts, kernel_frame, kernelIdeal_frame, kernelIdeal_frame_valid,
    reference_frame, preserves, algebraic⟩

end Cert.Proof

end
